-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnInput (m : (ℓ : Loc Cert.FfnInput.nD Cert.FfnInput.τ Cert.FfnInput.sig) → Buf (Elt Bits) ℓ) : Prop :=
  True

def Pre_FfnInputIdeal (m : (ℓ : Loc Cert.FfnInputIdeal.nD Cert.FfnInputIdeal.τ Cert.FfnInputIdeal.sig) → Buf (Elt Ideal) ℓ) : Prop :=
  True

def Pre_FfnInputReferenceIdeal (m : (ℓ : Loc Cert.FfnInputReferenceIdeal.nD Cert.FfnInputReferenceIdeal.τ Cert.FfnInputReferenceIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutReferenceIdeal (m : (ℓ : Loc Cert.MergeOutReferenceIdeal.nD Cert.MergeOutReferenceIdeal.τ Cert.MergeOutReferenceIdeal.sig) → Buf (Elt Ideal) ℓ) : Prop :=
  True

def Pre_FfnForward (m : (ℓ : Loc Cert.FfnForward.nD Cert.FfnForward.τ Cert.FfnForward.sig) → Buf (Elt Bits) ℓ) : Prop :=
  True

def Pre_FfnForwardIdeal (m : (ℓ : Loc Cert.FfnForwardIdeal.nD Cert.FfnForwardIdeal.τ Cert.FfnForwardIdeal.sig) → Buf (Elt Ideal) ℓ) : Prop :=
  True

def Pre_FfnForwardReferenceIdeal (m : (ℓ : Loc Cert.FfnForwardReferenceIdeal.nD Cert.FfnForwardReferenceIdeal.τ Cert.FfnForwardReferenceIdeal.sig) → Buf (Elt Ideal) ℓ) : Prop :=
  True

def Pre_MergeForward (m : (ℓ : Loc Cert.MergeForward.nD Cert.MergeForward.τ Cert.MergeForward.sig) → Buf (Elt Bits) ℓ) : Prop :=
  True

def Pre_MergeForwardIdeal (m : (ℓ : Loc Cert.MergeForwardIdeal.nD Cert.MergeForwardIdeal.τ Cert.MergeForwardIdeal.sig) → Buf (Elt Ideal) ℓ) : Prop :=
  True

def Pre_MergeForwardReferenceIdeal (m : (ℓ : Loc Cert.MergeForwardReferenceIdeal.nD Cert.MergeForwardReferenceIdeal.τ Cert.MergeForwardReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_ProjectionGradient (m : (ℓ : Loc Cert.ProjectionGradient.nD Cert.ProjectionGradient.τ Cert.ProjectionGradient.sig) → Buf (Elt Bits) ℓ) : Prop :=
  True

def Pre_ProjectionGradientIdeal (m : (ℓ : Loc Cert.ProjectionGradientIdeal.nD Cert.ProjectionGradientIdeal.τ Cert.ProjectionGradientIdeal.sig) → Buf (Elt Ideal) ℓ) : Prop :=
  True

def Pre_ProjectionGradientReferenceIdeal (m : (ℓ : Loc Cert.ProjectionGradientReferenceIdeal.nD Cert.ProjectionGradientReferenceIdeal.τ Cert.ProjectionGradientReferenceIdeal.sig) → Buf (Elt Ideal) ℓ) : Prop :=
  True

def Pre_MergeSecond (m : (ℓ : Loc Cert.MergeSecond.nD Cert.MergeSecond.τ Cert.MergeSecond.sig) → Buf (Elt Bits) ℓ) : Prop :=
  True

def Pre_MergeSecondIdeal (m : (ℓ : Loc Cert.MergeSecondIdeal.nD Cert.MergeSecondIdeal.τ Cert.MergeSecondIdeal.sig) → Buf (Elt Ideal) ℓ) : Prop :=
  True

def Pre_MergeSecondReferenceIdeal (m : (ℓ : Loc Cert.MergeSecondReferenceIdeal.nD Cert.MergeSecondReferenceIdeal.τ Cert.MergeSecondReferenceIdeal.sig) → Buf (Elt Ideal) ℓ) : Prop :=
  True

def Pre_MergeThird (m : (ℓ : Loc Cert.MergeThird.nD Cert.MergeThird.τ Cert.MergeThird.sig) → Buf (Elt Bits) ℓ) : Prop :=
  True

def Pre_MergeThirdIdeal (m : (ℓ : Loc Cert.MergeThirdIdeal.nD Cert.MergeThirdIdeal.τ Cert.MergeThirdIdeal.sig) → Buf (Elt Ideal) ℓ) : Prop :=
  True

def Pre_MergeThirdReferenceIdeal (m : (ℓ : Loc Cert.MergeThirdReferenceIdeal.nD Cert.MergeThirdReferenceIdeal.τ Cert.MergeThirdReferenceIdeal.sig) → Buf (Elt Ideal) ℓ) : Prop :=
  True

def Pre_MergeFourth (m : (ℓ : Loc Cert.MergeFourth.nD Cert.MergeFourth.τ Cert.MergeFourth.sig) → Buf (Elt Bits) ℓ) : Prop :=
  True

def Pre_MergeFourthIdeal (m : (ℓ : Loc Cert.MergeFourthIdeal.nD Cert.MergeFourthIdeal.τ Cert.MergeFourthIdeal.sig) → Buf (Elt Ideal) ℓ) : Prop :=
  True

def Pre_MergeFourthReferenceIdeal (m : (ℓ : Loc Cert.MergeFourthReferenceIdeal.nD Cert.MergeFourthReferenceIdeal.τ Cert.MergeFourthReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnInput [hFfnInput : Cert.FfnInput.Facts] : Prop :=
  ∀ (m : (ℓ : Loc Cert.FfnInput.nD Cert.FfnInput.τ Cert.FfnInput.sig) → Buf (Elt Bits) ℓ) (g : Dev Cert.FfnInput.nD → PrngReg), Pre_FfnInput m →
    θ_run (Cert.FfnInput.defs (F := Bits)) (onTc (τ := Cert.FfnInput.τ) (Cert.FfnInput.main (F := Bits))) ⟨m, fun _ => 0, g⟩ (fun r => (∀ c : Dev Cert.FfnInput.nD,
      r.2.mem ((c.tc : Thread Cert.FfnInput.nD Cert.FfnInput.τ).loc Cert.FfnInput.main_arg0) = m ((c.tc : Thread Cert.FfnInput.nD Cert.FfnInput.τ).loc Cert.FfnInput.main_arg0)
      ∧ r.2.mem ((c.tc : Thread Cert.FfnInput.nD Cert.FfnInput.τ).loc Cert.FfnInput.main_arg1) = m ((c.tc : Thread Cert.FfnInput.nD Cert.FfnInput.τ).loc Cert.FfnInput.main_arg1)
      ∧ r.2.mem ((c.tc : Thread Cert.FfnInput.nD Cert.FfnInput.τ).loc Cert.FfnInput.main_arg2) = m ((c.tc : Thread Cert.FfnInput.nD Cert.FfnInput.τ).loc Cert.FfnInput.main_arg2)
      ∧ r.2.mem ((c.tc : Thread Cert.FfnInput.nD Cert.FfnInput.τ).loc Cert.FfnInput.main_arg3) = m ((c.tc : Thread Cert.FfnInput.nD Cert.FfnInput.τ).loc Cert.FfnInput.main_arg3)
      ∧ r.2.mem ((c.tc : Thread Cert.FfnInput.nD Cert.FfnInput.τ).loc Cert.FfnInput.main_arg4) = m ((c.tc : Thread Cert.FfnInput.nD Cert.FfnInput.τ).loc Cert.FfnInput.main_arg4))
      ∧ r.2.sem = fun _ => 0)

def quiescent_FfnInputIdeal [hFfnInputIdeal : Cert.FfnInputIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg), Pre_FfnInputIdeal m →
    θ_run (Cert.FfnInputIdeal.defs (F := Ideal)) (onTc (τ := Cert.FfnInputIdeal.τ) (Cert.FfnInputIdeal.main (F := Ideal))) ⟨m, fun _ => 0, g⟩ (fun r => (∀ c : Dev Cert.FfnInputIdeal.nD,
      r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
      ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
      ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2)
      ∧ r.2.mem ((c.tc : Thread Cert.FfnInputIdeal.nD Cert.FfnInputIdeal.τ).loc Cert.FfnInputIdeal.main_arg3) = m ((c.tc : Thread Cert.FfnInputIdeal.nD Cert.FfnInputIdeal.τ).loc Cert.FfnInputIdeal.main_arg3)
      ∧ r.2.mem ((c.tc : Thread Cert.FfnInputIdeal.nD Cert.FfnInputIdeal.τ).loc Cert.FfnInputIdeal.main_arg4) = m ((c.tc : Thread Cert.FfnInputIdeal.nD Cert.FfnInputIdeal.τ).loc Cert.FfnInputIdeal.main_arg4))
      ∧ r.2.sem = fun _ => 0)

def quiescent_FfnInputReferenceIdeal [hFfnInputReferenceIdeal : Cert.FfnInputReferenceIdeal.Facts] : Prop :=
  ∀ (m : (ℓ : Loc Cert.FfnInputReferenceIdeal.nD Cert.FfnInputReferenceIdeal.τ Cert.FfnInputReferenceIdeal.sig) → Buf (Elt Ideal) ℓ) (g : Dev Cert.FfnInputReferenceIdeal.nD → PrngReg), Pre_FfnInputReferenceIdeal m →
    θ_run (Cert.FfnInputReferenceIdeal.defs (F := Ideal)) (onTc (τ := Cert.FfnInputReferenceIdeal.τ) (Cert.FfnInputReferenceIdeal.main (F := Ideal))) ⟨m, fun _ => 0, g⟩ (fun r => (∀ c : Dev Cert.FfnInputReferenceIdeal.nD,
      r.2.mem ((c.tc : Thread Cert.FfnInputReferenceIdeal.nD Cert.FfnInputReferenceIdeal.τ).loc Cert.FfnInputReferenceIdeal.main_arg0) = m ((c.tc : Thread Cert.FfnInputReferenceIdeal.nD Cert.FfnInputReferenceIdeal.τ).loc Cert.FfnInputReferenceIdeal.main_arg0)
      ∧ r.2.mem ((c.tc : Thread Cert.FfnInputReferenceIdeal.nD Cert.FfnInputReferenceIdeal.τ).loc Cert.FfnInputReferenceIdeal.main_arg1) = m ((c.tc : Thread Cert.FfnInputReferenceIdeal.nD Cert.FfnInputReferenceIdeal.τ).loc Cert.FfnInputReferenceIdeal.main_arg1)
      ∧ r.2.mem ((c.tc : Thread Cert.FfnInputReferenceIdeal.nD Cert.FfnInputReferenceIdeal.τ).loc Cert.FfnInputReferenceIdeal.main_arg2) = m ((c.tc : Thread Cert.FfnInputReferenceIdeal.nD Cert.FfnInputReferenceIdeal.τ).loc Cert.FfnInputReferenceIdeal.main_arg2)
      ∧ r.2.mem ((c.tc : Thread Cert.FfnInputReferenceIdeal.nD Cert.FfnInputReferenceIdeal.τ).loc Cert.FfnInputReferenceIdeal.main_arg3) = m ((c.tc : Thread Cert.FfnInputReferenceIdeal.nD Cert.FfnInputReferenceIdeal.τ).loc Cert.FfnInputReferenceIdeal.main_arg3)
      ∧ r.2.mem ((c.tc : Thread Cert.FfnInputReferenceIdeal.nD Cert.FfnInputReferenceIdeal.τ).loc Cert.FfnInputReferenceIdeal.main_arg4) = m ((c.tc : Thread Cert.FfnInputReferenceIdeal.nD Cert.FfnInputReferenceIdeal.τ).loc Cert.FfnInputReferenceIdeal.main_arg4))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4))
      ∧ r.2.sem = fun _ => 0)

def quiescent_MergeOutReferenceIdeal [hMergeOutReferenceIdeal : Cert.MergeOutReferenceIdeal.Facts] : Prop :=
  ∀ (m : (ℓ : Loc Cert.MergeOutReferenceIdeal.nD Cert.MergeOutReferenceIdeal.τ Cert.MergeOutReferenceIdeal.sig) → Buf (Elt Ideal) ℓ) (g : Dev Cert.MergeOutReferenceIdeal.nD → PrngReg), Pre_MergeOutReferenceIdeal m →
    θ_run (Cert.MergeOutReferenceIdeal.defs (F := Ideal)) (onTc (τ := Cert.MergeOutReferenceIdeal.τ) (Cert.MergeOutReferenceIdeal.main (F := Ideal))) ⟨m, fun _ => 0, g⟩ (fun r => (∀ c : Dev Cert.MergeOutReferenceIdeal.nD,
      r.2.mem ((c.tc : Thread Cert.MergeOutReferenceIdeal.nD Cert.MergeOutReferenceIdeal.τ).loc Cert.MergeOutReferenceIdeal.main_arg0) = m ((c.tc : Thread Cert.MergeOutReferenceIdeal.nD Cert.MergeOutReferenceIdeal.τ).loc Cert.MergeOutReferenceIdeal.main_arg0)
      ∧ r.2.mem ((c.tc : Thread Cert.MergeOutReferenceIdeal.nD Cert.MergeOutReferenceIdeal.τ).loc Cert.MergeOutReferenceIdeal.main_arg1) = m ((c.tc : Thread Cert.MergeOutReferenceIdeal.nD Cert.MergeOutReferenceIdeal.τ).loc Cert.MergeOutReferenceIdeal.main_arg1)
      ∧ r.2.mem ((c.tc : Thread Cert.MergeOutReferenceIdeal.nD Cert.MergeOutReferenceIdeal.τ).loc Cert.MergeOutReferenceIdeal.main_arg2) = m ((c.tc : Thread Cert.MergeOutReferenceIdeal.nD Cert.MergeOutReferenceIdeal.τ).loc Cert.MergeOutReferenceIdeal.main_arg2)
      ∧ r.2.mem ((c.tc : Thread Cert.MergeOutReferenceIdeal.nD Cert.MergeOutReferenceIdeal.τ).loc Cert.MergeOutReferenceIdeal.main_arg3) = m ((c.tc : Thread Cert.MergeOutReferenceIdeal.nD Cert.MergeOutReferenceIdeal.τ).loc Cert.MergeOutReferenceIdeal.main_arg3)
      ∧ r.2.mem ((c.tc : Thread Cert.MergeOutReferenceIdeal.nD Cert.MergeOutReferenceIdeal.τ).loc Cert.MergeOutReferenceIdeal.main_arg4) = m ((c.tc : Thread Cert.MergeOutReferenceIdeal.nD Cert.MergeOutReferenceIdeal.τ).loc Cert.MergeOutReferenceIdeal.main_arg4))
      ∧ r.2.sem = fun _ => 0)

def quiescent_FfnForward [hFfnForward : Cert.FfnForward.Facts] : Prop :=
  ∀ (m : (ℓ : Loc Cert.FfnForward.nD Cert.FfnForward.τ Cert.FfnForward.sig) → Buf (Elt Bits) ℓ) (g : Dev Cert.FfnForward.nD → PrngReg), Pre_FfnForward m →
    θ_run (Cert.FfnForward.defs (F := Bits)) (onTc (τ := Cert.FfnForward.τ) (Cert.FfnForward.main (F := Bits))) ⟨m, fun _ => 0, g⟩ (fun r => (∀ c : Dev Cert.FfnForward.nD,
      r.2.mem ((c.tc : Thread Cert.FfnForward.nD Cert.FfnForward.τ).loc Cert.FfnForward.main_arg0) = m ((c.tc : Thread Cert.FfnForward.nD Cert.FfnForward.τ).loc Cert.FfnForward.main_arg0)
      ∧ r.2.mem ((c.tc : Thread Cert.FfnForward.nD Cert.FfnForward.τ).loc Cert.FfnForward.main_arg1) = m ((c.tc : Thread Cert.FfnForward.nD Cert.FfnForward.τ).loc Cert.FfnForward.main_arg1)
      ∧ r.2.mem ((c.tc : Thread Cert.FfnForward.nD Cert.FfnForward.τ).loc Cert.FfnForward.main_arg2) = m ((c.tc : Thread Cert.FfnForward.nD Cert.FfnForward.τ).loc Cert.FfnForward.main_arg2)
      ∧ r.2.mem ((c.tc : Thread Cert.FfnForward.nD Cert.FfnForward.τ).loc Cert.FfnForward.main_arg3) = m ((c.tc : Thread Cert.FfnForward.nD Cert.FfnForward.τ).loc Cert.FfnForward.main_arg3)
      ∧ r.2.mem ((c.tc : Thread Cert.FfnForward.nD Cert.FfnForward.τ).loc Cert.FfnForward.main_arg4) = m ((c.tc : Thread Cert.FfnForward.nD Cert.FfnForward.τ).loc Cert.FfnForward.main_arg4))
      ∧ r.2.sem = fun _ => 0)

def quiescent_FfnForwardIdeal [hFfnForwardIdeal : Cert.FfnForwardIdeal.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg), Pre_FfnForwardIdeal m →
    θ_run (Cert.FfnForwardIdeal.defs (F := Ideal)) (onTc (τ := Cert.FfnForwardIdeal.τ) (Cert.FfnForwardIdeal.main (F := Ideal))) ⟨m, fun _ => 0, g⟩ (fun r => (∀ c : Dev Cert.FfnForwardIdeal.nD,
      r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
      ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
      ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
      ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
      ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4))
      ∧ r.2.sem = fun _ => 0)

def quiescent_FfnForwardReferenceIdeal [hFfnForwardReferenceIdeal : Cert.FfnForwardReferenceIdeal.Facts] : Prop :=
  ∀ (m : (ℓ : Loc Cert.FfnForwardReferenceIdeal.nD Cert.FfnForwardReferenceIdeal.τ Cert.FfnForwardReferenceIdeal.sig) → Buf (Elt Ideal) ℓ) (g : Dev Cert.FfnForwardReferenceIdeal.nD → PrngReg), Pre_FfnForwardReferenceIdeal m →
    θ_run (Cert.FfnForwardReferenceIdeal.defs (F := Ideal)) (onTc (τ := Cert.FfnForwardReferenceIdeal.τ) (Cert.FfnForwardReferenceIdeal.main (F := Ideal))) ⟨m, fun _ => 0, g⟩ (fun r => (∀ c : Dev Cert.FfnForwardReferenceIdeal.nD,
      r.2.mem ((c.tc : Thread Cert.FfnForwardReferenceIdeal.nD Cert.FfnForwardReferenceIdeal.τ).loc Cert.FfnForwardReferenceIdeal.main_arg0) = m ((c.tc : Thread Cert.FfnForwardReferenceIdeal.nD Cert.FfnForwardReferenceIdeal.τ).loc Cert.FfnForwardReferenceIdeal.main_arg0)
      ∧ r.2.mem ((c.tc : Thread Cert.FfnForwardReferenceIdeal.nD Cert.FfnForwardReferenceIdeal.τ).loc Cert.FfnForwardReferenceIdeal.main_arg1) = m ((c.tc : Thread Cert.FfnForwardReferenceIdeal.nD Cert.FfnForwardReferenceIdeal.τ).loc Cert.FfnForwardReferenceIdeal.main_arg1)
      ∧ r.2.mem ((c.tc : Thread Cert.FfnForwardReferenceIdeal.nD Cert.FfnForwardReferenceIdeal.τ).loc Cert.FfnForwardReferenceIdeal.main_arg2) = m ((c.tc : Thread Cert.FfnForwardReferenceIdeal.nD Cert.FfnForwardReferenceIdeal.τ).loc Cert.FfnForwardReferenceIdeal.main_arg2)
      ∧ r.2.mem ((c.tc : Thread Cert.FfnForwardReferenceIdeal.nD Cert.FfnForwardReferenceIdeal.τ).loc Cert.FfnForwardReferenceIdeal.main_arg3) = m ((c.tc : Thread Cert.FfnForwardReferenceIdeal.nD Cert.FfnForwardReferenceIdeal.τ).loc Cert.FfnForwardReferenceIdeal.main_arg3)
      ∧ r.2.mem ((c.tc : Thread Cert.FfnForwardReferenceIdeal.nD Cert.FfnForwardReferenceIdeal.τ).loc Cert.FfnForwardReferenceIdeal.main_arg4) = m ((c.tc : Thread Cert.FfnForwardReferenceIdeal.nD Cert.FfnForwardReferenceIdeal.τ).loc Cert.FfnForwardReferenceIdeal.main_arg4))
      ∧ r.2.sem = fun _ => 0)

def quiescent_MergeForward [hMergeForward : Cert.MergeForward.Facts] : Prop :=
  ∀ (m : (ℓ : Loc Cert.MergeForward.nD Cert.MergeForward.τ Cert.MergeForward.sig) → Buf (Elt Bits) ℓ) (g : Dev Cert.MergeForward.nD → PrngReg), Pre_MergeForward m →
    θ_run (Cert.MergeForward.defs (F := Bits)) (onTc (τ := Cert.MergeForward.τ) (Cert.MergeForward.main (F := Bits))) ⟨m, fun _ => 0, g⟩ (fun r => (∀ c : Dev Cert.MergeForward.nD,
      r.2.mem ((c.tc : Thread Cert.MergeForward.nD Cert.MergeForward.τ).loc Cert.MergeForward.main_arg0) = m ((c.tc : Thread Cert.MergeForward.nD Cert.MergeForward.τ).loc Cert.MergeForward.main_arg0)
      ∧ r.2.mem ((c.tc : Thread Cert.MergeForward.nD Cert.MergeForward.τ).loc Cert.MergeForward.main_arg1) = m ((c.tc : Thread Cert.MergeForward.nD Cert.MergeForward.τ).loc Cert.MergeForward.main_arg1)
      ∧ r.2.mem ((c.tc : Thread Cert.MergeForward.nD Cert.MergeForward.τ).loc Cert.MergeForward.main_arg2) = m ((c.tc : Thread Cert.MergeForward.nD Cert.MergeForward.τ).loc Cert.MergeForward.main_arg2)
      ∧ r.2.mem ((c.tc : Thread Cert.MergeForward.nD Cert.MergeForward.τ).loc Cert.MergeForward.main_arg3) = m ((c.tc : Thread Cert.MergeForward.nD Cert.MergeForward.τ).loc Cert.MergeForward.main_arg3)
      ∧ r.2.mem ((c.tc : Thread Cert.MergeForward.nD Cert.MergeForward.τ).loc Cert.MergeForward.main_arg4) = m ((c.tc : Thread Cert.MergeForward.nD Cert.MergeForward.τ).loc Cert.MergeForward.main_arg4)
      ∧ r.2.mem ((c.tc : Thread Cert.MergeForward.nD Cert.MergeForward.τ).loc Cert.MergeForward.main_arg5) = m ((c.tc : Thread Cert.MergeForward.nD Cert.MergeForward.τ).loc Cert.MergeForward.main_arg5)
      ∧ r.2.mem ((c.tc : Thread Cert.MergeForward.nD Cert.MergeForward.τ).loc Cert.MergeForward.main_arg6) = m ((c.tc : Thread Cert.MergeForward.nD Cert.MergeForward.τ).loc Cert.MergeForward.main_arg6)
      ∧ r.2.mem ((c.tc : Thread Cert.MergeForward.nD Cert.MergeForward.τ).loc Cert.MergeForward.main_arg7) = m ((c.tc : Thread Cert.MergeForward.nD Cert.MergeForward.τ).loc Cert.MergeForward.main_arg7)
      ∧ r.2.mem ((c.tc : Thread Cert.MergeForward.nD Cert.MergeForward.τ).loc Cert.MergeForward.main_arg8) = m ((c.tc : Thread Cert.MergeForward.nD Cert.MergeForward.τ).loc Cert.MergeForward.main_arg8)
      ∧ r.2.mem ((c.tc : Thread Cert.MergeForward.nD Cert.MergeForward.τ).loc Cert.MergeForward.main_arg9) = m ((c.tc : Thread Cert.MergeForward.nD Cert.MergeForward.τ).loc Cert.MergeForward.main_arg9)
      ∧ r.2.mem ((c.tc : Thread Cert.MergeForward.nD Cert.MergeForward.τ).loc Cert.MergeForward.main_arg10) = m ((c.tc : Thread Cert.MergeForward.nD Cert.MergeForward.τ).loc Cert.MergeForward.main_arg10)
      ∧ r.2.mem ((c.tc : Thread Cert.MergeForward.nD Cert.MergeForward.τ).loc Cert.MergeForward.main_arg11) = m ((c.tc : Thread Cert.MergeForward.nD Cert.MergeForward.τ).loc Cert.MergeForward.main_arg11)
      ∧ r.2.mem ((c.tc : Thread Cert.MergeForward.nD Cert.MergeForward.τ).loc Cert.MergeForward.main_arg12) = m ((c.tc : Thread Cert.MergeForward.nD Cert.MergeForward.τ).loc Cert.MergeForward.main_arg12)
      ∧ r.2.mem ((c.tc : Thread Cert.MergeForward.nD Cert.MergeForward.τ).loc Cert.MergeForward.main_arg13) = m ((c.tc : Thread Cert.MergeForward.nD Cert.MergeForward.τ).loc Cert.MergeForward.main_arg13))
      ∧ r.2.sem = fun _ => 0)

def quiescent_MergeForwardIdeal [hMergeForwardIdeal : Cert.MergeForwardIdeal.Facts] : Prop :=
  ∀ (m : (ℓ : Loc Cert.MergeForwardIdeal.nD Cert.MergeForwardIdeal.τ Cert.MergeForwardIdeal.sig) → Buf (Elt Ideal) ℓ) (g : Dev Cert.MergeForwardIdeal.nD → PrngReg), Pre_MergeForwardIdeal m →
    θ_run (Cert.MergeForwardIdeal.defs (F := Ideal)) (onTc (τ := Cert.MergeForwardIdeal.τ) (Cert.MergeForwardIdeal.main (F := Ideal))) ⟨m, fun _ => 0, g⟩ (fun r => (∀ c : Dev Cert.MergeForwardIdeal.nD,
      r.2.mem ((c.tc : Thread Cert.MergeForwardIdeal.nD Cert.MergeForwardIdeal.τ).loc Cert.MergeForwardIdeal.main_arg0) = m ((c.tc : Thread Cert.MergeForwardIdeal.nD Cert.MergeForwardIdeal.τ).loc Cert.MergeForwardIdeal.main_arg0)
      ∧ r.2.mem ((c.tc : Thread Cert.MergeForwardIdeal.nD Cert.MergeForwardIdeal.τ).loc Cert.MergeForwardIdeal.main_arg1) = m ((c.tc : Thread Cert.MergeForwardIdeal.nD Cert.MergeForwardIdeal.τ).loc Cert.MergeForwardIdeal.main_arg1)
      ∧ r.2.mem ((c.tc : Thread Cert.MergeForwardIdeal.nD Cert.MergeForwardIdeal.τ).loc Cert.MergeForwardIdeal.main_arg2) = m ((c.tc : Thread Cert.MergeForwardIdeal.nD Cert.MergeForwardIdeal.τ).loc Cert.MergeForwardIdeal.main_arg2)
      ∧ r.2.mem ((c.tc : Thread Cert.MergeForwardIdeal.nD Cert.MergeForwardIdeal.τ).loc Cert.MergeForwardIdeal.main_arg3) = m ((c.tc : Thread Cert.MergeForwardIdeal.nD Cert.MergeForwardIdeal.τ).loc Cert.MergeForwardIdeal.main_arg3)
      ∧ r.2.mem ((c.tc : Thread Cert.MergeForwardIdeal.nD Cert.MergeForwardIdeal.τ).loc Cert.MergeForwardIdeal.main_arg4) = m ((c.tc : Thread Cert.MergeForwardIdeal.nD Cert.MergeForwardIdeal.τ).loc Cert.MergeForwardIdeal.main_arg4)
      ∧ r.2.mem ((c.tc : Thread Cert.MergeForwardIdeal.nD Cert.MergeForwardIdeal.τ).loc Cert.MergeForwardIdeal.main_arg5) = m ((c.tc : Thread Cert.MergeForwardIdeal.nD Cert.MergeForwardIdeal.τ).loc Cert.MergeForwardIdeal.main_arg5)
      ∧ r.2.mem ((c.tc : Thread Cert.MergeForwardIdeal.nD Cert.MergeForwardIdeal.τ).loc Cert.MergeForwardIdeal.main_arg6) = m ((c.tc : Thread Cert.MergeForwardIdeal.nD Cert.MergeForwardIdeal.τ).loc Cert.MergeForwardIdeal.main_arg6)
      ∧ r.2.mem ((c.tc : Thread Cert.MergeForwardIdeal.nD Cert.MergeForwardIdeal.τ).loc Cert.MergeForwardIdeal.main_arg7) = m ((c.tc : Thread Cert.MergeForwardIdeal.nD Cert.MergeForwardIdeal.τ).loc Cert.MergeForwardIdeal.main_arg7)
      ∧ r.2.mem ((c.tc : Thread Cert.MergeForwardIdeal.nD Cert.MergeForwardIdeal.τ).loc Cert.MergeForwardIdeal.main_arg8) = m ((c.tc : Thread Cert.MergeForwardIdeal.nD Cert.MergeForwardIdeal.τ).loc Cert.MergeForwardIdeal.main_arg8)
      ∧ r.2.mem ((c.tc : Thread Cert.MergeForwardIdeal.nD Cert.MergeForwardIdeal.τ).loc Cert.MergeForwardIdeal.main_arg9) = m ((c.tc : Thread Cert.MergeForwardIdeal.nD Cert.MergeForwardIdeal.τ).loc Cert.MergeForwardIdeal.main_arg9)
      ∧ r.2.mem ((c.tc : Thread Cert.MergeForwardIdeal.nD Cert.MergeForwardIdeal.τ).loc Cert.MergeForwardIdeal.main_arg10) = m ((c.tc : Thread Cert.MergeForwardIdeal.nD Cert.MergeForwardIdeal.τ).loc Cert.MergeForwardIdeal.main_arg10)
      ∧ r.2.mem ((c.tc : Thread Cert.MergeForwardIdeal.nD Cert.MergeForwardIdeal.τ).loc Cert.MergeForwardIdeal.main_arg11) = m ((c.tc : Thread Cert.MergeForwardIdeal.nD Cert.MergeForwardIdeal.τ).loc Cert.MergeForwardIdeal.main_arg11)
      ∧ r.2.mem ((c.tc : Thread Cert.MergeForwardIdeal.nD Cert.MergeForwardIdeal.τ).loc Cert.MergeForwardIdeal.main_arg12) = m ((c.tc : Thread Cert.MergeForwardIdeal.nD Cert.MergeForwardIdeal.τ).loc Cert.MergeForwardIdeal.main_arg12)
      ∧ r.2.mem ((c.tc : Thread Cert.MergeForwardIdeal.nD Cert.MergeForwardIdeal.τ).loc Cert.MergeForwardIdeal.main_arg13) = m ((c.tc : Thread Cert.MergeForwardIdeal.nD Cert.MergeForwardIdeal.τ).loc Cert.MergeForwardIdeal.main_arg13))
      ∧ r.2.sem = fun _ => 0)

def quiescent_MergeForwardReferenceIdeal [hMergeForwardReferenceIdeal : Cert.MergeForwardReferenceIdeal.Facts] : Prop :=
  ∀ (m : (ℓ : Loc Cert.MergeForwardReferenceIdeal.nD Cert.MergeForwardReferenceIdeal.τ Cert.MergeForwardReferenceIdeal.sig) → Buf (Elt Ideal) ℓ) (g : Dev Cert.MergeForwardReferenceIdeal.nD → PrngReg), Pre_MergeForwardReferenceIdeal m →
    θ_run (Cert.MergeForwardReferenceIdeal.defs (F := Ideal)) (onTc (τ := Cert.MergeForwardReferenceIdeal.τ) (Cert.MergeForwardReferenceIdeal.main (F := Ideal))) ⟨m, fun _ => 0, g⟩ (fun r => (∀ c : Dev Cert.MergeForwardReferenceIdeal.nD,
      r.2.mem ((c.tc : Thread Cert.MergeForwardReferenceIdeal.nD Cert.MergeForwardReferenceIdeal.τ).loc Cert.MergeForwardReferenceIdeal.main_arg0) = m ((c.tc : Thread Cert.MergeForwardReferenceIdeal.nD Cert.MergeForwardReferenceIdeal.τ).loc Cert.MergeForwardReferenceIdeal.main_arg0)
      ∧ r.2.mem ((c.tc : Thread Cert.MergeForwardReferenceIdeal.nD Cert.MergeForwardReferenceIdeal.τ).loc Cert.MergeForwardReferenceIdeal.main_arg1) = m ((c.tc : Thread Cert.MergeForwardReferenceIdeal.nD Cert.MergeForwardReferenceIdeal.τ).loc Cert.MergeForwardReferenceIdeal.main_arg1)
      ∧ r.2.mem ((c.tc : Thread Cert.MergeForwardReferenceIdeal.nD Cert.MergeForwardReferenceIdeal.τ).loc Cert.MergeForwardReferenceIdeal.main_arg2) = m ((c.tc : Thread Cert.MergeForwardReferenceIdeal.nD Cert.MergeForwardReferenceIdeal.τ).loc Cert.MergeForwardReferenceIdeal.main_arg2)
      ∧ r.2.mem ((c.tc : Thread Cert.MergeForwardReferenceIdeal.nD Cert.MergeForwardReferenceIdeal.τ).loc Cert.MergeForwardReferenceIdeal.main_arg3) = m ((c.tc : Thread Cert.MergeForwardReferenceIdeal.nD Cert.MergeForwardReferenceIdeal.τ).loc Cert.MergeForwardReferenceIdeal.main_arg3)
      ∧ r.2.mem ((c.tc : Thread Cert.MergeForwardReferenceIdeal.nD Cert.MergeForwardReferenceIdeal.τ).loc Cert.MergeForwardReferenceIdeal.main_arg4) = m ((c.tc : Thread Cert.MergeForwardReferenceIdeal.nD Cert.MergeForwardReferenceIdeal.τ).loc Cert.MergeForwardReferenceIdeal.main_arg4)
      ∧ r.2.mem ((c.tc : Thread Cert.MergeForwardReferenceIdeal.nD Cert.MergeForwardReferenceIdeal.τ).loc Cert.MergeForwardReferenceIdeal.main_arg5) = m ((c.tc : Thread Cert.MergeForwardReferenceIdeal.nD Cert.MergeForwardReferenceIdeal.τ).loc Cert.MergeForwardReferenceIdeal.main_arg5)
      ∧ r.2.mem ((c.tc : Thread Cert.MergeForwardReferenceIdeal.nD Cert.MergeForwardReferenceIdeal.τ).loc Cert.MergeForwardReferenceIdeal.main_arg6) = m ((c.tc : Thread Cert.MergeForwardReferenceIdeal.nD Cert.MergeForwardReferenceIdeal.τ).loc Cert.MergeForwardReferenceIdeal.main_arg6)
      ∧ r.2.mem ((c.tc : Thread Cert.MergeForwardReferenceIdeal.nD Cert.MergeForwardReferenceIdeal.τ).loc Cert.MergeForwardReferenceIdeal.main_arg7) = m ((c.tc : Thread Cert.MergeForwardReferenceIdeal.nD Cert.MergeForwardReferenceIdeal.τ).loc Cert.MergeForwardReferenceIdeal.main_arg7)
      ∧ r.2.mem ((c.tc : Thread Cert.MergeForwardReferenceIdeal.nD Cert.MergeForwardReferenceIdeal.τ).loc Cert.MergeForwardReferenceIdeal.main_arg8) = m ((c.tc : Thread Cert.MergeForwardReferenceIdeal.nD Cert.MergeForwardReferenceIdeal.τ).loc Cert.MergeForwardReferenceIdeal.main_arg8)
      ∧ r.2.mem ((c.tc : Thread Cert.MergeForwardReferenceIdeal.nD Cert.MergeForwardReferenceIdeal.τ).loc Cert.MergeForwardReferenceIdeal.main_arg9) = m ((c.tc : Thread Cert.MergeForwardReferenceIdeal.nD Cert.MergeForwardReferenceIdeal.τ).loc Cert.MergeForwardReferenceIdeal.main_arg9)
      ∧ r.2.mem ((c.tc : Thread Cert.MergeForwardReferenceIdeal.nD Cert.MergeForwardReferenceIdeal.τ).loc Cert.MergeForwardReferenceIdeal.main_arg10) = m ((c.tc : Thread Cert.MergeForwardReferenceIdeal.nD Cert.MergeForwardReferenceIdeal.τ).loc Cert.MergeForwardReferenceIdeal.main_arg10)
      ∧ r.2.mem ((c.tc : Thread Cert.MergeForwardReferenceIdeal.nD Cert.MergeForwardReferenceIdeal.τ).loc Cert.MergeForwardReferenceIdeal.main_arg11) = m ((c.tc : Thread Cert.MergeForwardReferenceIdeal.nD Cert.MergeForwardReferenceIdeal.τ).loc Cert.MergeForwardReferenceIdeal.main_arg11)
      ∧ r.2.mem ((c.tc : Thread Cert.MergeForwardReferenceIdeal.nD Cert.MergeForwardReferenceIdeal.τ).loc Cert.MergeForwardReferenceIdeal.main_arg12) = m ((c.tc : Thread Cert.MergeForwardReferenceIdeal.nD Cert.MergeForwardReferenceIdeal.τ).loc Cert.MergeForwardReferenceIdeal.main_arg12)
      ∧ r.2.mem ((c.tc : Thread Cert.MergeForwardReferenceIdeal.nD Cert.MergeForwardReferenceIdeal.τ).loc Cert.MergeForwardReferenceIdeal.main_arg13) = m ((c.tc : Thread Cert.MergeForwardReferenceIdeal.nD Cert.MergeForwardReferenceIdeal.τ).loc Cert.MergeForwardReferenceIdeal.main_arg13))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_ProjectionGradient [hProjectionGradient : Cert.ProjectionGradient.Facts] : Prop :=
  ∀ (m : (ℓ : Loc Cert.ProjectionGradient.nD Cert.ProjectionGradient.τ Cert.ProjectionGradient.sig) → Buf (Elt Bits) ℓ) (g : Dev Cert.ProjectionGradient.nD → PrngReg), Pre_ProjectionGradient m →
    θ_run (Cert.ProjectionGradient.defs (F := Bits)) (onTc (τ := Cert.ProjectionGradient.τ) (Cert.ProjectionGradient.main (F := Bits))) ⟨m, fun _ => 0, g⟩ (fun r => (∀ c : Dev Cert.ProjectionGradient.nD,
      r.2.mem ((c.tc : Thread Cert.ProjectionGradient.nD Cert.ProjectionGradient.τ).loc Cert.ProjectionGradient.main_arg0) = m ((c.tc : Thread Cert.ProjectionGradient.nD Cert.ProjectionGradient.τ).loc Cert.ProjectionGradient.main_arg0)
      ∧ r.2.mem ((c.tc : Thread Cert.ProjectionGradient.nD Cert.ProjectionGradient.τ).loc Cert.ProjectionGradient.main_arg1) = m ((c.tc : Thread Cert.ProjectionGradient.nD Cert.ProjectionGradient.τ).loc Cert.ProjectionGradient.main_arg1)
      ∧ r.2.mem ((c.tc : Thread Cert.ProjectionGradient.nD Cert.ProjectionGradient.τ).loc Cert.ProjectionGradient.main_arg2) = m ((c.tc : Thread Cert.ProjectionGradient.nD Cert.ProjectionGradient.τ).loc Cert.ProjectionGradient.main_arg2)
      ∧ r.2.mem ((c.tc : Thread Cert.ProjectionGradient.nD Cert.ProjectionGradient.τ).loc Cert.ProjectionGradient.main_arg3) = m ((c.tc : Thread Cert.ProjectionGradient.nD Cert.ProjectionGradient.τ).loc Cert.ProjectionGradient.main_arg3)
      ∧ r.2.mem ((c.tc : Thread Cert.ProjectionGradient.nD Cert.ProjectionGradient.τ).loc Cert.ProjectionGradient.main_arg4) = m ((c.tc : Thread Cert.ProjectionGradient.nD Cert.ProjectionGradient.τ).loc Cert.ProjectionGradient.main_arg4)
      ∧ r.2.mem ((c.tc : Thread Cert.ProjectionGradient.nD Cert.ProjectionGradient.τ).loc Cert.ProjectionGradient.main_arg5) = m ((c.tc : Thread Cert.ProjectionGradient.nD Cert.ProjectionGradient.τ).loc Cert.ProjectionGradient.main_arg5)
      ∧ r.2.mem ((c.tc : Thread Cert.ProjectionGradient.nD Cert.ProjectionGradient.τ).loc Cert.ProjectionGradient.main_arg6) = m ((c.tc : Thread Cert.ProjectionGradient.nD Cert.ProjectionGradient.τ).loc Cert.ProjectionGradient.main_arg6)
      ∧ r.2.mem ((c.tc : Thread Cert.ProjectionGradient.nD Cert.ProjectionGradient.τ).loc Cert.ProjectionGradient.main_arg7) = m ((c.tc : Thread Cert.ProjectionGradient.nD Cert.ProjectionGradient.τ).loc Cert.ProjectionGradient.main_arg7)
      ∧ r.2.mem ((c.tc : Thread Cert.ProjectionGradient.nD Cert.ProjectionGradient.τ).loc Cert.ProjectionGradient.main_arg8) = m ((c.tc : Thread Cert.ProjectionGradient.nD Cert.ProjectionGradient.τ).loc Cert.ProjectionGradient.main_arg8)
      ∧ r.2.mem ((c.tc : Thread Cert.ProjectionGradient.nD Cert.ProjectionGradient.τ).loc Cert.ProjectionGradient.main_arg9) = m ((c.tc : Thread Cert.ProjectionGradient.nD Cert.ProjectionGradient.τ).loc Cert.ProjectionGradient.main_arg9))
      ∧ r.2.sem = fun _ => 0)

def quiescent_ProjectionGradientIdeal [hProjectionGradientIdeal : Cert.ProjectionGradientIdeal.Facts] : Prop :=
  ∀ (m : (ℓ : Loc Cert.ProjectionGradientIdeal.nD Cert.ProjectionGradientIdeal.τ Cert.ProjectionGradientIdeal.sig) → Buf (Elt Ideal) ℓ) (g : Dev Cert.ProjectionGradientIdeal.nD → PrngReg), Pre_ProjectionGradientIdeal m →
    θ_run (Cert.ProjectionGradientIdeal.defs (F := Ideal)) (onTc (τ := Cert.ProjectionGradientIdeal.τ) (Cert.ProjectionGradientIdeal.main (F := Ideal))) ⟨m, fun _ => 0, g⟩ (fun r => (∀ c : Dev Cert.ProjectionGradientIdeal.nD,
      r.2.mem ((c.tc : Thread Cert.ProjectionGradientIdeal.nD Cert.ProjectionGradientIdeal.τ).loc Cert.ProjectionGradientIdeal.main_arg0) = m ((c.tc : Thread Cert.ProjectionGradientIdeal.nD Cert.ProjectionGradientIdeal.τ).loc Cert.ProjectionGradientIdeal.main_arg0)
      ∧ r.2.mem ((c.tc : Thread Cert.ProjectionGradientIdeal.nD Cert.ProjectionGradientIdeal.τ).loc Cert.ProjectionGradientIdeal.main_arg1) = m ((c.tc : Thread Cert.ProjectionGradientIdeal.nD Cert.ProjectionGradientIdeal.τ).loc Cert.ProjectionGradientIdeal.main_arg1)
      ∧ r.2.mem ((c.tc : Thread Cert.ProjectionGradientIdeal.nD Cert.ProjectionGradientIdeal.τ).loc Cert.ProjectionGradientIdeal.main_arg2) = m ((c.tc : Thread Cert.ProjectionGradientIdeal.nD Cert.ProjectionGradientIdeal.τ).loc Cert.ProjectionGradientIdeal.main_arg2)
      ∧ r.2.mem ((c.tc : Thread Cert.ProjectionGradientIdeal.nD Cert.ProjectionGradientIdeal.τ).loc Cert.ProjectionGradientIdeal.main_arg3) = m ((c.tc : Thread Cert.ProjectionGradientIdeal.nD Cert.ProjectionGradientIdeal.τ).loc Cert.ProjectionGradientIdeal.main_arg3)
      ∧ r.2.mem ((c.tc : Thread Cert.ProjectionGradientIdeal.nD Cert.ProjectionGradientIdeal.τ).loc Cert.ProjectionGradientIdeal.main_arg4) = m ((c.tc : Thread Cert.ProjectionGradientIdeal.nD Cert.ProjectionGradientIdeal.τ).loc Cert.ProjectionGradientIdeal.main_arg4)
      ∧ r.2.mem ((c.tc : Thread Cert.ProjectionGradientIdeal.nD Cert.ProjectionGradientIdeal.τ).loc Cert.ProjectionGradientIdeal.main_arg5) = m ((c.tc : Thread Cert.ProjectionGradientIdeal.nD Cert.ProjectionGradientIdeal.τ).loc Cert.ProjectionGradientIdeal.main_arg5)
      ∧ r.2.mem ((c.tc : Thread Cert.ProjectionGradientIdeal.nD Cert.ProjectionGradientIdeal.τ).loc Cert.ProjectionGradientIdeal.main_arg6) = m ((c.tc : Thread Cert.ProjectionGradientIdeal.nD Cert.ProjectionGradientIdeal.τ).loc Cert.ProjectionGradientIdeal.main_arg6)
      ∧ r.2.mem ((c.tc : Thread Cert.ProjectionGradientIdeal.nD Cert.ProjectionGradientIdeal.τ).loc Cert.ProjectionGradientIdeal.main_arg7) = m ((c.tc : Thread Cert.ProjectionGradientIdeal.nD Cert.ProjectionGradientIdeal.τ).loc Cert.ProjectionGradientIdeal.main_arg7)
      ∧ r.2.mem ((c.tc : Thread Cert.ProjectionGradientIdeal.nD Cert.ProjectionGradientIdeal.τ).loc Cert.ProjectionGradientIdeal.main_arg8) = m ((c.tc : Thread Cert.ProjectionGradientIdeal.nD Cert.ProjectionGradientIdeal.τ).loc Cert.ProjectionGradientIdeal.main_arg8)
      ∧ r.2.mem ((c.tc : Thread Cert.ProjectionGradientIdeal.nD Cert.ProjectionGradientIdeal.τ).loc Cert.ProjectionGradientIdeal.main_arg9) = m ((c.tc : Thread Cert.ProjectionGradientIdeal.nD Cert.ProjectionGradientIdeal.τ).loc Cert.ProjectionGradientIdeal.main_arg9))
      ∧ r.2.sem = fun _ => 0)

def quiescent_ProjectionGradientReferenceIdeal [hProjectionGradientReferenceIdeal : Cert.ProjectionGradientReferenceIdeal.Facts] : Prop :=
  ∀ (m : (ℓ : Loc Cert.ProjectionGradientReferenceIdeal.nD Cert.ProjectionGradientReferenceIdeal.τ Cert.ProjectionGradientReferenceIdeal.sig) → Buf (Elt Ideal) ℓ) (g : Dev Cert.ProjectionGradientReferenceIdeal.nD → PrngReg), Pre_ProjectionGradientReferenceIdeal m →
    θ_run (Cert.ProjectionGradientReferenceIdeal.defs (F := Ideal)) (onTc (τ := Cert.ProjectionGradientReferenceIdeal.τ) (Cert.ProjectionGradientReferenceIdeal.main (F := Ideal))) ⟨m, fun _ => 0, g⟩ (fun r => (∀ c : Dev Cert.ProjectionGradientReferenceIdeal.nD,
      r.2.mem ((c.tc : Thread Cert.ProjectionGradientReferenceIdeal.nD Cert.ProjectionGradientReferenceIdeal.τ).loc Cert.ProjectionGradientReferenceIdeal.main_arg0) = m ((c.tc : Thread Cert.ProjectionGradientReferenceIdeal.nD Cert.ProjectionGradientReferenceIdeal.τ).loc Cert.ProjectionGradientReferenceIdeal.main_arg0)
      ∧ r.2.mem ((c.tc : Thread Cert.ProjectionGradientReferenceIdeal.nD Cert.ProjectionGradientReferenceIdeal.τ).loc Cert.ProjectionGradientReferenceIdeal.main_arg1) = m ((c.tc : Thread Cert.ProjectionGradientReferenceIdeal.nD Cert.ProjectionGradientReferenceIdeal.τ).loc Cert.ProjectionGradientReferenceIdeal.main_arg1)
      ∧ r.2.mem ((c.tc : Thread Cert.ProjectionGradientReferenceIdeal.nD Cert.ProjectionGradientReferenceIdeal.τ).loc Cert.ProjectionGradientReferenceIdeal.main_arg2) = m ((c.tc : Thread Cert.ProjectionGradientReferenceIdeal.nD Cert.ProjectionGradientReferenceIdeal.τ).loc Cert.ProjectionGradientReferenceIdeal.main_arg2)
      ∧ r.2.mem ((c.tc : Thread Cert.ProjectionGradientReferenceIdeal.nD Cert.ProjectionGradientReferenceIdeal.τ).loc Cert.ProjectionGradientReferenceIdeal.main_arg3) = m ((c.tc : Thread Cert.ProjectionGradientReferenceIdeal.nD Cert.ProjectionGradientReferenceIdeal.τ).loc Cert.ProjectionGradientReferenceIdeal.main_arg3)
      ∧ r.2.mem ((c.tc : Thread Cert.ProjectionGradientReferenceIdeal.nD Cert.ProjectionGradientReferenceIdeal.τ).loc Cert.ProjectionGradientReferenceIdeal.main_arg4) = m ((c.tc : Thread Cert.ProjectionGradientReferenceIdeal.nD Cert.ProjectionGradientReferenceIdeal.τ).loc Cert.ProjectionGradientReferenceIdeal.main_arg4)
      ∧ r.2.mem ((c.tc : Thread Cert.ProjectionGradientReferenceIdeal.nD Cert.ProjectionGradientReferenceIdeal.τ).loc Cert.ProjectionGradientReferenceIdeal.main_arg5) = m ((c.tc : Thread Cert.ProjectionGradientReferenceIdeal.nD Cert.ProjectionGradientReferenceIdeal.τ).loc Cert.ProjectionGradientReferenceIdeal.main_arg5)
      ∧ r.2.mem ((c.tc : Thread Cert.ProjectionGradientReferenceIdeal.nD Cert.ProjectionGradientReferenceIdeal.τ).loc Cert.ProjectionGradientReferenceIdeal.main_arg6) = m ((c.tc : Thread Cert.ProjectionGradientReferenceIdeal.nD Cert.ProjectionGradientReferenceIdeal.τ).loc Cert.ProjectionGradientReferenceIdeal.main_arg6)
      ∧ r.2.mem ((c.tc : Thread Cert.ProjectionGradientReferenceIdeal.nD Cert.ProjectionGradientReferenceIdeal.τ).loc Cert.ProjectionGradientReferenceIdeal.main_arg7) = m ((c.tc : Thread Cert.ProjectionGradientReferenceIdeal.nD Cert.ProjectionGradientReferenceIdeal.τ).loc Cert.ProjectionGradientReferenceIdeal.main_arg7)
      ∧ r.2.mem ((c.tc : Thread Cert.ProjectionGradientReferenceIdeal.nD Cert.ProjectionGradientReferenceIdeal.τ).loc Cert.ProjectionGradientReferenceIdeal.main_arg8) = m ((c.tc : Thread Cert.ProjectionGradientReferenceIdeal.nD Cert.ProjectionGradientReferenceIdeal.τ).loc Cert.ProjectionGradientReferenceIdeal.main_arg8)
      ∧ r.2.mem ((c.tc : Thread Cert.ProjectionGradientReferenceIdeal.nD Cert.ProjectionGradientReferenceIdeal.τ).loc Cert.ProjectionGradientReferenceIdeal.main_arg9) = m ((c.tc : Thread Cert.ProjectionGradientReferenceIdeal.nD Cert.ProjectionGradientReferenceIdeal.τ).loc Cert.ProjectionGradientReferenceIdeal.main_arg9))
      ∧ r.2.sem = fun _ => 0)

def quiescent_MergeSecond [hMergeSecond : Cert.MergeSecond.Facts] : Prop :=
  ∀ (m : (ℓ : Loc Cert.MergeSecond.nD Cert.MergeSecond.τ Cert.MergeSecond.sig) → Buf (Elt Bits) ℓ) (g : Dev Cert.MergeSecond.nD → PrngReg), Pre_MergeSecond m →
    θ_run (Cert.MergeSecond.defs (F := Bits)) (onTc (τ := Cert.MergeSecond.τ) (Cert.MergeSecond.main (F := Bits))) ⟨m, fun _ => 0, g⟩ (fun r => (∀ c : Dev Cert.MergeSecond.nD,
      r.2.mem ((c.tc : Thread Cert.MergeSecond.nD Cert.MergeSecond.τ).loc Cert.MergeSecond.main_arg0) = m ((c.tc : Thread Cert.MergeSecond.nD Cert.MergeSecond.τ).loc Cert.MergeSecond.main_arg0)
      ∧ r.2.mem ((c.tc : Thread Cert.MergeSecond.nD Cert.MergeSecond.τ).loc Cert.MergeSecond.main_arg1) = m ((c.tc : Thread Cert.MergeSecond.nD Cert.MergeSecond.τ).loc Cert.MergeSecond.main_arg1)
      ∧ r.2.mem ((c.tc : Thread Cert.MergeSecond.nD Cert.MergeSecond.τ).loc Cert.MergeSecond.main_arg2) = m ((c.tc : Thread Cert.MergeSecond.nD Cert.MergeSecond.τ).loc Cert.MergeSecond.main_arg2)
      ∧ r.2.mem ((c.tc : Thread Cert.MergeSecond.nD Cert.MergeSecond.τ).loc Cert.MergeSecond.main_arg3) = m ((c.tc : Thread Cert.MergeSecond.nD Cert.MergeSecond.τ).loc Cert.MergeSecond.main_arg3)
      ∧ r.2.mem ((c.tc : Thread Cert.MergeSecond.nD Cert.MergeSecond.τ).loc Cert.MergeSecond.main_arg4) = m ((c.tc : Thread Cert.MergeSecond.nD Cert.MergeSecond.τ).loc Cert.MergeSecond.main_arg4)
      ∧ r.2.mem ((c.tc : Thread Cert.MergeSecond.nD Cert.MergeSecond.τ).loc Cert.MergeSecond.main_arg5) = m ((c.tc : Thread Cert.MergeSecond.nD Cert.MergeSecond.τ).loc Cert.MergeSecond.main_arg5)
      ∧ r.2.mem ((c.tc : Thread Cert.MergeSecond.nD Cert.MergeSecond.τ).loc Cert.MergeSecond.main_arg6) = m ((c.tc : Thread Cert.MergeSecond.nD Cert.MergeSecond.τ).loc Cert.MergeSecond.main_arg6)
      ∧ r.2.mem ((c.tc : Thread Cert.MergeSecond.nD Cert.MergeSecond.τ).loc Cert.MergeSecond.main_arg7) = m ((c.tc : Thread Cert.MergeSecond.nD Cert.MergeSecond.τ).loc Cert.MergeSecond.main_arg7)
      ∧ r.2.mem ((c.tc : Thread Cert.MergeSecond.nD Cert.MergeSecond.τ).loc Cert.MergeSecond.main_arg8) = m ((c.tc : Thread Cert.MergeSecond.nD Cert.MergeSecond.τ).loc Cert.MergeSecond.main_arg8))
      ∧ r.2.sem = fun _ => 0)

def quiescent_MergeSecondIdeal [hMergeSecondIdeal : Cert.MergeSecondIdeal.Facts] : Prop :=
  ∀ (m : (ℓ : Loc Cert.MergeSecondIdeal.nD Cert.MergeSecondIdeal.τ Cert.MergeSecondIdeal.sig) → Buf (Elt Ideal) ℓ) (g : Dev Cert.MergeSecondIdeal.nD → PrngReg), Pre_MergeSecondIdeal m →
    θ_run (Cert.MergeSecondIdeal.defs (F := Ideal)) (onTc (τ := Cert.MergeSecondIdeal.τ) (Cert.MergeSecondIdeal.main (F := Ideal))) ⟨m, fun _ => 0, g⟩ (fun r => (∀ c : Dev Cert.MergeSecondIdeal.nD,
      r.2.mem ((c.tc : Thread Cert.MergeSecondIdeal.nD Cert.MergeSecondIdeal.τ).loc Cert.MergeSecondIdeal.main_arg0) = m ((c.tc : Thread Cert.MergeSecondIdeal.nD Cert.MergeSecondIdeal.τ).loc Cert.MergeSecondIdeal.main_arg0)
      ∧ r.2.mem ((c.tc : Thread Cert.MergeSecondIdeal.nD Cert.MergeSecondIdeal.τ).loc Cert.MergeSecondIdeal.main_arg1) = m ((c.tc : Thread Cert.MergeSecondIdeal.nD Cert.MergeSecondIdeal.τ).loc Cert.MergeSecondIdeal.main_arg1)
      ∧ r.2.mem ((c.tc : Thread Cert.MergeSecondIdeal.nD Cert.MergeSecondIdeal.τ).loc Cert.MergeSecondIdeal.main_arg2) = m ((c.tc : Thread Cert.MergeSecondIdeal.nD Cert.MergeSecondIdeal.τ).loc Cert.MergeSecondIdeal.main_arg2)
      ∧ r.2.mem ((c.tc : Thread Cert.MergeSecondIdeal.nD Cert.MergeSecondIdeal.τ).loc Cert.MergeSecondIdeal.main_arg3) = m ((c.tc : Thread Cert.MergeSecondIdeal.nD Cert.MergeSecondIdeal.τ).loc Cert.MergeSecondIdeal.main_arg3)
      ∧ r.2.mem ((c.tc : Thread Cert.MergeSecondIdeal.nD Cert.MergeSecondIdeal.τ).loc Cert.MergeSecondIdeal.main_arg4) = m ((c.tc : Thread Cert.MergeSecondIdeal.nD Cert.MergeSecondIdeal.τ).loc Cert.MergeSecondIdeal.main_arg4)
      ∧ r.2.mem ((c.tc : Thread Cert.MergeSecondIdeal.nD Cert.MergeSecondIdeal.τ).loc Cert.MergeSecondIdeal.main_arg5) = m ((c.tc : Thread Cert.MergeSecondIdeal.nD Cert.MergeSecondIdeal.τ).loc Cert.MergeSecondIdeal.main_arg5)
      ∧ r.2.mem ((c.tc : Thread Cert.MergeSecondIdeal.nD Cert.MergeSecondIdeal.τ).loc Cert.MergeSecondIdeal.main_arg6) = m ((c.tc : Thread Cert.MergeSecondIdeal.nD Cert.MergeSecondIdeal.τ).loc Cert.MergeSecondIdeal.main_arg6)
      ∧ r.2.mem ((c.tc : Thread Cert.MergeSecondIdeal.nD Cert.MergeSecondIdeal.τ).loc Cert.MergeSecondIdeal.main_arg7) = m ((c.tc : Thread Cert.MergeSecondIdeal.nD Cert.MergeSecondIdeal.τ).loc Cert.MergeSecondIdeal.main_arg7)
      ∧ r.2.mem ((c.tc : Thread Cert.MergeSecondIdeal.nD Cert.MergeSecondIdeal.τ).loc Cert.MergeSecondIdeal.main_arg8) = m ((c.tc : Thread Cert.MergeSecondIdeal.nD Cert.MergeSecondIdeal.τ).loc Cert.MergeSecondIdeal.main_arg8))
      ∧ r.2.sem = fun _ => 0)

def quiescent_MergeSecondReferenceIdeal [hMergeSecondReferenceIdeal : Cert.MergeSecondReferenceIdeal.Facts] : Prop :=
  ∀ (m : (ℓ : Loc Cert.MergeSecondReferenceIdeal.nD Cert.MergeSecondReferenceIdeal.τ Cert.MergeSecondReferenceIdeal.sig) → Buf (Elt Ideal) ℓ) (g : Dev Cert.MergeSecondReferenceIdeal.nD → PrngReg), Pre_MergeSecondReferenceIdeal m →
    θ_run (Cert.MergeSecondReferenceIdeal.defs (F := Ideal)) (onTc (τ := Cert.MergeSecondReferenceIdeal.τ) (Cert.MergeSecondReferenceIdeal.main (F := Ideal))) ⟨m, fun _ => 0, g⟩ (fun r => (∀ c : Dev Cert.MergeSecondReferenceIdeal.nD,
      r.2.mem ((c.tc : Thread Cert.MergeSecondReferenceIdeal.nD Cert.MergeSecondReferenceIdeal.τ).loc Cert.MergeSecondReferenceIdeal.main_arg0) = m ((c.tc : Thread Cert.MergeSecondReferenceIdeal.nD Cert.MergeSecondReferenceIdeal.τ).loc Cert.MergeSecondReferenceIdeal.main_arg0)
      ∧ r.2.mem ((c.tc : Thread Cert.MergeSecondReferenceIdeal.nD Cert.MergeSecondReferenceIdeal.τ).loc Cert.MergeSecondReferenceIdeal.main_arg1) = m ((c.tc : Thread Cert.MergeSecondReferenceIdeal.nD Cert.MergeSecondReferenceIdeal.τ).loc Cert.MergeSecondReferenceIdeal.main_arg1)
      ∧ r.2.mem ((c.tc : Thread Cert.MergeSecondReferenceIdeal.nD Cert.MergeSecondReferenceIdeal.τ).loc Cert.MergeSecondReferenceIdeal.main_arg2) = m ((c.tc : Thread Cert.MergeSecondReferenceIdeal.nD Cert.MergeSecondReferenceIdeal.τ).loc Cert.MergeSecondReferenceIdeal.main_arg2)
      ∧ r.2.mem ((c.tc : Thread Cert.MergeSecondReferenceIdeal.nD Cert.MergeSecondReferenceIdeal.τ).loc Cert.MergeSecondReferenceIdeal.main_arg3) = m ((c.tc : Thread Cert.MergeSecondReferenceIdeal.nD Cert.MergeSecondReferenceIdeal.τ).loc Cert.MergeSecondReferenceIdeal.main_arg3)
      ∧ r.2.mem ((c.tc : Thread Cert.MergeSecondReferenceIdeal.nD Cert.MergeSecondReferenceIdeal.τ).loc Cert.MergeSecondReferenceIdeal.main_arg4) = m ((c.tc : Thread Cert.MergeSecondReferenceIdeal.nD Cert.MergeSecondReferenceIdeal.τ).loc Cert.MergeSecondReferenceIdeal.main_arg4)
      ∧ r.2.mem ((c.tc : Thread Cert.MergeSecondReferenceIdeal.nD Cert.MergeSecondReferenceIdeal.τ).loc Cert.MergeSecondReferenceIdeal.main_arg5) = m ((c.tc : Thread Cert.MergeSecondReferenceIdeal.nD Cert.MergeSecondReferenceIdeal.τ).loc Cert.MergeSecondReferenceIdeal.main_arg5)
      ∧ r.2.mem ((c.tc : Thread Cert.MergeSecondReferenceIdeal.nD Cert.MergeSecondReferenceIdeal.τ).loc Cert.MergeSecondReferenceIdeal.main_arg6) = m ((c.tc : Thread Cert.MergeSecondReferenceIdeal.nD Cert.MergeSecondReferenceIdeal.τ).loc Cert.MergeSecondReferenceIdeal.main_arg6)
      ∧ r.2.mem ((c.tc : Thread Cert.MergeSecondReferenceIdeal.nD Cert.MergeSecondReferenceIdeal.τ).loc Cert.MergeSecondReferenceIdeal.main_arg7) = m ((c.tc : Thread Cert.MergeSecondReferenceIdeal.nD Cert.MergeSecondReferenceIdeal.τ).loc Cert.MergeSecondReferenceIdeal.main_arg7)
      ∧ r.2.mem ((c.tc : Thread Cert.MergeSecondReferenceIdeal.nD Cert.MergeSecondReferenceIdeal.τ).loc Cert.MergeSecondReferenceIdeal.main_arg8) = m ((c.tc : Thread Cert.MergeSecondReferenceIdeal.nD Cert.MergeSecondReferenceIdeal.τ).loc Cert.MergeSecondReferenceIdeal.main_arg8))
      ∧ r.2.sem = fun _ => 0)

def quiescent_MergeThird [hMergeThird : Cert.MergeThird.Facts] : Prop :=
  ∀ (m : (ℓ : Loc Cert.MergeThird.nD Cert.MergeThird.τ Cert.MergeThird.sig) → Buf (Elt Bits) ℓ) (g : Dev Cert.MergeThird.nD → PrngReg), Pre_MergeThird m →
    θ_run (Cert.MergeThird.defs (F := Bits)) (onTc (τ := Cert.MergeThird.τ) (Cert.MergeThird.main (F := Bits))) ⟨m, fun _ => 0, g⟩ (fun r => (∀ c : Dev Cert.MergeThird.nD,
      r.2.mem ((c.tc : Thread Cert.MergeThird.nD Cert.MergeThird.τ).loc Cert.MergeThird.main_arg0) = m ((c.tc : Thread Cert.MergeThird.nD Cert.MergeThird.τ).loc Cert.MergeThird.main_arg0)
      ∧ r.2.mem ((c.tc : Thread Cert.MergeThird.nD Cert.MergeThird.τ).loc Cert.MergeThird.main_arg1) = m ((c.tc : Thread Cert.MergeThird.nD Cert.MergeThird.τ).loc Cert.MergeThird.main_arg1)
      ∧ r.2.mem ((c.tc : Thread Cert.MergeThird.nD Cert.MergeThird.τ).loc Cert.MergeThird.main_arg2) = m ((c.tc : Thread Cert.MergeThird.nD Cert.MergeThird.τ).loc Cert.MergeThird.main_arg2)
      ∧ r.2.mem ((c.tc : Thread Cert.MergeThird.nD Cert.MergeThird.τ).loc Cert.MergeThird.main_arg3) = m ((c.tc : Thread Cert.MergeThird.nD Cert.MergeThird.τ).loc Cert.MergeThird.main_arg3)
      ∧ r.2.mem ((c.tc : Thread Cert.MergeThird.nD Cert.MergeThird.τ).loc Cert.MergeThird.main_arg4) = m ((c.tc : Thread Cert.MergeThird.nD Cert.MergeThird.τ).loc Cert.MergeThird.main_arg4)
      ∧ r.2.mem ((c.tc : Thread Cert.MergeThird.nD Cert.MergeThird.τ).loc Cert.MergeThird.main_arg5) = m ((c.tc : Thread Cert.MergeThird.nD Cert.MergeThird.τ).loc Cert.MergeThird.main_arg5)
      ∧ r.2.mem ((c.tc : Thread Cert.MergeThird.nD Cert.MergeThird.τ).loc Cert.MergeThird.main_arg6) = m ((c.tc : Thread Cert.MergeThird.nD Cert.MergeThird.τ).loc Cert.MergeThird.main_arg6)
      ∧ r.2.mem ((c.tc : Thread Cert.MergeThird.nD Cert.MergeThird.τ).loc Cert.MergeThird.main_arg7) = m ((c.tc : Thread Cert.MergeThird.nD Cert.MergeThird.τ).loc Cert.MergeThird.main_arg7)
      ∧ r.2.mem ((c.tc : Thread Cert.MergeThird.nD Cert.MergeThird.τ).loc Cert.MergeThird.main_arg8) = m ((c.tc : Thread Cert.MergeThird.nD Cert.MergeThird.τ).loc Cert.MergeThird.main_arg8))
      ∧ r.2.sem = fun _ => 0)

def quiescent_MergeThirdIdeal [hMergeThirdIdeal : Cert.MergeThirdIdeal.Facts] : Prop :=
  ∀ (m : (ℓ : Loc Cert.MergeThirdIdeal.nD Cert.MergeThirdIdeal.τ Cert.MergeThirdIdeal.sig) → Buf (Elt Ideal) ℓ) (g : Dev Cert.MergeThirdIdeal.nD → PrngReg), Pre_MergeThirdIdeal m →
    θ_run (Cert.MergeThirdIdeal.defs (F := Ideal)) (onTc (τ := Cert.MergeThirdIdeal.τ) (Cert.MergeThirdIdeal.main (F := Ideal))) ⟨m, fun _ => 0, g⟩ (fun r => (∀ c : Dev Cert.MergeThirdIdeal.nD,
      r.2.mem ((c.tc : Thread Cert.MergeThirdIdeal.nD Cert.MergeThirdIdeal.τ).loc Cert.MergeThirdIdeal.main_arg0) = m ((c.tc : Thread Cert.MergeThirdIdeal.nD Cert.MergeThirdIdeal.τ).loc Cert.MergeThirdIdeal.main_arg0)
      ∧ r.2.mem ((c.tc : Thread Cert.MergeThirdIdeal.nD Cert.MergeThirdIdeal.τ).loc Cert.MergeThirdIdeal.main_arg1) = m ((c.tc : Thread Cert.MergeThirdIdeal.nD Cert.MergeThirdIdeal.τ).loc Cert.MergeThirdIdeal.main_arg1)
      ∧ r.2.mem ((c.tc : Thread Cert.MergeThirdIdeal.nD Cert.MergeThirdIdeal.τ).loc Cert.MergeThirdIdeal.main_arg2) = m ((c.tc : Thread Cert.MergeThirdIdeal.nD Cert.MergeThirdIdeal.τ).loc Cert.MergeThirdIdeal.main_arg2)
      ∧ r.2.mem ((c.tc : Thread Cert.MergeThirdIdeal.nD Cert.MergeThirdIdeal.τ).loc Cert.MergeThirdIdeal.main_arg3) = m ((c.tc : Thread Cert.MergeThirdIdeal.nD Cert.MergeThirdIdeal.τ).loc Cert.MergeThirdIdeal.main_arg3)
      ∧ r.2.mem ((c.tc : Thread Cert.MergeThirdIdeal.nD Cert.MergeThirdIdeal.τ).loc Cert.MergeThirdIdeal.main_arg4) = m ((c.tc : Thread Cert.MergeThirdIdeal.nD Cert.MergeThirdIdeal.τ).loc Cert.MergeThirdIdeal.main_arg4)
      ∧ r.2.mem ((c.tc : Thread Cert.MergeThirdIdeal.nD Cert.MergeThirdIdeal.τ).loc Cert.MergeThirdIdeal.main_arg5) = m ((c.tc : Thread Cert.MergeThirdIdeal.nD Cert.MergeThirdIdeal.τ).loc Cert.MergeThirdIdeal.main_arg5)
      ∧ r.2.mem ((c.tc : Thread Cert.MergeThirdIdeal.nD Cert.MergeThirdIdeal.τ).loc Cert.MergeThirdIdeal.main_arg6) = m ((c.tc : Thread Cert.MergeThirdIdeal.nD Cert.MergeThirdIdeal.τ).loc Cert.MergeThirdIdeal.main_arg6)
      ∧ r.2.mem ((c.tc : Thread Cert.MergeThirdIdeal.nD Cert.MergeThirdIdeal.τ).loc Cert.MergeThirdIdeal.main_arg7) = m ((c.tc : Thread Cert.MergeThirdIdeal.nD Cert.MergeThirdIdeal.τ).loc Cert.MergeThirdIdeal.main_arg7)
      ∧ r.2.mem ((c.tc : Thread Cert.MergeThirdIdeal.nD Cert.MergeThirdIdeal.τ).loc Cert.MergeThirdIdeal.main_arg8) = m ((c.tc : Thread Cert.MergeThirdIdeal.nD Cert.MergeThirdIdeal.τ).loc Cert.MergeThirdIdeal.main_arg8))
      ∧ r.2.sem = fun _ => 0)

def quiescent_MergeThirdReferenceIdeal [hMergeThirdReferenceIdeal : Cert.MergeThirdReferenceIdeal.Facts] : Prop :=
  ∀ (m : (ℓ : Loc Cert.MergeThirdReferenceIdeal.nD Cert.MergeThirdReferenceIdeal.τ Cert.MergeThirdReferenceIdeal.sig) → Buf (Elt Ideal) ℓ) (g : Dev Cert.MergeThirdReferenceIdeal.nD → PrngReg), Pre_MergeThirdReferenceIdeal m →
    θ_run (Cert.MergeThirdReferenceIdeal.defs (F := Ideal)) (onTc (τ := Cert.MergeThirdReferenceIdeal.τ) (Cert.MergeThirdReferenceIdeal.main (F := Ideal))) ⟨m, fun _ => 0, g⟩ (fun r => (∀ c : Dev Cert.MergeThirdReferenceIdeal.nD,
      r.2.mem ((c.tc : Thread Cert.MergeThirdReferenceIdeal.nD Cert.MergeThirdReferenceIdeal.τ).loc Cert.MergeThirdReferenceIdeal.main_arg0) = m ((c.tc : Thread Cert.MergeThirdReferenceIdeal.nD Cert.MergeThirdReferenceIdeal.τ).loc Cert.MergeThirdReferenceIdeal.main_arg0)
      ∧ r.2.mem ((c.tc : Thread Cert.MergeThirdReferenceIdeal.nD Cert.MergeThirdReferenceIdeal.τ).loc Cert.MergeThirdReferenceIdeal.main_arg1) = m ((c.tc : Thread Cert.MergeThirdReferenceIdeal.nD Cert.MergeThirdReferenceIdeal.τ).loc Cert.MergeThirdReferenceIdeal.main_arg1)
      ∧ r.2.mem ((c.tc : Thread Cert.MergeThirdReferenceIdeal.nD Cert.MergeThirdReferenceIdeal.τ).loc Cert.MergeThirdReferenceIdeal.main_arg2) = m ((c.tc : Thread Cert.MergeThirdReferenceIdeal.nD Cert.MergeThirdReferenceIdeal.τ).loc Cert.MergeThirdReferenceIdeal.main_arg2)
      ∧ r.2.mem ((c.tc : Thread Cert.MergeThirdReferenceIdeal.nD Cert.MergeThirdReferenceIdeal.τ).loc Cert.MergeThirdReferenceIdeal.main_arg3) = m ((c.tc : Thread Cert.MergeThirdReferenceIdeal.nD Cert.MergeThirdReferenceIdeal.τ).loc Cert.MergeThirdReferenceIdeal.main_arg3)
      ∧ r.2.mem ((c.tc : Thread Cert.MergeThirdReferenceIdeal.nD Cert.MergeThirdReferenceIdeal.τ).loc Cert.MergeThirdReferenceIdeal.main_arg4) = m ((c.tc : Thread Cert.MergeThirdReferenceIdeal.nD Cert.MergeThirdReferenceIdeal.τ).loc Cert.MergeThirdReferenceIdeal.main_arg4)
      ∧ r.2.mem ((c.tc : Thread Cert.MergeThirdReferenceIdeal.nD Cert.MergeThirdReferenceIdeal.τ).loc Cert.MergeThirdReferenceIdeal.main_arg5) = m ((c.tc : Thread Cert.MergeThirdReferenceIdeal.nD Cert.MergeThirdReferenceIdeal.τ).loc Cert.MergeThirdReferenceIdeal.main_arg5)
      ∧ r.2.mem ((c.tc : Thread Cert.MergeThirdReferenceIdeal.nD Cert.MergeThirdReferenceIdeal.τ).loc Cert.MergeThirdReferenceIdeal.main_arg6) = m ((c.tc : Thread Cert.MergeThirdReferenceIdeal.nD Cert.MergeThirdReferenceIdeal.τ).loc Cert.MergeThirdReferenceIdeal.main_arg6)
      ∧ r.2.mem ((c.tc : Thread Cert.MergeThirdReferenceIdeal.nD Cert.MergeThirdReferenceIdeal.τ).loc Cert.MergeThirdReferenceIdeal.main_arg7) = m ((c.tc : Thread Cert.MergeThirdReferenceIdeal.nD Cert.MergeThirdReferenceIdeal.τ).loc Cert.MergeThirdReferenceIdeal.main_arg7)
      ∧ r.2.mem ((c.tc : Thread Cert.MergeThirdReferenceIdeal.nD Cert.MergeThirdReferenceIdeal.τ).loc Cert.MergeThirdReferenceIdeal.main_arg8) = m ((c.tc : Thread Cert.MergeThirdReferenceIdeal.nD Cert.MergeThirdReferenceIdeal.τ).loc Cert.MergeThirdReferenceIdeal.main_arg8))
      ∧ r.2.sem = fun _ => 0)

def quiescent_MergeFourth [hMergeFourth : Cert.MergeFourth.Facts] : Prop :=
  ∀ (m : (ℓ : Loc Cert.MergeFourth.nD Cert.MergeFourth.τ Cert.MergeFourth.sig) → Buf (Elt Bits) ℓ) (g : Dev Cert.MergeFourth.nD → PrngReg), Pre_MergeFourth m →
    θ_run (Cert.MergeFourth.defs (F := Bits)) (onTc (τ := Cert.MergeFourth.τ) (Cert.MergeFourth.main (F := Bits))) ⟨m, fun _ => 0, g⟩ (fun r => (∀ c : Dev Cert.MergeFourth.nD,
      r.2.mem ((c.tc : Thread Cert.MergeFourth.nD Cert.MergeFourth.τ).loc Cert.MergeFourth.main_arg0) = m ((c.tc : Thread Cert.MergeFourth.nD Cert.MergeFourth.τ).loc Cert.MergeFourth.main_arg0)
      ∧ r.2.mem ((c.tc : Thread Cert.MergeFourth.nD Cert.MergeFourth.τ).loc Cert.MergeFourth.main_arg1) = m ((c.tc : Thread Cert.MergeFourth.nD Cert.MergeFourth.τ).loc Cert.MergeFourth.main_arg1)
      ∧ r.2.mem ((c.tc : Thread Cert.MergeFourth.nD Cert.MergeFourth.τ).loc Cert.MergeFourth.main_arg2) = m ((c.tc : Thread Cert.MergeFourth.nD Cert.MergeFourth.τ).loc Cert.MergeFourth.main_arg2)
      ∧ r.2.mem ((c.tc : Thread Cert.MergeFourth.nD Cert.MergeFourth.τ).loc Cert.MergeFourth.main_arg3) = m ((c.tc : Thread Cert.MergeFourth.nD Cert.MergeFourth.τ).loc Cert.MergeFourth.main_arg3)
      ∧ r.2.mem ((c.tc : Thread Cert.MergeFourth.nD Cert.MergeFourth.τ).loc Cert.MergeFourth.main_arg4) = m ((c.tc : Thread Cert.MergeFourth.nD Cert.MergeFourth.τ).loc Cert.MergeFourth.main_arg4)
      ∧ r.2.mem ((c.tc : Thread Cert.MergeFourth.nD Cert.MergeFourth.τ).loc Cert.MergeFourth.main_arg5) = m ((c.tc : Thread Cert.MergeFourth.nD Cert.MergeFourth.τ).loc Cert.MergeFourth.main_arg5)
      ∧ r.2.mem ((c.tc : Thread Cert.MergeFourth.nD Cert.MergeFourth.τ).loc Cert.MergeFourth.main_arg6) = m ((c.tc : Thread Cert.MergeFourth.nD Cert.MergeFourth.τ).loc Cert.MergeFourth.main_arg6)
      ∧ r.2.mem ((c.tc : Thread Cert.MergeFourth.nD Cert.MergeFourth.τ).loc Cert.MergeFourth.main_arg7) = m ((c.tc : Thread Cert.MergeFourth.nD Cert.MergeFourth.τ).loc Cert.MergeFourth.main_arg7)
      ∧ r.2.mem ((c.tc : Thread Cert.MergeFourth.nD Cert.MergeFourth.τ).loc Cert.MergeFourth.main_arg8) = m ((c.tc : Thread Cert.MergeFourth.nD Cert.MergeFourth.τ).loc Cert.MergeFourth.main_arg8))
      ∧ r.2.sem = fun _ => 0)

def quiescent_MergeFourthIdeal [hMergeFourthIdeal : Cert.MergeFourthIdeal.Facts] : Prop :=
  ∀ (m : (ℓ : Loc Cert.MergeFourthIdeal.nD Cert.MergeFourthIdeal.τ Cert.MergeFourthIdeal.sig) → Buf (Elt Ideal) ℓ) (g : Dev Cert.MergeFourthIdeal.nD → PrngReg), Pre_MergeFourthIdeal m →
    θ_run (Cert.MergeFourthIdeal.defs (F := Ideal)) (onTc (τ := Cert.MergeFourthIdeal.τ) (Cert.MergeFourthIdeal.main (F := Ideal))) ⟨m, fun _ => 0, g⟩ (fun r => (∀ c : Dev Cert.MergeFourthIdeal.nD,
      r.2.mem ((c.tc : Thread Cert.MergeFourthIdeal.nD Cert.MergeFourthIdeal.τ).loc Cert.MergeFourthIdeal.main_arg0) = m ((c.tc : Thread Cert.MergeFourthIdeal.nD Cert.MergeFourthIdeal.τ).loc Cert.MergeFourthIdeal.main_arg0)
      ∧ r.2.mem ((c.tc : Thread Cert.MergeFourthIdeal.nD Cert.MergeFourthIdeal.τ).loc Cert.MergeFourthIdeal.main_arg1) = m ((c.tc : Thread Cert.MergeFourthIdeal.nD Cert.MergeFourthIdeal.τ).loc Cert.MergeFourthIdeal.main_arg1)
      ∧ r.2.mem ((c.tc : Thread Cert.MergeFourthIdeal.nD Cert.MergeFourthIdeal.τ).loc Cert.MergeFourthIdeal.main_arg2) = m ((c.tc : Thread Cert.MergeFourthIdeal.nD Cert.MergeFourthIdeal.τ).loc Cert.MergeFourthIdeal.main_arg2)
      ∧ r.2.mem ((c.tc : Thread Cert.MergeFourthIdeal.nD Cert.MergeFourthIdeal.τ).loc Cert.MergeFourthIdeal.main_arg3) = m ((c.tc : Thread Cert.MergeFourthIdeal.nD Cert.MergeFourthIdeal.τ).loc Cert.MergeFourthIdeal.main_arg3)
      ∧ r.2.mem ((c.tc : Thread Cert.MergeFourthIdeal.nD Cert.MergeFourthIdeal.τ).loc Cert.MergeFourthIdeal.main_arg4) = m ((c.tc : Thread Cert.MergeFourthIdeal.nD Cert.MergeFourthIdeal.τ).loc Cert.MergeFourthIdeal.main_arg4)
      ∧ r.2.mem ((c.tc : Thread Cert.MergeFourthIdeal.nD Cert.MergeFourthIdeal.τ).loc Cert.MergeFourthIdeal.main_arg5) = m ((c.tc : Thread Cert.MergeFourthIdeal.nD Cert.MergeFourthIdeal.τ).loc Cert.MergeFourthIdeal.main_arg5)
      ∧ r.2.mem ((c.tc : Thread Cert.MergeFourthIdeal.nD Cert.MergeFourthIdeal.τ).loc Cert.MergeFourthIdeal.main_arg6) = m ((c.tc : Thread Cert.MergeFourthIdeal.nD Cert.MergeFourthIdeal.τ).loc Cert.MergeFourthIdeal.main_arg6)
      ∧ r.2.mem ((c.tc : Thread Cert.MergeFourthIdeal.nD Cert.MergeFourthIdeal.τ).loc Cert.MergeFourthIdeal.main_arg7) = m ((c.tc : Thread Cert.MergeFourthIdeal.nD Cert.MergeFourthIdeal.τ).loc Cert.MergeFourthIdeal.main_arg7)
      ∧ r.2.mem ((c.tc : Thread Cert.MergeFourthIdeal.nD Cert.MergeFourthIdeal.τ).loc Cert.MergeFourthIdeal.main_arg8) = m ((c.tc : Thread Cert.MergeFourthIdeal.nD Cert.MergeFourthIdeal.τ).loc Cert.MergeFourthIdeal.main_arg8))
      ∧ r.2.sem = fun _ => 0)

def quiescent_MergeFourthReferenceIdeal [hMergeFourthReferenceIdeal : Cert.MergeFourthReferenceIdeal.Facts] : Prop :=
  ∀ (m : (ℓ : Loc Cert.MergeFourthReferenceIdeal.nD Cert.MergeFourthReferenceIdeal.τ Cert.MergeFourthReferenceIdeal.sig) → Buf (Elt Ideal) ℓ) (g : Dev Cert.MergeFourthReferenceIdeal.nD → PrngReg), Pre_MergeFourthReferenceIdeal m →
    θ_run (Cert.MergeFourthReferenceIdeal.defs (F := Ideal)) (onTc (τ := Cert.MergeFourthReferenceIdeal.τ) (Cert.MergeFourthReferenceIdeal.main (F := Ideal))) ⟨m, fun _ => 0, g⟩ (fun r => (∀ c : Dev Cert.MergeFourthReferenceIdeal.nD,
      r.2.mem ((c.tc : Thread Cert.MergeFourthReferenceIdeal.nD Cert.MergeFourthReferenceIdeal.τ).loc Cert.MergeFourthReferenceIdeal.main_arg0) = m ((c.tc : Thread Cert.MergeFourthReferenceIdeal.nD Cert.MergeFourthReferenceIdeal.τ).loc Cert.MergeFourthReferenceIdeal.main_arg0)
      ∧ r.2.mem ((c.tc : Thread Cert.MergeFourthReferenceIdeal.nD Cert.MergeFourthReferenceIdeal.τ).loc Cert.MergeFourthReferenceIdeal.main_arg1) = m ((c.tc : Thread Cert.MergeFourthReferenceIdeal.nD Cert.MergeFourthReferenceIdeal.τ).loc Cert.MergeFourthReferenceIdeal.main_arg1)
      ∧ r.2.mem ((c.tc : Thread Cert.MergeFourthReferenceIdeal.nD Cert.MergeFourthReferenceIdeal.τ).loc Cert.MergeFourthReferenceIdeal.main_arg2) = m ((c.tc : Thread Cert.MergeFourthReferenceIdeal.nD Cert.MergeFourthReferenceIdeal.τ).loc Cert.MergeFourthReferenceIdeal.main_arg2)
      ∧ r.2.mem ((c.tc : Thread Cert.MergeFourthReferenceIdeal.nD Cert.MergeFourthReferenceIdeal.τ).loc Cert.MergeFourthReferenceIdeal.main_arg3) = m ((c.tc : Thread Cert.MergeFourthReferenceIdeal.nD Cert.MergeFourthReferenceIdeal.τ).loc Cert.MergeFourthReferenceIdeal.main_arg3)
      ∧ r.2.mem ((c.tc : Thread Cert.MergeFourthReferenceIdeal.nD Cert.MergeFourthReferenceIdeal.τ).loc Cert.MergeFourthReferenceIdeal.main_arg4) = m ((c.tc : Thread Cert.MergeFourthReferenceIdeal.nD Cert.MergeFourthReferenceIdeal.τ).loc Cert.MergeFourthReferenceIdeal.main_arg4)
      ∧ r.2.mem ((c.tc : Thread Cert.MergeFourthReferenceIdeal.nD Cert.MergeFourthReferenceIdeal.τ).loc Cert.MergeFourthReferenceIdeal.main_arg5) = m ((c.tc : Thread Cert.MergeFourthReferenceIdeal.nD Cert.MergeFourthReferenceIdeal.τ).loc Cert.MergeFourthReferenceIdeal.main_arg5)
      ∧ r.2.mem ((c.tc : Thread Cert.MergeFourthReferenceIdeal.nD Cert.MergeFourthReferenceIdeal.τ).loc Cert.MergeFourthReferenceIdeal.main_arg6) = m ((c.tc : Thread Cert.MergeFourthReferenceIdeal.nD Cert.MergeFourthReferenceIdeal.τ).loc Cert.MergeFourthReferenceIdeal.main_arg6)
      ∧ r.2.mem ((c.tc : Thread Cert.MergeFourthReferenceIdeal.nD Cert.MergeFourthReferenceIdeal.τ).loc Cert.MergeFourthReferenceIdeal.main_arg7) = m ((c.tc : Thread Cert.MergeFourthReferenceIdeal.nD Cert.MergeFourthReferenceIdeal.τ).loc Cert.MergeFourthReferenceIdeal.main_arg7)
      ∧ r.2.mem ((c.tc : Thread Cert.MergeFourthReferenceIdeal.nD Cert.MergeFourthReferenceIdeal.τ).loc Cert.MergeFourthReferenceIdeal.main_arg8) = m ((c.tc : Thread Cert.MergeFourthReferenceIdeal.nD Cert.MergeFourthReferenceIdeal.τ).loc Cert.MergeFourthReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v17) = v0 c
          ∧ r.2.mem ((c.tc : Thread Cert.FfnReferenceIdeal.nD Cert.FfnReferenceIdeal.τ).loc Cert.FfnReferenceIdeal.main_v19) = v1 c
          ∧ r.2.mem ((c.tc : Thread Cert.FfnReferenceIdeal.nD Cert.FfnReferenceIdeal.τ).loc Cert.FfnReferenceIdeal.main_v20) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FfnInput_FfnInputIdeal : Prop :=
  True

def algebraic_FfnInputIdeal_FfnInputReferenceIdeal [hFfnInputIdeal : Cert.FfnInputIdeal.Facts] [hFfnInputReferenceIdeal : Cert.FfnInputReferenceIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg)
    (m' : (ℓ : Loc Cert.FfnInputReferenceIdeal.nD Cert.FfnInputReferenceIdeal.τ Cert.FfnInputReferenceIdeal.sig) → Buf (Elt Ideal) ℓ) (g' : Dev Cert.FfnInputReferenceIdeal.nD → PrngReg), Pre_FfnInputIdeal m →
    (∀ c : Dev Cert.FfnInputIdeal.nD,
      m' ((c.tc : Thread Cert.FfnInputReferenceIdeal.nD Cert.FfnInputReferenceIdeal.τ).loc Cert.FfnInputReferenceIdeal.main_arg0) = m ((c.tc : Thread Cert.FfnInputIdeal.nD Cert.FfnInputIdeal.τ).loc Cert.FfnInputIdeal.main_arg0)
      ∧ m' ((c.tc : Thread Cert.FfnInputReferenceIdeal.nD Cert.FfnInputReferenceIdeal.τ).loc Cert.FfnInputReferenceIdeal.main_arg1) = m ((c.tc : Thread Cert.FfnInputIdeal.nD Cert.FfnInputIdeal.τ).loc Cert.FfnInputIdeal.main_arg1)
      ∧ m' ((c.tc : Thread Cert.FfnInputReferenceIdeal.nD Cert.FfnInputReferenceIdeal.τ).loc Cert.FfnInputReferenceIdeal.main_arg2) = m ((c.tc : Thread Cert.FfnInputIdeal.nD Cert.FfnInputIdeal.τ).loc Cert.FfnInputIdeal.main_arg2)
      ∧ m' ((c.tc : Thread Cert.FfnInputReferenceIdeal.nD Cert.FfnInputReferenceIdeal.τ).loc Cert.FfnInputReferenceIdeal.main_arg3) = m ((c.tc : Thread Cert.FfnInputIdeal.nD Cert.FfnInputIdeal.τ).loc Cert.FfnInputIdeal.main_arg3)
      ∧ m' ((c.tc : Thread Cert.FfnInputReferenceIdeal.nD Cert.FfnInputReferenceIdeal.τ).loc Cert.FfnInputReferenceIdeal.main_arg4) = m ((c.tc : Thread Cert.FfnInputIdeal.nD Cert.FfnInputIdeal.τ).loc Cert.FfnInputIdeal.main_arg4)) →
    ∃ (v0 : (c : Dev Cert.FfnInputIdeal.nD) → Buf (Elt Ideal) ((c.tc : Thread Cert.FfnInputIdeal.nD Cert.FfnInputIdeal.τ).loc Cert.FfnInputIdeal.main_v4_0)) (v1 : (c : Dev Cert.FfnInputIdeal.nD) → Buf (Elt Ideal) ((c.tc : Thread Cert.FfnInputIdeal.nD Cert.FfnInputIdeal.τ).loc Cert.FfnInputIdeal.main_v4_1)),
      θ_run (Cert.FfnInputIdeal.defs (F := Ideal)) (onTc (τ := Cert.FfnInputIdeal.τ) (Cert.FfnInputIdeal.main (F := Ideal))) ⟨m, fun _ => 0, g⟩ (fun r => ∀ c : Dev Cert.FfnInputIdeal.nD,
          r.2.mem ((c.tc : Thread Cert.FfnInputIdeal.nD Cert.FfnInputIdeal.τ).loc Cert.FfnInputIdeal.main_v4_0) = v0 c
          ∧ r.2.mem ((c.tc : Thread Cert.FfnInputIdeal.nD Cert.FfnInputIdeal.τ).loc Cert.FfnInputIdeal.main_v4_1) = v1 c
          ∧ r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
          ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
          ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2)
          ∧ r.2.mem ((c.tc : Thread Cert.FfnInputIdeal.nD Cert.FfnInputIdeal.τ).loc Cert.FfnInputIdeal.main_arg3) = m ((c.tc : Thread Cert.FfnInputIdeal.nD Cert.FfnInputIdeal.τ).loc Cert.FfnInputIdeal.main_arg3)
          ∧ r.2.mem ((c.tc : Thread Cert.FfnInputIdeal.nD Cert.FfnInputIdeal.τ).loc Cert.FfnInputIdeal.main_arg4) = m ((c.tc : Thread Cert.FfnInputIdeal.nD Cert.FfnInputIdeal.τ).loc Cert.FfnInputIdeal.main_arg4))
      ∧ θ_run (Cert.FfnInputReferenceIdeal.defs (F := Ideal)) (onTc (τ := Cert.FfnInputReferenceIdeal.τ) (Cert.FfnInputReferenceIdeal.main (F := Ideal))) ⟨m', fun _ => 0, g'⟩ (fun r => ∀ c : Dev Cert.FfnInputReferenceIdeal.nD,
          r.2.mem ((c.tc : Thread Cert.FfnInputReferenceIdeal.nD Cert.FfnInputReferenceIdeal.τ).loc Cert.FfnInputReferenceIdeal.main_v38) = v0 c
          ∧ r.2.mem ((c.tc : Thread Cert.FfnInputReferenceIdeal.nD Cert.FfnInputReferenceIdeal.τ).loc Cert.FfnInputReferenceIdeal.main_v39) = v1 c
          ∧ r.2.mem ((c.tc : Thread Cert.FfnInputReferenceIdeal.nD Cert.FfnInputReferenceIdeal.τ).loc Cert.FfnInputReferenceIdeal.main_arg0) = m' ((c.tc : Thread Cert.FfnInputReferenceIdeal.nD Cert.FfnInputReferenceIdeal.τ).loc Cert.FfnInputReferenceIdeal.main_arg0)
          ∧ r.2.mem ((c.tc : Thread Cert.FfnInputReferenceIdeal.nD Cert.FfnInputReferenceIdeal.τ).loc Cert.FfnInputReferenceIdeal.main_arg1) = m' ((c.tc : Thread Cert.FfnInputReferenceIdeal.nD Cert.FfnInputReferenceIdeal.τ).loc Cert.FfnInputReferenceIdeal.main_arg1)
          ∧ r.2.mem ((c.tc : Thread Cert.FfnInputReferenceIdeal.nD Cert.FfnInputReferenceIdeal.τ).loc Cert.FfnInputReferenceIdeal.main_arg2) = m' ((c.tc : Thread Cert.FfnInputReferenceIdeal.nD Cert.FfnInputReferenceIdeal.τ).loc Cert.FfnInputReferenceIdeal.main_arg2)
          ∧ r.2.mem ((c.tc : Thread Cert.FfnInputReferenceIdeal.nD Cert.FfnInputReferenceIdeal.τ).loc Cert.FfnInputReferenceIdeal.main_arg3) = m' ((c.tc : Thread Cert.FfnInputReferenceIdeal.nD Cert.FfnInputReferenceIdeal.τ).loc Cert.FfnInputReferenceIdeal.main_arg3)
          ∧ r.2.mem ((c.tc : Thread Cert.FfnInputReferenceIdeal.nD Cert.FfnInputReferenceIdeal.τ).loc Cert.FfnInputReferenceIdeal.main_arg4) = m' ((c.tc : Thread Cert.FfnInputReferenceIdeal.nD Cert.FfnInputReferenceIdeal.τ).loc Cert.FfnInputReferenceIdeal.main_arg4))

def preserves_MergeOut_MergeOutIdeal : Prop :=
  True

def algebraic_MergeOutIdeal_MergeOutReferenceIdeal [hMergeOutIdeal : Cert.MergeOutIdeal.Facts] [hMergeOutReferenceIdeal : Cert.MergeOutReferenceIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutReferenceIdeal.nD Cert.MergeOutReferenceIdeal.τ Cert.MergeOutReferenceIdeal.sig) → Buf (Elt Ideal) ℓ) (g' : Dev Cert.MergeOutReferenceIdeal.nD → PrngReg), Pre_MergeOutIdeal m →
    (∀ c : Dev Cert.MergeOutIdeal.nD,
      m' ((c.tc : Thread Cert.MergeOutReferenceIdeal.nD Cert.MergeOutReferenceIdeal.τ).loc Cert.MergeOutReferenceIdeal.main_arg0) = m ((c.tc : Thread Cert.MergeOutIdeal.nD Cert.MergeOutIdeal.τ).loc Cert.MergeOutIdeal.main_arg0)
      ∧ m' ((c.tc : Thread Cert.MergeOutReferenceIdeal.nD Cert.MergeOutReferenceIdeal.τ).loc Cert.MergeOutReferenceIdeal.main_arg1) = m ((c.tc : Thread Cert.MergeOutIdeal.nD Cert.MergeOutIdeal.τ).loc Cert.MergeOutIdeal.main_arg1)
      ∧ m' ((c.tc : Thread Cert.MergeOutReferenceIdeal.nD Cert.MergeOutReferenceIdeal.τ).loc Cert.MergeOutReferenceIdeal.main_arg2) = m ((c.tc : Thread Cert.MergeOutIdeal.nD Cert.MergeOutIdeal.τ).loc Cert.MergeOutIdeal.main_arg2)
      ∧ m' ((c.tc : Thread Cert.MergeOutReferenceIdeal.nD Cert.MergeOutReferenceIdeal.τ).loc Cert.MergeOutReferenceIdeal.main_arg3) = m ((c.tc : Thread Cert.MergeOutIdeal.nD Cert.MergeOutIdeal.τ).loc Cert.MergeOutIdeal.main_arg3)
      ∧ m' ((c.tc : Thread Cert.MergeOutReferenceIdeal.nD Cert.MergeOutReferenceIdeal.τ).loc Cert.MergeOutReferenceIdeal.main_arg4) = m ((c.tc : Thread Cert.MergeOutIdeal.nD Cert.MergeOutIdeal.τ).loc Cert.MergeOutIdeal.main_arg4)) →
    ∃ (v0 : (c : Dev Cert.MergeOutIdeal.nD) → Buf (Elt Ideal) ((c.tc : Thread Cert.MergeOutIdeal.nD Cert.MergeOutIdeal.τ).loc Cert.MergeOutIdeal.main_v3_0)) (v1 : (c : Dev Cert.MergeOutIdeal.nD) → Buf (Elt Ideal) ((c.tc : Thread Cert.MergeOutIdeal.nD Cert.MergeOutIdeal.τ).loc Cert.MergeOutIdeal.main_v3_1)) (v2 : (c : Dev Cert.MergeOutIdeal.nD) → Buf (Elt Ideal) ((c.tc : Thread Cert.MergeOutIdeal.nD Cert.MergeOutIdeal.τ).loc Cert.MergeOutIdeal.main_v3_2)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v3_0) = v0 c
          ∧ r.2.mem ((c.tc : Thread Cert.MergeOutIdeal.nD Cert.MergeOutIdeal.τ).loc Cert.MergeOutIdeal.main_v3_1) = v1 c
          ∧ r.2.mem ((c.tc : Thread Cert.MergeOutIdeal.nD Cert.MergeOutIdeal.τ).loc Cert.MergeOutIdeal.main_v3_2) = v2 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4))
      ∧ θ_run (Cert.MergeOutReferenceIdeal.defs (F := Ideal)) (onTc (τ := Cert.MergeOutReferenceIdeal.τ) (Cert.MergeOutReferenceIdeal.main (F := Ideal))) ⟨m', fun _ => 0, g'⟩ (fun r => ∀ c : Dev Cert.MergeOutReferenceIdeal.nD,
          r.2.mem ((c.tc : Thread Cert.MergeOutReferenceIdeal.nD Cert.MergeOutReferenceIdeal.τ).loc Cert.MergeOutReferenceIdeal.main_v39) = v0 c
          ∧ r.2.mem ((c.tc : Thread Cert.MergeOutReferenceIdeal.nD Cert.MergeOutReferenceIdeal.τ).loc Cert.MergeOutReferenceIdeal.main_v40) = v1 c
          ∧ r.2.mem ((c.tc : Thread Cert.MergeOutReferenceIdeal.nD Cert.MergeOutReferenceIdeal.τ).loc Cert.MergeOutReferenceIdeal.main_v41) = v2 c
          ∧ r.2.mem ((c.tc : Thread Cert.MergeOutReferenceIdeal.nD Cert.MergeOutReferenceIdeal.τ).loc Cert.MergeOutReferenceIdeal.main_arg0) = m' ((c.tc : Thread Cert.MergeOutReferenceIdeal.nD Cert.MergeOutReferenceIdeal.τ).loc Cert.MergeOutReferenceIdeal.main_arg0)
          ∧ r.2.mem ((c.tc : Thread Cert.MergeOutReferenceIdeal.nD Cert.MergeOutReferenceIdeal.τ).loc Cert.MergeOutReferenceIdeal.main_arg1) = m' ((c.tc : Thread Cert.MergeOutReferenceIdeal.nD Cert.MergeOutReferenceIdeal.τ).loc Cert.MergeOutReferenceIdeal.main_arg1)
          ∧ r.2.mem ((c.tc : Thread Cert.MergeOutReferenceIdeal.nD Cert.MergeOutReferenceIdeal.τ).loc Cert.MergeOutReferenceIdeal.main_arg2) = m' ((c.tc : Thread Cert.MergeOutReferenceIdeal.nD Cert.MergeOutReferenceIdeal.τ).loc Cert.MergeOutReferenceIdeal.main_arg2)
          ∧ r.2.mem ((c.tc : Thread Cert.MergeOutReferenceIdeal.nD Cert.MergeOutReferenceIdeal.τ).loc Cert.MergeOutReferenceIdeal.main_arg3) = m' ((c.tc : Thread Cert.MergeOutReferenceIdeal.nD Cert.MergeOutReferenceIdeal.τ).loc Cert.MergeOutReferenceIdeal.main_arg3)
          ∧ r.2.mem ((c.tc : Thread Cert.MergeOutReferenceIdeal.nD Cert.MergeOutReferenceIdeal.τ).loc Cert.MergeOutReferenceIdeal.main_arg4) = m' ((c.tc : Thread Cert.MergeOutReferenceIdeal.nD Cert.MergeOutReferenceIdeal.τ).loc Cert.MergeOutReferenceIdeal.main_arg4))

def preserves_FfnForward_FfnForwardIdeal : Prop :=
  True

def algebraic_FfnForwardIdeal_FfnForwardReferenceIdeal [hFfnForwardIdeal : Cert.FfnForwardIdeal.Facts] [hFfnForwardReferenceIdeal : Cert.FfnForwardReferenceIdeal.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg)
    (m' : (ℓ : Loc Cert.FfnForwardReferenceIdeal.nD Cert.FfnForwardReferenceIdeal.τ Cert.FfnForwardReferenceIdeal.sig) → Buf (Elt Ideal) ℓ) (g' : Dev Cert.FfnForwardReferenceIdeal.nD → PrngReg), Pre_FfnForwardIdeal m →
    (∀ c : Dev Cert.FfnForwardIdeal.nD,
      m' ((c.tc : Thread Cert.FfnForwardReferenceIdeal.nD Cert.FfnForwardReferenceIdeal.τ).loc Cert.FfnForwardReferenceIdeal.main_arg0) = m ((c.tc : Thread Cert.FfnForwardIdeal.nD Cert.FfnForwardIdeal.τ).loc Cert.FfnForwardIdeal.main_arg0)
      ∧ m' ((c.tc : Thread Cert.FfnForwardReferenceIdeal.nD Cert.FfnForwardReferenceIdeal.τ).loc Cert.FfnForwardReferenceIdeal.main_arg1) = m ((c.tc : Thread Cert.FfnForwardIdeal.nD Cert.FfnForwardIdeal.τ).loc Cert.FfnForwardIdeal.main_arg1)
      ∧ m' ((c.tc : Thread Cert.FfnForwardReferenceIdeal.nD Cert.FfnForwardReferenceIdeal.τ).loc Cert.FfnForwardReferenceIdeal.main_arg2) = m ((c.tc : Thread Cert.FfnForwardIdeal.nD Cert.FfnForwardIdeal.τ).loc Cert.FfnForwardIdeal.main_arg2)
      ∧ m' ((c.tc : Thread Cert.FfnForwardReferenceIdeal.nD Cert.FfnForwardReferenceIdeal.τ).loc Cert.FfnForwardReferenceIdeal.main_arg3) = m ((c.tc : Thread Cert.FfnForwardIdeal.nD Cert.FfnForwardIdeal.τ).loc Cert.FfnForwardIdeal.main_arg3)
      ∧ m' ((c.tc : Thread Cert.FfnForwardReferenceIdeal.nD Cert.FfnForwardReferenceIdeal.τ).loc Cert.FfnForwardReferenceIdeal.main_arg4) = m ((c.tc : Thread Cert.FfnForwardIdeal.nD Cert.FfnForwardIdeal.τ).loc Cert.FfnForwardIdeal.main_arg4)) →
    ∃ (v0 : (c : Dev Cert.FfnForwardIdeal.nD) → Buf (Elt Ideal) ((c.tc : Thread Cert.FfnForwardIdeal.nD Cert.FfnForwardIdeal.τ).loc Cert.FfnForwardIdeal.main_v5_0)) (v1 : (c : Dev Cert.FfnForwardIdeal.nD) → Buf (Elt Ideal) ((c.tc : Thread Cert.FfnForwardIdeal.nD Cert.FfnForwardIdeal.τ).loc Cert.FfnForwardIdeal.main_v5_1)),
      θ_run (Cert.FfnForwardIdeal.defs (F := Ideal)) (onTc (τ := Cert.FfnForwardIdeal.τ) (Cert.FfnForwardIdeal.main (F := Ideal))) ⟨m, fun _ => 0, g⟩ (fun r => ∀ c : Dev Cert.FfnForwardIdeal.nD,
          r.2.mem ((c.tc : Thread Cert.FfnForwardIdeal.nD Cert.FfnForwardIdeal.τ).loc Cert.FfnForwardIdeal.main_v5_0) = v0 c
          ∧ r.2.mem ((c.tc : Thread Cert.FfnForwardIdeal.nD Cert.FfnForwardIdeal.τ).loc Cert.FfnForwardIdeal.main_v5_1) = v1 c
          ∧ r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
          ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
          ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
          ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
          ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4))
      ∧ θ_run (Cert.FfnForwardReferenceIdeal.defs (F := Ideal)) (onTc (τ := Cert.FfnForwardReferenceIdeal.τ) (Cert.FfnForwardReferenceIdeal.main (F := Ideal))) ⟨m', fun _ => 0, g'⟩ (fun r => ∀ c : Dev Cert.FfnForwardReferenceIdeal.nD,
          r.2.mem ((c.tc : Thread Cert.FfnForwardReferenceIdeal.nD Cert.FfnForwardReferenceIdeal.τ).loc Cert.FfnForwardReferenceIdeal.main_v30) = v0 c
          ∧ r.2.mem ((c.tc : Thread Cert.FfnForwardReferenceIdeal.nD Cert.FfnForwardReferenceIdeal.τ).loc Cert.FfnForwardReferenceIdeal.main_v16) = v1 c
          ∧ r.2.mem ((c.tc : Thread Cert.FfnForwardReferenceIdeal.nD Cert.FfnForwardReferenceIdeal.τ).loc Cert.FfnForwardReferenceIdeal.main_arg0) = m' ((c.tc : Thread Cert.FfnForwardReferenceIdeal.nD Cert.FfnForwardReferenceIdeal.τ).loc Cert.FfnForwardReferenceIdeal.main_arg0)
          ∧ r.2.mem ((c.tc : Thread Cert.FfnForwardReferenceIdeal.nD Cert.FfnForwardReferenceIdeal.τ).loc Cert.FfnForwardReferenceIdeal.main_arg1) = m' ((c.tc : Thread Cert.FfnForwardReferenceIdeal.nD Cert.FfnForwardReferenceIdeal.τ).loc Cert.FfnForwardReferenceIdeal.main_arg1)
          ∧ r.2.mem ((c.tc : Thread Cert.FfnForwardReferenceIdeal.nD Cert.FfnForwardReferenceIdeal.τ).loc Cert.FfnForwardReferenceIdeal.main_arg2) = m' ((c.tc : Thread Cert.FfnForwardReferenceIdeal.nD Cert.FfnForwardReferenceIdeal.τ).loc Cert.FfnForwardReferenceIdeal.main_arg2)
          ∧ r.2.mem ((c.tc : Thread Cert.FfnForwardReferenceIdeal.nD Cert.FfnForwardReferenceIdeal.τ).loc Cert.FfnForwardReferenceIdeal.main_arg3) = m' ((c.tc : Thread Cert.FfnForwardReferenceIdeal.nD Cert.FfnForwardReferenceIdeal.τ).loc Cert.FfnForwardReferenceIdeal.main_arg3)
          ∧ r.2.mem ((c.tc : Thread Cert.FfnForwardReferenceIdeal.nD Cert.FfnForwardReferenceIdeal.τ).loc Cert.FfnForwardReferenceIdeal.main_arg4) = m' ((c.tc : Thread Cert.FfnForwardReferenceIdeal.nD Cert.FfnForwardReferenceIdeal.τ).loc Cert.FfnForwardReferenceIdeal.main_arg4))

def preserves_MergeForward_MergeForwardIdeal : Prop :=
  True

def algebraic_MergeForwardIdeal_MergeForwardReferenceIdeal [hMergeForwardIdeal : Cert.MergeForwardIdeal.Facts] [hMergeForwardReferenceIdeal : Cert.MergeForwardReferenceIdeal.Facts] : Prop :=
  ∀ (m : (ℓ : Loc Cert.MergeForwardIdeal.nD Cert.MergeForwardIdeal.τ Cert.MergeForwardIdeal.sig) → Buf (Elt Ideal) ℓ) (g : Dev Cert.MergeForwardIdeal.nD → PrngReg)
    (m' : (ℓ : Loc Cert.MergeForwardReferenceIdeal.nD Cert.MergeForwardReferenceIdeal.τ Cert.MergeForwardReferenceIdeal.sig) → Buf (Elt Ideal) ℓ) (g' : Dev Cert.MergeForwardReferenceIdeal.nD → PrngReg), Pre_MergeForwardIdeal m →
    (∀ c : Dev Cert.MergeForwardIdeal.nD,
      m' ((c.tc : Thread Cert.MergeForwardReferenceIdeal.nD Cert.MergeForwardReferenceIdeal.τ).loc Cert.MergeForwardReferenceIdeal.main_arg0) = m ((c.tc : Thread Cert.MergeForwardIdeal.nD Cert.MergeForwardIdeal.τ).loc Cert.MergeForwardIdeal.main_arg0)
      ∧ m' ((c.tc : Thread Cert.MergeForwardReferenceIdeal.nD Cert.MergeForwardReferenceIdeal.τ).loc Cert.MergeForwardReferenceIdeal.main_arg1) = m ((c.tc : Thread Cert.MergeForwardIdeal.nD Cert.MergeForwardIdeal.τ).loc Cert.MergeForwardIdeal.main_arg1)
      ∧ m' ((c.tc : Thread Cert.MergeForwardReferenceIdeal.nD Cert.MergeForwardReferenceIdeal.τ).loc Cert.MergeForwardReferenceIdeal.main_arg2) = m ((c.tc : Thread Cert.MergeForwardIdeal.nD Cert.MergeForwardIdeal.τ).loc Cert.MergeForwardIdeal.main_arg2)
      ∧ m' ((c.tc : Thread Cert.MergeForwardReferenceIdeal.nD Cert.MergeForwardReferenceIdeal.τ).loc Cert.MergeForwardReferenceIdeal.main_arg3) = m ((c.tc : Thread Cert.MergeForwardIdeal.nD Cert.MergeForwardIdeal.τ).loc Cert.MergeForwardIdeal.main_arg3)
      ∧ m' ((c.tc : Thread Cert.MergeForwardReferenceIdeal.nD Cert.MergeForwardReferenceIdeal.τ).loc Cert.MergeForwardReferenceIdeal.main_arg4) = m ((c.tc : Thread Cert.MergeForwardIdeal.nD Cert.MergeForwardIdeal.τ).loc Cert.MergeForwardIdeal.main_arg4)
      ∧ m' ((c.tc : Thread Cert.MergeForwardReferenceIdeal.nD Cert.MergeForwardReferenceIdeal.τ).loc Cert.MergeForwardReferenceIdeal.main_arg5) = m ((c.tc : Thread Cert.MergeForwardIdeal.nD Cert.MergeForwardIdeal.τ).loc Cert.MergeForwardIdeal.main_arg5)
      ∧ m' ((c.tc : Thread Cert.MergeForwardReferenceIdeal.nD Cert.MergeForwardReferenceIdeal.τ).loc Cert.MergeForwardReferenceIdeal.main_arg6) = m ((c.tc : Thread Cert.MergeForwardIdeal.nD Cert.MergeForwardIdeal.τ).loc Cert.MergeForwardIdeal.main_arg6)
      ∧ m' ((c.tc : Thread Cert.MergeForwardReferenceIdeal.nD Cert.MergeForwardReferenceIdeal.τ).loc Cert.MergeForwardReferenceIdeal.main_arg7) = m ((c.tc : Thread Cert.MergeForwardIdeal.nD Cert.MergeForwardIdeal.τ).loc Cert.MergeForwardIdeal.main_arg7)
      ∧ m' ((c.tc : Thread Cert.MergeForwardReferenceIdeal.nD Cert.MergeForwardReferenceIdeal.τ).loc Cert.MergeForwardReferenceIdeal.main_arg8) = m ((c.tc : Thread Cert.MergeForwardIdeal.nD Cert.MergeForwardIdeal.τ).loc Cert.MergeForwardIdeal.main_arg8)
      ∧ m' ((c.tc : Thread Cert.MergeForwardReferenceIdeal.nD Cert.MergeForwardReferenceIdeal.τ).loc Cert.MergeForwardReferenceIdeal.main_arg9) = m ((c.tc : Thread Cert.MergeForwardIdeal.nD Cert.MergeForwardIdeal.τ).loc Cert.MergeForwardIdeal.main_arg9)
      ∧ m' ((c.tc : Thread Cert.MergeForwardReferenceIdeal.nD Cert.MergeForwardReferenceIdeal.τ).loc Cert.MergeForwardReferenceIdeal.main_arg10) = m ((c.tc : Thread Cert.MergeForwardIdeal.nD Cert.MergeForwardIdeal.τ).loc Cert.MergeForwardIdeal.main_arg10)
      ∧ m' ((c.tc : Thread Cert.MergeForwardReferenceIdeal.nD Cert.MergeForwardReferenceIdeal.τ).loc Cert.MergeForwardReferenceIdeal.main_arg11) = m ((c.tc : Thread Cert.MergeForwardIdeal.nD Cert.MergeForwardIdeal.τ).loc Cert.MergeForwardIdeal.main_arg11)
      ∧ m' ((c.tc : Thread Cert.MergeForwardReferenceIdeal.nD Cert.MergeForwardReferenceIdeal.τ).loc Cert.MergeForwardReferenceIdeal.main_arg12) = m ((c.tc : Thread Cert.MergeForwardIdeal.nD Cert.MergeForwardIdeal.τ).loc Cert.MergeForwardIdeal.main_arg12)
      ∧ m' ((c.tc : Thread Cert.MergeForwardReferenceIdeal.nD Cert.MergeForwardReferenceIdeal.τ).loc Cert.MergeForwardReferenceIdeal.main_arg13) = m ((c.tc : Thread Cert.MergeForwardIdeal.nD Cert.MergeForwardIdeal.τ).loc Cert.MergeForwardIdeal.main_arg13)) →
    ∃ (v0 : (c : Dev Cert.MergeForwardIdeal.nD) → Buf (Elt Ideal) ((c.tc : Thread Cert.MergeForwardIdeal.nD Cert.MergeForwardIdeal.τ).loc Cert.MergeForwardIdeal.main_v24_0)) (v1 : (c : Dev Cert.MergeForwardIdeal.nD) → Buf (Elt Ideal) ((c.tc : Thread Cert.MergeForwardIdeal.nD Cert.MergeForwardIdeal.τ).loc Cert.MergeForwardIdeal.main_v24_1)) (v2 : (c : Dev Cert.MergeForwardIdeal.nD) → Buf (Elt Ideal) ((c.tc : Thread Cert.MergeForwardIdeal.nD Cert.MergeForwardIdeal.τ).loc Cert.MergeForwardIdeal.main_v24_2)),
      θ_run (Cert.MergeForwardIdeal.defs (F := Ideal)) (onTc (τ := Cert.MergeForwardIdeal.τ) (Cert.MergeForwardIdeal.main (F := Ideal))) ⟨m, fun _ => 0, g⟩ (fun r => ∀ c : Dev Cert.MergeForwardIdeal.nD,
          r.2.mem ((c.tc : Thread Cert.MergeForwardIdeal.nD Cert.MergeForwardIdeal.τ).loc Cert.MergeForwardIdeal.main_v24_0) = v0 c
          ∧ r.2.mem ((c.tc : Thread Cert.MergeForwardIdeal.nD Cert.MergeForwardIdeal.τ).loc Cert.MergeForwardIdeal.main_v24_1) = v1 c
          ∧ r.2.mem ((c.tc : Thread Cert.MergeForwardIdeal.nD Cert.MergeForwardIdeal.τ).loc Cert.MergeForwardIdeal.main_v24_2) = v2 c
          ∧ r.2.mem ((c.tc : Thread Cert.MergeForwardIdeal.nD Cert.MergeForwardIdeal.τ).loc Cert.MergeForwardIdeal.main_arg0) = m ((c.tc : Thread Cert.MergeForwardIdeal.nD Cert.MergeForwardIdeal.τ).loc Cert.MergeForwardIdeal.main_arg0)
          ∧ r.2.mem ((c.tc : Thread Cert.MergeForwardIdeal.nD Cert.MergeForwardIdeal.τ).loc Cert.MergeForwardIdeal.main_arg1) = m ((c.tc : Thread Cert.MergeForwardIdeal.nD Cert.MergeForwardIdeal.τ).loc Cert.MergeForwardIdeal.main_arg1)
          ∧ r.2.mem ((c.tc : Thread Cert.MergeForwardIdeal.nD Cert.MergeForwardIdeal.τ).loc Cert.MergeForwardIdeal.main_arg2) = m ((c.tc : Thread Cert.MergeForwardIdeal.nD Cert.MergeForwardIdeal.τ).loc Cert.MergeForwardIdeal.main_arg2)
          ∧ r.2.mem ((c.tc : Thread Cert.MergeForwardIdeal.nD Cert.MergeForwardIdeal.τ).loc Cert.MergeForwardIdeal.main_arg3) = m ((c.tc : Thread Cert.MergeForwardIdeal.nD Cert.MergeForwardIdeal.τ).loc Cert.MergeForwardIdeal.main_arg3)
          ∧ r.2.mem ((c.tc : Thread Cert.MergeForwardIdeal.nD Cert.MergeForwardIdeal.τ).loc Cert.MergeForwardIdeal.main_arg4) = m ((c.tc : Thread Cert.MergeForwardIdeal.nD Cert.MergeForwardIdeal.τ).loc Cert.MergeForwardIdeal.main_arg4)
          ∧ r.2.mem ((c.tc : Thread Cert.MergeForwardIdeal.nD Cert.MergeForwardIdeal.τ).loc Cert.MergeForwardIdeal.main_arg5) = m ((c.tc : Thread Cert.MergeForwardIdeal.nD Cert.MergeForwardIdeal.τ).loc Cert.MergeForwardIdeal.main_arg5)
          ∧ r.2.mem ((c.tc : Thread Cert.MergeForwardIdeal.nD Cert.MergeForwardIdeal.τ).loc Cert.MergeForwardIdeal.main_arg6) = m ((c.tc : Thread Cert.MergeForwardIdeal.nD Cert.MergeForwardIdeal.τ).loc Cert.MergeForwardIdeal.main_arg6)
          ∧ r.2.mem ((c.tc : Thread Cert.MergeForwardIdeal.nD Cert.MergeForwardIdeal.τ).loc Cert.MergeForwardIdeal.main_arg7) = m ((c.tc : Thread Cert.MergeForwardIdeal.nD Cert.MergeForwardIdeal.τ).loc Cert.MergeForwardIdeal.main_arg7)
          ∧ r.2.mem ((c.tc : Thread Cert.MergeForwardIdeal.nD Cert.MergeForwardIdeal.τ).loc Cert.MergeForwardIdeal.main_arg8) = m ((c.tc : Thread Cert.MergeForwardIdeal.nD Cert.MergeForwardIdeal.τ).loc Cert.MergeForwardIdeal.main_arg8)
          ∧ r.2.mem ((c.tc : Thread Cert.MergeForwardIdeal.nD Cert.MergeForwardIdeal.τ).loc Cert.MergeForwardIdeal.main_arg9) = m ((c.tc : Thread Cert.MergeForwardIdeal.nD Cert.MergeForwardIdeal.τ).loc Cert.MergeForwardIdeal.main_arg9)
          ∧ r.2.mem ((c.tc : Thread Cert.MergeForwardIdeal.nD Cert.MergeForwardIdeal.τ).loc Cert.MergeForwardIdeal.main_arg10) = m ((c.tc : Thread Cert.MergeForwardIdeal.nD Cert.MergeForwardIdeal.τ).loc Cert.MergeForwardIdeal.main_arg10)
          ∧ r.2.mem ((c.tc : Thread Cert.MergeForwardIdeal.nD Cert.MergeForwardIdeal.τ).loc Cert.MergeForwardIdeal.main_arg11) = m ((c.tc : Thread Cert.MergeForwardIdeal.nD Cert.MergeForwardIdeal.τ).loc Cert.MergeForwardIdeal.main_arg11)
          ∧ r.2.mem ((c.tc : Thread Cert.MergeForwardIdeal.nD Cert.MergeForwardIdeal.τ).loc Cert.MergeForwardIdeal.main_arg12) = m ((c.tc : Thread Cert.MergeForwardIdeal.nD Cert.MergeForwardIdeal.τ).loc Cert.MergeForwardIdeal.main_arg12)
          ∧ r.2.mem ((c.tc : Thread Cert.MergeForwardIdeal.nD Cert.MergeForwardIdeal.τ).loc Cert.MergeForwardIdeal.main_arg13) = m ((c.tc : Thread Cert.MergeForwardIdeal.nD Cert.MergeForwardIdeal.τ).loc Cert.MergeForwardIdeal.main_arg13))
      ∧ θ_run (Cert.MergeForwardReferenceIdeal.defs (F := Ideal)) (onTc (τ := Cert.MergeForwardReferenceIdeal.τ) (Cert.MergeForwardReferenceIdeal.main (F := Ideal))) ⟨m', fun _ => 0, g'⟩ (fun r => ∀ c : Dev Cert.MergeForwardReferenceIdeal.nD,
          r.2.mem ((c.tc : Thread Cert.MergeForwardReferenceIdeal.nD Cert.MergeForwardReferenceIdeal.τ).loc Cert.MergeForwardReferenceIdeal.main_v42) = v0 c
          ∧ r.2.mem ((c.tc : Thread Cert.MergeForwardReferenceIdeal.nD Cert.MergeForwardReferenceIdeal.τ).loc Cert.MergeForwardReferenceIdeal.main_v43) = v1 c
          ∧ r.2.mem ((c.tc : Thread Cert.MergeForwardReferenceIdeal.nD Cert.MergeForwardReferenceIdeal.τ).loc Cert.MergeForwardReferenceIdeal.main_v28) = v2 c
          ∧ r.2.mem ((c.tc : Thread Cert.MergeForwardReferenceIdeal.nD Cert.MergeForwardReferenceIdeal.τ).loc Cert.MergeForwardReferenceIdeal.main_arg0) = m' ((c.tc : Thread Cert.MergeForwardReferenceIdeal.nD Cert.MergeForwardReferenceIdeal.τ).loc Cert.MergeForwardReferenceIdeal.main_arg0)
          ∧ r.2.mem ((c.tc : Thread Cert.MergeForwardReferenceIdeal.nD Cert.MergeForwardReferenceIdeal.τ).loc Cert.MergeForwardReferenceIdeal.main_arg1) = m' ((c.tc : Thread Cert.MergeForwardReferenceIdeal.nD Cert.MergeForwardReferenceIdeal.τ).loc Cert.MergeForwardReferenceIdeal.main_arg1)
          ∧ r.2.mem ((c.tc : Thread Cert.MergeForwardReferenceIdeal.nD Cert.MergeForwardReferenceIdeal.τ).loc Cert.MergeForwardReferenceIdeal.main_arg2) = m' ((c.tc : Thread Cert.MergeForwardReferenceIdeal.nD Cert.MergeForwardReferenceIdeal.τ).loc Cert.MergeForwardReferenceIdeal.main_arg2)
          ∧ r.2.mem ((c.tc : Thread Cert.MergeForwardReferenceIdeal.nD Cert.MergeForwardReferenceIdeal.τ).loc Cert.MergeForwardReferenceIdeal.main_arg3) = m' ((c.tc : Thread Cert.MergeForwardReferenceIdeal.nD Cert.MergeForwardReferenceIdeal.τ).loc Cert.MergeForwardReferenceIdeal.main_arg3)
          ∧ r.2.mem ((c.tc : Thread Cert.MergeForwardReferenceIdeal.nD Cert.MergeForwardReferenceIdeal.τ).loc Cert.MergeForwardReferenceIdeal.main_arg4) = m' ((c.tc : Thread Cert.MergeForwardReferenceIdeal.nD Cert.MergeForwardReferenceIdeal.τ).loc Cert.MergeForwardReferenceIdeal.main_arg4)
          ∧ r.2.mem ((c.tc : Thread Cert.MergeForwardReferenceIdeal.nD Cert.MergeForwardReferenceIdeal.τ).loc Cert.MergeForwardReferenceIdeal.main_arg5) = m' ((c.tc : Thread Cert.MergeForwardReferenceIdeal.nD Cert.MergeForwardReferenceIdeal.τ).loc Cert.MergeForwardReferenceIdeal.main_arg5)
          ∧ r.2.mem ((c.tc : Thread Cert.MergeForwardReferenceIdeal.nD Cert.MergeForwardReferenceIdeal.τ).loc Cert.MergeForwardReferenceIdeal.main_arg6) = m' ((c.tc : Thread Cert.MergeForwardReferenceIdeal.nD Cert.MergeForwardReferenceIdeal.τ).loc Cert.MergeForwardReferenceIdeal.main_arg6)
          ∧ r.2.mem ((c.tc : Thread Cert.MergeForwardReferenceIdeal.nD Cert.MergeForwardReferenceIdeal.τ).loc Cert.MergeForwardReferenceIdeal.main_arg7) = m' ((c.tc : Thread Cert.MergeForwardReferenceIdeal.nD Cert.MergeForwardReferenceIdeal.τ).loc Cert.MergeForwardReferenceIdeal.main_arg7)
          ∧ r.2.mem ((c.tc : Thread Cert.MergeForwardReferenceIdeal.nD Cert.MergeForwardReferenceIdeal.τ).loc Cert.MergeForwardReferenceIdeal.main_arg8) = m' ((c.tc : Thread Cert.MergeForwardReferenceIdeal.nD Cert.MergeForwardReferenceIdeal.τ).loc Cert.MergeForwardReferenceIdeal.main_arg8)
          ∧ r.2.mem ((c.tc : Thread Cert.MergeForwardReferenceIdeal.nD Cert.MergeForwardReferenceIdeal.τ).loc Cert.MergeForwardReferenceIdeal.main_arg9) = m' ((c.tc : Thread Cert.MergeForwardReferenceIdeal.nD Cert.MergeForwardReferenceIdeal.τ).loc Cert.MergeForwardReferenceIdeal.main_arg9)
          ∧ r.2.mem ((c.tc : Thread Cert.MergeForwardReferenceIdeal.nD Cert.MergeForwardReferenceIdeal.τ).loc Cert.MergeForwardReferenceIdeal.main_arg10) = m' ((c.tc : Thread Cert.MergeForwardReferenceIdeal.nD Cert.MergeForwardReferenceIdeal.τ).loc Cert.MergeForwardReferenceIdeal.main_arg10)
          ∧ r.2.mem ((c.tc : Thread Cert.MergeForwardReferenceIdeal.nD Cert.MergeForwardReferenceIdeal.τ).loc Cert.MergeForwardReferenceIdeal.main_arg11) = m' ((c.tc : Thread Cert.MergeForwardReferenceIdeal.nD Cert.MergeForwardReferenceIdeal.τ).loc Cert.MergeForwardReferenceIdeal.main_arg11)
          ∧ r.2.mem ((c.tc : Thread Cert.MergeForwardReferenceIdeal.nD Cert.MergeForwardReferenceIdeal.τ).loc Cert.MergeForwardReferenceIdeal.main_arg12) = m' ((c.tc : Thread Cert.MergeForwardReferenceIdeal.nD Cert.MergeForwardReferenceIdeal.τ).loc Cert.MergeForwardReferenceIdeal.main_arg12)
          ∧ r.2.mem ((c.tc : Thread Cert.MergeForwardReferenceIdeal.nD Cert.MergeForwardReferenceIdeal.τ).loc Cert.MergeForwardReferenceIdeal.main_arg13) = m' ((c.tc : Thread Cert.MergeForwardReferenceIdeal.nD Cert.MergeForwardReferenceIdeal.τ).loc Cert.MergeForwardReferenceIdeal.main_arg13))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v12_0)) (v1 : (c : Dev Cert.ProjectionIdeal.nD) → Buf (Elt Ideal) ((c.tc : Thread Cert.ProjectionIdeal.nD Cert.ProjectionIdeal.τ).loc Cert.ProjectionIdeal.main_v12_1)) (v2 : (c : Dev Cert.ProjectionIdeal.nD) → Buf (Elt Ideal) ((c.tc : Thread Cert.ProjectionIdeal.nD Cert.ProjectionIdeal.τ).loc Cert.ProjectionIdeal.main_v12_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v12_0) = v0 c
          ∧ r.2.mem ((c.tc : Thread Cert.ProjectionIdeal.nD Cert.ProjectionIdeal.τ).loc Cert.ProjectionIdeal.main_v12_1) = v1 c
          ∧ r.2.mem ((c.tc : Thread Cert.ProjectionIdeal.nD Cert.ProjectionIdeal.τ).loc Cert.ProjectionIdeal.main_v12_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v13) = v0 c
          ∧ r.2.mem ((c.tc : Thread Cert.ProjectionReferenceIdeal.nD Cert.ProjectionReferenceIdeal.τ).loc Cert.ProjectionReferenceIdeal.main_v23) = v1 c
          ∧ r.2.mem ((c.tc : Thread Cert.ProjectionReferenceIdeal.nD Cert.ProjectionReferenceIdeal.τ).loc Cert.ProjectionReferenceIdeal.main_v25) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_ProjectionGradient_ProjectionGradientIdeal : Prop :=
  True

def algebraic_ProjectionGradientIdeal_ProjectionGradientReferenceIdeal [hProjectionGradientIdeal : Cert.ProjectionGradientIdeal.Facts] [hProjectionGradientReferenceIdeal : Cert.ProjectionGradientReferenceIdeal.Facts] : Prop :=
  ∀ (m : (ℓ : Loc Cert.ProjectionGradientIdeal.nD Cert.ProjectionGradientIdeal.τ Cert.ProjectionGradientIdeal.sig) → Buf (Elt Ideal) ℓ) (g : Dev Cert.ProjectionGradientIdeal.nD → PrngReg)
    (m' : (ℓ : Loc Cert.ProjectionGradientReferenceIdeal.nD Cert.ProjectionGradientReferenceIdeal.τ Cert.ProjectionGradientReferenceIdeal.sig) → Buf (Elt Ideal) ℓ) (g' : Dev Cert.ProjectionGradientReferenceIdeal.nD → PrngReg), Pre_ProjectionGradientIdeal m →
    (∀ c : Dev Cert.ProjectionGradientIdeal.nD,
      m' ((c.tc : Thread Cert.ProjectionGradientReferenceIdeal.nD Cert.ProjectionGradientReferenceIdeal.τ).loc Cert.ProjectionGradientReferenceIdeal.main_arg0) = m ((c.tc : Thread Cert.ProjectionGradientIdeal.nD Cert.ProjectionGradientIdeal.τ).loc Cert.ProjectionGradientIdeal.main_arg0)
      ∧ m' ((c.tc : Thread Cert.ProjectionGradientReferenceIdeal.nD Cert.ProjectionGradientReferenceIdeal.τ).loc Cert.ProjectionGradientReferenceIdeal.main_arg1) = m ((c.tc : Thread Cert.ProjectionGradientIdeal.nD Cert.ProjectionGradientIdeal.τ).loc Cert.ProjectionGradientIdeal.main_arg1)
      ∧ m' ((c.tc : Thread Cert.ProjectionGradientReferenceIdeal.nD Cert.ProjectionGradientReferenceIdeal.τ).loc Cert.ProjectionGradientReferenceIdeal.main_arg2) = m ((c.tc : Thread Cert.ProjectionGradientIdeal.nD Cert.ProjectionGradientIdeal.τ).loc Cert.ProjectionGradientIdeal.main_arg2)
      ∧ m' ((c.tc : Thread Cert.ProjectionGradientReferenceIdeal.nD Cert.ProjectionGradientReferenceIdeal.τ).loc Cert.ProjectionGradientReferenceIdeal.main_arg3) = m ((c.tc : Thread Cert.ProjectionGradientIdeal.nD Cert.ProjectionGradientIdeal.τ).loc Cert.ProjectionGradientIdeal.main_arg3)
      ∧ m' ((c.tc : Thread Cert.ProjectionGradientReferenceIdeal.nD Cert.ProjectionGradientReferenceIdeal.τ).loc Cert.ProjectionGradientReferenceIdeal.main_arg4) = m ((c.tc : Thread Cert.ProjectionGradientIdeal.nD Cert.ProjectionGradientIdeal.τ).loc Cert.ProjectionGradientIdeal.main_arg4)
      ∧ m' ((c.tc : Thread Cert.ProjectionGradientReferenceIdeal.nD Cert.ProjectionGradientReferenceIdeal.τ).loc Cert.ProjectionGradientReferenceIdeal.main_arg5) = m ((c.tc : Thread Cert.ProjectionGradientIdeal.nD Cert.ProjectionGradientIdeal.τ).loc Cert.ProjectionGradientIdeal.main_arg5)
      ∧ m' ((c.tc : Thread Cert.ProjectionGradientReferenceIdeal.nD Cert.ProjectionGradientReferenceIdeal.τ).loc Cert.ProjectionGradientReferenceIdeal.main_arg6) = m ((c.tc : Thread Cert.ProjectionGradientIdeal.nD Cert.ProjectionGradientIdeal.τ).loc Cert.ProjectionGradientIdeal.main_arg6)
      ∧ m' ((c.tc : Thread Cert.ProjectionGradientReferenceIdeal.nD Cert.ProjectionGradientReferenceIdeal.τ).loc Cert.ProjectionGradientReferenceIdeal.main_arg7) = m ((c.tc : Thread Cert.ProjectionGradientIdeal.nD Cert.ProjectionGradientIdeal.τ).loc Cert.ProjectionGradientIdeal.main_arg7)
      ∧ m' ((c.tc : Thread Cert.ProjectionGradientReferenceIdeal.nD Cert.ProjectionGradientReferenceIdeal.τ).loc Cert.ProjectionGradientReferenceIdeal.main_arg8) = m ((c.tc : Thread Cert.ProjectionGradientIdeal.nD Cert.ProjectionGradientIdeal.τ).loc Cert.ProjectionGradientIdeal.main_arg8)
      ∧ m' ((c.tc : Thread Cert.ProjectionGradientReferenceIdeal.nD Cert.ProjectionGradientReferenceIdeal.τ).loc Cert.ProjectionGradientReferenceIdeal.main_arg9) = m ((c.tc : Thread Cert.ProjectionGradientIdeal.nD Cert.ProjectionGradientIdeal.τ).loc Cert.ProjectionGradientIdeal.main_arg9)) →
    ∃ (v0 : (c : Dev Cert.ProjectionGradientIdeal.nD) → Buf (Elt Ideal) ((c.tc : Thread Cert.ProjectionGradientIdeal.nD Cert.ProjectionGradientIdeal.τ).loc Cert.ProjectionGradientIdeal.main_v21_0)) (v1 : (c : Dev Cert.ProjectionGradientIdeal.nD) → Buf (Elt Ideal) ((c.tc : Thread Cert.ProjectionGradientIdeal.nD Cert.ProjectionGradientIdeal.τ).loc Cert.ProjectionGradientIdeal.main_v21_1)) (v2 : (c : Dev Cert.ProjectionGradientIdeal.nD) → Buf (Elt Ideal) ((c.tc : Thread Cert.ProjectionGradientIdeal.nD Cert.ProjectionGradientIdeal.τ).loc Cert.ProjectionGradientIdeal.main_v21_2)) (v3 : (c : Dev Cert.ProjectionGradientIdeal.nD) → Buf (Elt Ideal) ((c.tc : Thread Cert.ProjectionGradientIdeal.nD Cert.ProjectionGradientIdeal.τ).loc Cert.ProjectionGradientIdeal.main_v21_3)),
      θ_run (Cert.ProjectionGradientIdeal.defs (F := Ideal)) (onTc (τ := Cert.ProjectionGradientIdeal.τ) (Cert.ProjectionGradientIdeal.main (F := Ideal))) ⟨m, fun _ => 0, g⟩ (fun r => ∀ c : Dev Cert.ProjectionGradientIdeal.nD,
          r.2.mem ((c.tc : Thread Cert.ProjectionGradientIdeal.nD Cert.ProjectionGradientIdeal.τ).loc Cert.ProjectionGradientIdeal.main_v21_0) = v0 c
          ∧ r.2.mem ((c.tc : Thread Cert.ProjectionGradientIdeal.nD Cert.ProjectionGradientIdeal.τ).loc Cert.ProjectionGradientIdeal.main_v21_1) = v1 c
          ∧ r.2.mem ((c.tc : Thread Cert.ProjectionGradientIdeal.nD Cert.ProjectionGradientIdeal.τ).loc Cert.ProjectionGradientIdeal.main_v21_2) = v2 c
          ∧ r.2.mem ((c.tc : Thread Cert.ProjectionGradientIdeal.nD Cert.ProjectionGradientIdeal.τ).loc Cert.ProjectionGradientIdeal.main_v21_3) = v3 c
          ∧ r.2.mem ((c.tc : Thread Cert.ProjectionGradientIdeal.nD Cert.ProjectionGradientIdeal.τ).loc Cert.ProjectionGradientIdeal.main_arg0) = m ((c.tc : Thread Cert.ProjectionGradientIdeal.nD Cert.ProjectionGradientIdeal.τ).loc Cert.ProjectionGradientIdeal.main_arg0)
          ∧ r.2.mem ((c.tc : Thread Cert.ProjectionGradientIdeal.nD Cert.ProjectionGradientIdeal.τ).loc Cert.ProjectionGradientIdeal.main_arg1) = m ((c.tc : Thread Cert.ProjectionGradientIdeal.nD Cert.ProjectionGradientIdeal.τ).loc Cert.ProjectionGradientIdeal.main_arg1)
          ∧ r.2.mem ((c.tc : Thread Cert.ProjectionGradientIdeal.nD Cert.ProjectionGradientIdeal.τ).loc Cert.ProjectionGradientIdeal.main_arg2) = m ((c.tc : Thread Cert.ProjectionGradientIdeal.nD Cert.ProjectionGradientIdeal.τ).loc Cert.ProjectionGradientIdeal.main_arg2)
          ∧ r.2.mem ((c.tc : Thread Cert.ProjectionGradientIdeal.nD Cert.ProjectionGradientIdeal.τ).loc Cert.ProjectionGradientIdeal.main_arg3) = m ((c.tc : Thread Cert.ProjectionGradientIdeal.nD Cert.ProjectionGradientIdeal.τ).loc Cert.ProjectionGradientIdeal.main_arg3)
          ∧ r.2.mem ((c.tc : Thread Cert.ProjectionGradientIdeal.nD Cert.ProjectionGradientIdeal.τ).loc Cert.ProjectionGradientIdeal.main_arg4) = m ((c.tc : Thread Cert.ProjectionGradientIdeal.nD Cert.ProjectionGradientIdeal.τ).loc Cert.ProjectionGradientIdeal.main_arg4)
          ∧ r.2.mem ((c.tc : Thread Cert.ProjectionGradientIdeal.nD Cert.ProjectionGradientIdeal.τ).loc Cert.ProjectionGradientIdeal.main_arg5) = m ((c.tc : Thread Cert.ProjectionGradientIdeal.nD Cert.ProjectionGradientIdeal.τ).loc Cert.ProjectionGradientIdeal.main_arg5)
          ∧ r.2.mem ((c.tc : Thread Cert.ProjectionGradientIdeal.nD Cert.ProjectionGradientIdeal.τ).loc Cert.ProjectionGradientIdeal.main_arg6) = m ((c.tc : Thread Cert.ProjectionGradientIdeal.nD Cert.ProjectionGradientIdeal.τ).loc Cert.ProjectionGradientIdeal.main_arg6)
          ∧ r.2.mem ((c.tc : Thread Cert.ProjectionGradientIdeal.nD Cert.ProjectionGradientIdeal.τ).loc Cert.ProjectionGradientIdeal.main_arg7) = m ((c.tc : Thread Cert.ProjectionGradientIdeal.nD Cert.ProjectionGradientIdeal.τ).loc Cert.ProjectionGradientIdeal.main_arg7)
          ∧ r.2.mem ((c.tc : Thread Cert.ProjectionGradientIdeal.nD Cert.ProjectionGradientIdeal.τ).loc Cert.ProjectionGradientIdeal.main_arg8) = m ((c.tc : Thread Cert.ProjectionGradientIdeal.nD Cert.ProjectionGradientIdeal.τ).loc Cert.ProjectionGradientIdeal.main_arg8)
          ∧ r.2.mem ((c.tc : Thread Cert.ProjectionGradientIdeal.nD Cert.ProjectionGradientIdeal.τ).loc Cert.ProjectionGradientIdeal.main_arg9) = m ((c.tc : Thread Cert.ProjectionGradientIdeal.nD Cert.ProjectionGradientIdeal.τ).loc Cert.ProjectionGradientIdeal.main_arg9))
      ∧ θ_run (Cert.ProjectionGradientReferenceIdeal.defs (F := Ideal)) (onTc (τ := Cert.ProjectionGradientReferenceIdeal.τ) (Cert.ProjectionGradientReferenceIdeal.main (F := Ideal))) ⟨m', fun _ => 0, g'⟩ (fun r => ∀ c : Dev Cert.ProjectionGradientReferenceIdeal.nD,
          r.2.mem ((c.tc : Thread Cert.ProjectionGradientReferenceIdeal.nD Cert.ProjectionGradientReferenceIdeal.τ).loc Cert.ProjectionGradientReferenceIdeal.main_v71) = v0 c
          ∧ r.2.mem ((c.tc : Thread Cert.ProjectionGradientReferenceIdeal.nD Cert.ProjectionGradientReferenceIdeal.τ).loc Cert.ProjectionGradientReferenceIdeal.main_v72) = v1 c
          ∧ r.2.mem ((c.tc : Thread Cert.ProjectionGradientReferenceIdeal.nD Cert.ProjectionGradientReferenceIdeal.τ).loc Cert.ProjectionGradientReferenceIdeal.main_v74) = v2 c
          ∧ r.2.mem ((c.tc : Thread Cert.ProjectionGradientReferenceIdeal.nD Cert.ProjectionGradientReferenceIdeal.τ).loc Cert.ProjectionGradientReferenceIdeal.main_v76) = v3 c
          ∧ r.2.mem ((c.tc : Thread Cert.ProjectionGradientReferenceIdeal.nD Cert.ProjectionGradientReferenceIdeal.τ).loc Cert.ProjectionGradientReferenceIdeal.main_arg0) = m' ((c.tc : Thread Cert.ProjectionGradientReferenceIdeal.nD Cert.ProjectionGradientReferenceIdeal.τ).loc Cert.ProjectionGradientReferenceIdeal.main_arg0)
          ∧ r.2.mem ((c.tc : Thread Cert.ProjectionGradientReferenceIdeal.nD Cert.ProjectionGradientReferenceIdeal.τ).loc Cert.ProjectionGradientReferenceIdeal.main_arg1) = m' ((c.tc : Thread Cert.ProjectionGradientReferenceIdeal.nD Cert.ProjectionGradientReferenceIdeal.τ).loc Cert.ProjectionGradientReferenceIdeal.main_arg1)
          ∧ r.2.mem ((c.tc : Thread Cert.ProjectionGradientReferenceIdeal.nD Cert.ProjectionGradientReferenceIdeal.τ).loc Cert.ProjectionGradientReferenceIdeal.main_arg2) = m' ((c.tc : Thread Cert.ProjectionGradientReferenceIdeal.nD Cert.ProjectionGradientReferenceIdeal.τ).loc Cert.ProjectionGradientReferenceIdeal.main_arg2)
          ∧ r.2.mem ((c.tc : Thread Cert.ProjectionGradientReferenceIdeal.nD Cert.ProjectionGradientReferenceIdeal.τ).loc Cert.ProjectionGradientReferenceIdeal.main_arg3) = m' ((c.tc : Thread Cert.ProjectionGradientReferenceIdeal.nD Cert.ProjectionGradientReferenceIdeal.τ).loc Cert.ProjectionGradientReferenceIdeal.main_arg3)
          ∧ r.2.mem ((c.tc : Thread Cert.ProjectionGradientReferenceIdeal.nD Cert.ProjectionGradientReferenceIdeal.τ).loc Cert.ProjectionGradientReferenceIdeal.main_arg4) = m' ((c.tc : Thread Cert.ProjectionGradientReferenceIdeal.nD Cert.ProjectionGradientReferenceIdeal.τ).loc Cert.ProjectionGradientReferenceIdeal.main_arg4)
          ∧ r.2.mem ((c.tc : Thread Cert.ProjectionGradientReferenceIdeal.nD Cert.ProjectionGradientReferenceIdeal.τ).loc Cert.ProjectionGradientReferenceIdeal.main_arg5) = m' ((c.tc : Thread Cert.ProjectionGradientReferenceIdeal.nD Cert.ProjectionGradientReferenceIdeal.τ).loc Cert.ProjectionGradientReferenceIdeal.main_arg5)
          ∧ r.2.mem ((c.tc : Thread Cert.ProjectionGradientReferenceIdeal.nD Cert.ProjectionGradientReferenceIdeal.τ).loc Cert.ProjectionGradientReferenceIdeal.main_arg6) = m' ((c.tc : Thread Cert.ProjectionGradientReferenceIdeal.nD Cert.ProjectionGradientReferenceIdeal.τ).loc Cert.ProjectionGradientReferenceIdeal.main_arg6)
          ∧ r.2.mem ((c.tc : Thread Cert.ProjectionGradientReferenceIdeal.nD Cert.ProjectionGradientReferenceIdeal.τ).loc Cert.ProjectionGradientReferenceIdeal.main_arg7) = m' ((c.tc : Thread Cert.ProjectionGradientReferenceIdeal.nD Cert.ProjectionGradientReferenceIdeal.τ).loc Cert.ProjectionGradientReferenceIdeal.main_arg7)
          ∧ r.2.mem ((c.tc : Thread Cert.ProjectionGradientReferenceIdeal.nD Cert.ProjectionGradientReferenceIdeal.τ).loc Cert.ProjectionGradientReferenceIdeal.main_arg8) = m' ((c.tc : Thread Cert.ProjectionGradientReferenceIdeal.nD Cert.ProjectionGradientReferenceIdeal.τ).loc Cert.ProjectionGradientReferenceIdeal.main_arg8)
          ∧ r.2.mem ((c.tc : Thread Cert.ProjectionGradientReferenceIdeal.nD Cert.ProjectionGradientReferenceIdeal.τ).loc Cert.ProjectionGradientReferenceIdeal.main_arg9) = m' ((c.tc : Thread Cert.ProjectionGradientReferenceIdeal.nD Cert.ProjectionGradientReferenceIdeal.τ).loc Cert.ProjectionGradientReferenceIdeal.main_arg9))

def preserves_MergeSecond_MergeSecondIdeal : Prop :=
  True

def algebraic_MergeSecondIdeal_MergeSecondReferenceIdeal [hMergeSecondIdeal : Cert.MergeSecondIdeal.Facts] [hMergeSecondReferenceIdeal : Cert.MergeSecondReferenceIdeal.Facts] : Prop :=
  ∀ (m : (ℓ : Loc Cert.MergeSecondIdeal.nD Cert.MergeSecondIdeal.τ Cert.MergeSecondIdeal.sig) → Buf (Elt Ideal) ℓ) (g : Dev Cert.MergeSecondIdeal.nD → PrngReg)
    (m' : (ℓ : Loc Cert.MergeSecondReferenceIdeal.nD Cert.MergeSecondReferenceIdeal.τ Cert.MergeSecondReferenceIdeal.sig) → Buf (Elt Ideal) ℓ) (g' : Dev Cert.MergeSecondReferenceIdeal.nD → PrngReg), Pre_MergeSecondIdeal m →
    (∀ c : Dev Cert.MergeSecondIdeal.nD,
      m' ((c.tc : Thread Cert.MergeSecondReferenceIdeal.nD Cert.MergeSecondReferenceIdeal.τ).loc Cert.MergeSecondReferenceIdeal.main_arg0) = m ((c.tc : Thread Cert.MergeSecondIdeal.nD Cert.MergeSecondIdeal.τ).loc Cert.MergeSecondIdeal.main_arg0)
      ∧ m' ((c.tc : Thread Cert.MergeSecondReferenceIdeal.nD Cert.MergeSecondReferenceIdeal.τ).loc Cert.MergeSecondReferenceIdeal.main_arg1) = m ((c.tc : Thread Cert.MergeSecondIdeal.nD Cert.MergeSecondIdeal.τ).loc Cert.MergeSecondIdeal.main_arg1)
      ∧ m' ((c.tc : Thread Cert.MergeSecondReferenceIdeal.nD Cert.MergeSecondReferenceIdeal.τ).loc Cert.MergeSecondReferenceIdeal.main_arg2) = m ((c.tc : Thread Cert.MergeSecondIdeal.nD Cert.MergeSecondIdeal.τ).loc Cert.MergeSecondIdeal.main_arg2)
      ∧ m' ((c.tc : Thread Cert.MergeSecondReferenceIdeal.nD Cert.MergeSecondReferenceIdeal.τ).loc Cert.MergeSecondReferenceIdeal.main_arg3) = m ((c.tc : Thread Cert.MergeSecondIdeal.nD Cert.MergeSecondIdeal.τ).loc Cert.MergeSecondIdeal.main_arg3)
      ∧ m' ((c.tc : Thread Cert.MergeSecondReferenceIdeal.nD Cert.MergeSecondReferenceIdeal.τ).loc Cert.MergeSecondReferenceIdeal.main_arg4) = m ((c.tc : Thread Cert.MergeSecondIdeal.nD Cert.MergeSecondIdeal.τ).loc Cert.MergeSecondIdeal.main_arg4)
      ∧ m' ((c.tc : Thread Cert.MergeSecondReferenceIdeal.nD Cert.MergeSecondReferenceIdeal.τ).loc Cert.MergeSecondReferenceIdeal.main_arg5) = m ((c.tc : Thread Cert.MergeSecondIdeal.nD Cert.MergeSecondIdeal.τ).loc Cert.MergeSecondIdeal.main_arg5)
      ∧ m' ((c.tc : Thread Cert.MergeSecondReferenceIdeal.nD Cert.MergeSecondReferenceIdeal.τ).loc Cert.MergeSecondReferenceIdeal.main_arg6) = m ((c.tc : Thread Cert.MergeSecondIdeal.nD Cert.MergeSecondIdeal.τ).loc Cert.MergeSecondIdeal.main_arg6)
      ∧ m' ((c.tc : Thread Cert.MergeSecondReferenceIdeal.nD Cert.MergeSecondReferenceIdeal.τ).loc Cert.MergeSecondReferenceIdeal.main_arg7) = m ((c.tc : Thread Cert.MergeSecondIdeal.nD Cert.MergeSecondIdeal.τ).loc Cert.MergeSecondIdeal.main_arg7)
      ∧ m' ((c.tc : Thread Cert.MergeSecondReferenceIdeal.nD Cert.MergeSecondReferenceIdeal.τ).loc Cert.MergeSecondReferenceIdeal.main_arg8) = m ((c.tc : Thread Cert.MergeSecondIdeal.nD Cert.MergeSecondIdeal.τ).loc Cert.MergeSecondIdeal.main_arg8)) →
    ∃ (v0 : (c : Dev Cert.MergeSecondIdeal.nD) → Buf (Elt Ideal) ((c.tc : Thread Cert.MergeSecondIdeal.nD Cert.MergeSecondIdeal.τ).loc Cert.MergeSecondIdeal.main_v19_0)) (v1 : (c : Dev Cert.MergeSecondIdeal.nD) → Buf (Elt Ideal) ((c.tc : Thread Cert.MergeSecondIdeal.nD Cert.MergeSecondIdeal.τ).loc Cert.MergeSecondIdeal.main_v19_1)) (v2 : (c : Dev Cert.MergeSecondIdeal.nD) → Buf (Elt Ideal) ((c.tc : Thread Cert.MergeSecondIdeal.nD Cert.MergeSecondIdeal.τ).loc Cert.MergeSecondIdeal.main_v19_2)) (v3 : (c : Dev Cert.MergeSecondIdeal.nD) → Buf (Elt Ideal) ((c.tc : Thread Cert.MergeSecondIdeal.nD Cert.MergeSecondIdeal.τ).loc Cert.MergeSecondIdeal.main_v19_3)) (v4 : (c : Dev Cert.MergeSecondIdeal.nD) → Buf (Elt Ideal) ((c.tc : Thread Cert.MergeSecondIdeal.nD Cert.MergeSecondIdeal.τ).loc Cert.MergeSecondIdeal.main_v19_4)),
      θ_run (Cert.MergeSecondIdeal.defs (F := Ideal)) (onTc (τ := Cert.MergeSecondIdeal.τ) (Cert.MergeSecondIdeal.main (F := Ideal))) ⟨m, fun _ => 0, g⟩ (fun r => ∀ c : Dev Cert.MergeSecondIdeal.nD,
          r.2.mem ((c.tc : Thread Cert.MergeSecondIdeal.nD Cert.MergeSecondIdeal.τ).loc Cert.MergeSecondIdeal.main_v19_0) = v0 c
          ∧ r.2.mem ((c.tc : Thread Cert.MergeSecondIdeal.nD Cert.MergeSecondIdeal.τ).loc Cert.MergeSecondIdeal.main_v19_1) = v1 c
          ∧ r.2.mem ((c.tc : Thread Cert.MergeSecondIdeal.nD Cert.MergeSecondIdeal.τ).loc Cert.MergeSecondIdeal.main_v19_2) = v2 c
          ∧ r.2.mem ((c.tc : Thread Cert.MergeSecondIdeal.nD Cert.MergeSecondIdeal.τ).loc Cert.MergeSecondIdeal.main_v19_3) = v3 c
          ∧ r.2.mem ((c.tc : Thread Cert.MergeSecondIdeal.nD Cert.MergeSecondIdeal.τ).loc Cert.MergeSecondIdeal.main_v19_4) = v4 c
          ∧ r.2.mem ((c.tc : Thread Cert.MergeSecondIdeal.nD Cert.MergeSecondIdeal.τ).loc Cert.MergeSecondIdeal.main_arg0) = m ((c.tc : Thread Cert.MergeSecondIdeal.nD Cert.MergeSecondIdeal.τ).loc Cert.MergeSecondIdeal.main_arg0)
          ∧ r.2.mem ((c.tc : Thread Cert.MergeSecondIdeal.nD Cert.MergeSecondIdeal.τ).loc Cert.MergeSecondIdeal.main_arg1) = m ((c.tc : Thread Cert.MergeSecondIdeal.nD Cert.MergeSecondIdeal.τ).loc Cert.MergeSecondIdeal.main_arg1)
          ∧ r.2.mem ((c.tc : Thread Cert.MergeSecondIdeal.nD Cert.MergeSecondIdeal.τ).loc Cert.MergeSecondIdeal.main_arg2) = m ((c.tc : Thread Cert.MergeSecondIdeal.nD Cert.MergeSecondIdeal.τ).loc Cert.MergeSecondIdeal.main_arg2)
          ∧ r.2.mem ((c.tc : Thread Cert.MergeSecondIdeal.nD Cert.MergeSecondIdeal.τ).loc Cert.MergeSecondIdeal.main_arg3) = m ((c.tc : Thread Cert.MergeSecondIdeal.nD Cert.MergeSecondIdeal.τ).loc Cert.MergeSecondIdeal.main_arg3)
          ∧ r.2.mem ((c.tc : Thread Cert.MergeSecondIdeal.nD Cert.MergeSecondIdeal.τ).loc Cert.MergeSecondIdeal.main_arg4) = m ((c.tc : Thread Cert.MergeSecondIdeal.nD Cert.MergeSecondIdeal.τ).loc Cert.MergeSecondIdeal.main_arg4)
          ∧ r.2.mem ((c.tc : Thread Cert.MergeSecondIdeal.nD Cert.MergeSecondIdeal.τ).loc Cert.MergeSecondIdeal.main_arg5) = m ((c.tc : Thread Cert.MergeSecondIdeal.nD Cert.MergeSecondIdeal.τ).loc Cert.MergeSecondIdeal.main_arg5)
          ∧ r.2.mem ((c.tc : Thread Cert.MergeSecondIdeal.nD Cert.MergeSecondIdeal.τ).loc Cert.MergeSecondIdeal.main_arg6) = m ((c.tc : Thread Cert.MergeSecondIdeal.nD Cert.MergeSecondIdeal.τ).loc Cert.MergeSecondIdeal.main_arg6)
          ∧ r.2.mem ((c.tc : Thread Cert.MergeSecondIdeal.nD Cert.MergeSecondIdeal.τ).loc Cert.MergeSecondIdeal.main_arg7) = m ((c.tc : Thread Cert.MergeSecondIdeal.nD Cert.MergeSecondIdeal.τ).loc Cert.MergeSecondIdeal.main_arg7)
          ∧ r.2.mem ((c.tc : Thread Cert.MergeSecondIdeal.nD Cert.MergeSecondIdeal.τ).loc Cert.MergeSecondIdeal.main_arg8) = m ((c.tc : Thread Cert.MergeSecondIdeal.nD Cert.MergeSecondIdeal.τ).loc Cert.MergeSecondIdeal.main_arg8))
      ∧ θ_run (Cert.MergeSecondReferenceIdeal.defs (F := Ideal)) (onTc (τ := Cert.MergeSecondReferenceIdeal.τ) (Cert.MergeSecondReferenceIdeal.main (F := Ideal))) ⟨m', fun _ => 0, g'⟩ (fun r => ∀ c : Dev Cert.MergeSecondReferenceIdeal.nD,
          r.2.mem ((c.tc : Thread Cert.MergeSecondReferenceIdeal.nD Cert.MergeSecondReferenceIdeal.τ).loc Cert.MergeSecondReferenceIdeal.main_v21) = v0 c
          ∧ r.2.mem ((c.tc : Thread Cert.MergeSecondReferenceIdeal.nD Cert.MergeSecondReferenceIdeal.τ).loc Cert.MergeSecondReferenceIdeal.main_v28) = v1 c
          ∧ r.2.mem ((c.tc : Thread Cert.MergeSecondReferenceIdeal.nD Cert.MergeSecondReferenceIdeal.τ).loc Cert.MergeSecondReferenceIdeal.main_v30) = v2 c
          ∧ r.2.mem ((c.tc : Thread Cert.MergeSecondReferenceIdeal.nD Cert.MergeSecondReferenceIdeal.τ).loc Cert.MergeSecondReferenceIdeal.main_v31) = v3 c
          ∧ r.2.mem ((c.tc : Thread Cert.MergeSecondReferenceIdeal.nD Cert.MergeSecondReferenceIdeal.τ).loc Cert.MergeSecondReferenceIdeal.main_v33) = v4 c
          ∧ r.2.mem ((c.tc : Thread Cert.MergeSecondReferenceIdeal.nD Cert.MergeSecondReferenceIdeal.τ).loc Cert.MergeSecondReferenceIdeal.main_arg0) = m' ((c.tc : Thread Cert.MergeSecondReferenceIdeal.nD Cert.MergeSecondReferenceIdeal.τ).loc Cert.MergeSecondReferenceIdeal.main_arg0)
          ∧ r.2.mem ((c.tc : Thread Cert.MergeSecondReferenceIdeal.nD Cert.MergeSecondReferenceIdeal.τ).loc Cert.MergeSecondReferenceIdeal.main_arg1) = m' ((c.tc : Thread Cert.MergeSecondReferenceIdeal.nD Cert.MergeSecondReferenceIdeal.τ).loc Cert.MergeSecondReferenceIdeal.main_arg1)
          ∧ r.2.mem ((c.tc : Thread Cert.MergeSecondReferenceIdeal.nD Cert.MergeSecondReferenceIdeal.τ).loc Cert.MergeSecondReferenceIdeal.main_arg2) = m' ((c.tc : Thread Cert.MergeSecondReferenceIdeal.nD Cert.MergeSecondReferenceIdeal.τ).loc Cert.MergeSecondReferenceIdeal.main_arg2)
          ∧ r.2.mem ((c.tc : Thread Cert.MergeSecondReferenceIdeal.nD Cert.MergeSecondReferenceIdeal.τ).loc Cert.MergeSecondReferenceIdeal.main_arg3) = m' ((c.tc : Thread Cert.MergeSecondReferenceIdeal.nD Cert.MergeSecondReferenceIdeal.τ).loc Cert.MergeSecondReferenceIdeal.main_arg3)
          ∧ r.2.mem ((c.tc : Thread Cert.MergeSecondReferenceIdeal.nD Cert.MergeSecondReferenceIdeal.τ).loc Cert.MergeSecondReferenceIdeal.main_arg4) = m' ((c.tc : Thread Cert.MergeSecondReferenceIdeal.nD Cert.MergeSecondReferenceIdeal.τ).loc Cert.MergeSecondReferenceIdeal.main_arg4)
          ∧ r.2.mem ((c.tc : Thread Cert.MergeSecondReferenceIdeal.nD Cert.MergeSecondReferenceIdeal.τ).loc Cert.MergeSecondReferenceIdeal.main_arg5) = m' ((c.tc : Thread Cert.MergeSecondReferenceIdeal.nD Cert.MergeSecondReferenceIdeal.τ).loc Cert.MergeSecondReferenceIdeal.main_arg5)
          ∧ r.2.mem ((c.tc : Thread Cert.MergeSecondReferenceIdeal.nD Cert.MergeSecondReferenceIdeal.τ).loc Cert.MergeSecondReferenceIdeal.main_arg6) = m' ((c.tc : Thread Cert.MergeSecondReferenceIdeal.nD Cert.MergeSecondReferenceIdeal.τ).loc Cert.MergeSecondReferenceIdeal.main_arg6)
          ∧ r.2.mem ((c.tc : Thread Cert.MergeSecondReferenceIdeal.nD Cert.MergeSecondReferenceIdeal.τ).loc Cert.MergeSecondReferenceIdeal.main_arg7) = m' ((c.tc : Thread Cert.MergeSecondReferenceIdeal.nD Cert.MergeSecondReferenceIdeal.τ).loc Cert.MergeSecondReferenceIdeal.main_arg7)
          ∧ r.2.mem ((c.tc : Thread Cert.MergeSecondReferenceIdeal.nD Cert.MergeSecondReferenceIdeal.τ).loc Cert.MergeSecondReferenceIdeal.main_arg8) = m' ((c.tc : Thread Cert.MergeSecondReferenceIdeal.nD Cert.MergeSecondReferenceIdeal.τ).loc Cert.MergeSecondReferenceIdeal.main_arg8))

def preserves_MergeThird_MergeThirdIdeal : Prop :=
  True

def algebraic_MergeThirdIdeal_MergeThirdReferenceIdeal [hMergeThirdIdeal : Cert.MergeThirdIdeal.Facts] [hMergeThirdReferenceIdeal : Cert.MergeThirdReferenceIdeal.Facts] : Prop :=
  ∀ (m : (ℓ : Loc Cert.MergeThirdIdeal.nD Cert.MergeThirdIdeal.τ Cert.MergeThirdIdeal.sig) → Buf (Elt Ideal) ℓ) (g : Dev Cert.MergeThirdIdeal.nD → PrngReg)
    (m' : (ℓ : Loc Cert.MergeThirdReferenceIdeal.nD Cert.MergeThirdReferenceIdeal.τ Cert.MergeThirdReferenceIdeal.sig) → Buf (Elt Ideal) ℓ) (g' : Dev Cert.MergeThirdReferenceIdeal.nD → PrngReg), Pre_MergeThirdIdeal m →
    (∀ c : Dev Cert.MergeThirdIdeal.nD,
      m' ((c.tc : Thread Cert.MergeThirdReferenceIdeal.nD Cert.MergeThirdReferenceIdeal.τ).loc Cert.MergeThirdReferenceIdeal.main_arg0) = m ((c.tc : Thread Cert.MergeThirdIdeal.nD Cert.MergeThirdIdeal.τ).loc Cert.MergeThirdIdeal.main_arg0)
      ∧ m' ((c.tc : Thread Cert.MergeThirdReferenceIdeal.nD Cert.MergeThirdReferenceIdeal.τ).loc Cert.MergeThirdReferenceIdeal.main_arg1) = m ((c.tc : Thread Cert.MergeThirdIdeal.nD Cert.MergeThirdIdeal.τ).loc Cert.MergeThirdIdeal.main_arg1)
      ∧ m' ((c.tc : Thread Cert.MergeThirdReferenceIdeal.nD Cert.MergeThirdReferenceIdeal.τ).loc Cert.MergeThirdReferenceIdeal.main_arg2) = m ((c.tc : Thread Cert.MergeThirdIdeal.nD Cert.MergeThirdIdeal.τ).loc Cert.MergeThirdIdeal.main_arg2)
      ∧ m' ((c.tc : Thread Cert.MergeThirdReferenceIdeal.nD Cert.MergeThirdReferenceIdeal.τ).loc Cert.MergeThirdReferenceIdeal.main_arg3) = m ((c.tc : Thread Cert.MergeThirdIdeal.nD Cert.MergeThirdIdeal.τ).loc Cert.MergeThirdIdeal.main_arg3)
      ∧ m' ((c.tc : Thread Cert.MergeThirdReferenceIdeal.nD Cert.MergeThirdReferenceIdeal.τ).loc Cert.MergeThirdReferenceIdeal.main_arg4) = m ((c.tc : Thread Cert.MergeThirdIdeal.nD Cert.MergeThirdIdeal.τ).loc Cert.MergeThirdIdeal.main_arg4)
      ∧ m' ((c.tc : Thread Cert.MergeThirdReferenceIdeal.nD Cert.MergeThirdReferenceIdeal.τ).loc Cert.MergeThirdReferenceIdeal.main_arg5) = m ((c.tc : Thread Cert.MergeThirdIdeal.nD Cert.MergeThirdIdeal.τ).loc Cert.MergeThirdIdeal.main_arg5)
      ∧ m' ((c.tc : Thread Cert.MergeThirdReferenceIdeal.nD Cert.MergeThirdReferenceIdeal.τ).loc Cert.MergeThirdReferenceIdeal.main_arg6) = m ((c.tc : Thread Cert.MergeThirdIdeal.nD Cert.MergeThirdIdeal.τ).loc Cert.MergeThirdIdeal.main_arg6)
      ∧ m' ((c.tc : Thread Cert.MergeThirdReferenceIdeal.nD Cert.MergeThirdReferenceIdeal.τ).loc Cert.MergeThirdReferenceIdeal.main_arg7) = m ((c.tc : Thread Cert.MergeThirdIdeal.nD Cert.MergeThirdIdeal.τ).loc Cert.MergeThirdIdeal.main_arg7)
      ∧ m' ((c.tc : Thread Cert.MergeThirdReferenceIdeal.nD Cert.MergeThirdReferenceIdeal.τ).loc Cert.MergeThirdReferenceIdeal.main_arg8) = m ((c.tc : Thread Cert.MergeThirdIdeal.nD Cert.MergeThirdIdeal.τ).loc Cert.MergeThirdIdeal.main_arg8)) →
    ∃ (v0 : (c : Dev Cert.MergeThirdIdeal.nD) → Buf (Elt Ideal) ((c.tc : Thread Cert.MergeThirdIdeal.nD Cert.MergeThirdIdeal.τ).loc Cert.MergeThirdIdeal.main_v19_0)) (v1 : (c : Dev Cert.MergeThirdIdeal.nD) → Buf (Elt Ideal) ((c.tc : Thread Cert.MergeThirdIdeal.nD Cert.MergeThirdIdeal.τ).loc Cert.MergeThirdIdeal.main_v19_1)) (v2 : (c : Dev Cert.MergeThirdIdeal.nD) → Buf (Elt Ideal) ((c.tc : Thread Cert.MergeThirdIdeal.nD Cert.MergeThirdIdeal.τ).loc Cert.MergeThirdIdeal.main_v19_2)) (v3 : (c : Dev Cert.MergeThirdIdeal.nD) → Buf (Elt Ideal) ((c.tc : Thread Cert.MergeThirdIdeal.nD Cert.MergeThirdIdeal.τ).loc Cert.MergeThirdIdeal.main_v19_3)) (v4 : (c : Dev Cert.MergeThirdIdeal.nD) → Buf (Elt Ideal) ((c.tc : Thread Cert.MergeThirdIdeal.nD Cert.MergeThirdIdeal.τ).loc Cert.MergeThirdIdeal.main_v19_4)),
      θ_run (Cert.MergeThirdIdeal.defs (F := Ideal)) (onTc (τ := Cert.MergeThirdIdeal.τ) (Cert.MergeThirdIdeal.main (F := Ideal))) ⟨m, fun _ => 0, g⟩ (fun r => ∀ c : Dev Cert.MergeThirdIdeal.nD,
          r.2.mem ((c.tc : Thread Cert.MergeThirdIdeal.nD Cert.MergeThirdIdeal.τ).loc Cert.MergeThirdIdeal.main_v19_0) = v0 c
          ∧ r.2.mem ((c.tc : Thread Cert.MergeThirdIdeal.nD Cert.MergeThirdIdeal.τ).loc Cert.MergeThirdIdeal.main_v19_1) = v1 c
          ∧ r.2.mem ((c.tc : Thread Cert.MergeThirdIdeal.nD Cert.MergeThirdIdeal.τ).loc Cert.MergeThirdIdeal.main_v19_2) = v2 c
          ∧ r.2.mem ((c.tc : Thread Cert.MergeThirdIdeal.nD Cert.MergeThirdIdeal.τ).loc Cert.MergeThirdIdeal.main_v19_3) = v3 c
          ∧ r.2.mem ((c.tc : Thread Cert.MergeThirdIdeal.nD Cert.MergeThirdIdeal.τ).loc Cert.MergeThirdIdeal.main_v19_4) = v4 c
          ∧ r.2.mem ((c.tc : Thread Cert.MergeThirdIdeal.nD Cert.MergeThirdIdeal.τ).loc Cert.MergeThirdIdeal.main_arg0) = m ((c.tc : Thread Cert.MergeThirdIdeal.nD Cert.MergeThirdIdeal.τ).loc Cert.MergeThirdIdeal.main_arg0)
          ∧ r.2.mem ((c.tc : Thread Cert.MergeThirdIdeal.nD Cert.MergeThirdIdeal.τ).loc Cert.MergeThirdIdeal.main_arg1) = m ((c.tc : Thread Cert.MergeThirdIdeal.nD Cert.MergeThirdIdeal.τ).loc Cert.MergeThirdIdeal.main_arg1)
          ∧ r.2.mem ((c.tc : Thread Cert.MergeThirdIdeal.nD Cert.MergeThirdIdeal.τ).loc Cert.MergeThirdIdeal.main_arg2) = m ((c.tc : Thread Cert.MergeThirdIdeal.nD Cert.MergeThirdIdeal.τ).loc Cert.MergeThirdIdeal.main_arg2)
          ∧ r.2.mem ((c.tc : Thread Cert.MergeThirdIdeal.nD Cert.MergeThirdIdeal.τ).loc Cert.MergeThirdIdeal.main_arg3) = m ((c.tc : Thread Cert.MergeThirdIdeal.nD Cert.MergeThirdIdeal.τ).loc Cert.MergeThirdIdeal.main_arg3)
          ∧ r.2.mem ((c.tc : Thread Cert.MergeThirdIdeal.nD Cert.MergeThirdIdeal.τ).loc Cert.MergeThirdIdeal.main_arg4) = m ((c.tc : Thread Cert.MergeThirdIdeal.nD Cert.MergeThirdIdeal.τ).loc Cert.MergeThirdIdeal.main_arg4)
          ∧ r.2.mem ((c.tc : Thread Cert.MergeThirdIdeal.nD Cert.MergeThirdIdeal.τ).loc Cert.MergeThirdIdeal.main_arg5) = m ((c.tc : Thread Cert.MergeThirdIdeal.nD Cert.MergeThirdIdeal.τ).loc Cert.MergeThirdIdeal.main_arg5)
          ∧ r.2.mem ((c.tc : Thread Cert.MergeThirdIdeal.nD Cert.MergeThirdIdeal.τ).loc Cert.MergeThirdIdeal.main_arg6) = m ((c.tc : Thread Cert.MergeThirdIdeal.nD Cert.MergeThirdIdeal.τ).loc Cert.MergeThirdIdeal.main_arg6)
          ∧ r.2.mem ((c.tc : Thread Cert.MergeThirdIdeal.nD Cert.MergeThirdIdeal.τ).loc Cert.MergeThirdIdeal.main_arg7) = m ((c.tc : Thread Cert.MergeThirdIdeal.nD Cert.MergeThirdIdeal.τ).loc Cert.MergeThirdIdeal.main_arg7)
          ∧ r.2.mem ((c.tc : Thread Cert.MergeThirdIdeal.nD Cert.MergeThirdIdeal.τ).loc Cert.MergeThirdIdeal.main_arg8) = m ((c.tc : Thread Cert.MergeThirdIdeal.nD Cert.MergeThirdIdeal.τ).loc Cert.MergeThirdIdeal.main_arg8))
      ∧ θ_run (Cert.MergeThirdReferenceIdeal.defs (F := Ideal)) (onTc (τ := Cert.MergeThirdReferenceIdeal.τ) (Cert.MergeThirdReferenceIdeal.main (F := Ideal))) ⟨m', fun _ => 0, g'⟩ (fun r => ∀ c : Dev Cert.MergeThirdReferenceIdeal.nD,
          r.2.mem ((c.tc : Thread Cert.MergeThirdReferenceIdeal.nD Cert.MergeThirdReferenceIdeal.τ).loc Cert.MergeThirdReferenceIdeal.main_v21) = v0 c
          ∧ r.2.mem ((c.tc : Thread Cert.MergeThirdReferenceIdeal.nD Cert.MergeThirdReferenceIdeal.τ).loc Cert.MergeThirdReferenceIdeal.main_v28) = v1 c
          ∧ r.2.mem ((c.tc : Thread Cert.MergeThirdReferenceIdeal.nD Cert.MergeThirdReferenceIdeal.τ).loc Cert.MergeThirdReferenceIdeal.main_v30) = v2 c
          ∧ r.2.mem ((c.tc : Thread Cert.MergeThirdReferenceIdeal.nD Cert.MergeThirdReferenceIdeal.τ).loc Cert.MergeThirdReferenceIdeal.main_v31) = v3 c
          ∧ r.2.mem ((c.tc : Thread Cert.MergeThirdReferenceIdeal.nD Cert.MergeThirdReferenceIdeal.τ).loc Cert.MergeThirdReferenceIdeal.main_v33) = v4 c
          ∧ r.2.mem ((c.tc : Thread Cert.MergeThirdReferenceIdeal.nD Cert.MergeThirdReferenceIdeal.τ).loc Cert.MergeThirdReferenceIdeal.main_arg0) = m' ((c.tc : Thread Cert.MergeThirdReferenceIdeal.nD Cert.MergeThirdReferenceIdeal.τ).loc Cert.MergeThirdReferenceIdeal.main_arg0)
          ∧ r.2.mem ((c.tc : Thread Cert.MergeThirdReferenceIdeal.nD Cert.MergeThirdReferenceIdeal.τ).loc Cert.MergeThirdReferenceIdeal.main_arg1) = m' ((c.tc : Thread Cert.MergeThirdReferenceIdeal.nD Cert.MergeThirdReferenceIdeal.τ).loc Cert.MergeThirdReferenceIdeal.main_arg1)
          ∧ r.2.mem ((c.tc : Thread Cert.MergeThirdReferenceIdeal.nD Cert.MergeThirdReferenceIdeal.τ).loc Cert.MergeThirdReferenceIdeal.main_arg2) = m' ((c.tc : Thread Cert.MergeThirdReferenceIdeal.nD Cert.MergeThirdReferenceIdeal.τ).loc Cert.MergeThirdReferenceIdeal.main_arg2)
          ∧ r.2.mem ((c.tc : Thread Cert.MergeThirdReferenceIdeal.nD Cert.MergeThirdReferenceIdeal.τ).loc Cert.MergeThirdReferenceIdeal.main_arg3) = m' ((c.tc : Thread Cert.MergeThirdReferenceIdeal.nD Cert.MergeThirdReferenceIdeal.τ).loc Cert.MergeThirdReferenceIdeal.main_arg3)
          ∧ r.2.mem ((c.tc : Thread Cert.MergeThirdReferenceIdeal.nD Cert.MergeThirdReferenceIdeal.τ).loc Cert.MergeThirdReferenceIdeal.main_arg4) = m' ((c.tc : Thread Cert.MergeThirdReferenceIdeal.nD Cert.MergeThirdReferenceIdeal.τ).loc Cert.MergeThirdReferenceIdeal.main_arg4)
          ∧ r.2.mem ((c.tc : Thread Cert.MergeThirdReferenceIdeal.nD Cert.MergeThirdReferenceIdeal.τ).loc Cert.MergeThirdReferenceIdeal.main_arg5) = m' ((c.tc : Thread Cert.MergeThirdReferenceIdeal.nD Cert.MergeThirdReferenceIdeal.τ).loc Cert.MergeThirdReferenceIdeal.main_arg5)
          ∧ r.2.mem ((c.tc : Thread Cert.MergeThirdReferenceIdeal.nD Cert.MergeThirdReferenceIdeal.τ).loc Cert.MergeThirdReferenceIdeal.main_arg6) = m' ((c.tc : Thread Cert.MergeThirdReferenceIdeal.nD Cert.MergeThirdReferenceIdeal.τ).loc Cert.MergeThirdReferenceIdeal.main_arg6)
          ∧ r.2.mem ((c.tc : Thread Cert.MergeThirdReferenceIdeal.nD Cert.MergeThirdReferenceIdeal.τ).loc Cert.MergeThirdReferenceIdeal.main_arg7) = m' ((c.tc : Thread Cert.MergeThirdReferenceIdeal.nD Cert.MergeThirdReferenceIdeal.τ).loc Cert.MergeThirdReferenceIdeal.main_arg7)
          ∧ r.2.mem ((c.tc : Thread Cert.MergeThirdReferenceIdeal.nD Cert.MergeThirdReferenceIdeal.τ).loc Cert.MergeThirdReferenceIdeal.main_arg8) = m' ((c.tc : Thread Cert.MergeThirdReferenceIdeal.nD Cert.MergeThirdReferenceIdeal.τ).loc Cert.MergeThirdReferenceIdeal.main_arg8))

def preserves_MergeFourth_MergeFourthIdeal : Prop :=
  True

def algebraic_MergeFourthIdeal_MergeFourthReferenceIdeal [hMergeFourthIdeal : Cert.MergeFourthIdeal.Facts] [hMergeFourthReferenceIdeal : Cert.MergeFourthReferenceIdeal.Facts] : Prop :=
  ∀ (m : (ℓ : Loc Cert.MergeFourthIdeal.nD Cert.MergeFourthIdeal.τ Cert.MergeFourthIdeal.sig) → Buf (Elt Ideal) ℓ) (g : Dev Cert.MergeFourthIdeal.nD → PrngReg)
    (m' : (ℓ : Loc Cert.MergeFourthReferenceIdeal.nD Cert.MergeFourthReferenceIdeal.τ Cert.MergeFourthReferenceIdeal.sig) → Buf (Elt Ideal) ℓ) (g' : Dev Cert.MergeFourthReferenceIdeal.nD → PrngReg), Pre_MergeFourthIdeal m →
    (∀ c : Dev Cert.MergeFourthIdeal.nD,
      m' ((c.tc : Thread Cert.MergeFourthReferenceIdeal.nD Cert.MergeFourthReferenceIdeal.τ).loc Cert.MergeFourthReferenceIdeal.main_arg0) = m ((c.tc : Thread Cert.MergeFourthIdeal.nD Cert.MergeFourthIdeal.τ).loc Cert.MergeFourthIdeal.main_arg0)
      ∧ m' ((c.tc : Thread Cert.MergeFourthReferenceIdeal.nD Cert.MergeFourthReferenceIdeal.τ).loc Cert.MergeFourthReferenceIdeal.main_arg1) = m ((c.tc : Thread Cert.MergeFourthIdeal.nD Cert.MergeFourthIdeal.τ).loc Cert.MergeFourthIdeal.main_arg1)
      ∧ m' ((c.tc : Thread Cert.MergeFourthReferenceIdeal.nD Cert.MergeFourthReferenceIdeal.τ).loc Cert.MergeFourthReferenceIdeal.main_arg2) = m ((c.tc : Thread Cert.MergeFourthIdeal.nD Cert.MergeFourthIdeal.τ).loc Cert.MergeFourthIdeal.main_arg2)
      ∧ m' ((c.tc : Thread Cert.MergeFourthReferenceIdeal.nD Cert.MergeFourthReferenceIdeal.τ).loc Cert.MergeFourthReferenceIdeal.main_arg3) = m ((c.tc : Thread Cert.MergeFourthIdeal.nD Cert.MergeFourthIdeal.τ).loc Cert.MergeFourthIdeal.main_arg3)
      ∧ m' ((c.tc : Thread Cert.MergeFourthReferenceIdeal.nD Cert.MergeFourthReferenceIdeal.τ).loc Cert.MergeFourthReferenceIdeal.main_arg4) = m ((c.tc : Thread Cert.MergeFourthIdeal.nD Cert.MergeFourthIdeal.τ).loc Cert.MergeFourthIdeal.main_arg4)
      ∧ m' ((c.tc : Thread Cert.MergeFourthReferenceIdeal.nD Cert.MergeFourthReferenceIdeal.τ).loc Cert.MergeFourthReferenceIdeal.main_arg5) = m ((c.tc : Thread Cert.MergeFourthIdeal.nD Cert.MergeFourthIdeal.τ).loc Cert.MergeFourthIdeal.main_arg5)
      ∧ m' ((c.tc : Thread Cert.MergeFourthReferenceIdeal.nD Cert.MergeFourthReferenceIdeal.τ).loc Cert.MergeFourthReferenceIdeal.main_arg6) = m ((c.tc : Thread Cert.MergeFourthIdeal.nD Cert.MergeFourthIdeal.τ).loc Cert.MergeFourthIdeal.main_arg6)
      ∧ m' ((c.tc : Thread Cert.MergeFourthReferenceIdeal.nD Cert.MergeFourthReferenceIdeal.τ).loc Cert.MergeFourthReferenceIdeal.main_arg7) = m ((c.tc : Thread Cert.MergeFourthIdeal.nD Cert.MergeFourthIdeal.τ).loc Cert.MergeFourthIdeal.main_arg7)
      ∧ m' ((c.tc : Thread Cert.MergeFourthReferenceIdeal.nD Cert.MergeFourthReferenceIdeal.τ).loc Cert.MergeFourthReferenceIdeal.main_arg8) = m ((c.tc : Thread Cert.MergeFourthIdeal.nD Cert.MergeFourthIdeal.τ).loc Cert.MergeFourthIdeal.main_arg8)) →
    ∃ (v0 : (c : Dev Cert.MergeFourthIdeal.nD) → Buf (Elt Ideal) ((c.tc : Thread Cert.MergeFourthIdeal.nD Cert.MergeFourthIdeal.τ).loc Cert.MergeFourthIdeal.main_v19_0)) (v1 : (c : Dev Cert.MergeFourthIdeal.nD) → Buf (Elt Ideal) ((c.tc : Thread Cert.MergeFourthIdeal.nD Cert.MergeFourthIdeal.τ).loc Cert.MergeFourthIdeal.main_v19_1)) (v2 : (c : Dev Cert.MergeFourthIdeal.nD) → Buf (Elt Ideal) ((c.tc : Thread Cert.MergeFourthIdeal.nD Cert.MergeFourthIdeal.τ).loc Cert.MergeFourthIdeal.main_v19_2)) (v3 : (c : Dev Cert.MergeFourthIdeal.nD) → Buf (Elt Ideal) ((c.tc : Thread Cert.MergeFourthIdeal.nD Cert.MergeFourthIdeal.τ).loc Cert.MergeFourthIdeal.main_v19_3)) (v4 : (c : Dev Cert.MergeFourthIdeal.nD) → Buf (Elt Ideal) ((c.tc : Thread Cert.MergeFourthIdeal.nD Cert.MergeFourthIdeal.τ).loc Cert.MergeFourthIdeal.main_v19_4)),
      θ_run (Cert.MergeFourthIdeal.defs (F := Ideal)) (onTc (τ := Cert.MergeFourthIdeal.τ) (Cert.MergeFourthIdeal.main (F := Ideal))) ⟨m, fun _ => 0, g⟩ (fun r => ∀ c : Dev Cert.MergeFourthIdeal.nD,
          r.2.mem ((c.tc : Thread Cert.MergeFourthIdeal.nD Cert.MergeFourthIdeal.τ).loc Cert.MergeFourthIdeal.main_v19_0) = v0 c
          ∧ r.2.mem ((c.tc : Thread Cert.MergeFourthIdeal.nD Cert.MergeFourthIdeal.τ).loc Cert.MergeFourthIdeal.main_v19_1) = v1 c
          ∧ r.2.mem ((c.tc : Thread Cert.MergeFourthIdeal.nD Cert.MergeFourthIdeal.τ).loc Cert.MergeFourthIdeal.main_v19_2) = v2 c
          ∧ r.2.mem ((c.tc : Thread Cert.MergeFourthIdeal.nD Cert.MergeFourthIdeal.τ).loc Cert.MergeFourthIdeal.main_v19_3) = v3 c
          ∧ r.2.mem ((c.tc : Thread Cert.MergeFourthIdeal.nD Cert.MergeFourthIdeal.τ).loc Cert.MergeFourthIdeal.main_v19_4) = v4 c
          ∧ r.2.mem ((c.tc : Thread Cert.MergeFourthIdeal.nD Cert.MergeFourthIdeal.τ).loc Cert.MergeFourthIdeal.main_arg0) = m ((c.tc : Thread Cert.MergeFourthIdeal.nD Cert.MergeFourthIdeal.τ).loc Cert.MergeFourthIdeal.main_arg0)
          ∧ r.2.mem ((c.tc : Thread Cert.MergeFourthIdeal.nD Cert.MergeFourthIdeal.τ).loc Cert.MergeFourthIdeal.main_arg1) = m ((c.tc : Thread Cert.MergeFourthIdeal.nD Cert.MergeFourthIdeal.τ).loc Cert.MergeFourthIdeal.main_arg1)
          ∧ r.2.mem ((c.tc : Thread Cert.MergeFourthIdeal.nD Cert.MergeFourthIdeal.τ).loc Cert.MergeFourthIdeal.main_arg2) = m ((c.tc : Thread Cert.MergeFourthIdeal.nD Cert.MergeFourthIdeal.τ).loc Cert.MergeFourthIdeal.main_arg2)
          ∧ r.2.mem ((c.tc : Thread Cert.MergeFourthIdeal.nD Cert.MergeFourthIdeal.τ).loc Cert.MergeFourthIdeal.main_arg3) = m ((c.tc : Thread Cert.MergeFourthIdeal.nD Cert.MergeFourthIdeal.τ).loc Cert.MergeFourthIdeal.main_arg3)
          ∧ r.2.mem ((c.tc : Thread Cert.MergeFourthIdeal.nD Cert.MergeFourthIdeal.τ).loc Cert.MergeFourthIdeal.main_arg4) = m ((c.tc : Thread Cert.MergeFourthIdeal.nD Cert.MergeFourthIdeal.τ).loc Cert.MergeFourthIdeal.main_arg4)
          ∧ r.2.mem ((c.tc : Thread Cert.MergeFourthIdeal.nD Cert.MergeFourthIdeal.τ).loc Cert.MergeFourthIdeal.main_arg5) = m ((c.tc : Thread Cert.MergeFourthIdeal.nD Cert.MergeFourthIdeal.τ).loc Cert.MergeFourthIdeal.main_arg5)
          ∧ r.2.mem ((c.tc : Thread Cert.MergeFourthIdeal.nD Cert.MergeFourthIdeal.τ).loc Cert.MergeFourthIdeal.main_arg6) = m ((c.tc : Thread Cert.MergeFourthIdeal.nD Cert.MergeFourthIdeal.τ).loc Cert.MergeFourthIdeal.main_arg6)
          ∧ r.2.mem ((c.tc : Thread Cert.MergeFourthIdeal.nD Cert.MergeFourthIdeal.τ).loc Cert.MergeFourthIdeal.main_arg7) = m ((c.tc : Thread Cert.MergeFourthIdeal.nD Cert.MergeFourthIdeal.τ).loc Cert.MergeFourthIdeal.main_arg7)
          ∧ r.2.mem ((c.tc : Thread Cert.MergeFourthIdeal.nD Cert.MergeFourthIdeal.τ).loc Cert.MergeFourthIdeal.main_arg8) = m ((c.tc : Thread Cert.MergeFourthIdeal.nD Cert.MergeFourthIdeal.τ).loc Cert.MergeFourthIdeal.main_arg8))
      ∧ θ_run (Cert.MergeFourthReferenceIdeal.defs (F := Ideal)) (onTc (τ := Cert.MergeFourthReferenceIdeal.τ) (Cert.MergeFourthReferenceIdeal.main (F := Ideal))) ⟨m', fun _ => 0, g'⟩ (fun r => ∀ c : Dev Cert.MergeFourthReferenceIdeal.nD,
          r.2.mem ((c.tc : Thread Cert.MergeFourthReferenceIdeal.nD Cert.MergeFourthReferenceIdeal.τ).loc Cert.MergeFourthReferenceIdeal.main_v21) = v0 c
          ∧ r.2.mem ((c.tc : Thread Cert.MergeFourthReferenceIdeal.nD Cert.MergeFourthReferenceIdeal.τ).loc Cert.MergeFourthReferenceIdeal.main_v28) = v1 c
          ∧ r.2.mem ((c.tc : Thread Cert.MergeFourthReferenceIdeal.nD Cert.MergeFourthReferenceIdeal.τ).loc Cert.MergeFourthReferenceIdeal.main_v30) = v2 c
          ∧ r.2.mem ((c.tc : Thread Cert.MergeFourthReferenceIdeal.nD Cert.MergeFourthReferenceIdeal.τ).loc Cert.MergeFourthReferenceIdeal.main_v31) = v3 c
          ∧ r.2.mem ((c.tc : Thread Cert.MergeFourthReferenceIdeal.nD Cert.MergeFourthReferenceIdeal.τ).loc Cert.MergeFourthReferenceIdeal.main_v33) = v4 c
          ∧ r.2.mem ((c.tc : Thread Cert.MergeFourthReferenceIdeal.nD Cert.MergeFourthReferenceIdeal.τ).loc Cert.MergeFourthReferenceIdeal.main_arg0) = m' ((c.tc : Thread Cert.MergeFourthReferenceIdeal.nD Cert.MergeFourthReferenceIdeal.τ).loc Cert.MergeFourthReferenceIdeal.main_arg0)
          ∧ r.2.mem ((c.tc : Thread Cert.MergeFourthReferenceIdeal.nD Cert.MergeFourthReferenceIdeal.τ).loc Cert.MergeFourthReferenceIdeal.main_arg1) = m' ((c.tc : Thread Cert.MergeFourthReferenceIdeal.nD Cert.MergeFourthReferenceIdeal.τ).loc Cert.MergeFourthReferenceIdeal.main_arg1)
          ∧ r.2.mem ((c.tc : Thread Cert.MergeFourthReferenceIdeal.nD Cert.MergeFourthReferenceIdeal.τ).loc Cert.MergeFourthReferenceIdeal.main_arg2) = m' ((c.tc : Thread Cert.MergeFourthReferenceIdeal.nD Cert.MergeFourthReferenceIdeal.τ).loc Cert.MergeFourthReferenceIdeal.main_arg2)
          ∧ r.2.mem ((c.tc : Thread Cert.MergeFourthReferenceIdeal.nD Cert.MergeFourthReferenceIdeal.τ).loc Cert.MergeFourthReferenceIdeal.main_arg3) = m' ((c.tc : Thread Cert.MergeFourthReferenceIdeal.nD Cert.MergeFourthReferenceIdeal.τ).loc Cert.MergeFourthReferenceIdeal.main_arg3)
          ∧ r.2.mem ((c.tc : Thread Cert.MergeFourthReferenceIdeal.nD Cert.MergeFourthReferenceIdeal.τ).loc Cert.MergeFourthReferenceIdeal.main_arg4) = m' ((c.tc : Thread Cert.MergeFourthReferenceIdeal.nD Cert.MergeFourthReferenceIdeal.τ).loc Cert.MergeFourthReferenceIdeal.main_arg4)
          ∧ r.2.mem ((c.tc : Thread Cert.MergeFourthReferenceIdeal.nD Cert.MergeFourthReferenceIdeal.τ).loc Cert.MergeFourthReferenceIdeal.main_arg5) = m' ((c.tc : Thread Cert.MergeFourthReferenceIdeal.nD Cert.MergeFourthReferenceIdeal.τ).loc Cert.MergeFourthReferenceIdeal.main_arg5)
          ∧ r.2.mem ((c.tc : Thread Cert.MergeFourthReferenceIdeal.nD Cert.MergeFourthReferenceIdeal.τ).loc Cert.MergeFourthReferenceIdeal.main_arg6) = m' ((c.tc : Thread Cert.MergeFourthReferenceIdeal.nD Cert.MergeFourthReferenceIdeal.τ).loc Cert.MergeFourthReferenceIdeal.main_arg6)
          ∧ r.2.mem ((c.tc : Thread Cert.MergeFourthReferenceIdeal.nD Cert.MergeFourthReferenceIdeal.τ).loc Cert.MergeFourthReferenceIdeal.main_arg7) = m' ((c.tc : Thread Cert.MergeFourthReferenceIdeal.nD Cert.MergeFourthReferenceIdeal.τ).loc Cert.MergeFourthReferenceIdeal.main_arg7)
          ∧ r.2.mem ((c.tc : Thread Cert.MergeFourthReferenceIdeal.nD Cert.MergeFourthReferenceIdeal.τ).loc Cert.MergeFourthReferenceIdeal.main_arg8) = m' ((c.tc : Thread Cert.MergeFourthReferenceIdeal.nD Cert.MergeFourthReferenceIdeal.τ).loc Cert.MergeFourthReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnInput : Cert.FfnInput.Facts) (hFfnInputIdeal : Cert.FfnInputIdeal.Facts) (hFfnInputReferenceIdeal : Cert.FfnInputReferenceIdeal.Facts) (hMergeOut : Cert.MergeOut.Facts) (hMergeOutIdeal : Cert.MergeOutIdeal.Facts) (hMergeOutReferenceIdeal : Cert.MergeOutReferenceIdeal.Facts) (hFfnForward : Cert.FfnForward.Facts) (hFfnForwardIdeal : Cert.FfnForwardIdeal.Facts) (hFfnForwardReferenceIdeal : Cert.FfnForwardReferenceIdeal.Facts) (hMergeForward : Cert.MergeForward.Facts) (hMergeForwardIdeal : Cert.MergeForwardIdeal.Facts) (hMergeForwardReferenceIdeal : Cert.MergeForwardReferenceIdeal.Facts) (hProjection : Cert.Projection.Facts) (hProjectionIdeal : Cert.ProjectionIdeal.Facts) (hProjectionReferenceIdeal : Cert.ProjectionReferenceIdeal.Facts) (hProjectionGradient : Cert.ProjectionGradient.Facts) (hProjectionGradientIdeal : Cert.ProjectionGradientIdeal.Facts) (hProjectionGradientReferenceIdeal : Cert.ProjectionGradientReferenceIdeal.Facts) (hMergeSecond : Cert.MergeSecond.Facts) (hMergeSecondIdeal : Cert.MergeSecondIdeal.Facts) (hMergeSecondReferenceIdeal : Cert.MergeSecondReferenceIdeal.Facts) (hMergeThird : Cert.MergeThird.Facts) (hMergeThirdIdeal : Cert.MergeThirdIdeal.Facts) (hMergeThirdReferenceIdeal : Cert.MergeThirdReferenceIdeal.Facts) (hMergeFourth : Cert.MergeFourth.Facts) (hMergeFourthIdeal : Cert.MergeFourthIdeal.Facts) (hMergeFourthReferenceIdeal : Cert.MergeFourthReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnInput (hFfnInput := hFfnInput)
    ∧ quiescent_FfnInputIdeal (hFfnInputIdeal := hFfnInputIdeal)
    ∧ quiescent_FfnInputReferenceIdeal (hFfnInputReferenceIdeal := hFfnInputReferenceIdeal)
    ∧ quiescent_MergeOut (hMergeOut := hMergeOut)
    ∧ quiescent_MergeOutIdeal (hMergeOutIdeal := hMergeOutIdeal)
    ∧ quiescent_MergeOutReferenceIdeal (hMergeOutReferenceIdeal := hMergeOutReferenceIdeal)
    ∧ quiescent_FfnForward (hFfnForward := hFfnForward)
    ∧ quiescent_FfnForwardIdeal (hFfnForwardIdeal := hFfnForwardIdeal)
    ∧ quiescent_FfnForwardReferenceIdeal (hFfnForwardReferenceIdeal := hFfnForwardReferenceIdeal)
    ∧ quiescent_MergeForward (hMergeForward := hMergeForward)
    ∧ quiescent_MergeForwardIdeal (hMergeForwardIdeal := hMergeForwardIdeal)
    ∧ quiescent_MergeForwardReferenceIdeal (hMergeForwardReferenceIdeal := hMergeForwardReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_ProjectionGradient (hProjectionGradient := hProjectionGradient)
    ∧ quiescent_ProjectionGradientIdeal (hProjectionGradientIdeal := hProjectionGradientIdeal)
    ∧ quiescent_ProjectionGradientReferenceIdeal (hProjectionGradientReferenceIdeal := hProjectionGradientReferenceIdeal)
    ∧ quiescent_MergeSecond (hMergeSecond := hMergeSecond)
    ∧ quiescent_MergeSecondIdeal (hMergeSecondIdeal := hMergeSecondIdeal)
    ∧ quiescent_MergeSecondReferenceIdeal (hMergeSecondReferenceIdeal := hMergeSecondReferenceIdeal)
    ∧ quiescent_MergeThird (hMergeThird := hMergeThird)
    ∧ quiescent_MergeThirdIdeal (hMergeThirdIdeal := hMergeThirdIdeal)
    ∧ quiescent_MergeThirdReferenceIdeal (hMergeThirdReferenceIdeal := hMergeThirdReferenceIdeal)
    ∧ quiescent_MergeFourth (hMergeFourth := hMergeFourth)
    ∧ quiescent_MergeFourthIdeal (hMergeFourthIdeal := hMergeFourthIdeal)
    ∧ quiescent_MergeFourthReferenceIdeal (hMergeFourthReferenceIdeal := hMergeFourthReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_FfnInput_FfnInputIdeal
    ∧ algebraic_FfnInputIdeal_FfnInputReferenceIdeal (hFfnInputIdeal := hFfnInputIdeal) (hFfnInputReferenceIdeal := hFfnInputReferenceIdeal)
    ∧ preserves_MergeOut_MergeOutIdeal
    ∧ algebraic_MergeOutIdeal_MergeOutReferenceIdeal (hMergeOutIdeal := hMergeOutIdeal) (hMergeOutReferenceIdeal := hMergeOutReferenceIdeal)
    ∧ preserves_FfnForward_FfnForwardIdeal
    ∧ algebraic_FfnForwardIdeal_FfnForwardReferenceIdeal (hFfnForwardIdeal := hFfnForwardIdeal) (hFfnForwardReferenceIdeal := hFfnForwardReferenceIdeal)
    ∧ preserves_MergeForward_MergeForwardIdeal
    ∧ algebraic_MergeForwardIdeal_MergeForwardReferenceIdeal (hMergeForwardIdeal := hMergeForwardIdeal) (hMergeForwardReferenceIdeal := hMergeForwardReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_ProjectionGradient_ProjectionGradientIdeal
    ∧ algebraic_ProjectionGradientIdeal_ProjectionGradientReferenceIdeal (hProjectionGradientIdeal := hProjectionGradientIdeal) (hProjectionGradientReferenceIdeal := hProjectionGradientReferenceIdeal)
    ∧ preserves_MergeSecond_MergeSecondIdeal
    ∧ algebraic_MergeSecondIdeal_MergeSecondReferenceIdeal (hMergeSecondIdeal := hMergeSecondIdeal) (hMergeSecondReferenceIdeal := hMergeSecondReferenceIdeal)
    ∧ preserves_MergeThird_MergeThirdIdeal
    ∧ algebraic_MergeThirdIdeal_MergeThirdReferenceIdeal (hMergeThirdIdeal := hMergeThirdIdeal) (hMergeThirdReferenceIdeal := hMergeThirdReferenceIdeal)
    ∧ preserves_MergeFourth_MergeFourthIdeal
    ∧ algebraic_MergeFourthIdeal_MergeFourthReferenceIdeal (hMergeFourthIdeal := hMergeFourthIdeal) (hMergeFourthReferenceIdeal := hMergeFourthReferenceIdeal)
-- ==== Kernel.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S6048x1024 : Shape := ⟨2, ![6048, 1024]⟩
abbrev S4096x1024 : Shape := ⟨2, ![4096, 1024]⟩
abbrev S1024x256 : Shape := ⟨2, ![1024, 256]⟩
abbrev S1x1024x256 : Shape := ⟨3, ![1, 1024, 256]⟩
abbrev S4x1024x256 : Shape := ⟨3, ![4, 1024, 256]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S6048x1024, .f32⟩
  | .hbm, ⟨10, _⟩ => ⟨S4096x1024, .f32⟩
  | .hbm, ⟨11, _⟩ => ⟨S4096x1024, .bf16⟩
  | .hbm, ⟨12, _⟩ => ⟨S1024x256, .f32⟩
  | .hbm, ⟨13, _⟩ => ⟨S1024x256, .bf16⟩
  | .hbm, ⟨14, _⟩ => ⟨S1024x256, .f32⟩
  | .hbm, ⟨15, _⟩ => ⟨S1024x256, .bf16⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S1x1024x256, .bf16⟩
  | .hbm, ⟨21, _⟩ => ⟨S1x1024x256, .bf16⟩
  | .hbm, ⟨22, _⟩ => ⟨S1x1024x256, .bf16⟩
  | .hbm, ⟨23, _⟩ => ⟨S1x1024x256, .bf16⟩
  | .hbm, ⟨24, _⟩ => ⟨S4x1024x256, .bf16⟩
  | .hbm, ⟨25, _⟩ => ⟨S8192x1024, .bf16⟩
  | .hbm, ⟨26, _⟩ => ⟨S8192x256, .bf16⟩
  | .hbm, ⟨27, _⟩ => ⟨S1x4096, .f32⟩
  | .hbm, ⟨28, _⟩ => ⟨S8192x256, .f32⟩
  | .hbm, ⟨29, _⟩ => ⟨S8192x1024, .bf16⟩
  | .hbm, ⟨30, _⟩ => ⟨S1024x1024, .bf16⟩
  | .hbm, ⟨31, _⟩ => ⟨S1x1024, .f32⟩
  | .hbm, ⟨32, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x256, .bf16⟩
  | .local _ .vmem, ⟨9, _⟩ => ⟨S1024x256, .f32⟩
  | .local _ .vmem, ⟨10, _⟩ => ⟨S1024x256, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1024x1024, .f32⟩
  | .local _ .vmem, ⟨17, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond6 (i : grid0.Coords) : BitVec 1 :=
  let arg0 : BitVec 32 := BitVec.ofNat 32 (i 0).val
  let c7_i32 : BitVec 32 := 7#32
  let v1 : BitVec 1 := Scalar.cmpi .eq arg0 c7_i32
  let v49 : BitVec 32 := Scalar.extui v1
  let c0_i32_30 : BitVec 32 := 0#32
  let v50 : BitVec 1 := Scalar.cmpi .ne v49 c0_i32_30
  v50

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_32 : BitVec 32 := 0#32
  let v54 : BitVec 1 := Scalar.cmpi .ne v53 c0_i32_32
  v54

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v55 : BitVec 1 := Scalar.xori v0 true_33
  let v56 : BitVec 32 := Scalar.extui v55
  let c0_i32_34 : BitVec 32 := 0#32
  let v57 : BitVec 1 := Scalar.cmpi .ne v56 c0_i32_34
  v57

def k0_cond3 (i : grid0.Coords) : BitVec 1 :=
  let arg0 : BitVec 32 := BitVec.ofNat 32 (i 0).val
  let c7_i32 : BitVec 32 := 7#32
  let v1 : BitVec 1 := Scalar.cmpi .eq arg0 c7_i32
  let v41 : BitVec 32 := Scalar.extui v1
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x256 : Shape := ⟨2, ![1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S8192x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x256, .f32⟩
  | .hbm, ⟨32, _⟩ => ⟨S256x1024, .f32⟩
  | .hbm, ⟨33, _⟩ => ⟨S8192x256, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S1024x1024, .f32⟩
  | .hbm, ⟨41, _⟩ => ⟨S1024x1024, .f32⟩
  | .hbm, ⟨42, _⟩ => ⟨S8192x1024, .bf16⟩
  | .hbm, ⟨43, _⟩ => ⟨S1024x1024, .f32⟩
  | .hbm, ⟨44, _⟩ => ⟨S1024x1024, .bf16⟩
  | .hbm, ⟨45, _⟩ => ⟨S1x1024, .f32⟩
  | .hbm, ⟨46, _⟩ => ⟨S1024x256, .f32⟩
  | .hbm, ⟨47, _⟩ => ⟨S1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Ffn.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x1024, .bf16⟩
  | .hbm, ⟨5, _⟩ => ⟨S8192x1024, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S8192x4096, .bf16⟩
  | .hbm, ⟨10, _⟩ => ⟨S4096x1024, .bf16⟩
  | .hbm, ⟨11, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond6 (i : grid0.Coords) : BitVec 1 :=
  let arg1 : BitVec 32 := BitVec.ofNat 32 (i 1).val
  let c7_i32 : BitVec 32 := 7#32
  let v1 : BitVec 1 := Scalar.cmpi .eq arg1 c7_i32
  let v35 : BitVec 32 := Scalar.extui v1
  let c0_i32_20 : BitVec 32 := 0#32
  let v36 : BitVec 1 := Scalar.cmpi .ne v35 c0_i32_20
  v36

def k0_cond3 (i : grid0.Coords) : BitVec 1 :=
  let arg1 : BitVec 32 := BitVec.ofNat 32 (i 1).val
  let c7_i32 : BitVec 32 := 7#32
  let v1 : BitVec 1 := Scalar.cmpi .eq arg1 c7_i32
  let v19 : BitVec 32 := Scalar.extui v1
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S1024x4096, .f32⟩
  | .hbm, ⟨19, _⟩ => ⟨S4096x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S4096x1024, .f32⟩
  | .hbm, ⟨26, _⟩ => ⟨S1024x4096, .f32⟩
  | .hbm, ⟨27, _⟩ => ⟨S8192x4096, .bf16⟩
  | .hbm, ⟨28, _⟩ => ⟨S4096x1024, .f32⟩
  | .hbm, ⟨29, _⟩ => ⟨S4096x1024, .bf16⟩
  | .hbm, ⟨30, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== FfnInput.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x4096, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnInputReferenceIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MergeOut.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S1024x1024, .bf16⟩
  | .hbm, ⟨7, _⟩ => ⟨S8192x1024, .bf16⟩
  | .hbm, ⟨8, _⟩ => ⟨S8192x1024, .f32⟩
  | .hbm, ⟨9, _⟩ => ⟨S1024x1024, .bf16⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v1 : BitVec 1 := Scalar.cmpi .eq arg0 c7_i32
  let v44 : BitVec 32 := Scalar.extui v1
  let c0_i32_20 : BitVec 32 := 0#32
  let v45 : BitVec 1 := Scalar.cmpi .ne v44 c0_i32_20
  v45

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_21 : BitVec 32 := 0#32
  let v47 : BitVec 1 := Scalar.cmpi .ne v46 c0_i32_21
  v47

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_22 : BitVec 1 := 1#1
  let v48 : BitVec 1 := Scalar.xori v0 true_22
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MergeOutReferenceIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1024x1024, .f32⟩
  | .hbm, ⟨52, _⟩ => ⟨S1024x1024, .f32⟩
  | .hbm, ⟨53, _⟩ => ⟨S8192x1024, .f32⟩
  | .hbm, ⟨54, _⟩ => ⟨S1024x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== FfnForward.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S1x1024, .f32⟩
  | .hbm, ⟨10, _⟩ => ⟨S8192x1024, .f32⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnForwardReferenceIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== MergeForward.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S6048x1024 : Shape := ⟨2, ![6048, 1024]⟩
abbrev S4096x1024 : Shape := ⟨2, ![4096, 1024]⟩
abbrev S1024x256 : Shape := ⟨2, ![1024, 256]⟩
abbrev S1x1024x256 : Shape := ⟨3, ![1, 1024, 256]⟩
abbrev S4x1024x256 : Shape := ⟨3, ![4, 1024, 256]⟩
abbrev S1x4096 : Shape := ⟨2, ![1, 4096]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 41
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S1024x6048, .f32⟩
  | .hbm, ⟨7, _⟩ => ⟨S4096, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S6048x1024, .f32⟩
  | .hbm, ⟨15, _⟩ => ⟨S4096x1024, .f32⟩
  | .hbm, ⟨16, _⟩ => ⟨S4096x1024, .bf16⟩
  | .hbm, ⟨17, _⟩ => ⟨S1024x256, .f32⟩
  | .hbm, ⟨18, _⟩ => ⟨S1024x256, .bf16⟩
  | .hbm, ⟨19, _⟩ => ⟨S1024x256, .f32⟩
  | .hbm, ⟨20, _⟩ => ⟨S1024x256, .bf16⟩
  | .hbm, ⟨21, _⟩ => ⟨S1024x256, .f32⟩
  | .hbm, ⟨22, _⟩ => ⟨S1024x256, .bf16⟩
  | .hbm, ⟨23, _⟩ => ⟨S1024x256, .f32⟩
  | .hbm, ⟨24, _⟩ => ⟨S1024x256, .bf16⟩
  | .hbm, ⟨25, _⟩ => ⟨S1x1024x256, .bf16⟩
  | .hbm, ⟨26, _⟩ => ⟨S1x1024x256, .bf16⟩
  | .hbm, ⟨27, _⟩ => ⟨S1x1024x256, .bf16⟩
  | .hbm, ⟨28, _⟩ => ⟨S1x1024x256, .bf16⟩
  | .hbm, ⟨29, _⟩ => ⟨S4x1024x256, .bf16⟩
  | .hbm, ⟨30, _⟩ => ⟨S8192x256, .bf16⟩
  | .hbm, ⟨31, _⟩ => ⟨S8192x256, .bf16⟩
  | .hbm, ⟨32, _⟩ => ⟨S8192x256, .bf16⟩
  | .hbm, ⟨33, _⟩ => ⟨S8192x256, .bf16⟩
  | .hbm, ⟨34, _⟩ => ⟨S8192x1024, .bf16⟩
  | .hbm, ⟨35, _⟩ => ⟨S1x4096, .f32⟩
  | .hbm, ⟨36, _⟩ => ⟨S1024x1024, .bf16⟩
  | .hbm, ⟨37, _⟩ => ⟨S1x1024, .f32⟩
  | .hbm, ⟨38, _⟩ => ⟨S8192x1024, .f32⟩
  | .hbm, ⟨39, _⟩ => ⟨S8192x1024, .bf16⟩
  | .hbm, ⟨40, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4096x1024, .bf16⟩
  | .local _ .vmem, ⟨13, _⟩ => ⟨S1x4096, .f32⟩
  | .local _ .vmem, ⟨14, _⟩ => ⟨S4x1024x256, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeForwardReferenceIdeal.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S8192x6048 : Shape := ⟨2, ![8192, 6048]⟩
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S1024x6048, .f32⟩
  | .hbm, ⟨7, _⟩ => ⟨S4096, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S8192x6048, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Projection.lean ====
abbrev S8192x1024 : Shape := ⟨2, ![8192, 1024]⟩
abbrev S1024 : Shape := ⟨1, ![1024]⟩
abbrev S1024x6048 : Shape := ⟨2, ![1024, 6048]⟩
abbrev S1x1024 : Shape := ⟨2, ![1, 1024]⟩
abbrev S6048x1024 : Shape := ⟨2, ![6048, 1024]⟩
abbrev S32x1024 : Shape := ⟨2, ![32, 1024]⟩
abbrev S16x1024 : Shape := ⟨2, ![16, 1024]⟩
abbrev S384x1024 : Shape := ⟨2, ![384, 1024]⟩
abbrev S_ : Shape := ⟨0, ![]⟩
abbrev S128x1024 : Shape := ⟨2, ![128, 1024]⟩
abbrev S1536x1024 : Shape := ⟨2, ![1536, 1024]⟩
abbrev S2176x1024 : Shape := ⟨2, ![2176, 1024]⟩
abbrev S8192x640 : Shape := ⟨2, ![8192, 640]⟩
abbrev S8192x1536 : Shape := ⟨2, ![8192, 1536]⟩
abbrev S1024x1024 : Shape := ⟨2, ![1024, 1024]⟩
abbrev S1024x640 : Shape := ⟨2, ![1024, 640]⟩
abbrev S1024x1536 : Shape := ⟨2, ![1024, 1536]⟩
abbrev S1024x1 : Shape := ⟨2, ![1024, 1]⟩
abbrev S640x1024 : Shape := ⟨2, ![640, 1024]⟩

abbrev nBuf : Space → Nat
  | .hbm => 22
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S1x1024, .f32⟩
  | .hbm, ⟨4, _⟩ => ⟨S6048x1024, .f32⟩
  | .hbm, ⟨5, _⟩ => ⟨S32x1024, .f32⟩
  | .hbm, ⟨6, _⟩ => ⟨S16x1024, .f32⟩
  | .hbm, ⟨7, _⟩ => ⟨S16x1024, .f32⟩
  | .hbm, ⟨8, _⟩ => ⟨S32x1024, .f32⟩
  | .hbm, ⟨9, _⟩ => ⟨S384x1024, .f32⟩
  | .hbm, ⟨10, _⟩ => ⟨S_, .i32⟩
  | .hbm, ⟨11, _⟩ => ⟨S_, .f32⟩
  | .hbm, ⟨12, _⟩ => ⟨S128x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S1536x1024, .f32⟩
  | .hbm, ⟨17, _⟩ => ⟨S2176x1024, .f32⟩
  | .hbm, ⟨18, _⟩ => ⟨S2176x1024, .bf16⟩
  | .hbm, ⟨19, _⟩ => ⟨S8192x1024, .bf16⟩
  | .hbm, ⟨20, _⟩ => ⟨S8192x640, .f32⟩
  | .hbm, ⟨21, _⟩ => ⟨S8192x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x640, .f32⟩
  | .local _ .vmem, ⟨7, _⟩ => ⟨S1024x640, .f32⟩
  | .local _ .vmem, ⟨8, _⟩ => ⟨S1024x1536, .f32⟩
  | .local _ .vmem, ⟨9, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectionReferenceIdeal.lean ====
abbrev S8192x1024 : Shape := ⟨2, ![8192, 1024]⟩
abbrev S1024 : Shape := ⟨1, ![1024]⟩
abbrev S1024x6048 : Shape := ⟨2, ![1024, 6048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x384 : Shape := ⟨2, ![1024, 384]⟩
abbrev S1024x64 : Shape := ⟨2, ![1024, 64]⟩
abbrev S1024x32 : Shape := ⟨2, ![1024, 32]⟩
abbrev S1024x16 : Shape := ⟨2, ![1024, 16]⟩
abbrev S1024x640 : Shape := ⟨2, ![1024, 640]⟩
abbrev S8192x640 : Shape := ⟨2, ![8192, 640]⟩
abbrev S1024x1536 : Shape := ⟨2, ![1024, 1536]⟩
abbrev S8192x1536 : Shape := ⟨2, ![8192, 1536]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x384, .f32⟩
  | .hbm, ⟨21, _⟩ => ⟨S_, .f32⟩
  | .hbm, ⟨22, _⟩ => ⟨S1024x64, .f32⟩
  | .hbm, ⟨23, _⟩ => ⟨S1024x32, .f32⟩
  | .hbm, ⟨24, _⟩ => ⟨S_, .f32⟩
  | .hbm, ⟨25, _⟩ => ⟨S1024x32, .f32⟩
  | .hbm, ⟨26, _⟩ => ⟨S_, .f32⟩
  | .hbm, ⟨27, _⟩ => ⟨S1024x64, .f32⟩
  | .hbm, ⟨28, _⟩ => ⟨S1024x16, .f32⟩
  | .hbm, ⟨29, _⟩ => ⟨S1024x16, .f32⟩
  | .hbm, ⟨30, _⟩ => ⟨S_, .f32⟩
  | .hbm, ⟨31, _⟩ => ⟨S1024x32, .f32⟩
  | .hbm, ⟨32, _⟩ => ⟨S1024x640, .f32⟩
  | .hbm, ⟨33, _⟩ => ⟨S8192x640, .f32⟩
  | .hbm, ⟨34, _⟩ => ⟨S1024x1536, .f32⟩
  | .hbm, ⟨35, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ProjectionGradient.lean ====
abbrev S8192x1024 : Shape := ⟨2, ![8192, 1024]⟩
abbrev S1024 : Shape := ⟨1, ![1024]⟩
abbrev S8192x640 : Shape := ⟨2, ![8192, 640]⟩
abbrev S8192x1536 : Shape := ⟨2, ![8192, 1536]⟩
abbrev S1024x6048 : Shape := ⟨2, ![1024, 6048]⟩
abbrev S6048x1024 : Shape := ⟨2, ![6048, 1024]⟩
abbrev S4096x1024 : Shape := ⟨2, ![4096, 1024]⟩
abbrev S1x1024 : Shape := ⟨2, ![1, 1024]⟩
abbrev S32x1024 : Shape := ⟨2, ![32, 1024]⟩
abbrev S16x1024 : Shape := ⟨2, ![16, 1024]⟩
abbrev S384x1024 : Shape := ⟨2, ![384, 1024]⟩
abbrev S_ : Shape := ⟨0, ![]⟩
abbrev S128x1024 : Shape := ⟨2, ![128, 1024]⟩
abbrev S1536x1024 : Shape := ⟨2, ![1536, 1024]⟩
abbrev S2176x1024 : Shape := ⟨2, ![2176, 1024]⟩
abbrev S640x1024 : Shape := ⟨2, ![640, 1024]⟩
abbrev S512x1024 : Shape := ⟨2, ![512, 1024]⟩
abbrev S512x640 : Shape := ⟨2, ![512, 640]⟩
abbrev S512x1536 : Shape := ⟨2, ![512, 1536]⟩
abbrev S512 : Shape := ⟨1, ![512]⟩
abbrev S512x1 : Shape := ⟨2, ![512, 1]⟩
abbrev S1024x1024 : Shape := ⟨2, ![1024, 1024]⟩

abbrev nBuf : Space → Nat
  | .hbm => 39
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x640, .f32⟩
  | .hbm, ⟨4, _⟩ => ⟨S8192x1536, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x6048, .f32⟩
  | .hbm, ⟨10, _⟩ => ⟨S6048x1024, .f32⟩
  | .hbm, ⟨11, _⟩ => ⟨S4096x1024, .f32⟩
  | .hbm, ⟨12, _⟩ => ⟨S4096x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1x1024, .f32⟩
  | .hbm, ⟨18, _⟩ => ⟨S8192x640, .bf16⟩
  | .hbm, ⟨19, _⟩ => ⟨S8192x1536, .bf16⟩
  | .hbm, ⟨20, _⟩ => ⟨S6048x1024, .f32⟩
  | .hbm, ⟨21, _⟩ => ⟨S32x1024, .f32⟩
  | .hbm, ⟨22, _⟩ => ⟨S16x1024, .f32⟩
  | .hbm, ⟨23, _⟩ => ⟨S16x1024, .f32⟩
  | .hbm, ⟨24, _⟩ => ⟨S32x1024, .f32⟩
  | .hbm, ⟨25, _⟩ => ⟨S384x1024, .f32⟩
  | .hbm, ⟨26, _⟩ => ⟨S_, .i32⟩
  | .hbm, ⟨27, _⟩ => ⟨S_, .f32⟩
  | .hbm, ⟨28, _⟩ => ⟨S128x1024, .f32⟩
  | .hbm, ⟨29, _⟩ => ⟨S_, .i32⟩
  | .hbm, ⟨30, _⟩ => ⟨S_, .f32⟩
  | .hbm, ⟨31, _⟩ => ⟨S128x1024, .f32⟩
  | .hbm, ⟨32, _⟩ => ⟨S1536x1024, .f32⟩
  | .hbm, ⟨33, _⟩ => ⟨S2176x1024, .f32⟩
  | .hbm, ⟨34, _⟩ => ⟨S2176x1024, .bf16⟩
  | .hbm, ⟨35, _⟩ => ⟨S8192x1024, .f32⟩
  | .hbm, ⟨36, _⟩ => ⟨S1x1024, .f32⟩
  | .hbm, ⟨37, _⟩ => ⟨S640x1024, .bf16⟩
  | .hbm, ⟨38, _⟩ => ⟨S1536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x640, .bf16⟩
  | .local _ .vmem, ⟨6, _⟩ => ⟨S512x640, .bf16⟩
  | .local _ .vmem, ⟨7, _⟩ => ⟨S512x1536, .bf16⟩
  | .local _ .vmem, ⟨8, _⟩ => ⟨S512x1536, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S2176x1024, .bf16⟩
  | .local _ .vmem, ⟨18, _⟩ => ⟨S4096x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S640x1024, .bf16⟩
  | .local _ .vmem, ⟨23, _⟩ => ⟨S1536x1024, .bf16⟩
  | .local _ .vmem, ⟨24, _⟩ => ⟨S640x1024, .f32⟩
  | .local _ .vmem, ⟨25, _⟩ => ⟨S1536x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_c_0 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v81 : BitVec 32 := Scalar.extui v0
  let c0_i32_41 : BitVec 32 := 0#32
  let v82 : BitVec 1 := Scalar.cmpi .ne v81 c0_i32_41
  v82

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v83 : BitVec 1 := Scalar.xori v0 v_true
  let v84 : BitVec 32 := Scalar.extui v83
  let c0_i32_42 : BitVec 32 := 0#32
  let v85 : BitVec 1 := Scalar.cmpi .ne v84 c0_i32_42
  v85

def k0_cond5 (i : grid0.Coords) : BitVec 1 :=
  let arg0 : BitVec 32 := BitVec.ofNat 32 (i 0).val
  let c15_i32 : BitVec 32 := 15#32
  let v1 : BitVec 1 := Scalar.cmpi .eq arg0 c15_i32
  let v92 : BitVec 32 := Scalar.extui v1
  let c0_i32_47 : BitVec 32 := 0#32
  let v93 : BitVec 1 := Scalar.cmpi .ne v92 c0_i32_47
  v93

def k0_cond8 (i : grid0.Coords) : BitVec 1 :=
  let arg0 : BitVec 32 := BitVec.ofNat 32 (i 0).val
  let c15_i32 : BitVec 32 := 15#32
  let v1 : BitVec 1 := Scalar.cmpi .eq arg0 c15_i32
  let v100 : BitVec 32 := Scalar.extui v1
  let c0_i32_52 : BitVec 32 := 0#32
  let v101 : BitVec 1 := Scalar.cmpi .ne v100 c0_i32_52
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2176x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S640x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1536x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ProjectionGradientReferenceIdeal.lean ====
abbrev S8192x1024 : Shape := ⟨2, ![8192, 1024]⟩
abbrev S1024 : Shape := ⟨1, ![1024]⟩
abbrev S8192x640 : Shape := ⟨2, ![8192, 640]⟩
abbrev S8192x1536 : Shape := ⟨2, ![8192, 1536]⟩
abbrev S1024x6048 : Shape := ⟨2, ![1024, 6048]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x16 : Shape := ⟨2, ![1024, 16]⟩
abbrev S1024x640 : Shape := ⟨2, ![1024, 640]⟩
abbrev S1024x1536 : Shape := ⟨2, ![1024, 1536]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S1536x1024 : Shape := ⟨2, ![1536, 1024]⟩
abbrev S640x1024 : Shape := ⟨2, ![640, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x640, .f32⟩
  | .hbm, ⟨4, _⟩ => ⟨S8192x1536, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x6048, .f32⟩
  | .hbm, ⟨10, _⟩ => ⟨S1024x384, .f32⟩
  | .hbm, ⟨11, _⟩ => ⟨S_, .f32⟩
  | .hbm, ⟨12, _⟩ => ⟨S1024x64, .f32⟩
  | .hbm, ⟨13, _⟩ => ⟨S1024x32, .f32⟩
  | .hbm, ⟨14, _⟩ => ⟨S_, .f32⟩
  | .hbm, ⟨15, _⟩ => ⟨S1024x32, .f32⟩
  | .hbm, ⟨16, _⟩ => ⟨S_, .f32⟩
  | .hbm, ⟨17, _⟩ => ⟨S1024x64, .f32⟩
  | .hbm, ⟨18, _⟩ => ⟨S1024x16, .f32⟩
  | .hbm, ⟨19, _⟩ => ⟨S1024x16, .f32⟩
  | .hbm, ⟨20, _⟩ => ⟨S_, .f32⟩
  | .hbm, ⟨21, _⟩ => ⟨S1024x32, .f32⟩
  | .hbm, ⟨22, _⟩ => ⟨S1024x640, .f32⟩
  | .hbm, ⟨23, _⟩ => ⟨S1024x1536, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S1024x1024, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S1024x1024, .f32⟩
  | .hbm, ⟨51, _⟩ => ⟨S8192x1024, .f32⟩
  | .hbm, ⟨52, _⟩ => ⟨S8192x640, .f32⟩
  | .hbm, ⟨53, _⟩ => ⟨S8192x1536, .f32⟩
  | .hbm, ⟨54, _⟩ => ⟨S1536x1024, .f32⟩
  | .hbm, ⟨55, _⟩ => ⟨S1024x1536, .f32⟩
  | .hbm, ⟨56, _⟩ => ⟨S8192x1024, .f32⟩
  | .hbm, ⟨57, _⟩ => ⟨S640x1024, .f32⟩
  | .hbm, ⟨58, _⟩ => ⟨S1024x640, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S640x1024, .f32⟩
  | .hbm, ⟨97, _⟩ => ⟨S640x1024, .bf16⟩
  | .hbm, ⟨98, _⟩ => ⟨S1536x1024, .f32⟩
  | .hbm, ⟨99, _⟩ => ⟨S1536x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== MergeSecond.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S6048x1024 : Shape := ⟨2, ![6048, 1024]⟩
abbrev S4096x1024 : Shape := ⟨2, ![4096, 1024]⟩
abbrev S1024x256 : Shape := ⟨2, ![1024, 256]⟩
abbrev S1x1024x256 : Shape := ⟨3, ![1, 1024, 256]⟩
abbrev S4x1024x256 : Shape := ⟨3, ![4, 1024, 256]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S6048x1024, .f32⟩
  | .hbm, ⟨10, _⟩ => ⟨S4096x1024, .f32⟩
  | .hbm, ⟨11, _⟩ => ⟨S4096x1024, .bf16⟩
  | .hbm, ⟨12, _⟩ => ⟨S1024x256, .f32⟩
  | .hbm, ⟨13, _⟩ => ⟨S1024x256, .bf16⟩
  | .hbm, ⟨14, _⟩ => ⟨S1024x256, .f32⟩
  | .hbm, ⟨15, _⟩ => ⟨S1024x256, .bf16⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S1x1024x256, .bf16⟩
  | .hbm, ⟨21, _⟩ => ⟨S1x1024x256, .bf16⟩
  | .hbm, ⟨22, _⟩ => ⟨S1x1024x256, .bf16⟩
  | .hbm, ⟨23, _⟩ => ⟨S1x1024x256, .bf16⟩
  | .hbm, ⟨24, _⟩ => ⟨S4x1024x256, .bf16⟩
  | .hbm, ⟨25, _⟩ => ⟨S8192x1024, .bf16⟩
  | .hbm, ⟨26, _⟩ => ⟨S8192x256, .bf16⟩
  | .hbm, ⟨27, _⟩ => ⟨S1x4096, .f32⟩
  | .hbm, ⟨28, _⟩ => ⟨S8192x256, .f32⟩
  | .hbm, ⟨29, _⟩ => ⟨S8192x1024, .bf16⟩
  | .hbm, ⟨30, _⟩ => ⟨S1024x1024, .bf16⟩
  | .hbm, ⟨31, _⟩ => ⟨S1x1024, .f32⟩
  | .hbm, ⟨32, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x256, .bf16⟩
  | .local _ .vmem, ⟨9, _⟩ => ⟨S1024x256, .f32⟩
  | .local _ .vmem, ⟨10, _⟩ => ⟨S1024x256, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1024x1024, .f32⟩
  | .local _ .vmem, ⟨17, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond6 (i : grid0.Coords) : BitVec 1 :=
  let arg0 : BitVec 32 := BitVec.ofNat 32 (i 0).val
  let c7_i32 : BitVec 32 := 7#32
  let v1 : BitVec 1 := Scalar.cmpi .eq arg0 c7_i32
  let v49 : BitVec 32 := Scalar.extui v1
  let c0_i32_30 : BitVec 32 := 0#32
  let v50 : BitVec 1 := Scalar.cmpi .ne v49 c0_i32_30
  v50

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_32 : BitVec 32 := 0#32
  let v54 : BitVec 1 := Scalar.cmpi .ne v53 c0_i32_32
  v54

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v55 : BitVec 1 := Scalar.xori v0 true_33
  let v56 : BitVec 32 := Scalar.extui v55
  let c0_i32_34 : BitVec 32 := 0#32
  let v57 : BitVec 1 := Scalar.cmpi .ne v56 c0_i32_34
  v57

def k0_cond3 (i : grid0.Coords) : BitVec 1 :=
  let arg0 : BitVec 32 := BitVec.ofNat 32 (i 0).val
  let c7_i32 : BitVec 32 := 7#32
  let v1 : BitVec 1 := Scalar.cmpi .eq arg0 c7_i32
  let v41 : BitVec 32 := Scalar.extui v1
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeSecondReferenceIdeal.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x256 : Shape := ⟨2, ![1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S8192x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x256, .f32⟩
  | .hbm, ⟨32, _⟩ => ⟨S256x1024, .f32⟩
  | .hbm, ⟨33, _⟩ => ⟨S8192x256, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S1024x1024, .f32⟩
  | .hbm, ⟨41, _⟩ => ⟨S1024x1024, .f32⟩
  | .hbm, ⟨42, _⟩ => ⟨S8192x1024, .bf16⟩
  | .hbm, ⟨43, _⟩ => ⟨S1024x1024, .f32⟩
  | .hbm, ⟨44, _⟩ => ⟨S1024x1024, .bf16⟩
  | .hbm, ⟨45, _⟩ => ⟨S1x1024, .f32⟩
  | .hbm, ⟨46, _⟩ => ⟨S1024x256, .f32⟩
  | .hbm, ⟨47, _⟩ => ⟨S1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== MergeThird.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S6048x1024 : Shape := ⟨2, ![6048, 1024]⟩
abbrev S4096x1024 : Shape := ⟨2, ![4096, 1024]⟩
abbrev S1024x256 : Shape := ⟨2, ![1024, 256]⟩
abbrev S1x1024x256 : Shape := ⟨3, ![1, 1024, 256]⟩
abbrev S4x1024x256 : Shape := ⟨3, ![4, 1024, 256]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S6048x1024, .f32⟩
  | .hbm, ⟨10, _⟩ => ⟨S4096x1024, .f32⟩
  | .hbm, ⟨11, _⟩ => ⟨S4096x1024, .bf16⟩
  | .hbm, ⟨12, _⟩ => ⟨S1024x256, .f32⟩
  | .hbm, ⟨13, _⟩ => ⟨S1024x256, .bf16⟩
  | .hbm, ⟨14, _⟩ => ⟨S1024x256, .f32⟩
  | .hbm, ⟨15, _⟩ => ⟨S1024x256, .bf16⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S1x1024x256, .bf16⟩
  | .hbm, ⟨21, _⟩ => ⟨S1x1024x256, .bf16⟩
  | .hbm, ⟨22, _⟩ => ⟨S1x1024x256, .bf16⟩
  | .hbm, ⟨23, _⟩ => ⟨S1x1024x256, .bf16⟩
  | .hbm, ⟨24, _⟩ => ⟨S4x1024x256, .bf16⟩
  | .hbm, ⟨25, _⟩ => ⟨S8192x1024, .bf16⟩
  | .hbm, ⟨26, _⟩ => ⟨S8192x256, .bf16⟩
  | .hbm, ⟨27, _⟩ => ⟨S1x4096, .f32⟩
  | .hbm, ⟨28, _⟩ => ⟨S8192x256, .f32⟩
  | .hbm, ⟨29, _⟩ => ⟨S8192x1024, .bf16⟩
  | .hbm, ⟨30, _⟩ => ⟨S1024x1024, .bf16⟩
  | .hbm, ⟨31, _⟩ => ⟨S1x1024, .f32⟩
  | .hbm, ⟨32, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x256, .bf16⟩
  | .local _ .vmem, ⟨9, _⟩ => ⟨S1024x256, .f32⟩
  | .local _ .vmem, ⟨10, _⟩ => ⟨S1024x256, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1024x1024, .f32⟩
  | .local _ .vmem, ⟨17, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond6 (i : grid0.Coords) : BitVec 1 :=
  let arg0 : BitVec 32 := BitVec.ofNat 32 (i 0).val
  let c7_i32 : BitVec 32 := 7#32
  let v1 : BitVec 1 := Scalar.cmpi .eq arg0 c7_i32
  let v49 : BitVec 32 := Scalar.extui v1
  let c0_i32_30 : BitVec 32 := 0#32
  let v50 : BitVec 1 := Scalar.cmpi .ne v49 c0_i32_30
  v50

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_32 : BitVec 32 := 0#32
  let v54 : BitVec 1 := Scalar.cmpi .ne v53 c0_i32_32
  v54

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v55 : BitVec 1 := Scalar.xori v0 true_33
  let v56 : BitVec 32 := Scalar.extui v55
  let c0_i32_34 : BitVec 32 := 0#32
  let v57 : BitVec 1 := Scalar.cmpi .ne v56 c0_i32_34
  v57

def k0_cond3 (i : grid0.Coords) : BitVec 1 :=
  let arg0 : BitVec 32 := BitVec.ofNat 32 (i 0).val
  let c7_i32 : BitVec 32 := 7#32
  let v1 : BitVec 1 := Scalar.cmpi .eq arg0 c7_i32
  let v41 : BitVec 32 := Scalar.extui v1
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeThirdReferenceIdeal.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x256 : Shape := ⟨2, ![1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S8192x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x256, .f32⟩
  | .hbm, ⟨32, _⟩ => ⟨S256x1024, .f32⟩
  | .hbm, ⟨33, _⟩ => ⟨S8192x256, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S1024x1024, .f32⟩
  | .hbm, ⟨41, _⟩ => ⟨S1024x1024, .f32⟩
  | .hbm, ⟨42, _⟩ => ⟨S8192x1024, .bf16⟩
  | .hbm, ⟨43, _⟩ => ⟨S1024x1024, .f32⟩
  | .hbm, ⟨44, _⟩ => ⟨S1024x1024, .bf16⟩
  | .hbm, ⟨45, _⟩ => ⟨S1x1024, .f32⟩
  | .hbm, ⟨46, _⟩ => ⟨S1024x256, .f32⟩
  | .hbm, ⟨47, _⟩ => ⟨S1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== MergeFourth.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S6048x1024 : Shape := ⟨2, ![6048, 1024]⟩
abbrev S4096x1024 : Shape := ⟨2, ![4096, 1024]⟩
abbrev S1024x256 : Shape := ⟨2, ![1024, 256]⟩
abbrev S1x1024x256 : Shape := ⟨3, ![1, 1024, 256]⟩
abbrev S4x1024x256 : Shape := ⟨3, ![4, 1024, 256]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S6048x1024, .f32⟩
  | .hbm, ⟨10, _⟩ => ⟨S4096x1024, .f32⟩
  | .hbm, ⟨11, _⟩ => ⟨S4096x1024, .bf16⟩
  | .hbm, ⟨12, _⟩ => ⟨S1024x256, .f32⟩
  | .hbm, ⟨13, _⟩ => ⟨S1024x256, .bf16⟩
  | .hbm, ⟨14, _⟩ => ⟨S1024x256, .f32⟩
  | .hbm, ⟨15, _⟩ => ⟨S1024x256, .bf16⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S1x1024x256, .bf16⟩
  | .hbm, ⟨21, _⟩ => ⟨S1x1024x256, .bf16⟩
  | .hbm, ⟨22, _⟩ => ⟨S1x1024x256, .bf16⟩
  | .hbm, ⟨23, _⟩ => ⟨S1x1024x256, .bf16⟩
  | .hbm, ⟨24, _⟩ => ⟨S4x1024x256, .bf16⟩
  | .hbm, ⟨25, _⟩ => ⟨S8192x1024, .bf16⟩
  | .hbm, ⟨26, _⟩ => ⟨S8192x256, .bf16⟩
  | .hbm, ⟨27, _⟩ => ⟨S1x4096, .f32⟩
  | .hbm, ⟨28, _⟩ => ⟨S8192x256, .f32⟩
  | .hbm, ⟨29, _⟩ => ⟨S8192x1024, .bf16⟩
  | .hbm, ⟨30, _⟩ => ⟨S1024x1024, .bf16⟩
  | .hbm, ⟨31, _⟩ => ⟨S1x1024, .f32⟩
  | .hbm, ⟨32, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x256, .bf16⟩
  | .local _ .vmem, ⟨9, _⟩ => ⟨S1024x256, .f32⟩
  | .local _ .vmem, ⟨10, _⟩ => ⟨S1024x256, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1024x1024, .f32⟩
  | .local _ .vmem, ⟨17, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond6 (i : grid0.Coords) : BitVec 1 :=
  let arg0 : BitVec 32 := BitVec.ofNat 32 (i 0).val
  let c7_i32 : BitVec 32 := 7#32
  let v1 : BitVec 1 := Scalar.cmpi .eq arg0 c7_i32
  let v49 : BitVec 32 := Scalar.extui v1
  let c0_i32_30 : BitVec 32 := 0#32
  let v50 : BitVec 1 := Scalar.cmpi .ne v49 c0_i32_30
  v50

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_32 : BitVec 32 := 0#32
  let v54 : BitVec 1 := Scalar.cmpi .ne v53 c0_i32_32
  v54

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v55 : BitVec 1 := Scalar.xori v0 true_33
  let v56 : BitVec 32 := Scalar.extui v55
  let c0_i32_34 : BitVec 32 := 0#32
  let v57 : BitVec 1 := Scalar.cmpi .ne v56 c0_i32_34
  v57

def k0_cond3 (i : grid0.Coords) : BitVec 1 :=
  let arg0 : BitVec 32 := BitVec.ofNat 32 (i 0).val
  let c7_i32 : BitVec 32 := 7#32
  let v1 : BitVec 1 := Scalar.cmpi .eq arg0 c7_i32
  let v41 : BitVec 32 := Scalar.extui v1
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeFourthReferenceIdeal.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x256 : Shape := ⟨2, ![1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S8192x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x256, .f32⟩
  | .hbm, ⟨32, _⟩ => ⟨S256x1024, .f32⟩
  | .hbm, ⟨33, _⟩ => ⟨S8192x256, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S1024x1024, .f32⟩
  | .hbm, ⟨41, _⟩ => ⟨S1024x1024, .f32⟩
  | .hbm, ⟨42, _⟩ => ⟨S8192x1024, .bf16⟩
  | .hbm, ⟨43, _⟩ => ⟨S1024x1024, .f32⟩
  | .hbm, ⟨44, _⟩ => ⟨S1024x1024, .bf16⟩
  | .hbm, ⟨45, _⟩ => ⟨S1x1024, .f32⟩
  | .hbm, ⟨46, _⟩ => ⟨S1024x256, .f32⟩
  | .hbm, ⟨47, _⟩ => ⟨S1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.Steps.lean ====
/- What one grid point of the branch gradient's kernel leaves in the blocks it writes back and in the two sums it
   carries, as the kernel's own arithmetic on the point's input blocks. -/
module

public import proofs.«01_k».proof.Proof.Gen.KernelIdeal.Value
public import Idealize.ShloMosaic.Lib.Tactic

@[expose] public section

set_option maxRecDepth 16384

noncomputable section

namespace Cert.KernelIdeal.Steps

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

theorem off2 : (![0, 0] : Fin 2 → Nat) = fun _ => 0 := funext fun a => by fin_cases a <;> rfl
theorem off3 : (![0, 0, 0] : Fin 3 → Nat) = fun _ => 0 := funext fun a => by fin_cases a <;> rfl

/-- Loading a whole staging buffer reads the block it holds. -/
theorem rdA {e : EltTy} (a : Memref sig .tc .vmem S1024x1024 e) (h : a.IsWhole) (x : Vec F S1024x1024 e) :
    View.readAt (Elt F) a.view (Rect.unit (s := S1024x1024) ![0, 0] ![1024, 1024] inb_S1024x1024_S1024x1024_0_0).toLoadRect (h.unread x) = x := by
  rw [View.readAt_eq_ld, h.read_unread]; exact View.ld_unit_zero (S := S1024x1024) off2 ..
theorem rdB {e : EltTy} (a : Memref sig .tc .vmem S1024x256 e) (h : a.IsWhole) (x : Vec F S1024x256 e) :
    View.readAt (Elt F) a.view (Rect.unit (s := S1024x256) ![0, 0] ![1024, 256] inb_S1024x256_S1024x256_0_0).toLoadRect (h.unread x) = x := by
  rw [View.readAt_eq_ld, h.read_unread]; exact View.ld_unit_zero (S := S1024x256) off2 ..
theorem rdC {e : EltTy} (a : Memref sig .tc .vmem S1x1024 e) (h : a.IsWhole) (x : Vec F S1x1024 e) :
    View.readAt (Elt F) a.view (Rect.unit (s := S1x1024) ![0, 0] ![1, 1024] inb_S1x1024_S1x1024_0_0).toLoadRect (h.unread x) = x := by
  rw [View.readAt_eq_ld, h.read_unread]; exact View.ld_unit_zero (S := S1x1024) off2 ..
theorem rdD {e : EltTy} (a : Memref sig .tc .vmem S1x1024x256 e) (h : a.IsWhole) (x : Vec F S1x1024x256 e) :
    View.readAt (Elt F) a.view (Rect.unit (s := S1x1024x256) ![0, 0, 0] ![1, 1024, 256] inb_S1x1024x256_S1x1024x256_0_0_0).toLoadRect (h.unread x) = x := by
  rw [View.readAt_eq_ld, h.read_unread]; exact View.ld_unit_zero (S := S1x1024x256) off3 ..
theorem rdS (h : (scM0_0 : Memref sig .tc .vmem S1024x1024 .f32).IsWhole) (x : Vec F S1024x1024 .f32) :
    View.readAt (Elt F) (View.whole cc0_scratch0) (Rect.unit (s := S1024x1024) ![0, 0] ![1024, 1024] inb_S1024x1024_S1024x1024_0_0).toLoadRect (h.unread x) = x :=
  rdA scM0_0 h x
theorem rdT (h : (scM0_1 : Memref sig .tc .vmem S1024x256 .f32).IsWhole) (x : Vec F S1024x256 .f32) :
    View.readAt (Elt F) (View.whole cc0_scratch1) (Rect.unit (s := S1024x256) ![0, 0] ![1024, 256] inb_S1024x256_S1024x256_0_0).toLoadRect (h.unread x) = x :=
  rdB scM0_1 h x

/-- The state the grid carries: five output blocks and the two running sums. -/
abbrev St : Type := Vec F S1024x256 .f32 × Vec F S1024x1024 .bf16 × Vec F S1024x1024 .bf16 × Vec F S1x1024 .f32 × Vec F S1024x256 .bf16 × Vec F S1024x1024 .f32 × Vec F S1024x256 .f32

/-- The gated incoming gradient of a block. -/
abbrev dy (c : Dev nD) (t : Fin cfg0.N) : FVec F S1024x1024 .bf16 :=
  k0_pay15 (iblk m c 0 t) (iblk m c 2 t) (iblk m c 3 t) (iblk m c 4 t)
/-- The gradient of a block's gate logits. -/
abbrev dpre (c : Dev nD) (t : Fin cfg0.N) : FVec F S1024x1024 .f32 :=
  k0_pay16 (iblk m c 0 t) (iblk m c 1 t) (iblk m c 2 t) (iblk m c 5 t) (iblk m c 3 t) (iblk m c 4 t)

/-- The first point: the two sums and the bias gradient start from this block's terms. -/
theorem first (c : Dev nD) (t : Fin cfg0.N) (acc : St (F := F)) (h : t.val % 8 = 0) :
    (stAt0 m c t.val t.isLt acc).1 = k0_pay18 (iblk m c 0 t) (iblk m c 2 t) (iblk m c 5 t) (iblk m c 3 t) (iblk m c 4 t)
    ∧ (stAt0 m c t.val t.isLt acc).2.1 = truncf .bf16 (dpre m c t) bitsLt_bf16_f32
    ∧ (stAt0 m c t.val t.isLt acc).2.2.2.1 = k0_pay9 (dpre m c t)
    ∧ (stAt0 m c t.val t.isLt acc).2.2.2.2.2.1 = k0_pay5 (iblk m c 0 t) (truncf .bf16 (dpre m c t) bitsLt_bf16_f32)
    ∧ (stAt0 m c t.val t.isLt acc).2.2.2.2.2.2 = k0_pay1 (iblk m c 1 t) (dy m c t) := by
  have hN : t.val < 8 := lt_of_lt_of_eq t.isLt (show cfg0.N = 8 from N_0)
  rw [stAt0_A m c t acc h (by omega) (by omega) h (by omega) (by omega) h (by omega)]
  dsimp only
  refine ⟨(View.read_writes_eq_canon _ _ _ (fun y => cover0_A_6 ..)).trans ?_, (View.read_writes_eq_canon _ _ _ (fun y => cover0_A_7 ..)).trans ?_, (View.read_writes_eq_canon _ _ _ (fun y => cover0_A_9 ..)).trans ?_, (View.read_writes_eq_canon _ _ _ (fun y => scover0_A_0 ..)).trans ?_, (View.read_writes_eq_canon _ _ _ (fun y => scover0_A_1 ..)).trans ?_⟩ <;>
    (unfold kernelRun0_A; dsimp only; sl_unfold_words; rw [View.canon_unit_zero off2]; simp only [rdS, rdT, rdA, rdB, rdC, rdD, shapeCast_self, k0_pay17, k0_pay6, k0_pay7, k0_pay11, k0_pay2, k0_pay3, k0_pay12, k0_pay10, k0_pay8, k0_pay4])

/-- A point between: this block's terms are added. -/
theorem middle (c : Dev nD) (t : Fin cfg0.N) (acc : St (F := F)) (h : ¬t.val % 8 = 0) (h7 : ¬t.val % 8 = 7) :
    (stAt0 m c t.val t.isLt acc).1 = k0_pay18 (iblk m c 0 t) (iblk m c 2 t) (iblk m c 5 t) (iblk m c 3 t) (iblk m c 4 t)
    ∧ (stAt0 m c t.val t.isLt acc).2.1 = truncf .bf16 (dpre m c t) bitsLt_bf16_f32
    ∧ (stAt0 m c t.val t.isLt acc).2.2.2.1 = addf acc.2.2.2.1 (k0_pay9 (dpre m c t))
    ∧ (stAt0 m c t.val t.isLt acc).2.2.2.2.2.1 = addf acc.2.2.2.2.2.1 (k0_pay5 (iblk m c 0 t) (truncf .bf16 (dpre m c t) bitsLt_bf16_f32))
    ∧ (stAt0 m c t.val t.isLt acc).2.2.2.2.2.2 = addf acc.2.2.2.2.2.2 (k0_pay1 (iblk m c 1 t) (dy m c t)) := by
  have hN : t.val < 8 := lt_of_lt_of_eq t.isLt (show cfg0.N = 8 from N_0)
  rw [stAt0_B m c t acc h (by omega) h7 h (by omega) h7 h (by omega)]
  dsimp only
  refine ⟨(View.read_writes_eq_canon _ _ _ (fun y => cover0_B_6 ..)).trans ?_, (View.read_writes_eq_canon _ _ _ (fun y => cover0_B_7 ..)).trans ?_, (View.read_writes_eq_canon _ _ _ (fun y => cover0_B_9 ..)).trans ?_, (View.read_writes_eq_canon _ _ _ (fun y => scover0_B_0 ..)).trans ?_, (View.read_writes_eq_canon _ _ _ (fun y => scover0_B_1 ..)).trans ?_⟩ <;>
    (unfold kernelRun0_B; dsimp only; sl_unfold_words; rw [View.canon_unit_zero off2]; simp only [rdS, rdT, rdA, rdB, rdC, rdD, shapeCast_self, k0_pay17, k0_pay6, k0_pay7, k0_pay11, k0_pay2, k0_pay3, k0_pay12, k0_pay10, k0_pay8, k0_pay4])

/-- The last point: this block's terms are added, and the two sums are written out. -/
theorem last (c : Dev nD) (t : Fin cfg0.N) (acc : St (F := F)) (h : ¬t.val % 8 = 0) (h7 : t.val % 8 = 7) :
    (stAt0 m c t.val t.isLt acc).1 = k0_pay18 (iblk m c 0 t) (iblk m c 2 t) (iblk m c 5 t) (iblk m c 3 t) (iblk m c 4 t)
    ∧ (stAt0 m c t.val t.isLt acc).2.1 = truncf .bf16 (dpre m c t) bitsLt_bf16_f32
    ∧ (stAt0 m c t.val t.isLt acc).2.2.1 = truncf .bf16 (addf acc.2.2.2.2.2.1 (k0_pay5 (iblk m c 0 t) (truncf .bf16 (dpre m c t) bitsLt_bf16_f32))) bitsLt_bf16_f32
    ∧ (stAt0 m c t.val t.isLt acc).2.2.2.1 = addf acc.2.2.2.1 (k0_pay9 (dpre m c t))
    ∧ (stAt0 m c t.val t.isLt acc).2.2.2.2.1 = truncf .bf16 (addf acc.2.2.2.2.2.2 (k0_pay1 (iblk m c 1 t) (dy m c t))) bitsLt_bf16_f32
    ∧ (stAt0 m c t.val t.isLt acc).2.2.2.2.2.1 = addf acc.2.2.2.2.2.1 (k0_pay5 (iblk m c 0 t) (truncf .bf16 (dpre m c t) bitsLt_bf16_f32))
    ∧ (stAt0 m c t.val t.isLt acc).2.2.2.2.2.2 = addf acc.2.2.2.2.2.2 (k0_pay1 (iblk m c 1 t) (dy m c t)) := by
  have hN : t.val < 8 := lt_of_lt_of_eq t.isLt (show cfg0.N = 8 from N_0)
  rw [stAt0_C m c t acc h (by omega) h7 h (by omega) h7 h (by omega)]
  dsimp only
  refine ⟨(View.read_writes_eq_canon _ _ _ (fun y => cover0_C_6 ..)).trans ?_, (View.read_writes_eq_canon _ _ _ (fun y => cover0_C_7 ..)).trans ?_, (View.read_writes_eq_canon _ _ _ (fun y => cover0_C_8 ..)).trans ?_, (View.read_writes_eq_canon _ _ _ (fun y => cover0_C_9 ..)).trans ?_, (View.read_writes_eq_canon _ _ _ (fun y => cover0_C_10 ..)).trans ?_, (View.read_writes_eq_canon _ _ _ (fun y => scover0_C_0 ..)).trans ?_, (View.read_writes_eq_canon _ _ _ (fun y => scover0_C_1 ..)).trans ?_⟩ <;>
    (unfold kernelRun0_C; dsimp only; sl_unfold_words; rw [View.canon_unit_zero off2]; simp only [rdS, rdT, rdA, rdB, rdC, rdD, shapeCast_self, k0_pay17, k0_pay6, k0_pay7, k0_pay11, k0_pay2, k0_pay3, k0_pay12, k0_pay10, k0_pay8, k0_pay4])
  · exact congrArg (truncf .bf16 · bitsLt_bf16_f32) (View.readCov_unit_zero (S := S1024x1024) _ off2 ..)
  · exact congrArg (truncf .bf16 · bitsLt_bf16_f32) (View.readCov_unit_zero (S := S1024x256) _ off2 ..)

end Cert.KernelIdeal.Steps

end
-- ==== Proof.MergeMath.lean ====
/- The gradient of one gated branch as sums over the extended reals: the gate, the gated gradient, the gradient of the
   gate's logits, and the five results. No program is mentioned here. -/
module

public import Idealize.ShloMosaic.Lib.Pointwise

@[expose] public section

noncomputable section

namespace Cert.MergeMath

open Idealize.ShloMosaic

/-- The logistic function. -/
def logistic (x : EReal) : EReal := Ideal.div 1 (1 + Ideal.exp (-x))

/-- Row `r` of the `n`-th block of 1024 tokens. -/
def tok (n : ℕ) (r : Fin 1024) : Fin 8192 := ⟨(1024 * n + r.val) % 8192, Nat.mod_lt _ (by decide)⟩

theorem tok_val (n : ℕ) (h : n < 8) (r : Fin 1024) : (tok n r).val = 1024 * n + r.val := by
  have := r.isLt; unfold tok; dsimp only; omega

/-- Summing block by block sums over all tokens. -/
theorem sum_tok (f : Fin 8192 → EReal) : ∑ n ∈ Finset.range 8, ∑ r : Fin 1024, f (tok n r) = ∑ r : Fin 8192, f r := by
  rw [Finset.sum_range, ← Fintype.sum_prod_type' (fun (n : Fin 8) (r : Fin 1024) => f (tok n.val r))]
  refine Fintype.sum_equiv (finProdFinEquiv (m := 8) (n := 1024)) _ f fun p => congrArg f (Fin.ext ?_)
  rw [tok_val _ p.1.isLt]
  show _ = p.2.val + 1024 * p.1.val
  omega

variable (H : Fin 8192 → Fin 1024 → EReal) (BR : Fin 8192 → Fin 256 → EReal) (DM : Fin 8192 → Fin 1024 → EReal)
variable (W : Fin 1024 → Fin 1024 → EReal) (B : Fin 1024 → EReal) (WB : Fin 256 → Fin 1024 → EReal)

/-- The gate of token `r` at channel `o`. -/
def gate (r : Fin 8192) (o : Fin 1024) : EReal := logistic ((∑ i, H r i * W i o) + B o)
/-- The gradient that reaches the branch's projection. -/
def gated (r : Fin 8192) (o : Fin 1024) : EReal := DM r o * gate H W B r o
/-- The gradient of the gate's logit. -/
def logit (r : Fin 8192) (o : Fin 1024) : EReal :=
  DM r o * (∑ a, BR r a * WB a o) * gate H W B r o * (1 - gate H W B r o)

/-- The gradient of the branch. -/
def dBranch (r : Fin 8192) (a : Fin 256) : EReal := ∑ o, gated H DM W B r o * WB a o
/-- The gradient of the gate's weight. -/
def dGateW (o i : Fin 1024) : EReal := ∑ r, logit H BR DM W B WB r o * H r i
/-- The gradient of the gate's bias. -/
def dGateB (o : Fin 1024) : EReal := ∑ r, logit H BR DM W B WB r o
/-- The gradient of the branch's projection. -/
def dProj (o : Fin 1024) (a : Fin 256) : EReal := ∑ r, gated H DM W B r o * BR r a

end Cert.MergeMath

end
-- ==== Proof.MergeBlocks.lean ====
module

public import proofs.«01_k».proof.Proof.Steps
public import proofs.«01_k».proof.Proof.MergeMath
public import proofs.«01_k».proof.Proof.Gen.ReferenceIdeal.Run
public import Idealize.ShloMosaic.Lib.Pointwise

@[expose] public section

set_option maxRecDepth 16384
noncomputable section

namespace Cert.KernelIdeal.Steps

open Cert.KernelIdeal Cert.KernelIdeal.Gen Cert.KernelIdeal.Value Idealize.ShloMosaic Idealize.ShloMosaic.TcCoe Idealize.SL.Sem
open Cert.MergeMath

/-- The gate of a block, entry by entry. -/
theorem pay14_at (h wg : Vec Ideal S1024x1024 .bf16) (b : Vec Ideal S1x1024 .f32) (r o : Fin 1024) :
    k0_pay14 h wg b (ix2 r o) = logistic ((∑ i : Fin 1024, h (ix2 r i) * wg (ix2 o i)) + b (ix2 0 o)) := by
  unfold k0_pay14 k0_pay11
  pointwise [shapeCast_self, dot_S1024x1024_S1024x1024_S1024x1024_1_1_0_0_n_n]
  rw [zero_sub]; rfl

theorem pay15_at (h wg : Vec Ideal S1024x1024 .bf16) (dm : Vec Ideal S1024x1024 .f32) (b : Vec Ideal S1x1024 .f32) (r o : Fin 1024) :
    k0_pay15 h dm wg b (ix2 r o) = dm (ix2 r o) * k0_pay14 h wg b (ix2 r o) := rfl

theorem pay16_at (h wg : Vec Ideal S1024x1024 .bf16) (br : Vec Ideal S1024x256 .bf16) (dm : Vec Ideal S1024x1024 .f32)
    (wb : Vec Ideal S1x1024x256 .bf16) (b : Vec Ideal S1x1024 .f32) (r o : Fin 1024) :
    k0_pay16 h br dm wb wg b (ix2 r o)
      = dm (ix2 r o) * (∑ a : Fin 256, br (ix2 r a) * wb (ix3 0 o a)) * k0_pay14 h wg b (ix2 r o) * (1 - k0_pay14 h wg b (ix2 r o)) := by
  unfold k0_pay16 k0_pay12 k0_pay13
  pointwise [shapeCast_self, dot_S1024x256_S1024x256_S1024x1024_1_1_0_0_n_n]

theorem pay18_at (h wg : Vec Ideal S1024x1024 .bf16) (dm : Vec Ideal S1024x1024 .f32) (wb : Vec Ideal S1x1024x256 .bf16)
    (b : Vec Ideal S1x1024 .f32) (r : Fin 1024) (a : Fin 256) :
    k0_pay18 h dm wb wg b (ix2 r a) = ∑ o : Fin 1024, k0_pay15 h dm wg b (ix2 r o) * wb (ix3 0 o a) := by
  unfold k0_pay18 k0_pay13
  pointwise [shapeCast_self, dot_S1024x1024_S1024x256_S1024x256_1_0_0_1_n_n]

theorem pay1_at (br : FVec Ideal S1024x256 .bf16) (g : FVec Ideal S1024x1024 .bf16) (o : Fin 1024) (a : Fin 256) :
    k0_pay1 br g (ix2 o a) = ∑ r : Fin 1024, g (ix2 r o) * br (ix2 r a) := by
  unfold k0_pay1
  pointwise [dot_S1024x1024_S1024x256_S1024x256_0_0_1_1_n_n]

theorem pay5_at (h g : FVec Ideal S1024x1024 .bf16) (o i : Fin 1024) :
    k0_pay5 h g (ix2 o i) = ∑ r : Fin 1024, g (ix2 r o) * h (ix2 r i) := by
  unfold k0_pay5
  pointwise [dot_S1024x1024_S1024x1024_S1024x1024_0_0_1_1_n_n]

theorem pay9_at (g : FVec Ideal S1024x1024 .f32) (o : Fin 1024) :
    k0_pay9 g (ix2 0 o) = ∑ r : Fin 1024, g (ix2 r o) := by
  unfold k0_pay9
  pointwise

variable (m : (ℓ : Loc nD τ sig) → Buf (Elt Ideal) ℓ) (c : Dev nD)

abbrev H (r : Fin 8192) (i : Fin 1024) : EReal := (m ((c : Thread nD τ).loc main_arg0) : Vec Ideal S8192x1024 .f32) (ix2 r i)
abbrev BR (r : Fin 8192) (a : Fin 256) : EReal := (m ((c : Thread nD τ).loc main_arg1) : Vec Ideal S8192x256 .f32) (ix2 r a)
abbrev DM (r : Fin 8192) (o : Fin 1024) : EReal := (m ((c : Thread nD τ).loc main_arg2) : Vec Ideal S8192x1024 .f32) (ix2 r o)
abbrev W (i o : Fin 1024) : EReal := (m ((c : Thread nD τ).loc main_arg3) : Vec Ideal S1024x6048 .f32) (ix2 i ⟨1952 + o.val, by omega⟩)
abbrev B (o : Fin 1024) : EReal := (m ((c : Thread nD τ).loc main_arg4) : Vec Ideal S4096 .f32) (ix1 ⟨o.val, by omega⟩)
abbrev WB (a : Fin 256) (o : Fin 1024) : EReal := (m ((c : Thread nD τ).loc main_arg5) : Vec Ideal S256x1024 .f32) (ix2 a o)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 ∧ win0_5.index t 2 = 0 := by decide +kernel

theorem iblk0 (t : Fin cfg0.N) (r i : Fin 1024) :
    (iblk m c 0 t : Vec Ideal S1024x1024 .bf16) (ix2 r i) = H m c (tok t.val r) i := by
  have hN : t.val < 8 := lt_of_lt_of_eq t.isLt (show cfg0.N = 8 from N_0)
  have e : V m c main_v16 = (truncf .bf16 (m ((c : Thread nD τ).loc main_arg0) : FVec Ideal S8192x1024 .f32) bitsLt_bf16_f32 : FVec Ideal S8192x1024 .bf16) := by
    unfold V; after_results
  unfold iblk
  rw [View.read_apply]
  show V m c main_v16 _ = _
  rw [e]
  refine congrArg (m ((c : Thread nD τ).loc main_arg0)) (funext fun a => Fin.ext ?_)
  match a with
  | ⟨0, _⟩ => show win0_0.index t 0 * 1024 + 1 * r.val = (tok t.val r).val; rw [(index0 t).1, tok_val _ hN]; omega
  | ⟨1, _⟩ => show win0_0.index t 1 * 1024 + 1 * i.val = i.val; rw [(index0 t).2]; omega

theorem iblk1 (t : Fin cfg0.N) (r : Fin 1024) (a : Fin 256) :
    (iblk m c 1 t : Vec Ideal S1024x256 .bf16) (ix2 r a) = BR m c (tok t.val r) a := by
  have hN : t.val < 8 := lt_of_lt_of_eq t.isLt (show cfg0.N = 8 from N_0)
  have e : V m c main_v17 = (truncf .bf16 (m ((c : Thread nD τ).loc main_arg1) : FVec Ideal S8192x256 .f32) bitsLt_bf16_f32 : FVec Ideal S8192x256 .bf16) := by
    unfold V; after_results
  unfold iblk
  rw [View.read_apply]
  show V m c main_v17 _ = _
  rw [e]
  refine congrArg (m ((c : Thread nD τ).loc main_arg1)) (funext fun x => Fin.ext ?_)
  match x with
  | ⟨0, _⟩ => show win0_1.index t 0 * 1024 + 1 * r.val = (tok t.val r).val; rw [(index1 t).1, tok_val _ hN]; omega
  | ⟨1, _⟩ => show win0_1.index t 1 * 256 + 1 * a.val = a.val; rw [(index1 t).2]; omega

theorem iblk2 (t : Fin cfg0.N) (r o : Fin 1024) :
    (iblk m c 2 t : Vec Ideal S1024x1024 .f32) (ix2 r o) = DM m c (tok t.val r) o := by
  have hN : t.val < 8 := lt_of_lt_of_eq t.isLt (show cfg0.N = 8 from N_0)
  have e : V m c main_arg2 = m ((c : Thread nD τ).loc main_arg2) := by
    unfold V; after_results
  unfold iblk
  rw [View.read_apply]
  show V m c main_arg2 _ = _
  rw [e]
  refine congrArg (m ((c : Thread nD τ).loc main_arg2)) (funext fun x => Fin.ext ?_)
  match x with
  | ⟨0, _⟩ => show win0_2.index t 0 * 1024 + 1 * r.val = (tok t.val r).val; rw [(index2 t).1, tok_val _ hN]; omega
  | ⟨1, _⟩ => show win0_2.index t 1 * 1024 + 1 * o.val = o.val; rw [(index2 t).2]; omega

theorem iblk3 (t : Fin cfg0.N) (o i : Fin 1024) :
    (iblk m c 3 t : Vec Ideal S1024x1024 .bf16) (ix2 o i) = W m c i o := by
  have e : V m c main_v2 = (truncf .bf16 (extractStridedSlice S4096x1024 ![1952, 0] (transpose S6048x1024 [1, 0] (m ((c : Thread nD τ).loc main_arg3) : FVec Ideal S1024x6048 .f32) transposes_S1024x6048_S6048x1024_1_0) slices_S6048x1024_S4096x1024_1952_0) bitsLt_bf16_f32 : FVec Ideal S4096x1024 .bf16) := by
    unfold V; after_results
  have h : (iblk m c 3 t : Vec Ideal S1024x1024 .bf16) (ix2 o i) = (V m c main_v2 : Vec Ideal S4096x1024 .bf16) (ix2 ⟨o.val, by omega⟩ i) := by
    unfold iblk
    rw [View.read_apply]
    refine congrArg (V m c main_v2) (funext fun x => Fin.ext ?_)
    match x with
    | ⟨0, _⟩ => show win0_3.index t 0 * 1024 + 1 * o.val = o.val; rw [(index3 t).1]; omega
    | ⟨1, _⟩ => show win0_3.index t 1 * 1024 + 1 * i.val = i.val; rw [(index3 t).2]; omega
  rw [h, e]
  pointwise

theorem iblk4 (t : Fin cfg0.N) (o : Fin 1024) :
    (iblk m c 4 t : Vec Ideal S1x1024 .f32) (ix2 0 o) = B m c o := by
  have e : V m c main_v18 = (broadcastInDim S1x4096 ![1] bcast_S4096_S1x4096_1 (m ((c : Thread nD τ).loc main_arg4) : FVec Ideal S4096 .f32) : FVec Ideal S1x4096 .f32) := by
    unfold V; after_results
  have h : (iblk m c 4 t : Vec Ideal S1x1024 .f32) (ix2 0 o) = (V m c main_v18 : Vec Ideal S1x4096 .f32) (ix2 0 ⟨o.val, by omega⟩) := by
    unfold iblk
    rw [View.read_apply]
    refine congrArg (V m c main_v18) (funext fun x => Fin.ext ?_)
    match x with
    | ⟨0, _⟩ => show win0_4.index t 0 * 1 + 1 * 0 = 0; rw [(index4 t).1]
    | ⟨1, _⟩ => show win0_4.index t 1 * 1024 + 1 * o.val = o.val; rw [(index4 t).2]; omega
  rw [h, e]
  pointwise

/-- A branch's projection as the stack holds it. -/
abbrev slab (w : FVec Ideal S256x1024 .f32) : FVec Ideal S1x1024x256 .bf16 :=
  broadcastInDim S1x1024x256 ![1, 2] bcast_S1024x256_S1x1024x256_1_2 (truncf .bf16 (transpose S1024x256 [1, 0] w transposes_S256x1024_S1024x256_1_0) bitsLt_bf16_f32 : FVec Ideal S1024x256 .bf16)

/-- The four branches' projections, stacked. -/
theorem stack_eq : V m c main_v15 = (concatenate S4x1024x256 0
    [⟨S1x1024x256, slab (m ((c : Thread nD τ).loc main_arg5))⟩, ⟨S1x1024x256, slab (m ((c : Thread nD τ).loc main_arg6))⟩,
     ⟨S1x1024x256, slab (m ((c : Thread nD τ).loc main_arg7))⟩, ⟨S1x1024x256, slab (m ((c : Thread nD τ).loc main_arg8))⟩]
    concatenates_S1x1024x256_S1x1024x256_S1x1024x256_S1x1024x256_S4x1024x256_d0 : FVec Ideal S4x1024x256 .bf16) := by
  unfold V
  after_results
  simp only [Matrix.cons_val_zero, Matrix.cons_val_one, Matrix.cons_val]
  repeat (first | rw [StableHlo.unary_result] | rw [StableHlo.nary_result] | (rw [StableHlo.unary_result_ne]; rotate_left; decide) | (rw [StableHlo.nary_result_ne]; rotate_left; decide))

theorem iblk5 (t : Fin cfg0.N) (o : Fin 1024) (a : Fin 256) :
    (iblk m c 5 t : Vec Ideal S1x1024x256 .bf16) (ix3 0 o a) = WB m c a o := by
  have h : (iblk m c 5 t : Vec Ideal S1x1024x256 .bf16) (ix3 0 o a) = (V m c main_v15 : Vec Ideal S4x1024x256 .bf16) (ix3 0 o a) := by
    unfold iblk
    rw [View.read_apply]
    refine congrArg (V m c main_v15) (funext fun x => Fin.ext ?_)
    match x with
    | ⟨0, _⟩ => show win0_5.index t 0 * 1 + 1 * 0 = 0; rw [(index5 t).1]
    | ⟨1, _⟩ => show win0_5.index t 1 * 1024 + 1 * o.val = o.val; rw [(index5 t).2.1]; omega
    | ⟨2, _⟩ => show win0_5.index t 2 * 256 + 1 * a.val = a.val; rw [(index5 t).2.2]; omega
  rw [h, stack_eq]
  pointwise

end Cert.KernelIdeal.Steps
end
-- ==== Proof.MergeFold.lean ====
/- The gradient of the first gated branch, folded over the eight blocks of tokens: what the five result arrays hold, as
   the sums of `MergeMath` over all tokens. -/
module

public import proofs.«01_k».proof.Proof.MergeBlocks

@[expose] public section

set_option maxRecDepth 16384
noncomputable section

namespace Cert.KernelIdeal.Steps

open Cert.KernelIdeal Cert.KernelIdeal.Gen Cert.KernelIdeal.Value Idealize.ShloMosaic Idealize.ShloMosaic.TcCoe Idealize.SL.Sem
open Cert.MergeMath

variable (m : (ℓ : Loc nD τ sig) → Buf (Elt Ideal) ℓ) (c : Dev nD)

/-- A block's gate is the gate of its tokens. -/
theorem gate_block (t : Fin cfg0.N) (r o : Fin 1024) :
    k0_pay14 (iblk m c 0 t) (iblk m c 3 t) (iblk m c 4 t) (ix2 r o) = gate (H m c) (W m c) (B m c) (tok t.val r) o := by
  rw [pay14_at, iblk4]
  simp only [iblk0, iblk3]
  rfl

theorem dy_at (t : Fin cfg0.N) (r o : Fin 1024) :
    dy m c t (ix2 r o) = gated (H m c) (DM m c) (W m c) (B m c) (tok t.val r) o := by
  rw [dy, pay15_at, gate_block, iblk2]
  rfl

theorem dpre_at (t : Fin cfg0.N) (r o : Fin 1024) :
    dpre m c t (ix2 r o) = logit (H m c) (BR m c) (DM m c) (W m c) (B m c) (WB m c) (tok t.val r) o := by
  rw [dpre, pay16_at, gate_block, iblk2]
  simp only [iblk1, iblk5]
  rfl

/-- The branch's gradient on a block. -/
theorem branch_at (t : Fin cfg0.N) (r : Fin 1024) (a : Fin 256) :
    k0_pay18 (iblk m c 0 t) (iblk m c 2 t) (iblk m c 5 t) (iblk m c 3 t) (iblk m c 4 t) (ix2 r a)
      = dBranch (H m c) (DM m c) (W m c) (B m c) (WB m c) (tok t.val r) a := by
  rw [pay18_at]
  exact Finset.sum_congr rfl fun o _ => congrArg₂ (· * ·) (dy_at m c t r o) (iblk5 m c t o a)

/-- A block's part of the gate's bias. -/
theorem bias_at (t : Fin cfg0.N) (o : Fin 1024) :
    k0_pay9 (dpre m c t) (ix2 0 o) = ∑ r : Fin 1024, logit (H m c) (BR m c) (DM m c) (W m c) (B m c) (WB m c) (tok t.val r) o := by
  rw [pay9_at]
  exact Finset.sum_congr rfl fun r _ => dpre_at m c t r o

/-- A block's part of the gate's weight. -/
theorem weight_at (t : Fin cfg0.N) (o i : Fin 1024) :
    k0_pay5 (iblk m c 0 t) (truncf .bf16 (dpre m c t) bitsLt_bf16_f32) (ix2 o i)
      = ∑ r : Fin 1024, logit (H m c) (BR m c) (DM m c) (W m c) (B m c) (WB m c) (tok t.val r) o * H m c (tok t.val r) i := by
  rw [pay5_at]
  exact Finset.sum_congr rfl fun r _ => congrArg₂ (· * ·) (dpre_at m c t r o) (iblk0 m c t r i)

/-- A block's part of the branch's projection. -/
theorem proj_at (t : Fin cfg0.N) (o : Fin 1024) (a : Fin 256) :
    k0_pay1 (iblk m c 1 t) (dy m c t) (ix2 o a)
      = ∑ r : Fin 1024, gated (H m c) (DM m c) (W m c) (B m c) (tok t.val r) o * BR m c (tok t.val r) a := by
  rw [pay1_at]
  exact Finset.sum_congr rfl fun r _ => congrArg₂ (· * ·) (dy_at m c t r o) (iblk1 m c t r a)

/-- The carried state after point `n`. -/
abbrev fold (n : ℕ) (h : 0 + n < cfg0.N) : St (F := Ideal) :=
  Pipeline.accAt (fun n h => stAt0 m c n h junk0) (stAt0 m c) 0 n h

/-- The state after point `n` is a step at `n` from some earlier state. -/
theorem fold_step (n : ℕ) (h : n < cfg0.N) : ∃ acc, fold m c n (by omega) = stAt0 m c n h acc := by
  cases n with
  | zero => exact ⟨junk0, rfl⟩
  | succ j => exact ⟨fold m c j (by omega), by unfold fold; rw [Pipeline.accAt_succ]; congr 1; omega⟩

theorem fold_succ (n : ℕ) (h : n + 1 < cfg0.N) : fold m c (n + 1) (by omega) = stAt0 m c (n + 1) h (fold m c n (by omega)) := by
  unfold fold; rw [Pipeline.accAt_succ]; congr 1; omega

/-- At every point the two per-token results are the block's own. -/
theorem fold_rows (n : ℕ) (h : n < cfg0.N) :
    (fold m c n (by omega)).1 = k0_pay18 (iblk m c 0 ⟨n, h⟩) (iblk m c 2 ⟨n, h⟩) (iblk m c 5 ⟨n, h⟩) (iblk m c 3 ⟨n, h⟩) (iblk m c 4 ⟨n, h⟩)
    ∧ (fold m c n (by omega)).2.1 = truncf .bf16 (dpre m c ⟨n, h⟩) bitsLt_bf16_f32 := by
  obtain ⟨acc, e⟩ := fold_step m c n h
  rw [e]
  by_cases h0 : n % 8 = 0
  · exact ⟨(first m c ⟨n, h⟩ acc h0).1, (first m c ⟨n, h⟩ acc h0).2.1⟩
  · by_cases h7 : n % 8 = 7
    · exact ⟨(last m c ⟨n, h⟩ acc h0 h7).1, (last m c ⟨n, h⟩ acc h0 h7).2.1⟩
    · exact ⟨(middle m c ⟨n, h⟩ acc h0 h7).1, (middle m c ⟨n, h⟩ acc h0 h7).2.1⟩

/-- The three running sums after point `n` are sums over the tokens of blocks `0 … n`. -/
theorem fold_sums (n : ℕ) (h : n < cfg0.N) :
    (∀ o, (fold m c n (by omega)).2.2.2.1 (ix2 0 o)
        = ∑ s ∈ Finset.range (n + 1), ∑ r : Fin 1024, logit (H m c) (BR m c) (DM m c) (W m c) (B m c) (WB m c) (tok s r) o)
    ∧ (∀ o i, (fold m c n (by omega)).2.2.2.2.2.1 (ix2 o i)
        = ∑ s ∈ Finset.range (n + 1), ∑ r : Fin 1024, logit (H m c) (BR m c) (DM m c) (W m c) (B m c) (WB m c) (tok s r) o * H m c (tok s r) i)
    ∧ (∀ o a, (fold m c n (by omega)).2.2.2.2.2.2 (ix2 o a)
        = ∑ s ∈ Finset.range (n + 1), ∑ r : Fin 1024, gated (H m c) (DM m c) (W m c) (B m c) (tok s r) o * BR m c (tok s r) a) := by
  have hN : n < 8 := lt_of_lt_of_eq h (show cfg0.N = 8 from N_0)
  induction n with
  | zero =>
    obtain ⟨-, -, h9, hs0, hs1⟩ := first m c ⟨0, h⟩ junk0 rfl
    refine ⟨fun o => ?_, fun o i => ?_, fun o a => ?_⟩ <;> rw [Finset.sum_range_one]
    · exact (congrFun h9 _).trans (bias_at m c ⟨0, h⟩ o)
    · exact (congrFun hs0 _).trans (weight_at m c ⟨0, h⟩ o i)
    · exact (congrFun hs1 _).trans (proj_at m c ⟨0, h⟩ o a)
  | succ n ih =>
    obtain ⟨i9, is0, is1⟩ := ih (by omega) (by omega)
    have e : ∀ acc : St (F := Ideal), (stAt0 m c (n + 1) h acc).2.2.2.1 = addf acc.2.2.2.1 (k0_pay9 (dpre m c ⟨n + 1, h⟩))
        ∧ (stAt0 m c (n + 1) h acc).2.2.2.2.2.1 = addf acc.2.2.2.2.2.1 (k0_pay5 (iblk m c 0 ⟨n + 1, h⟩) (truncf .bf16 (dpre m c ⟨n + 1, h⟩) bitsLt_bf16_f32))
        ∧ (stAt0 m c (n + 1) h acc).2.2.2.2.2.2 = addf acc.2.2.2.2.2.2 (k0_pay1 (iblk m c 1 ⟨n + 1, h⟩) (dy m c ⟨n + 1, h⟩)) := by
      intro acc
      by_cases h7 : (n + 1) % 8 = 7
      · obtain ⟨-, -, -, h9, -, hs0, hs1⟩ := last m c ⟨n + 1, h⟩ acc (by dsimp only; omega) h7
        exact ⟨h9, hs0, hs1⟩
      · obtain ⟨-, -, h9, hs0, hs1⟩ := middle m c ⟨n + 1, h⟩ acc (by dsimp only; omega) h7
        exact ⟨h9, hs0, hs1⟩
    rw [fold_succ m c n h]
    obtain ⟨h9, hs0, hs1⟩ := e (fold m c n (by omega))
    refine ⟨fun o => ?_, fun o i => ?_, fun o a => ?_⟩ <;> rw [Finset.sum_range_succ]
    · exact (congrFun h9 _).trans (congrArg₂ (· + ·) (i9 o) (bias_at m c ⟨n + 1, h⟩ o))
    · exact (congrFun hs0 _).trans (congrArg₂ (· + ·) (is0 o i) (weight_at m c ⟨n + 1, h⟩ o i))
    · exact (congrFun hs1 _).trans (congrArg₂ (· + ·) (is1 o a) (proj_at m c ⟨n + 1, h⟩ o a))

/-- Block and place of a row. -/
theorem row_split (r : Fin 8192) : r = tok (r.val / 1024) ⟨r.val % 1024, Nat.mod_lt _ (by decide)⟩ := by
  apply Fin.ext; rw [tok_val _ (by omega)]; dsimp only; omega

theorem out6 : G6 m c = fun j => dBranch (H m c) (DM m c) (W m c) (B m c) (WB m c) (j 0) (j 1) := by
  funext j
  have h0 : (j 0).val < 8192 := (j 0).isLt
  have h1 : (j 1).val < 256 := (j 1).isLt
  have hN : cfg0.N = 8 := N_0
  have hp : pt6Of j = (j 0).val / 1024 := by show 1 * ((j 0).val / 1024 - 0) + 1 * ((j 1).val / 256 - 0) = _; omega
  have hl : loc6Of j = ix2 ⟨(j 0).val % 1024, Nat.mod_lt _ (by decide)⟩ (j 1) := by
    funext a; apply Fin.ext
    match a with
    | ⟨0, _⟩ => rfl
    | ⟨1, _⟩ => show (j 1).val % 256 = (j 1).val; omega
  have hb : (j 0).val / 1024 < cfg0.N := by omega
  unfold G6
  rw [dif_pos (by rw [hp]; exact hb), hl, fold0_congr m c _ _ _ (by omega) hp]
  rw [(fold_rows m c ((j 0).val / 1024) hb).1]
  exact (branch_at m c ⟨(j 0).val / 1024, hb⟩ _ (j 1)).trans (congrArg (fun r => dBranch _ _ _ _ _ r _) (row_split (j 0)).symm)

theorem out7 : G7 m c = fun j => logit (H m c) (BR m c) (DM m c) (W m c) (B m c) (WB m c) (j 0) (j 1) := by
  funext j
  have h0 : (j 0).val < 8192 := (j 0).isLt
  have h1 : (j 1).val < 1024 := (j 1).isLt
  have hN : cfg0.N = 8 := N_0
  have hp : pt7Of j = (j 0).val / 1024 := by show 1 * ((j 0).val / 1024 - 0) + 1 * ((j 1).val / 1024 - 0) = _; omega
  have hl : loc7Of j = ix2 ⟨(j 0).val % 1024, Nat.mod_lt _ (by decide)⟩ (j 1) := by
    funext a; apply Fin.ext
    match a with
    | ⟨0, _⟩ => rfl
    | ⟨1, _⟩ => show (j 1).val % 1024 = (j 1).val; omega
  have hb : (j 0).val / 1024 < cfg0.N := by omega
  unfold G7
  rw [dif_pos (by rw [hp]; exact hb), hl, fold0_congr m c _ _ _ (by omega) hp]
  rw [(fold_rows m c ((j 0).val / 1024) hb).2]
  exact (dpre_at m c ⟨(j 0).val / 1024, hb⟩ _ (j 1)).trans (congrArg (fun r => logit _ _ _ _ _ _ r _) (row_split (j 0)).symm)

theorem seven : 7 < cfg0.N := by rw [show cfg0.N = 8 from N_0]; decide

/-- The last point's step, from the state after the seventh. -/
theorem fold_seven : fold m c 7 (by have := seven; omega) = stAt0 m c 7 seven (fold m c 6 (by have := seven; omega)) := fold_succ m c 6 seven

theorem out8 : G8 m c = fun j => dGateW (H m c) (BR m c) (DM m c) (W m c) (B m c) (WB m c) (j 0) (j 1) := by
  rw [G8_last]
  funext j
  obtain ⟨o, i, rfl⟩ : ∃ o i, j = ix2 o i := ⟨_, _, ValueIdx.eq_ix2 j⟩
  have e := last m c ⟨7, seven⟩ (fold m c 6 (by have := seven; omega)) (by decide) (by decide)
  refine ((congrFun ((congrArg (·.2.2.1) (fold_seven m c)).trans (e.2.2.1.trans (congrArg (truncf .bf16 · bitsLt_bf16_f32) e.2.2.2.2.2.1.symm))) (ix2 o i)).trans ?_)
  refine ((congrFun (congrArg (·.2.2.2.2.2.1) (fold_seven m c)) (ix2 o i)).symm.trans ((fold_sums m c 7 seven).2.1 o i)).trans ?_
  exact sum_tok fun r => logit (H m c) (BR m c) (DM m c) (W m c) (B m c) (WB m c) r o * H m c r i

theorem out9 : G9 m c = fun j => dGateB (H m c) (BR m c) (DM m c) (W m c) (B m c) (WB m c) (j 1) := by
  rw [G9_last]
  funext j
  obtain ⟨z, o, rfl⟩ : ∃ z o, j = ix2 z o := ⟨_, _, ValueIdx.eq_ix2 j⟩
  obtain rfl : z = 0 := Subsingleton.elim _ _
  refine ((fold_sums m c 7 seven).1 o).trans ?_
  exact sum_tok fun r => logit (H m c) (BR m c) (DM m c) (W m c) (B m c) (WB m c) r o

theorem out10 : G10 m c = fun j => dProj (H m c) (BR m c) (DM m c) (W m c) (B m c) (j 0) (j 1) := by
  rw [G10_last]
  funext j
  obtain ⟨o, a, rfl⟩ : ∃ o a, j = ix2 o a := ⟨_, _, ValueIdx.eq_ix2 j⟩
  have e := last m c ⟨7, seven⟩ (fold m c 6 (by have := seven; omega)) (by decide) (by decide)
  refine ((congrFun ((congrArg (·.2.2.2.2.1) (fold_seven m c)).trans (e.2.2.2.2.1.trans (congrArg (truncf .bf16 · bitsLt_bf16_f32) e.2.2.2.2.2.2.symm))) (ix2 o a)).trans ?_)
  refine ((congrFun (congrArg (·.2.2.2.2.2.2) (fold_seven m c)) (ix2 o a)).symm.trans ((fold_sums m c 7 seven).2.2 o a)).trans ?_
  exact sum_tok fun r => gated (H m c) (DM m c) (W m c) (B m c) r o * BR m c r a

end Cert.KernelIdeal.Steps
end
-- ==== Proof.MergeReference.lean ====
/- The reference's five results, entry by entry: the same sums of `MergeMath`. -/
module

public import proofs.«01_k».proof.Proof.MergeMath
public import proofs.«01_k».proof.Proof.Gen.ReferenceIdeal.Run

@[expose] public section

set_option maxRecDepth 16384
noncomputable section

namespace Cert.ReferenceIdeal.Merge

open Cert.ReferenceIdeal Cert.ReferenceIdeal.Value Idealize.ShloMosaic Idealize.ShloMosaic.TcCoe Idealize.SL.Sem
open Cert.MergeMath

variable (m : (ℓ : Loc nD τ sig) → Buf (Elt Ideal) ℓ) (c : Dev nD)

abbrev H (r : Fin 8192) (i : Fin 1024) : EReal := (m ((c.tc : Thread nD τ).loc main_arg0) : Vec Ideal S8192x1024 .f32) (ix2 r i)
abbrev BR (r : Fin 8192) (a : Fin 256) : EReal := (m ((c.tc : Thread nD τ).loc main_arg1) : Vec Ideal S8192x256 .f32) (ix2 r a)
abbrev DM (r : Fin 8192) (o : Fin 1024) : EReal := (m ((c.tc : Thread nD τ).loc main_arg2) : Vec Ideal S8192x1024 .f32) (ix2 r o)
abbrev W (i o : Fin 1024) : EReal := (m ((c.tc : Thread nD τ).loc main_arg3) : Vec Ideal S1024x6048 .f32) (ix2 i ⟨1952 + o.val, by omega⟩)
abbrev B (o : Fin 1024) : EReal := (m ((c.tc : Thread nD τ).loc main_arg4) : Vec Ideal S4096 .f32) (ix1 ⟨o.val, by omega⟩)
abbrev WB (a : Fin 256) (o : Fin 1024) : EReal := (m ((c.tc : Thread nD τ).loc main_arg5) : Vec Ideal S256x1024 .f32) (ix2 a o)

/-- The reference's gradient of a logit, with its own grouping of the factors. -/
theorem logit_eq (r : Fin 8192) (o : Fin 1024) :
    DM m c r o * (∑ a, BR m c r a * WB m c a o) * (gate (H m c) (W m c) (B m c) r o * (1 - gate (H m c) (W m c) (B m c) r o))
      = logit (H m c) (BR m c) (DM m c) (W m c) (B m c) (WB m c) r o := (mul_assoc _ _ _).symm

/-- The reference runs, and its results are the sums of `MergeMath`. -/
theorem run (ρ : Dev nD → PrngReg) :
    θ_run defs (onTc (τ := τ) (main (F := Ideal))) ⟨m, fun _ => 0, ρ⟩ fun r => ∀ c : Dev nD,
      (r.2.mem ((c.tc : Thread nD τ).loc main_v21) : Vec Ideal S8192x256 .f32) = (fun j => dBranch (H m c) (DM m c) (W m c) (B m c) (WB m c) (j 0) (j 1))
      ∧ (r.2.mem ((c.tc : Thread nD τ).loc main_v28) : Vec Ideal S8192x1024 .bf16) = (fun j => logit (H m c) (BR m c) (DM m c) (W m c) (B m c) (WB m c) (j 0) (j 1))
      ∧ (r.2.mem ((c.tc : Thread nD τ).loc main_v30) : Vec Ideal S1024x1024 .bf16) = (fun j => dGateW (H m c) (BR m c) (DM m c) (W m c) (B m c) (WB m c) (j 0) (j 1))
      ∧ (r.2.mem ((c.tc : Thread nD τ).loc main_v31) : Vec Ideal S1x1024 .f32) = (fun j => dGateB (H m c) (BR m c) (DM m c) (W m c) (B m c) (WB m c) (j 1))
      ∧ (r.2.mem ((c.tc : Thread nD τ).loc main_v33) : Vec Ideal S1024x256 .bf16) = (fun j => dProj (H m c) (BR m c) (DM m c) (W m c) (B m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Cert.ReferenceIdeal.Value.run m ρ)
  obtain ⟨h1, h2, h3, h4, h5, hargs⟩ := h c
  refine ⟨h1.trans ?_, h2.trans ?_, h3.trans ?_, h4.trans ?_, h5.trans ?_, hargs⟩ <;> clear hargs h1 h2 h3 h4 h5 h <;> funext j
  · obtain ⟨r, a, rfl⟩ : ∃ r a, j = ix2 r a := ⟨_, _, ValueIdx.eq_ix2 j⟩
    pointwise [dot_S8192x1024_S256x1024_S8192x256_1_1_0_0_n_n, dot_S8192x1024_S1024x1024_S8192x1024_1_0_0_1_n_n]
    exact Finset.sum_congr rfl fun o _ => congrArg (· * WB m c a o) (mul_comm (gate (H m c) (W m c) (B m c) r o) (DM m c r o))
  · obtain ⟨r, a, rfl⟩ : ∃ r a, j = ix2 r a := ⟨_, _, ValueIdx.eq_ix2 j⟩
    pointwise [dot_S8192x256_S256x1024_S8192x1024_1_0_0_1_n_n, dot_S8192x1024_S1024x1024_S8192x1024_1_0_0_1_n_n]
    exact logit_eq m c r a
  · obtain ⟨r, a, rfl⟩ : ∃ r a, j = ix2 r a := ⟨_, _, ValueIdx.eq_ix2 j⟩
    pointwise [dot_S8192x1024_S8192x1024_S1024x1024_0_0_1_1_n_n, dot_S8192x256_S256x1024_S8192x1024_1_0_0_1_n_n, dot_S8192x1024_S1024x1024_S8192x1024_1_0_0_1_n_n]
    exact Finset.sum_congr rfl fun t _ => congrArg (· * H m c t a) (logit_eq m c t r)
  · obtain ⟨z, a, rfl⟩ : ∃ z a, j = ix2 z a := ⟨_, _, ValueIdx.eq_ix2 j⟩
    pointwise [shapeCast_self, dot_S8192x256_S256x1024_S8192x1024_1_0_0_1_n_n, dot_S8192x1024_S1024x1024_S8192x1024_1_0_0_1_n_n]
    exact (Fintype.sum_unique _).trans (Finset.sum_congr rfl fun t _ => logit_eq m c t a)
  · obtain ⟨r, a, rfl⟩ : ∃ r a, j = ix2 r a := ⟨_, _, ValueIdx.eq_ix2 j⟩
    pointwise [dot_S8192x1024_S8192x256_S1024x256_0_0_1_1_n_n, dot_S8192x1024_S1024x1024_S8192x1024_1_0_0_1_n_n]
    exact Finset.sum_congr rfl fun t _ => congrArg (· * BR m c t a) (mul_comm (gate (H m c) (W m c) (B m c) t r) (DM m c t r))

end Cert.ReferenceIdeal.Merge
end
-- ==== Proof.MergeClaims.lean ====
/- The claims about the first gated branch: the reference's frame, and the equality of the five gradients. -/
module

public import proofs.«01_k».proof.Defs
public import proofs.«01_k».proof.Proof.MergeFold
public import proofs.«01_k».proof.Proof.MergeReference
public import Idealize.ShloMosaic.Adequacy
public import Idealize.ShloMosaic.Init

@[expose] public section

noncomputable section

namespace Cert.Proof

open Idealize.ShloMosaic Idealize.SL.Sem

theorem merge_reference_frame : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Merge.run m ρ)

/-- The first gated branch's gradients are the reference's. -/
theorem merge_algebraic : Cert.algebraic_KernelIdeal_ReferenceIdeal := fun m ρ m' ρ' _ hag => by
  have hH : ∀ c, ReferenceIdeal.Merge.H m' c = KernelIdeal.Steps.H m c := fun c => funext fun _ => funext fun _ => congrFun (hag c).1 _
  have hBR : ∀ c, ReferenceIdeal.Merge.BR m' c = KernelIdeal.Steps.BR m c := fun c => funext fun _ => funext fun _ => congrFun (hag c).2.1 _
  have hDM : ∀ c, ReferenceIdeal.Merge.DM m' c = KernelIdeal.Steps.DM m c := fun c => funext fun _ => funext fun _ => congrFun (hag c).2.2.1 _
  have hW : ∀ c, ReferenceIdeal.Merge.W m' c = KernelIdeal.Steps.W m c := fun c => funext fun _ => funext fun _ => congrFun (hag c).2.2.2.1 _
  have hB : ∀ c, ReferenceIdeal.Merge.B m' c = KernelIdeal.Steps.B m c := fun c => funext fun _ => congrFun (hag c).2.2.2.2.1 _
  have hWB : ∀ c, ReferenceIdeal.Merge.WB m' c = KernelIdeal.Steps.WB m c := fun c => funext fun _ => funext fun _ => congrFun (hag c).2.2.2.2.2.1 _
  refine ⟨_, _, _, _, _, KernelIdeal.Value.run m ρ, (θ_run _ _ _).mono (fun _ h c => ?_) (ReferenceIdeal.Merge.run m' ρ')⟩
  obtain ⟨h1, h2, h3, h4, h5, hargs⟩ := h c
  rw [hH, hDM, hW, hB, hWB] at h1
  rw [hH, hBR, hDM, hW, hB, hWB] at h2 h3 h4
  rw [hH, hBR, hDM, hW, hB] at h5
  exact ⟨h1.trans (KernelIdeal.Steps.out6 m c).symm, h2.trans (KernelIdeal.Steps.out7 m c).symm,
    h3.trans (KernelIdeal.Steps.out8 m c).symm, h4.trans (KernelIdeal.Steps.out9 m c).symm,
    h5.trans (KernelIdeal.Steps.out10 m c).symm, hargs⟩

end Cert.Proof
end
-- ==== Proof.FfnSteps.lean ====
/- What one grid point of the feed-forward weight gradient's kernel leaves in the blocks it writes back and in the two
   sums it carries, as the kernel's own arithmetic on the point's input blocks. -/
module

public import proofs.«01_k».proof.Proof.Gen.FfnIdeal.Value
public import Idealize.ShloMosaic.Lib.Tactic

@[expose] public section

set_option maxRecDepth 16384

noncomputable section

namespace Cert.FfnIdeal.Steps

open Cert.FfnIdeal Cert.FfnIdeal.Gen Cert.FfnIdeal.Value Idealize.ShloMosaic Idealize.ShloMosaic.TcCoe Idealize.SL.Sem

variable {F : FTy → Type} [FloatOps F]
variable (m : (ℓ : Loc nD τ sig) → Buf (Elt F) ℓ)

theorem off2 : (![0, 0] : Fin 2 → Nat) = fun _ => 0 := funext fun a => by fin_cases a <;> rfl

/-- Loading a whole staging buffer reads the block it holds. -/
theorem rdA {e : EltTy} (a : Memref sig .tc .vmem S1024x1024 e) (h : a.IsWhole) (x : Vec F S1024x1024 e) :
    View.readAt (Elt F) a.view (Rect.unit (s := S1024x1024) ![0, 0] ![1024, 1024] inb_S1024x1024_S1024x1024_0_0).toLoadRect (h.unread x) = x := by
  rw [View.readAt_eq_ld, h.read_unread]; exact View.ld_unit_zero (S := S1024x1024) off2 ..
theorem rdS (h : (scM0_0 : Memref sig .tc .vmem S1024x1024 .f32).IsWhole) (x : Vec F S1024x1024 .f32) :
    View.readAt (Elt F) (View.whole cc0_scratch0) (Rect.unit (s := S1024x1024) ![0, 0] ![1024, 1024] inb_S1024x1024_S1024x1024_0_0).toLoadRect (h.unread x) = x :=
  rdA scM0_0 h x
theorem rdT (h : (scM0_1 : Memref sig .tc .vmem S1024x1024 .f32).IsWhole) (x : Vec F S1024x1024 .f32) :
    View.readAt (Elt F) (View.whole cc0_scratch1) (Rect.unit (s := S1024x1024) ![0, 0] ![1024, 1024] inb_S1024x1024_S1024x1024_0_0).toLoadRect (h.unread x) = x :=
  rdA scM0_1 h x

/-- The state the grid carries: three output blocks and the two running sums. -/
abbrev St : Type := Vec F S1024x1024 .bf16 × Vec F S1024x1024 .bf16 × Vec F S1024x1024 .bf16 × Vec F S1024x1024 .f32 × Vec F S1024x1024 .f32

/-- The gradient of a block of hidden activations. -/
abbrev dhid (c : Dev nD) (t : Fin cfg0.N) : FVec F S1024x1024 .bf16 :=
  k0_pay11 (iblk m c 0 t) (iblk m c 1 t) (iblk m c 2 t) (iblk m c 3 t)
/-- A block's term of the first product's weight gradient. -/
abbrev term1 (c : Dev nD) (t : Fin cfg0.N) : FVec F S1024x1024 .f32 :=
  k0_pay12 (iblk m c 0 t) (iblk m c 1 t) (iblk m c 2 t) (iblk m c 3 t)
/-- A block's term of the second product's weight gradient. -/
abbrev term2 (c : Dev nD) (t : Fin cfg0.N) : FVec F S1024x1024 .f32 :=
  k0_pay7 (iblk m c 0 t) (iblk m c 1 t) (iblk m c 2 t)

/-- The first point of a hidden tile: the two sums start from this block's terms. -/
theorem first (c : Dev nD) (t : Fin cfg0.N) (acc : St (F := F)) (h : t.val % 8 = 0) :
    (stAt0 m c t.val t.isLt acc).1 = dhid m c t
    ∧ (stAt0 m c t.val t.isLt acc).2.2.2.1 = term1 m c t
    ∧ (stAt0 m c t.val t.isLt acc).2.2.2.2 = term2 m c t := by
  rw [stAt0_A m c t acc h (by omega) (by omega) h (by omega) (by omega)]
  dsimp only
  refine ⟨(View.read_writes_eq_canon _ _ _ (fun y => cover0_A_4 ..)).trans ?_, (View.read_writes_eq_canon _ _ _ (fun y => scover0_A_0 ..)).trans ?_, (View.read_writes_eq_canon _ _ _ (fun y => scover0_A_1 ..)).trans ?_⟩ <;>
    (unfold kernelRun0_A; dsimp only; sl_unfold_words; rw [View.canon_unit_zero off2]; simp only [rdS, rdT, rdA, shapeCast_self, k0_pay1, k0_pay8])

/-- A point between: this block's terms are added. -/
theorem middle (c : Dev nD) (t : Fin cfg0.N) (acc : St (F := F)) (h : ¬t.val % 8 = 0) (h7 : ¬t.val % 8 = 7) :
    (stAt0 m c t.val t.isLt acc).1 = dhid m c t
    ∧ (stAt0 m c t.val t.isLt acc).2.2.2.1 = addf acc.2.2.2.1 (term1 m c t)
    ∧ (stAt0 m c t.val t.isLt acc).2.2.2.2 = addf acc.2.2.2.2 (term2 m c t) := by
  rw [stAt0_B m c t acc h (by omega) h7 h (by omega) h7]
  dsimp only
  refine ⟨(View.read_writes_eq_canon _ _ _ (fun y => cover0_B_4 ..)).trans ?_, (View.read_writes_eq_canon _ _ _ (fun y => scover0_B_0 ..)).trans ?_, (View.read_writes_eq_canon _ _ _ (fun y => scover0_B_1 ..)).trans ?_⟩ <;>
    (unfold kernelRun0_B; dsimp only; sl_unfold_words; rw [View.canon_unit_zero off2]; simp only [rdS, rdT, rdA, shapeCast_self, k0_pay2, k0_pay9])

/-- The last point of a hidden tile: this block's terms are added, and the two sums are written out. -/
theorem last (c : Dev nD) (t : Fin cfg0.N) (acc : St (F := F)) (h : ¬t.val % 8 = 0) (h7 : t.val % 8 = 7) :
    (stAt0 m c t.val t.isLt acc).1 = dhid m c t
    ∧ (stAt0 m c t.val t.isLt acc).2.1 = truncf .bf16 (addf acc.2.2.2.1 (term1 m c t)) bitsLt_bf16_f32
    ∧ (stAt0 m c t.val t.isLt acc).2.2.1 = truncf .bf16 (addf acc.2.2.2.2 (term2 m c t)) bitsLt_bf16_f32
    ∧ (stAt0 m c t.val t.isLt acc).2.2.2.1 = addf acc.2.2.2.1 (term1 m c t)
    ∧ (stAt0 m c t.val t.isLt acc).2.2.2.2 = addf acc.2.2.2.2 (term2 m c t) := by
  rw [stAt0_C m c t acc h (by omega) h7 h (by omega) h7]
  dsimp only
  refine ⟨(View.read_writes_eq_canon _ _ _ (fun y => cover0_C_4 ..)).trans ?_, (View.read_writes_eq_canon _ _ _ (fun y => cover0_C_5 ..)).trans ?_, (View.read_writes_eq_canon _ _ _ (fun y => cover0_C_6 ..)).trans ?_, (View.read_writes_eq_canon _ _ _ (fun y => scover0_C_0 ..)).trans ?_, (View.read_writes_eq_canon _ _ _ (fun y => scover0_C_1 ..)).trans ?_⟩ <;>
    (unfold kernelRun0_C; dsimp only; sl_unfold_words; rw [View.canon_unit_zero off2]; simp only [rdS, rdT, rdA, shapeCast_self, k0_pay2, k0_pay3, k0_pay9, k0_pay10])
  · exact congrArg (truncf .bf16 · bitsLt_bf16_f32) (View.readCov_unit_zero (S := S1024x1024) _ off2 ..)
  · exact congrArg (truncf .bf16 · bitsLt_bf16_f32) (View.readCov_unit_zero (S := S1024x1024) _ off2 ..)

end Cert.FfnIdeal.Steps

end
-- ==== Proof.FfnMath.lean ====
/- The weight gradients of the feed-forward block as sums over the extended reals: the hidden activation, its gradient,
   and the gradients of the two weights. No program is mentioned here. -/
module

public import proofs.«01_k».proof.Proof.MergeMath

@[expose] public section

set_option maxRecDepth 16384

noncomputable section

namespace Cert.FfnMath

open Idealize.ShloMosaic

variable (H DF : Fin 8192 → Fin 1024 → EReal) (W1 : Fin 1024 → Fin 4096 → EReal) (W2 : Fin 4096 → Fin 1024 → EReal)

/-- The activation before squaring. -/
def relu (r : Fin 8192) (o : Fin 4096) : EReal := max (∑ i, H r i * W1 i o) 0
/-- The gradient of the hidden layer. -/
def dHidden (r : Fin 8192) (o : Fin 4096) : EReal := (∑ i, DF r i * W2 o i) * (2 * relu H W1 r o)
/-- The gradient of the first weight, output channel first. -/
def dFirst (o : Fin 4096) (i : Fin 1024) : EReal := ∑ r, dHidden H DF W1 W2 r o * H r i
/-- The gradient of the second weight. -/
def dSecond (o : Fin 4096) (i : Fin 1024) : EReal := ∑ r, relu H W1 r o * relu H W1 r o * DF r i

/-- The f32 pattern `0x40000000` is the extended real two. -/
theorem ofBits_two : Ideal.ofBits .f32 0x40000000#32 = 2 := by
  rw [show (2 : EReal) = ((2 : ℝ) : EReal) by norm_cast]
  simp [Ideal.ofBits, Ideal.ieee, -EReal.coe_mul]; norm_num

/-- A derivative that is zero off the positive part needs no selection: the activation is zero there. -/
theorem select_relu (x g : EReal) : (if 0 < x then g * (2 * max x 0) else 0) = g * (2 * max x 0) := by
  split
  · rfl
  · rw [max_eq_right (le_of_not_gt (by assumption)), mul_zero, mul_zero]

/-- Row `o` of hidden tile `n / 8`. -/
def hid (n : ℕ) (o : Fin 1024) : Fin 4096 := ⟨(1024 * (n / 8) + o.val) % 4096, Nat.mod_lt _ (by decide)⟩

theorem hid_val (n : ℕ) (h : n < 32) (o : Fin 1024) : (hid n o).val = 1024 * (n / 8) + o.val := by
  have := o.isLt; unfold hid; dsimp only; omega

end Cert.FfnMath

end
-- ==== Proof.FfnBlocks.lean ====
/- The blocks of the feed-forward weight gradient entry by entry. -/
module

public import proofs.«01_k».proof.Proof.FfnSteps
public import proofs.«01_k».proof.Proof.FfnMath
public import Idealize.ShloMosaic.Lib.Pointwise

@[expose] public section

set_option maxRecDepth 16384

noncomputable section

namespace Cert.FfnIdeal.Steps

open Cert.FfnIdeal Cert.FfnIdeal.Gen Cert.FfnIdeal.Value Idealize.ShloMosaic Idealize.ShloMosaic.TcCoe Idealize.SL.Sem
open Cert.MergeMath Cert.FfnMath

/-- A block's activation. -/
theorem pay6_at (h w : Vec Ideal S1024x1024 .bf16) (r o : Fin 1024) :
    k0_pay6 h w (ix2 r o) = max (∑ i : Fin 1024, h (ix2 r i) * w (ix2 o i)) 0 := by
  unfold k0_pay6 k0_pay4
  pointwise [shapeCast_self, dot_S1024x1024_S1024x1024_S1024x1024_1_1_0_0_n_n]

/-- A block's hidden gradient. -/
theorem pay11_at (h d w1 w2 : Vec Ideal S1024x1024 .bf16) (r o : Fin 1024) :
    k0_pay11 h d w1 w2 (ix2 r o) = (∑ i : Fin 1024, d (ix2 r i) * w2 (ix2 o i)) * (2 * k0_pay6 h w1 (ix2 r o)) := by
  unfold k0_pay11 k0_pay5
  pointwise [shapeCast_self, dot_S1024x1024_S1024x1024_S1024x1024_1_1_0_0_n_n, ofBits_two]

theorem pay12_at (h d w1 w2 : Vec Ideal S1024x1024 .bf16) (o i : Fin 1024) :
    k0_pay12 h d w1 w2 (ix2 o i) = ∑ r : Fin 1024, k0_pay11 h d w1 w2 (ix2 r o) * h (ix2 r i) := by
  unfold k0_pay12 k0_pay4
  pointwise [shapeCast_self, dot_S1024x1024_S1024x1024_S1024x1024_0_0_1_1_n_n]

theorem pay7_at (h d w1 : Vec Ideal S1024x1024 .bf16) (o i : Fin 1024) :
    k0_pay7 h d w1 (ix2 o i) = ∑ r : Fin 1024, k0_pay6 h w1 (ix2 r o) * k0_pay6 h w1 (ix2 r o) * d (ix2 r i) := by
  unfold k0_pay7 k0_pay5
  pointwise [shapeCast_self, dot_S1024x1024_S1024x1024_S1024x1024_0_0_1_1_n_n]

variable (m : (ℓ : Loc nD τ sig) → Buf (Elt Ideal) ℓ) (c : Dev nD)

abbrev H (r : Fin 8192) (i : Fin 1024) : EReal := (m ((c : Thread nD τ).loc main_arg0) : Vec Ideal S8192x1024 .f32) (ix2 r i)
abbrev DF (r : Fin 8192) (i : Fin 1024) : EReal := (m ((c : Thread nD τ).loc main_arg1) : Vec Ideal S8192x1024 .f32) (ix2 r i)
abbrev W1 (i : Fin 1024) (o : Fin 4096) : EReal := (m ((c : Thread nD τ).loc main_arg2) : Vec Ideal S1024x4096 .f32) (ix2 i o)
abbrev W2 (o : Fin 4096) (i : Fin 1024) : EReal := (m ((c : Thread nD τ).loc main_arg3) : Vec Ideal S4096x1024 .f32) (ix2 o i)

theorem index0 : ∀ t : Fin cfg0.N, win0_0.index t 0 = t.val % 8 ∧ win0_0.index t 1 = 0 := by decide +kernel
theorem index1 : ∀ t : Fin cfg0.N, win0_1.index t 0 = t.val % 8 ∧ win0_1.index t 1 = 0 := by decide +kernel
theorem index2 : ∀ t : Fin cfg0.N, win0_2.index t 0 = t.val / 8 ∧ win0_2.index t 1 = 0 := by decide +kernel
theorem index3 : ∀ t : Fin cfg0.N, win0_3.index t 0 = t.val / 8 ∧ win0_3.index t 1 = 0 := by decide +kernel

theorem iblk0 (t : Fin cfg0.N) (r i : Fin 1024) :
    (iblk m c 0 t : Vec Ideal S1024x1024 .bf16) (ix2 r i) = H m c (tok (t.val % 8) r) i := by
  have e : V m c main_v0 = (truncf .bf16 (m ((c : Thread nD τ).loc main_arg0) : FVec Ideal S8192x1024 .f32) bitsLt_bf16_f32 : FVec Ideal S8192x1024 .bf16) := by
    unfold V; after_results
  unfold iblk
  rw [View.read_apply]
  show V m c main_v0 _ = _
  rw [e]
  refine congrArg (m ((c : Thread nD τ).loc main_arg0)) (funext fun a => Fin.ext ?_)
  match a with
  | ⟨0, _⟩ => show win0_0.index t 0 * 1024 + 1 * r.val = (tok (t.val % 8) r).val; rw [(index0 t).1, tok_val _ (Nat.mod_lt _ (by decide))]; omega
  | ⟨1, _⟩ => show win0_0.index t 1 * 1024 + 1 * i.val = i.val; rw [(index0 t).2]; omega

theorem iblk1 (t : Fin cfg0.N) (r i : Fin 1024) :
    (iblk m c 1 t : Vec Ideal S1024x1024 .bf16) (ix2 r i) = DF m c (tok (t.val % 8) r) i := by
  have e : V m c main_v1 = (truncf .bf16 (m ((c : Thread nD τ).loc main_arg1) : FVec Ideal S8192x1024 .f32) bitsLt_bf16_f32 : FVec Ideal S8192x1024 .bf16) := by
    unfold V; after_results
  unfold iblk
  rw [View.read_apply]
  show V m c main_v1 _ = _
  rw [e]
  refine congrArg (m ((c : Thread nD τ).loc main_arg1)) (funext fun a => Fin.ext ?_)
  match a with
  | ⟨0, _⟩ => show win0_1.index t 0 * 1024 + 1 * r.val = (tok (t.val % 8) r).val; rw [(index1 t).1, tok_val _ (Nat.mod_lt _ (by decide))]; omega
  | ⟨1, _⟩ => show win0_1.index t 1 * 1024 + 1 * i.val = i.val; rw [(index1 t).2]; omega

theorem iblk2 (t : Fin cfg0.N) (o i : Fin 1024) :
    (iblk m c 2 t : Vec Ideal S1024x1024 .bf16) (ix2 o i) = W1 m c i (hid t.val o) := by
  have hN : t.val < 32 := lt_of_lt_of_eq t.isLt (show cfg0.N = 32 from N_0)
  have e : V m c main_v3 = (truncf .bf16 (transpose S4096x1024 [1, 0] (m ((c : Thread nD τ).loc main_arg2) : FVec Ideal S1024x4096 .f32) transposes_S1024x4096_S4096x1024_1_0 : FVec Ideal S4096x1024 .f32) bitsLt_bf16_f32 : FVec Ideal S4096x1024 .bf16) := by
    unfold V; after_results
  have h : (iblk m c 2 t : Vec Ideal S1024x1024 .bf16) (ix2 o i) = (V m c main_v3 : Vec Ideal S4096x1024 .bf16) (ix2 (hid t.val o) i) := by
    unfold iblk
    rw [View.read_apply]
    refine congrArg (V m c main_v3) (funext fun x => Fin.ext ?_)
    match x with
    | ⟨0, _⟩ => show win0_2.index t 0 * 1024 + 1 * o.val = (hid t.val o).val; rw [(index2 t).1, hid_val _ hN]; omega
    | ⟨1, _⟩ => show win0_2.index t 1 * 1024 + 1 * i.val = i.val; rw [(index2 t).2]; omega
  rw [h, e]
  pointwise

theorem iblk3 (t : Fin cfg0.N) (o i : Fin 1024) :
    (iblk m c 3 t : Vec Ideal S1024x1024 .bf16) (ix2 o i) = W2 m c (hid t.val o) i := by
  have hN : t.val < 32 := lt_of_lt_of_eq t.isLt (show cfg0.N = 32 from N_0)
  have e : V m c main_v4 = (truncf .bf16 (m ((c : Thread nD τ).loc main_arg3) : FVec Ideal S4096x1024 .f32) bitsLt_bf16_f32 : FVec Ideal S4096x1024 .bf16) := by
    unfold V; after_results
  have h : (iblk m c 3 t : Vec Ideal S1024x1024 .bf16) (ix2 o i) = (V m c main_v4 : Vec Ideal S4096x1024 .bf16) (ix2 (hid t.val o) i) := by
    unfold iblk
    rw [View.read_apply]
    refine congrArg (V m c main_v4) (funext fun x => Fin.ext ?_)
    match x with
    | ⟨0, _⟩ => show win0_3.index t 0 * 1024 + 1 * o.val = (hid t.val o).val; rw [(index3 t).1, hid_val _ hN]; omega
    | ⟨1, _⟩ => show win0_3.index t 1 * 1024 + 1 * i.val = i.val; rw [(index3 t).2]; omega
  rw [h, e]
  pointwise

end Cert.FfnIdeal.Steps

end
-- ==== Proof.FfnFold.lean ====
/- The weight gradients of the feed-forward block, folded over the eight blocks of tokens of each hidden tile: what the
   three result arrays hold, as the sums of `FfnMath` over all tokens. -/
module

public import proofs.«01_k».proof.Proof.FfnBlocks

@[expose] public section

set_option maxRecDepth 16384

noncomputable section

namespace Cert.FfnIdeal.Steps

open Cert.FfnIdeal Cert.FfnIdeal.Gen Cert.FfnIdeal.Value Idealize.ShloMosaic Idealize.ShloMosaic.TcCoe Idealize.SL.Sem
open Cert.MergeMath Cert.FfnMath

variable (m : (ℓ : Loc nD τ sig) → Buf (Elt Ideal) ℓ) (c : Dev nD)

/-- A block's activation is its tokens'. -/
theorem relu_block (t : Fin cfg0.N) (r o : Fin 1024) :
    k0_pay6 (iblk m c 0 t) (iblk m c 2 t) (ix2 r o) = relu (H m c) (W1 m c) (tok (t.val % 8) r) (hid t.val o) := by
  rw [pay6_at]
  simp only [iblk0, iblk2]
  rfl

theorem dhid_at (t : Fin cfg0.N) (r o : Fin 1024) :
    dhid m c t (ix2 r o) = dHidden (H m c) (DF m c) (W1 m c) (W2 m c) (tok (t.val % 8) r) (hid t.val o) := by
  rw [dhid, pay11_at, relu_block]
  simp only [iblk1, iblk3]
  rfl

/-- A block's part of the first weight's gradient. -/
theorem term1_at (t : Fin cfg0.N) (o i : Fin 1024) :
    term1 m c t (ix2 o i) = ∑ r : Fin 1024, dHidden (H m c) (DF m c) (W1 m c) (W2 m c) (tok (t.val % 8) r) (hid t.val o) * H m c (tok (t.val % 8) r) i := by
  rw [term1, pay12_at]
  exact Finset.sum_congr rfl fun r _ => congrArg₂ (· * ·) (dhid_at m c t r o) (iblk0 m c t r i)

/-- A block's part of the second weight's gradient. -/
theorem term2_at (t : Fin cfg0.N) (o i : Fin 1024) :
    term2 m c t (ix2 o i) = ∑ r : Fin 1024, relu (H m c) (W1 m c) (tok (t.val % 8) r) (hid t.val o) * relu (H m c) (W1 m c) (tok (t.val % 8) r) (hid t.val o) * DF m c (tok (t.val % 8) r) i := by
  rw [term2, pay7_at]
  exact Finset.sum_congr rfl fun r _ => by rw [relu_block, iblk1]

/-- The carried state after point `n`. -/
abbrev fold (n : ℕ) (h : 0 + n < cfg0.N) : St (F := Ideal) :=
  Pipeline.accAt (fun n h => stAt0 m c n h junk0) (stAt0 m c) 0 n h

/-- The state after point `n` is a step at `n` from some earlier state. -/
theorem fold_step (n : ℕ) (h : n < cfg0.N) : ∃ acc, fold m c n (by omega) = stAt0 m c n h acc := by
  cases n with
  | zero => exact ⟨junk0, rfl⟩
  | succ j => exact ⟨fold m c j (by omega), by unfold fold; rw [Pipeline.accAt_succ]; congr 1; omega⟩

theorem fold_succ (n : ℕ) (h : n + 1 < cfg0.N) : fold m c (n + 1) (by omega) = stAt0 m c (n + 1) h (fold m c n (by omega)) := by
  unfold fold; rw [Pipeline.accAt_succ]; congr 1; omega

/-- At every point the hidden gradient is the block's own. -/
theorem fold_rows (n : ℕ) (h : n < cfg0.N) : (fold m c n (by omega)).1 = dhid m c ⟨n, h⟩ := by
  obtain ⟨acc, e⟩ := fold_step m c n h
  rw [e]
  by_cases h0 : n % 8 = 0
  · exact (first m c ⟨n, h⟩ acc h0).1
  · by_cases h7 : n % 8 = 7
    · exact (last m c ⟨n, h⟩ acc h0 h7).1
    · exact (middle m c ⟨n, h⟩ acc h0 h7).1

/-- The two running sums after point `n` are sums over the tokens of the hidden tile's blocks so far. -/
theorem fold_sums (n : ℕ) (h : n < cfg0.N) :
    (∀ o i, (fold m c n (by omega)).2.2.2.1 (ix2 o i)
        = ∑ s ∈ Finset.range (n % 8 + 1), ∑ r : Fin 1024, dHidden (H m c) (DF m c) (W1 m c) (W2 m c) (tok s r) (hid n o) * H m c (tok s r) i)
    ∧ (∀ o i, (fold m c n (by omega)).2.2.2.2 (ix2 o i)
        = ∑ s ∈ Finset.range (n % 8 + 1), ∑ r : Fin 1024, relu (H m c) (W1 m c) (tok s r) (hid n o) * relu (H m c) (W1 m c) (tok s r) (hid n o) * DF m c (tok s r) i) := by
  induction n with
  | zero =>
    obtain ⟨-, hs0, hs1⟩ := first m c ⟨0, h⟩ junk0 rfl
    refine ⟨fun o i => ?_, fun o i => ?_⟩ <;> rw [Nat.zero_mod, Finset.sum_range_one]
    · exact (congrFun hs0 _).trans (term1_at m c ⟨0, h⟩ o i)
    · exact (congrFun hs1 _).trans (term2_at m c ⟨0, h⟩ o i)
  | succ n ih =>
    obtain ⟨is0, is1⟩ := ih (by omega)
    rw [fold_succ m c n h]
    by_cases h0 : (n + 1) % 8 = 0
    · obtain ⟨-, hs0, hs1⟩ := first m c ⟨n + 1, h⟩ (fold m c n (by omega)) h0
      refine ⟨fun o i => ?_, fun o i => ?_⟩ <;> rw [h0, Finset.sum_range_one]
      · exact (congrFun hs0 _).trans ((term1_at m c ⟨n + 1, h⟩ o i).trans (by dsimp only; rw [h0]))
      · exact (congrFun hs1 _).trans ((term2_at m c ⟨n + 1, h⟩ o i).trans (by dsimp only; rw [h0]))
    · have e : (stAt0 m c (n + 1) h (fold m c n (by omega))).2.2.2.1 = addf (fold m c n (by omega)).2.2.2.1 (term1 m c ⟨n + 1, h⟩)
          ∧ (stAt0 m c (n + 1) h (fold m c n (by omega))).2.2.2.2 = addf (fold m c n (by omega)).2.2.2.2 (term2 m c ⟨n + 1, h⟩) := by
        by_cases h7 : (n + 1) % 8 = 7
        · exact (last m c ⟨n + 1, h⟩ (fold m c n (by omega)) h0 h7).2.2.2
        · exact (middle m c ⟨n + 1, h⟩ (fold m c n (by omega)) h0 h7).2
      have hm : (n + 1) % 8 = n % 8 + 1 := by omega
      have hh : hid (n + 1) = hid n := funext fun o => Fin.ext (by unfold hid; dsimp only; rw [show (n + 1) / 8 = n / 8 by omega])
      refine ⟨fun o i => ?_, fun o i => ?_⟩ <;> rw [hm, Finset.sum_range_succ, hh]
      · exact (congrFun e.1 _).trans (congrArg₂ (· + ·) (is0 o i) ((term1_at m c ⟨n + 1, h⟩ o i).trans (by dsimp only; rw [hm, hh])))
      · exact (congrFun e.2 _).trans (congrArg₂ (· + ·) (is1 o i) ((term2_at m c ⟨n + 1, h⟩ o i).trans (by dsimp only; rw [hm, hh])))

/-- At a hidden tile's last point the two sums have been written out. -/
theorem fold_out (n : ℕ) (h : n < cfg0.N) (h7 : n % 8 = 7) :
    (∀ o i, (fold m c n (by omega)).2.1 (ix2 o i) = dFirst (H m c) (DF m c) (W1 m c) (W2 m c) (hid n o) i)
    ∧ (∀ o i, (fold m c n (by omega)).2.2.1 (ix2 o i) = dSecond (H m c) (DF m c) (W1 m c) (hid n o) i) := by
  obtain ⟨s0, s1⟩ := fold_sums m c n h
  obtain ⟨acc, e⟩ := fold_step m c n h
  obtain ⟨-, e1, e2, e3, e4⟩ := last m c ⟨n, h⟩ acc (by dsimp only; omega) h7
  rw [e] at s0 s1 ⊢
  rw [h7] at s0 s1
  exact ⟨fun o i => (congrFun (e1.trans (congrArg (truncf .bf16 · bitsLt_bf16_f32) e3.symm)) (ix2 o i)).trans
      ((s0 o i).trans (sum_tok fun r => dHidden (H m c) (DF m c) (W1 m c) (W2 m c) r (hid n o) * H m c r i)),
    fun o i => (congrFun (e2.trans (congrArg (truncf .bf16 · bitsLt_bf16_f32) e4.symm)) (ix2 o i)).trans
      ((s1 o i).trans (sum_tok fun r => relu (H m c) (W1 m c) r (hid n o) * relu (H m c) (W1 m c) r (hid n o) * DF m c r i))⟩

theorem out4 : G4 m c = fun j => dHidden (H m c) (DF m c) (W1 m c) (W2 m c) (j 0) (j 1) := by
  funext j
  have h0 : (j 0).val < 8192 := (j 0).isLt
  have h1 : (j 1).val < 4096 := (j 1).isLt
  have hN : cfg0.N = 32 := N_0
  have hp : pt4Of j = (j 0).val / 1024 + 8 * ((j 1).val / 1024) := by show 1 * ((j 0).val / 1024 - 0) + 8 * ((j 1).val / 1024 - 0) = _; omega
  have hl : loc4Of j = ix2 ⟨(j 0).val % 1024, Nat.mod_lt _ (by decide)⟩ ⟨(j 1).val % 1024, Nat.mod_lt _ (by decide)⟩ := by
    funext a; apply Fin.ext
    match a with
    | ⟨0, _⟩ => rfl
    | ⟨1, _⟩ => rfl
  have hb : (j 0).val / 1024 + 8 * ((j 1).val / 1024) < cfg0.N := by omega
  have er : tok (((j 0).val / 1024 + 8 * ((j 1).val / 1024)) % 8) ⟨(j 0).val % 1024, Nat.mod_lt _ (by decide)⟩ = j 0 := by
    apply Fin.ext; rw [tok_val _ (by omega)]; dsimp only; omega
  have eo : hid ((j 0).val / 1024 + 8 * ((j 1).val / 1024)) ⟨(j 1).val % 1024, Nat.mod_lt _ (by decide)⟩ = j 1 := by
    apply Fin.ext; rw [hid_val _ (by omega)]; dsimp only; omega
  unfold G4
  rw [dif_pos (by rw [hp]; exact hb), hl, fold0_congr m c _ _ _ (by omega) hp]
  rw [fold_rows m c _ hb]
  exact (dhid_at m c ⟨_, hb⟩ _ _).trans (congrArg₂ (dHidden _ _ _ _) er eo)

/-- The last point of the hidden tile an output row belongs to. -/
theorem row_point (j : Fin 4096) : (8 * (j.val / 1024) + 7) % 8 = 7 ∧ 8 * (j.val / 1024) + 7 < cfg0.N
    ∧ hid (8 * (j.val / 1024) + 7) ⟨j.val % 1024, Nat.mod_lt _ (by decide)⟩ = j := by
  have hN : cfg0.N = 32 := N_0
  refine ⟨by omega, by omega, Fin.ext ?_⟩
  rw [hid_val _ (by omega)]; dsimp only; omega

theorem out5 : G5 m c = fun j => dFirst (H m c) (DF m c) (W1 m c) (W2 m c) (j 0) (j 1) := by
  funext j
  have h1 : (j 1).val < 1024 := (j 1).isLt
  obtain ⟨h7, hb, er⟩ := row_point (j 0)
  have hp : pt5Of j = 8 * ((j 0).val / 1024) + 7 := by show 8 * (1 * ((j 0).val / 1024 - 0) + 1 * ((j 1).val / 1024 - 0)) + 7 = _; omega
  have hl : loc5Of j = ix2 ⟨(j 0).val % 1024, Nat.mod_lt _ (by decide)⟩ (j 1) := by
    funext a; apply Fin.ext
    match a with
    | ⟨0, _⟩ => rfl
    | ⟨1, _⟩ => show (j 1).val % 1024 = (j 1).val; omega
  unfold G5
  rw [dif_pos (by rw [hp]; exact hb), hl, fold0_congr m c _ _ _ (by omega) hp]
  exact ((fold_out m c _ hb h7).1 _ (j 1)).trans (congrArg (fun o => dFirst _ _ _ _ o _) er)

theorem out6 : G6 m c = fun j => dSecond (H m c) (DF m c) (W1 m c) (j 0) (j 1) := by
  funext j
  have h1 : (j 1).val < 1024 := (j 1).isLt
  obtain ⟨h7, hb, er⟩ := row_point (j 0)
  have hp : pt6Of j = 8 * ((j 0).val / 1024) + 7 := by show 8 * (1 * ((j 0).val / 1024 - 0) + 1 * ((j 1).val / 1024 - 0)) + 7 = _; omega
  have hl : loc6Of j = ix2 ⟨(j 0).val % 1024, Nat.mod_lt _ (by decide)⟩ (j 1) := by
    funext a; apply Fin.ext
    match a with
    | ⟨0, _⟩ => rfl
    | ⟨1, _⟩ => show (j 1).val % 1024 = (j 1).val; omega
  unfold G6
  rw [dif_pos (by rw [hp]; exact hb), hl, fold0_congr m c _ _ _ (by omega) hp]
  exact ((fold_out m c _ hb h7).2 _ (j 1)).trans (congrArg (fun o => dSecond _ _ _ o _) er)

end Cert.FfnIdeal.Steps

end
-- ==== Proof.FfnReference.lean ====
/- The reference's feed-forward weight gradients, entry by entry: the same sums of `FfnMath`. -/
module

public import proofs.«01_k».proof.Proof.FfnMath
public import proofs.«01_k».proof.Proof.Gen.FfnReferenceIdeal.Run
public import Idealize.ShloMosaic.Lib.Pointwise

@[expose] public section

set_option maxRecDepth 16384

noncomputable section

namespace Cert.FfnReferenceIdeal.Ffn

open Cert.FfnReferenceIdeal Cert.FfnReferenceIdeal.Value Idealize.ShloMosaic Idealize.ShloMosaic.TcCoe Idealize.SL.Sem
open Cert.FfnMath

variable (m : (ℓ : Loc nD τ sig) → Buf (Elt Ideal) ℓ) (c : Dev nD)

abbrev H (r : Fin 8192) (i : Fin 1024) : EReal := (m ((c.tc : Thread nD τ).loc main_arg0) : Vec Ideal S8192x1024 .f32) (ix2 r i)
abbrev DF (r : Fin 8192) (i : Fin 1024) : EReal := (m ((c.tc : Thread nD τ).loc main_arg1) : Vec Ideal S8192x1024 .f32) (ix2 r i)
abbrev W1 (i : Fin 1024) (o : Fin 4096) : EReal := (m ((c.tc : Thread nD τ).loc main_arg2) : Vec Ideal S1024x4096 .f32) (ix2 i o)
abbrev W2 (o : Fin 4096) (i : Fin 1024) : EReal := (m ((c.tc : Thread nD τ).loc main_arg3) : Vec Ideal S4096x1024 .f32) (ix2 o i)

/-- The reference runs, and its results are the sums of `FfnMath`. -/
theorem run (ρ : Dev nD → PrngReg) :
    θ_run defs (onTc (τ := τ) (main (F := Ideal))) ⟨m, fun _ => 0, ρ⟩ fun r => ∀ c : Dev nD,
      (r.2.mem ((c.tc : Thread nD τ).loc main_v17) : Vec Ideal S8192x4096 .bf16) = (fun j => dHidden (H m c) (DF m c) (W1 m c) (W2 m c) (j 0) (j 1))
      ∧ (r.2.mem ((c.tc : Thread nD τ).loc main_v19) : Vec Ideal S4096x1024 .bf16) = (fun j => dFirst (H m c) (DF m c) (W1 m c) (W2 m c) (j 0) (j 1))
      ∧ (r.2.mem ((c.tc : Thread nD τ).loc main_v20) : Vec Ideal S4096x1024 .bf16) = (fun j => dSecond (H m c) (DF m c) (W1 m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (Cert.FfnReferenceIdeal.Value.run m ρ)
  obtain ⟨h1, h2, h3, hargs⟩ := h c
  refine ⟨h1.trans ?_, h2.trans ?_, h3.trans ?_, hargs⟩ <;> clear hargs h1 h2 h3 h <;> funext j
  · obtain ⟨r, o, rfl⟩ : ∃ r o, j = ix2 r o := ⟨_, _, ValueIdx.eq_ix2 j⟩
    pointwise [dot_S8192x1024_S1024x4096_S8192x4096_1_0_0_1_n_n, dot_S8192x1024_S4096x1024_S8192x4096_1_1_0_0_n_n, ofBits_two]
    exact select_relu _ _
  · obtain ⟨o, i, rfl⟩ : ∃ o i, j = ix2 o i := ⟨_, _, ValueIdx.eq_ix2 j⟩
    pointwise [dot_S8192x4096_S8192x1024_S4096x1024_0_0_1_1_n_n, dot_S8192x1024_S1024x4096_S8192x4096_1_0_0_1_n_n, dot_S8192x1024_S4096x1024_S8192x4096_1_1_0_0_n_n, ofBits_two]
    exact Finset.sum_congr rfl fun r _ => congrArg (· * H m c r i) (select_relu _ _)
  · obtain ⟨o, i, rfl⟩ : ∃ o i, j = ix2 o i := ⟨_, _, ValueIdx.eq_ix2 j⟩
    pointwise [dot_S8192x1024_S8192x4096_S1024x4096_0_0_1_1_n_n, dot_S8192x1024_S1024x4096_S8192x4096_1_0_0_1_n_n]
    exact Finset.sum_congr rfl fun r _ => mul_comm _ _

end Cert.FfnReferenceIdeal.Ffn

end
-- ==== Proof.FfnClaims.lean ====
/- The claims about the feed-forward block's weight gradients: the reference's frame, and the equality of the results. -/
module

public import proofs.«01_k».proof.Defs
public import proofs.«01_k».proof.Proof.FfnFold
public import proofs.«01_k».proof.Proof.FfnReference
public import Idealize.ShloMosaic.Adequacy
public import Idealize.ShloMosaic.Init

@[expose] public section

noncomputable section

namespace Cert.Proof

open Idealize.ShloMosaic Idealize.SL.Sem

theorem ffn_reference_frame : Cert.quiescent_FfnReferenceIdeal := fun m ρ _ =>
  (θ_run Cert.FfnReferenceIdeal.defs _ _).mono (fun r h => ⟨fun c => (h c).2.2.2, sem_eq_zero_of_no_sems (by decide) r.2⟩)
    (Cert.FfnReferenceIdeal.Ffn.run m ρ)

/-- The feed-forward block's gradients are the reference's. -/
theorem ffn_algebraic : Cert.algebraic_FfnIdeal_FfnReferenceIdeal := fun m ρ m' ρ' _ hag => by
  have hH : ∀ c, FfnReferenceIdeal.Ffn.H m' c = FfnIdeal.Steps.H m c := fun c => funext fun _ => funext fun _ => congrFun (hag c).1 _
  have hDF : ∀ c, FfnReferenceIdeal.Ffn.DF m' c = FfnIdeal.Steps.DF m c := fun c => funext fun _ => funext fun _ => congrFun (hag c).2.1 _
  have hW1 : ∀ c, FfnReferenceIdeal.Ffn.W1 m' c = FfnIdeal.Steps.W1 m c := fun c => funext fun _ => funext fun _ => congrFun (hag c).2.2.1 _
  have hW2 : ∀ c, FfnReferenceIdeal.Ffn.W2 m' c = FfnIdeal.Steps.W2 m c := fun c => funext fun _ => funext fun _ => congrFun (hag c).2.2.2 _
  refine ⟨_, _, _, FfnIdeal.Value.run m ρ, (θ_run _ _ _).mono (fun _ h c => ?_) (FfnReferenceIdeal.Ffn.run m' ρ')⟩
  obtain ⟨h1, h2, h3, hargs⟩ := h c
  rw [hH, hDF, hW1, hW2] at h1 h2
  rw [hH, hDF, hW1] at h3
  exact ⟨h1.trans (FfnIdeal.Steps.out4 m c).symm, h2.trans (FfnIdeal.Steps.out5 m c).symm,
    h3.trans (FfnIdeal.Steps.out6 m c).symm, hargs⟩

end Cert.Proof
end
-- ==== Proof.NormMath.lean ====
/- The root-mean-square norm over the extended reals, and its gradient in two forms: with the scale factored out, and as
   the chain rule writes it. They are equal for all extended reals, since the scale is always a nonnegative real. -/
module

public import proofs.«01_k».proof.Proof.MergeMath

@[expose] public section

noncomputable section

namespace Cert.NormMath

open Idealize.ShloMosaic

/-- The f32 pattern `0x40000000` is the extended real two. -/
theorem ofBits_two : Ideal.ofBits .f32 0x40000000#32 = 2 := by
  rw [show (2 : EReal) = ((2 : ℝ) : EReal) by norm_cast]
  simp [Ideal.ofBits, Ideal.ieee, -EReal.coe_mul]; norm_num

/-- The f32 pattern `0x44800000` is the real 1024. -/
theorem ofBits_1024 : Ideal.ofBits .f32 0x44800000#32 = ((1024 : ℝ) : EReal) := by
  simp [Ideal.ofBits, Ideal.ieee, -EReal.coe_mul]; norm_num

/-- The f32 pattern `0xBF000000` is the real minus one half. -/
theorem ofBits_neg_half : Ideal.ofBits .f32 0xBF000000#32 = ((-(1 / 2) : ℝ) : EReal) := by
  simp [Ideal.ofBits, Ideal.ieee, -EReal.coe_mul, -EReal.coe_neg]; norm_num

/-- A product of two matrices, and of a matrix with another's transpose. -/
def dot {R K I : ℕ} (a : Fin R → Fin K → EReal) (w : Fin K → Fin I → EReal) (r : Fin R) (i : Fin I) : EReal := ∑ k, a r k * w k i
def dotT {R K I : ℕ} (a : Fin R → Fin K → EReal) (w : Fin I → Fin K → EReal) (r : Fin R) (i : Fin I) : EReal := ∑ k, a r k * w i k

/-- The norm's epsilon. -/
abbrev eps : EReal := Ideal.ofBits .f32 0x358637BD#32

theorem eps_pos : 0 < eps := by
  simp [eps, Ideal.ofBits, Ideal.ieee, -EReal.coe_mul]

theorem div_coe (x : EReal) (n : ℝ) (hn : 0 < n) : Ideal.div x (n : EReal) = x * ((n⁻¹ : ℝ) : EReal) := by
  unfold Ideal.div
  rw [if_neg (by exact_mod_cast hn.ne'), EReal.coe_inv]

/-- A nonnegative real factor comes out of a sum. -/
theorem sum_mul_coe {ι : Type} (s : Finset ι) (f : ι → EReal) (k : ℝ) (hk : 0 ≤ k) :
    ∑ i ∈ s, f i * (k : EReal) = (∑ i ∈ s, f i) * (k : EReal) := by
  classical
  induction s using Finset.induction_on with
  | empty => simp
  | insert a s ha ih =>
    rw [Finset.sum_insert ha, Finset.sum_insert ha, ih]
    exact (EReal.right_distrib_of_nonneg_of_ne_top (by exact_mod_cast hk) (EReal.coe_ne_top k) _ _).symm

theorem square_nonneg (x : EReal) : 0 ≤ x * x := by
  rcases le_total 0 x with h | h
  · exact mul_nonneg h h
  · rw [← neg_mul_neg]; exact mul_nonneg (EReal.neg_nonneg.mpr h) (EReal.neg_nonneg.mpr h)

/-- The mean square of a row of length 1024, with the epsilon. -/
def meanSquare (x : Fin 1024 → EReal) : EReal := Ideal.div (∑ i, x i * x i) (Ideal.ofBits .f32 0x44800000#32) + eps
/-- The scale the norm multiplies a row by. -/
def scale (x : Fin 1024 → EReal) : EReal := Ideal.rsqrt (meanSquare x)

theorem meanSquare_pos (x : Fin 1024 → EReal) : 0 < meanSquare x := by
  unfold meanSquare
  rw [ofBits_1024, div_coe _ _ (by norm_num)]
  exact lt_of_lt_of_le eps_pos (le_add_of_nonneg_left (mul_nonneg (Finset.sum_nonneg fun i _ => square_nonneg _) (by exact_mod_cast (by norm_num : (0 : ℝ) ≤ 1024⁻¹))))

/-- The reciprocal root of a positive number is a nonnegative real, and divided by the number it is its own cube. -/
theorem rsqrt_pos (v : EReal) (h : 0 < v) : ∃ r : ℝ, 0 ≤ r ∧ Ideal.rsqrt v = (r : EReal) ∧ Ideal.div (Ideal.rsqrt v) v = ((r * r * r : ℝ) : EReal) := by
  induction v using EReal.rec with
  | bot => exact absurd h (by simp)
  | top => refine ⟨0, le_rfl, ?_, ?_⟩ <;> simp [Ideal.div]
  | coe v =>
    have hv : 0 < v := by exact_mod_cast h
    refine ⟨(Real.sqrt v)⁻¹, inv_nonneg.mpr (Real.sqrt_nonneg v), ?_, ?_⟩
    · rw [Ideal.rsqrt_coe, if_neg hv.not_gt, if_neg hv.ne']
    · rw [Ideal.rsqrt_coe, if_neg hv.not_gt, if_neg hv.ne', div_coe _ _ hv, ← EReal.coe_mul]
      congr 1
      rw [show v⁻¹ = (Real.sqrt v)⁻¹ * (Real.sqrt v)⁻¹ by rw [← mul_inv, Real.mul_self_sqrt hv.le], mul_assoc]

/-- The gradient of the norm with respect to its row, `a` being the incoming gradient times the gain. -/
def dRow (x a : Fin 1024 → EReal) (j : Fin 1024) : EReal :=
  scale x * (a j - x j * scale x * Ideal.div (∑ i, a i * (x i * scale x)) (Ideal.ofBits .f32 0x44800000#32))

/-- The gradient of the norm with respect to its rows, from the incoming gradient `d` and the gain `g`. -/
def normBack {R : ℕ} (x d : Fin R → Fin 1024 → EReal) (g : Fin 1024 → EReal) (r : Fin R) (j : Fin 1024) : EReal :=
  dRow (x r) (fun i => d r i * g i) j
/-- The gradient of the norm's gain. -/
def gainBack {R : ℕ} (x d : Fin R → Fin 1024 → EReal) (j : Fin 1024) : EReal := ∑ r, d r j * (x r j * scale (x r))
/-- The norm. -/
def norm {R : ℕ} (x : Fin R → Fin 1024 → EReal) (g : Fin 1024 → EReal) (r : Fin R) (j : Fin 1024) : EReal := x r j * scale (x r) * g j

/-- The chain rule's derivative of the mean square. -/
def dMean (x a : Fin 1024 → EReal) : EReal :=
  Ideal.div ((∑ i, x i * a i) * (Ideal.ofBits .f32 0xBF000000#32 * Ideal.div (scale x) (meanSquare x))) (Ideal.ofBits .f32 0x44800000#32)

theorem twice_neg (z : EReal) (k : ℝ) (hk : 0 ≤ k) : z * ((-k : ℝ) : EReal) + z * ((-k : ℝ) : EReal) = -(z * ((2 * k : ℝ) : EReal)) := by
  have e : z * ((2 * k : ℝ) : EReal) = z * (k : EReal) + z * (k : EReal) := by
    rw [two_mul, EReal.coe_add, EReal.left_distrib_of_nonneg (by exact_mod_cast hk) (by exact_mod_cast hk)]
  rw [e, EReal.coe_neg, mul_neg]
  generalize z * (k : EReal) = w
  induction w using EReal.rec with
  | bot => rfl
  | top => rfl
  | coe w => norm_cast; ring

/-- The two forms of the gradient agree. -/
theorem dRow_eq (x a : Fin 1024 → EReal) (j : Fin 1024) :
    a j * scale x + (x j * dMean x a + dMean x a * x j) = dRow x a j := by
  obtain ⟨r, hr, e, e3⟩ := rsqrt_pos (meanSquare x) (meanSquare_pos x)
  have e' : scale x = (r : EReal) := e
  unfold dMean dRow
  rw [show Ideal.div (scale x) (meanSquare x) = ((r * r * r : ℝ) : EReal) from e3, e', ofBits_1024, ofBits_neg_half,
    div_coe _ _ (by norm_num), div_coe _ _ (by norm_num)]
  have hs : ∑ i, a i * (x i * (r : EReal)) = (∑ i, x i * a i) * (r : EReal) := by
    rw [← sum_mul_coe _ _ r hr]
    exact Finset.sum_congr rfl fun i _ => by rw [← mul_assoc, mul_comm (a i)]
  rw [hs, mul_comm _ (x j)]
  generalize (∑ i, x i * a i) = S
  have hk : (0 : ℝ) ≤ r * r * r * 2048⁻¹ := by positivity
  have e1 : x j * (S * (((-(1 / 2) : ℝ) : EReal) * ((r * r * r : ℝ) : EReal)) * (((1024 : ℝ)⁻¹ : ℝ) : EReal))
      = x j * S * ((-(r * r * r * 2048⁻¹) : ℝ) : EReal) := by
    rw [mul_assoc S, ← mul_assoc (x j), ← EReal.coe_mul, ← EReal.coe_mul]
    congr 2; ring
  have e2 : x j * (r : EReal) * (S * (r : EReal) * (((1024 : ℝ)⁻¹ : ℝ) : EReal)) = x j * S * ((r * r * 1024⁻¹ : ℝ) : EReal) := by
    rw [mul_assoc S, mul_mul_mul_comm, ← EReal.coe_mul, ← EReal.coe_mul]
    congr 2; ring
  rw [e1, twice_neg _ _ hk, e2, sub_eq_add_neg, EReal.left_distrib_of_nonneg_of_ne_top (by exact_mod_cast hr) (EReal.coe_ne_top r), mul_neg,
    mul_comm (a j)]
  congr 2
  rw [mul_comm (r : EReal), mul_assoc (x j * S), ← EReal.coe_mul]
  congr 2; ring

/-- The gradient as the reference's transposed program sums it up, the mean's sums having one term. -/
theorem dRow_sum (x a : Fin 1024 → EReal) (j : Fin 1024) :
    a j * scale x + x j * (∑ _u : Fin 1, dMean x a) + (∑ _u : Fin 1, dMean x a) * x j = dRow x a j := by
  rw [Fintype.sum_unique, add_assoc, dRow_eq]

theorem dRow_sum_add (x a : Fin 1024 → EReal) (j : Fin 1024) (d : EReal) :
    d + a j * scale x + x j * (∑ _u : Fin 1, dMean x a) + (∑ _u : Fin 1, dMean x a) * x j = d + dRow x a j := by
  rw [add_assoc d, add_assoc d, dRow_sum]

/-- The gain's gradient: the reference writes each product the other way round, under a sum of one term. -/
theorem gain_sum (x d : Fin 8192 → Fin 1024 → EReal) (j : Fin 1024) :
    ∑ _u : Fin 1, ∑ r : Fin 8192, x r j * scale (x r) * d r j = gainBack x d j := by
  rw [Fintype.sum_unique]
  exact Finset.sum_congr rfl fun r _ => mul_comm _ _

end Cert.NormMath

end
-- ==== Proof.FfnInputOut.lean ====
/- The input gradient of the feed-forward block: what the kernel's two result arrays hold. -/
module

public import proofs.«01_k».proof.Proof.NormMath
public import proofs.«01_k».proof.Proof.Gen.FfnInputIdeal.Value
public import Idealize.ShloMosaic.Lib.Pipeline.ValueKit
public import Idealize.ShloMosaic.Lib.Pointwise

@[expose] public section

set_option maxRecDepth 16384

noncomputable section

namespace Cert.FfnInputIdeal.Out

open Cert.FfnInputIdeal Cert.FfnInputIdeal.Gen Cert.FfnInputIdeal.Value Idealize.ShloMosaic Idealize.ShloMosaic.TcCoe Idealize.SL.Sem
open Cert.NormMath

variable (m : (ℓ : Loc nD τ sig) → Buf (Elt Ideal) ℓ) (c : Dev nD)

def DA (r : Fin 8192) (k : Fin 4096) : EReal := (m ((c : Thread nD τ).loc main_arg0) : Vec Ideal S8192x4096 .f32) (ix2 r k)
def W1 (i : Fin 1024) (k : Fin 4096) : EReal := (m ((c : Thread nD τ).loc main_arg1) : Vec Ideal S1024x4096 .f32) (ix2 i k)
def X (r : Fin 8192) (i : Fin 1024) : EReal := (m ((c : Thread nD τ).loc main_arg2) : Vec Ideal S8192x1024 .f32) (ix2 r i)
def DX (r : Fin 8192) (i : Fin 1024) : EReal := (m ((c : Thread nD τ).loc main_arg3) : Vec Ideal S8192x1024 .f32) (ix2 r i)
def G (i : Fin 1024) : EReal := (m ((c : Thread nD τ).loc main_arg4) : Vec Ideal S1024 .f32) (ix1 i)

theorem index : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] := by decide +kernel

abbrev row (n : ℕ) (r : Fin 512) : Fin 8192 := ⟨(512 * n + r.val) % 8192, Nat.mod_lt _ (by decide)⟩

theorem iblk0 (t : Fin cfg0.N) (r : Fin 512) (k : Fin 4096) : (iblk m c 0 t : Vec Ideal S512x4096 .bf16) (ix2 r k) = DA m c (row t.val r) k := by
  blk_ext [iblk, V, index t]

theorem iblk1 (t : Fin cfg0.N) (k : Fin 4096) (i : Fin 1024) : (iblk m c 1 t : Vec Ideal S4096x1024 .bf16) (ix2 k i) = W1 m c i k := by
  have e : V m c main_v2 = (truncf .bf16 (transpose S4096x1024 [1, 0] (m ((c : Thread nD τ).loc main_arg1) : FVec Ideal S1024x4096 .f32) transposes_S1024x4096_S4096x1024_1_0 : FVec Ideal S4096x1024 .f32) bitsLt_bf16_f32 : FVec Ideal S4096x1024 .bf16) := by
    unfold V; after_results
  have h : (iblk m c 1 t : Vec Ideal S4096x1024 .bf16) (ix2 k i) = (V m c main_v2 : Vec Ideal S4096x1024 .bf16) (ix2 k i) := by
    blk_ext [iblk, index t]
  rw [h, e]
  pointwise
  rfl

theorem iblk2 (t : Fin cfg0.N) (r : Fin 512) (i : Fin 1024) : (iblk m c 2 t : Vec Ideal S512x1024 .f32) (ix2 r i) = X m c (row t.val r) i := by
  blk_ext [iblk, V, index t]

theorem iblk3 (t : Fin cfg0.N) (r : Fin 512) (i : Fin 1024) : (iblk m c 3 t : Vec Ideal S512x1024 .f32) (ix2 r i) = DX m c (row t.val r) i := by
  blk_ext [iblk, V, index t]

theorem iblk4 (t : Fin cfg0.N) (u : Fin 1) (i : Fin 1024) : (iblk m c 4 t : Vec Ideal S1x1024 .f32) (ix2 u i) = G m c i := by
  have e : V m c main_v3 = (broadcastInDim S1x1024 ![1] bcast_S1024_S1x1024_1 (m ((c : Thread nD τ).loc main_arg4) : FVec Ideal S1024 .f32) : FVec Ideal S1x1024 .f32) := by
    unfold V; after_results
  have h : (iblk m c 4 t : Vec Ideal S1x1024 .f32) (ix2 u i) = (V m c main_v3 : Vec Ideal S1x1024 .f32) (ix2 u i) := by
    blk_ext [iblk, index t]
  rw [h, e]
  pointwise
  rfl

/-- A block's rows of the input gradient. -/
theorem pay6_at (t : Fin cfg0.N) (r : Fin 512) (i : Fin 1024) :
    k0_pay6 (iblk m c 2 t) (iblk m c 4 t) (iblk m c 0 t) (iblk m c 1 t) (iblk m c 3 t) (ix2 r i)
      = DX m c (row t.val r) i + normBack (X m c) (dotT (DA m c) (W1 m c)) (G m c) (row t.val r) i := by
  unfold k0_pay6 k0_pay2 k0_pay4 k0_pay3
  pointwise [shapeCast_self, dot_S512x4096_S4096x1024_S512x1024_1_0_0_1_n_n]
  simp only [iblk0, iblk1, iblk2, iblk3, iblk4]
  rfl

/-- A block's part of the gain's gradient. -/
theorem pay5_at (t : Fin cfg0.N) (u : Fin 1) (i : Fin 1024) :
    k0_pay5 (iblk m c 2 t) (iblk m c 0 t) (iblk m c 1 t) (ix2 u i)
      = ∑ r : Fin 512, dotT (DA m c) (W1 m c) (row t.val r) i * (X m c (row t.val r) i * scale (X m c (row t.val r))) := by
  unfold k0_pay5 k0_pay2 k0_pay4 k0_pay3
  pointwise [shapeCast_self, dot_S512x4096_S4096x1024_S512x1024_1_0_0_1_n_n]
  simp only [iblk0, iblk1, iblk2, iblk3, iblk4]
  rfl

theorem emb5 (t : Fin cfg0.N) (r : Fin 512) (i : Fin 1024) : (((cfg0.win 5).blk t).view.emb (ix2 r i) : S8192x1024.Idx) = ix2 (row t.val r) i := by
  blk_ext [index t]

theorem arr5 : ((dats m 0 c).arrAt 5 cfg0.N : Vec Ideal S8192x1024 .f32)
    = fun j => DX m c (j 0) (j 1) + normBack (X m c) (dotT (DA m c) (W1 m c)) (G m c) (j 0) (j 1) := by
  refine (dats m 0 c).arrAt_eq_of_covers 5 _ (by decide +kernel) fun t hf y => ?_
  obtain ⟨r, i, hy⟩ : ∃ (r : Fin 512) (i : Fin 1024), y = ix2 r i := ⟨_, _, ValueIdx.eq_ix2 y⟩
  subst hy
  have hN : cfg0.N = 16 := N_0
  have ht : t.val < cfg0.N := t.isLt
  rw [emb5]
  refine Eq.trans ?_ (pay6_at m c t r i)
  by_cases h : t.val % 16 = 0
  · rw [after0_5, outsAt0_A m c t h (by omega)]
    frame_out
    rfl
  · rw [after0_5, outsAt0_B m c t h (by omega)]
    frame_out
    rfl

/-- The gain's gradient after the last point: every block's part. -/
theorem sum6 (y : S1x1024.Idx) : (outsAt0 m c t0_15.val t0_15.isLt).2 y
    = 0 + ∑ t : Fin cfg0.N, k0_pay5 (iblk m c 2 t) (iblk m c 0 t) (iblk m c 1 t) y := by
  refine Pipeline.eq_sum_fin_of_reset_step_apply_last (fun n h => (outsAt0 m c n h).2) 16 (fun _ => (0 : EReal)) _ (fun t h y => ?_) (fun t h y => ?_) (le_of_eq N_0) t0_15 rfl y
  · have ht : t.val < 16 := lt_of_lt_of_eq t.isLt N_0
    rw [outsAt0_A m c t h (by omega), zero_add]
    frame_out
  · have ht : t.val < 16 := lt_of_lt_of_eq t.isLt N_0
    rw [outsAt0_B m c t h (by omega)]
    frame_out
    unfold k0_pay1
    pointwise [shapeCast_self]

theorem arr6 : ((dats m 0 c).arrAt 6 cfg0.N : Vec Ideal S1x1024 .f32)
    = fun j => gainBack (X m c) (dotT (DA m c) (W1 m c)) (j 1) := by
  refine (dats m 0 c).arrAt_eq_of_after_last 6 t0_15 (by decide +kernel) _ fun j => ?_
  obtain ⟨u, i, rfl⟩ : ∃ (u : Fin 1) (i : Fin 1024), j = ix2 u i := ⟨_, _, ValueIdx.eq_ix2 j⟩
  rw [after0_6]
  refine (sum6 m c (ix2 u i)).trans ?_
  rw [zero_add]
  refine (Finset.sum_congr rfl fun t _ => pay5_at m c t u i).trans ?_
  refine Eq.trans ?_ (show ∑ r : Fin 8192, dotT (DA m c) (W1 m c) r i * (X m c r i * scale (X m c r)) = _ from rfl)
  refine Fin.sum_mul_add_congr (S := 16) fun t r hl => ?_
  rw [show row t.val r = ⟨t.val * 512 + r.val, hl⟩ from Fin.ext (by dsimp only; omega)]

end Cert.FfnInputIdeal.Out
end
-- ==== Proof.FfnInputReference.lean ====
/- The input gradient of the feed-forward block, in the reference's own terms. -/
module

public import proofs.«01_k».proof.Proof.NormMath
public import proofs.«01_k».proof.Proof.Gen.FfnInputReferenceIdeal.Run
public import Idealize.ShloMosaic.Lib.Pointwise

@[expose] public section

set_option maxRecDepth 16384

noncomputable section

namespace Cert.FfnInputReferenceIdeal.Out

open Cert.FfnInputReferenceIdeal Cert.FfnInputReferenceIdeal.Value Idealize.ShloMosaic Idealize.ShloMosaic.TcCoe Idealize.SL.Sem
open Cert.NormMath

variable (m : (ℓ : Loc nD τ sig) → Buf (Elt Ideal) ℓ) (c : Dev nD)

def DA (r : Fin 8192) (i : Fin 4096) : EReal := (m ((c.tc : Thread nD τ).loc main_arg0) : Vec Ideal S8192x4096 .f32) (ix2 r i)
def W1 (r : Fin 1024) (i : Fin 4096) : EReal := (m ((c.tc : Thread nD τ).loc main_arg1) : Vec Ideal S1024x4096 .f32) (ix2 r i)
def X (r : Fin 8192) (i : Fin 1024) : EReal := (m ((c.tc : Thread nD τ).loc main_arg2) : Vec Ideal S8192x1024 .f32) (ix2 r i)
def DX (r : Fin 8192) (i : Fin 1024) : EReal := (m ((c.tc : Thread nD τ).loc main_arg3) : Vec Ideal S8192x1024 .f32) (ix2 r i)
def G (i : Fin 1024) : EReal := (m ((c.tc : Thread nD τ).loc main_arg4) : Vec Ideal S1024 .f32) (ix1 i)

/-- The reference runs, and its results are these. -/
theorem run (ρ : Dev nD → PrngReg) :
    θ_run defs (onTc (τ := τ) (main (F := Ideal))) ⟨m, fun _ => 0, ρ⟩ fun r => ∀ c : Dev nD,
      (r.2.mem ((c.tc : Thread nD τ).loc main_v38) : Vec Ideal S8192x1024 .f32) = (fun j => DX m c (j 0) (j 1) + normBack (X m c) (dotT (DA m c) (W1 m c)) (G m c) (j 0) (j 1))
      ∧ (r.2.mem ((c.tc : Thread nD τ).loc main_v39) : Vec Ideal S1x1024 .f32) = (fun j => gainBack (X m c) (dotT (DA m c) (W1 m c)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.FfnInputReferenceIdeal.Value.run m ρ)
  obtain ⟨h1, h2, hargs⟩ := h c
  refine ⟨h1.trans ?_, h2.trans ?_, hargs⟩ <;> clear hargs h1 h2 h <;> funext j
  · obtain ⟨r, i, rfl⟩ : ∃ r i, j = ix2 r i := ⟨_, _, ValueIdx.eq_ix2 j⟩
    unfold res_main_v38
    pointwise [dot_S8192x4096_S1024x4096_S8192x1024_1_1_0_0_n_n]
    exact dRow_sum_add (X m c r) (fun i => dotT (DA m c) (W1 m c) r i * G m c i) i (DX m c r i)
  · obtain ⟨u, i, rfl⟩ : ∃ u i, j = ix2 u i := ⟨_, _, ValueIdx.eq_ix2 j⟩
    pointwise [dot_S8192x4096_S1024x4096_S8192x1024_1_1_0_0_n_n]
    exact gain_sum (X m c) (dotT (DA m c) (W1 m c)) i

end Cert.FfnInputReferenceIdeal.Out

end
-- ==== Proof.FfnInputClaims.lean ====
/- The claims about the input gradient of the feed-forward block: the reference's frame, and the equality of the results. -/
module

public import proofs.«01_k».proof.Defs
public import proofs.«01_k».proof.Proof.FfnInputOut
public import proofs.«01_k».proof.Proof.FfnInputReference
public import Idealize.ShloMosaic.Adequacy
public import Idealize.ShloMosaic.Init

@[expose] public section

noncomputable section

namespace Cert.Proof

open Idealize.ShloMosaic Idealize.SL.Sem

theorem ffn_input_reference_frame : Cert.quiescent_FfnInputReferenceIdeal := fun m ρ _ =>
  (θ_run Cert.FfnInputReferenceIdeal.defs _ _).mono (fun r h => ⟨fun c => (h c).2.2, sem_eq_zero_of_no_sems (by decide) r.2⟩)
    (Cert.FfnInputReferenceIdeal.Out.run m ρ)

theorem ffn_input_algebraic : Cert.algebraic_FfnInputIdeal_FfnInputReferenceIdeal := fun m ρ m' ρ' _ hag => by
  have hDA : ∀ c, FfnInputReferenceIdeal.Out.DA m' c = FfnInputIdeal.Out.DA m c := fun c => funext fun _ => funext fun _ => congrFun (hag c).1 _
  have hW1 : ∀ c, FfnInputReferenceIdeal.Out.W1 m' c = FfnInputIdeal.Out.W1 m c := fun c => funext fun _ => funext fun _ => congrFun (hag c).2.1 _
  have hX : ∀ c, FfnInputReferenceIdeal.Out.X m' c = FfnInputIdeal.Out.X m c := fun c => funext fun _ => funext fun _ => congrFun (hag c).2.2.1 _
  have hDX : ∀ c, FfnInputReferenceIdeal.Out.DX m' c = FfnInputIdeal.Out.DX m c := fun c => funext fun _ => funext fun _ => congrFun (hag c).2.2.2.1 _
  have hG : ∀ c, FfnInputReferenceIdeal.Out.G m' c = FfnInputIdeal.Out.G m c := fun c => funext fun _ => congrFun (hag c).2.2.2.2 _
  refine ⟨_, _, FfnInputIdeal.Value.run_blocks m ρ, (θ_run _ _ _).mono (fun _ h c => ?_) (FfnInputReferenceIdeal.Out.run m' ρ')⟩
  obtain ⟨h1, h2, hargs⟩ := h c
  rw [hDX, hX, hDA, hW1, hG] at h1
  rw [hX, hDA, hW1] at h2
  exact ⟨h1.trans (FfnInputIdeal.Out.arr5 m c).symm, h2.trans (FfnInputIdeal.Out.arr6 m c).symm, hargs⟩

end Cert.Proof
end
-- ==== Proof.MergeOutOut.lean ====
/- The gradient of the output projection and its norm: what the three result arrays of the kernel hold. -/
module

public import proofs.«01_k».proof.Proof.NormMath
public import proofs.«01_k».proof.Proof.Gen.MergeOutIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MergeOutIdeal.Out

open Cert.MergeOutIdeal Cert.MergeOutIdeal.Gen Cert.MergeOutIdeal.Value Idealize.ShloMosaic Idealize.ShloMosaic.TcCoe Idealize.SL.Sem
open Cert.NormMath

variable (m : (ℓ : Loc nD τ sig) → Buf (Elt Ideal) ℓ) (c : Dev nD)

def TT (r : Fin 8192) (i : Fin 1024) : EReal := (m ((c : Thread nD τ).loc main_arg0) : Vec Ideal S8192x1024 .f32) (ix2 r i)
def DM (r : Fin 8192) (i : Fin 1024) : EReal := (m ((c : Thread nD τ).loc main_arg1) : Vec Ideal S8192x1024 .f32) (ix2 r i)
def G (i : Fin 1024) : EReal := (m ((c : Thread nD τ).loc main_arg2) : Vec Ideal S1024 .f32) (ix1 i)
def WO (r : Fin 1024) (i : Fin 1024) : EReal := (m ((c : Thread nD τ).loc main_arg3) : Vec Ideal S1024x1024 .f32) (ix2 r i)
def ME (r : Fin 8192) (i : Fin 1024) : EReal := (m ((c : Thread nD τ).loc main_arg4) : Vec Ideal S8192x1024 .f32) (ix2 r i)

theorem index : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![0, 0] := by decide +kernel

/-- Row `r` of the `n`-th block of tokens. -/
abbrev row (n : ℕ) (r : Fin 1024) : Fin 8192 := ⟨(1024 * n + r.val) % 8192, Nat.mod_lt _ (by decide)⟩

theorem iblk0 (t : Fin cfg0.N) (r : Fin 1024) (i : Fin 1024) : (iblk m c 0 t : Vec Ideal S1024x1024 .f32) (ix2 r i) = TT m c (row t.val r) i := by
  blk_ext [iblk, V, index t]

theorem iblk1 (t : Fin cfg0.N) (r : Fin 1024) (i : Fin 1024) : (iblk m c 1 t : Vec Ideal S1024x1024 .f32) (ix2 r i) = DM m c (row t.val r) i := by
  blk_ext [iblk, V, index t]

theorem iblk2 (t : Fin cfg0.N) (u : Fin 1) (i : Fin 1024) : (iblk m c 2 t : Vec Ideal S1x1024 .f32) (ix2 u i) = G m c i := by
  have e : V m c main_v0 = (broadcastInDim S1x1024 ![1] bcast_S1024_S1x1024_1 (m ((c : Thread nD τ).loc main_arg2) : FVec Ideal S1024 .f32) : FVec Ideal S1x1024 .f32) := by
    unfold V; after_results
  have h : (iblk m c 2 t : Vec Ideal S1x1024 .f32) (ix2 u i) = (V m c main_v0 : Vec Ideal S1x1024 .f32) (ix2 u i) := by
    blk_ext [iblk, index t]
  rw [h, e]
  pointwise
  rfl

theorem iblk3 (t : Fin cfg0.N) (r : Fin 1024) (i : Fin 1024) : (iblk m c 3 t : Vec Ideal S1024x1024 .bf16) (ix2 r i) = WO m c r i := by
  blk_ext [iblk, V, index t]

theorem iblk4 (t : Fin cfg0.N) (r : Fin 1024) (i : Fin 1024) : (iblk m c 4 t : Vec Ideal S1024x1024 .bf16) (ix2 r i) = ME m c (row t.val r) i := by
  blk_ext [iblk, V, index t]

/-- A block's rows of the gradient of the norm's input. -/
theorem pay9_at (t : Fin cfg0.N) (r i : Fin 1024) :
    k0_pay9 (iblk m c 0 t) (iblk m c 2 t) (iblk m c 1 t) (ix2 r i) = normBack (TT m c) (DM m c) (G m c) (row t.val r) i := by
  unfold k0_pay9 k0_pay7 k0_pay6
  pointwise [shapeCast_self]
  simp only [iblk0, iblk1, iblk2]
  rfl

/-- A block's rows of the gradient of the merged branches. -/
theorem pay10_at (t : Fin cfg0.N) (r i : Fin 1024) :
    k0_pay10 (iblk m c 0 t) (iblk m c 2 t) (iblk m c 1 t) (iblk m c 3 t) (ix2 r i) = dotT (normBack (TT m c) (DM m c) (G m c)) (WO m c) (row t.val r) i := by
  unfold k0_pay10
  pointwise [shapeCast_self, dot_S1024x1024_S1024x1024_S1024x1024_1_1_0_0_n_n]
  exact Finset.sum_congr rfl fun k _ => congrArg₂ (· * ·) (pay9_at m c t r k) (iblk3 m c t i k)

/-- A block's part of the weight's gradient. -/
theorem pay1_at (t : Fin cfg0.N) (i k : Fin 1024) :
    k0_pay1 (k0_pay9 (iblk m c 0 t) (iblk m c 2 t) (iblk m c 1 t)) (iblk m c 4 t) (ix2 i k)
      = ∑ r : Fin 1024, ME m c (row t.val r) i * normBack (TT m c) (DM m c) (G m c) (row t.val r) k := by
  unfold k0_pay1
  pointwise [shapeCast_self, dot_S1024x1024_S1024x1024_S1024x1024_0_0_1_1_n_n]
  exact Finset.sum_congr rfl fun r _ => congrArg₂ (· * ·) (iblk4 m c t r i) (pay9_at m c t r k)

/-- A block's part of the gain's gradient. -/
theorem pay8_at (t : Fin cfg0.N) (u : Fin 1) (i : Fin 1024) :
    k0_pay8 (iblk m c 0 t) (iblk m c 1 t) (ix2 u i)
      = ∑ r : Fin 1024, DM m c (row t.val r) i * (TT m c (row t.val r) i * scale (TT m c (row t.val r))) := by
  unfold k0_pay8 k0_pay7 k0_pay6
  pointwise [shapeCast_self]
  simp only [iblk0, iblk1]
  rfl

theorem emb5 (t : Fin cfg0.N) (r : Fin 1024) (i : Fin 1024) : (((cfg0.win 5).blk t).view.emb (ix2 r i) : S8192x1024.Idx) = ix2 (row t.val r) i := by
  blk_ext [index t]

theorem arr5 : ((dats m 0 c).arrAt 5 cfg0.N : Vec Ideal S8192x1024 .f32) = fun j => dotT (normBack (TT m c) (DM m c) (G m c)) (WO m c) (j 0) (j 1) := by
  refine (dats m 0 c).arrAt_eq_of_covers 5 _ (by decide +kernel) fun t hf y => ?_
  obtain ⟨r, i, hy⟩ : ∃ (r : Fin 1024) (i : Fin 1024), y = ix2 r i := ⟨_, _, ValueIdx.eq_ix2 y⟩
  subst hy
  have ht : t.val < 8 := lt_of_lt_of_eq t.isLt N_0
  rw [emb5]
  refine Eq.trans ?_ (pay10_at m c t r i)
  rw [after0_5]
  by_cases h : t.val % 8 = 0
  · rw [outsAt0_A m c t h (by omega) (by omega) h (by omega)]
    frame_out
    rfl
  · by_cases h7 : t.val % 8 = 7
    · rw [outsAt0_C m c t h (by omega) h7 h (by omega)]
      frame_out
      rfl
    · rw [outsAt0_B m c t h (by omega) h7 h (by omega)]
      frame_out
      rfl

/-- The weight's gradient after the last point: every block's part. -/
theorem sumS (y : S1024x1024.Idx) : (outsAt0 m c t0_7.val t0_7.isLt).2.2.2 y
    = 0 + ∑ t : Fin cfg0.N, k0_pay1 (k0_pay9 (iblk m c 0 t) (iblk m c 2 t) (iblk m c 1 t)) (iblk m c 4 t) y := by
  refine Pipeline.eq_sum_fin_of_reset_step_apply_last (fun n h => (outsAt0 m c n h).2.2.2) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega), zero_add]
    frame_out
    all_goals ((try unfold k0_pay2); (try unfold k0_pay3); pointwise [shapeCast_self])
  · have ht : t.val < 8 := lt_of_lt_of_eq t.isLt N_0
    by_cases h7 : t.val % 8 = 7
    · rw [outsAt0_C m c t h (by omega) h7 h (by omega)]
      frame_out
      all_goals ((try simp only [read_unread_whole]); (try unfold k0_pay2); (try unfold k0_pay3); pointwise [shapeCast_self])
    · rw [outsAt0_B m c t h (by omega) h7 h (by omega)]
      frame_out
      all_goals ((try simp only [read_unread_whole]); (try unfold k0_pay2); (try unfold k0_pay3); pointwise [shapeCast_self])

/-- The gain's gradient after the last point: every block's part. -/
theorem sum7 (y : S1x1024.Idx) : (outsAt0 m c t0_7.val t0_7.isLt).2.2.1 y
    = 0 + ∑ t : Fin cfg0.N, k0_pay8 (iblk m c 0 t) (iblk m c 1 t) y := by
  refine Pipeline.eq_sum_fin_of_reset_step_apply_last (fun n h => (outsAt0 m c n h).2.2.1) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega), zero_add]
    frame_out
    all_goals ((try unfold k0_pay5); pointwise [shapeCast_self])
  · have ht : t.val < 8 := lt_of_lt_of_eq t.isLt N_0
    by_cases h7 : t.val % 8 = 7
    · rw [outsAt0_C m c t h (by omega) h7 h (by omega)]
      frame_out
      all_goals ((try simp only [read_unread_whole]); (try unfold k0_pay5); pointwise [shapeCast_self])
    · rw [outsAt0_B m c t h (by omega) h7 h (by omega)]
      frame_out
      all_goals ((try simp only [read_unread_whole]); (try unfold k0_pay5); pointwise [shapeCast_self])

/-- The last point writes the weight's gradient out. -/
theorem outS (y : S1024x1024.Idx) : (outsAt0 m c t0_7.val t0_7.isLt).2.1 y = (outsAt0 m c t0_7.val t0_7.isLt).2.2.2 y := by
  rw [outsAt0_C m c t0_7 (by decide) (by decide) (by decide) (by decide) (by decide)]
  frame_out
  unfold k0_pay4
  pointwise [shapeCast_self]

theorem arr6 : ((dats m 0 c).arrAt 6 cfg0.N : Vec Ideal S1024x1024 .bf16) = fun j => dot (fun i r => ME m c r i) (normBack (TT m c) (DM m c) (G m c)) (j 0) (j 1) := by
  refine (dats m 0 c).arrAt_eq_of_after_last 6 t0_7 (by decide +kernel) _ fun j => ?_
  obtain ⟨u, i, rfl⟩ : ∃ (u : Fin 1024) (i : Fin 1024), j = ix2 u i := ⟨_, _, ValueIdx.eq_ix2 j⟩
  rw [after0_6]
  refine (outS m c (ix2 u i)).trans <| (sumS m c (ix2 u i)).trans ?_
  rw [zero_add]
  refine (Finset.sum_congr rfl fun t _ => pay1_at m c t u i).trans ?_
  refine Eq.trans ?_ (show ∑ r : Fin 8192, ME m c r u * normBack (TT m c) (DM m c) (G m c) r i = _ from rfl)
  refine Fin.sum_mul_add_congr (S := 8) fun t r hl => ?_
  rw [show row t.val r = ⟨t.val * 1024 + r.val, hl⟩ from Fin.ext (by dsimp only; omega)]

theorem arr7 : ((dats m 0 c).arrAt 7 cfg0.N : Vec Ideal S1x1024 .f32) = fun j => gainBack (TT m c) (DM m c) (j 1) := by
  refine (dats m 0 c).arrAt_eq_of_after_last 7 t0_7 (by decide +kernel) _ fun j => ?_
  obtain ⟨u, i, rfl⟩ : ∃ (u : Fin 1) (i : Fin 1024), j = ix2 u i := ⟨_, _, ValueIdx.eq_ix2 j⟩
  rw [after0_7]
  refine (sum7 m c (ix2 u i)).trans ?_
  rw [zero_add]
  refine (Finset.sum_congr rfl fun t _ => pay8_at m c t u i).trans ?_
  refine Eq.trans ?_ (show ∑ r : Fin 8192, DM m c r i * (TT m c r i * scale (TT m c r)) = _ from rfl)
  refine Fin.sum_mul_add_congr (S := 8) fun t r hl => ?_
  rw [show row t.val r = ⟨t.val * 1024 + r.val, hl⟩ from Fin.ext (by dsimp only; omega)]

end Cert.MergeOutIdeal.Out
end
-- ==== Proof.MergeOutReference.lean ====
/- The gradient of the output projection and its norm, in the reference's own terms. -/
module

public import proofs.«01_k».proof.Proof.NormMath
public import proofs.«01_k».proof.Proof.Gen.MergeOutReferenceIdeal.Run
public import Idealize.ShloMosaic.Lib.Pointwise

@[expose] public section

set_option maxRecDepth 16384

noncomputable section

namespace Cert.MergeOutReferenceIdeal.Out

open Cert.MergeOutReferenceIdeal Cert.MergeOutReferenceIdeal.Value Idealize.ShloMosaic Idealize.ShloMosaic.TcCoe Idealize.SL.Sem
open Cert.NormMath

variable (m : (ℓ : Loc nD τ sig) → Buf (Elt Ideal) ℓ) (c : Dev nD)

def TT (r : Fin 8192) (i : Fin 1024) : EReal := (m ((c.tc : Thread nD τ).loc main_arg0) : Vec Ideal S8192x1024 .f32) (ix2 r i)
def DM (r : Fin 8192) (i : Fin 1024) : EReal := (m ((c.tc : Thread nD τ).loc main_arg1) : Vec Ideal S8192x1024 .f32) (ix2 r i)
def G (i : Fin 1024) : EReal := (m ((c.tc : Thread nD τ).loc main_arg2) : Vec Ideal S1024 .f32) (ix1 i)
def WO (r : Fin 1024) (i : Fin 1024) : EReal := (m ((c.tc : Thread nD τ).loc main_arg3) : Vec Ideal S1024x1024 .f32) (ix2 r i)
def ME (r : Fin 8192) (i : Fin 1024) : EReal := (m ((c.tc : Thread nD τ).loc main_arg4) : Vec Ideal S8192x1024 .f32) (ix2 r i)

/-- The reference runs, and its results are these. -/
theorem run (ρ : Dev nD → PrngReg) :
    θ_run defs (onTc (τ := τ) (main (F := Ideal))) ⟨m, fun _ => 0, ρ⟩ fun r => ∀ c : Dev nD,
      (r.2.mem ((c.tc : Thread nD τ).loc main_v39) : Vec Ideal S8192x1024 .f32) = (fun j => dotT (normBack (TT m c) (DM m c) (G m c)) (WO m c) (j 0) (j 1))
      ∧ (r.2.mem ((c.tc : Thread nD τ).loc main_v40) : Vec Ideal S1024x1024 .bf16) = (fun j => dot (fun i r => ME m c r i) (normBack (TT m c) (DM m c) (G m c)) (j 0) (j 1))
      ∧ (r.2.mem ((c.tc : Thread nD τ).loc main_v41) : Vec Ideal S1x1024 .f32) = (fun j => gainBack (TT m c) (DM m c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.MergeOutReferenceIdeal.Value.run m ρ)
  obtain ⟨h1, h2, h3, hargs⟩ := h c
  refine ⟨h1.trans ?_, h2.trans ?_, h3.trans ?_, hargs⟩ <;> clear hargs h1 h2 h3 h <;> funext j
  · obtain ⟨r, i, rfl⟩ : ∃ r i, j = ix2 r i := ⟨_, _, ValueIdx.eq_ix2 j⟩
    pointwise [dot_S8192x1024_S1024x1024_S8192x1024_1_1_0_0_n_n, dot_S8192x1024_S8192x1024_S1024x1024_0_0_1_1_n_n]
    exact Finset.sum_congr rfl fun k _ => congrArg (· * WO m c i k) (dRow_sum (TT m c r) (fun i => DM m c r i * G m c i) k)
  · obtain ⟨i, k, rfl⟩ : ∃ i k, j = ix2 i k := ⟨_, _, ValueIdx.eq_ix2 j⟩
    unfold res_main_v40
    pointwise [dot_S8192x1024_S1024x1024_S8192x1024_1_1_0_0_n_n, dot_S8192x1024_S8192x1024_S1024x1024_0_0_1_1_n_n]
    exact Finset.sum_congr (M := EReal) rfl fun r _ => (congrArg (· * ME m c r i) (dRow_sum (TT m c r) (fun i => DM m c r i * G m c i) k)).trans (mul_comm _ _)
  · obtain ⟨u, i, rfl⟩ : ∃ u i, j = ix2 u i := ⟨_, _, ValueIdx.eq_ix2 j⟩
    pointwise [dot_S8192x1024_S1024x1024_S8192x1024_1_1_0_0_n_n, dot_S8192x1024_S8192x1024_S1024x1024_0_0_1_1_n_n]
    exact gain_sum (TT m c) (DM m c) i

end Cert.MergeOutReferenceIdeal.Out

end
-- ==== Proof.MergeOutClaims.lean ====
/- The claims about the gradient of the output projection: the reference's frame, and the equality of the results. -/
module

public import proofs.«01_k».proof.Defs
public import proofs.«01_k».proof.Proof.MergeOutOut
public import proofs.«01_k».proof.Proof.MergeOutReference
public import Idealize.ShloMosaic.Adequacy
public import Idealize.ShloMosaic.Init

@[expose] public section

noncomputable section

namespace Cert.Proof

open Idealize.ShloMosaic Idealize.SL.Sem

theorem merge_out_reference_frame : Cert.quiescent_MergeOutReferenceIdeal := fun m ρ _ =>
  (θ_run Cert.MergeOutReferenceIdeal.defs _ _).mono (fun r h => ⟨fun c => (h c).2.2.2, sem_eq_zero_of_no_sems (by decide) r.2⟩)
    (Cert.MergeOutReferenceIdeal.Out.run m ρ)

theorem merge_out_algebraic : Cert.algebraic_MergeOutIdeal_MergeOutReferenceIdeal := fun m ρ m' ρ' _ hag => by
  have hTT : ∀ c, MergeOutReferenceIdeal.Out.TT m' c = MergeOutIdeal.Out.TT m c := fun c => funext fun _ => funext fun _ => congrFun (hag c).1 _
  have hDM : ∀ c, MergeOutReferenceIdeal.Out.DM m' c = MergeOutIdeal.Out.DM m c := fun c => funext fun _ => funext fun _ => congrFun (hag c).2.1 _
  have hG : ∀ c, MergeOutReferenceIdeal.Out.G m' c = MergeOutIdeal.Out.G m c := fun c => funext fun _ => congrFun (hag c).2.2.1 _
  have hWO : ∀ c, MergeOutReferenceIdeal.Out.WO m' c = MergeOutIdeal.Out.WO m c := fun c => funext fun _ => funext fun _ => congrFun (hag c).2.2.2.1 _
  have hME : ∀ c, MergeOutReferenceIdeal.Out.ME m' c = MergeOutIdeal.Out.ME m c := fun c => funext fun _ => funext fun _ => congrFun (hag c).2.2.2.2 _
  refine ⟨_, _, _, MergeOutIdeal.Value.run_blocks m ρ, (θ_run _ _ _).mono (fun _ h c => ?_) (MergeOutReferenceIdeal.Out.run m' ρ')⟩
  obtain ⟨h1, h2, h3, hargs⟩ := h c
  rw [hTT, hDM, hG, hWO] at h1
  rw [hME, hTT, hDM, hG] at h2
  rw [hTT, hDM] at h3
  exact ⟨h1.trans (MergeOutIdeal.Out.arr5 m c).symm, h2.trans (MergeOutIdeal.Out.arr6 m c).symm, h3.trans (MergeOutIdeal.Out.arr7 m c).symm, hargs⟩

end Cert.Proof
end
-- ==== Proof.FfnForwardMath.lean ====
/- The feed-forward block of every token, as plain sums. -/
module

public import proofs.«01_k».proof.Proof.NormMath
public import Idealize.ShloMosaic.Lib.Pipeline.ValueKit

@[expose] public section

noncomputable section

namespace Cert.FfnForwardMath

open Idealize.ShloMosaic Cert.NormMath

/-- The activation before squaring. -/
def act (h : Fin 8192 → Fin 1024 → EReal) (w1 : Fin 1024 → Fin 4096 → EReal) (r : Fin 8192) (o : Fin 4096) : EReal := max (∑ i, h r i * w1 i o) 0
/-- One hidden unit's part of an output channel. -/
def unit (h : Fin 8192 → Fin 1024 → EReal) (w1 : Fin 1024 → Fin 4096 → EReal) (w2 : Fin 4096 → Fin 1024 → EReal) (r : Fin 8192) (i : Fin 1024) (o : Fin 4096) : EReal :=
  act h w1 r o * act h w1 r o * w2 o i
/-- The feed-forward block's result. -/
def ffn (h : Fin 8192 → Fin 1024 → EReal) (w1 : Fin 1024 → Fin 4096 → EReal) (w2 : Fin 4096 → Fin 1024 → EReal) (r : Fin 8192) (i : Fin 1024) : EReal :=
  ∑ o, unit h w1 w2 r i o

/-- Unit `o` of the `k`-th quarter of the hidden layer. -/
def quarter (k : Fin 4) (o : Fin 1024) : Fin 4096 := ⟨k.val * 1024 + o.val, by have := k.isLt; have := o.isLt; omega⟩

/-- Four quarters, added one after another, make the whole sum. -/
theorem sum_quarters (f : Fin 4096 → EReal) :
    (∑ o, f (quarter 0 o)) + (∑ o, f (quarter 1 o)) + (∑ o, f (quarter 2 o)) + (∑ o, f (quarter 3 o)) = ∑ o, f o := by
  rw [← Fin.sum_univ_four (fun k => ∑ o, f (quarter k o))]
  exact Fin.sum_mul_add_congr (S := 4) fun _ _ _ => rfl

end Cert.FfnForwardMath

end
-- ==== Proof.FfnForwardOut.lean ====
/- The feed-forward block: what the two result arrays of the kernel hold. -/
module

public import proofs.«01_k».proof.Proof.FfnForwardMath
public import proofs.«01_k».proof.Proof.Gen.FfnForwardIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnForwardIdeal.Out

open Cert.FfnForwardIdeal Cert.FfnForwardIdeal.Gen Cert.FfnForwardIdeal.Value Idealize.ShloMosaic Idealize.ShloMosaic.TcCoe Idealize.SL.Sem
open Cert.NormMath Cert.FfnForwardMath

variable (m : (ℓ : Loc nD τ sig) → Buf (Elt Ideal) ℓ) (c : Dev nD)

def X (r : Fin 8192) (i : Fin 1024) : EReal := (m ((c : Thread nD τ).loc main_arg0) : Vec Ideal S8192x1024 .f32) (ix2 r i)
def G3 (i : Fin 1024) : EReal := (m ((c : Thread nD τ).loc main_arg1) : Vec Ideal S1024 .f32) (ix1 i)
def W1 (r : Fin 1024) (i : Fin 4096) : EReal := (m ((c : Thread nD τ).loc main_arg2) : Vec Ideal S1024x4096 .f32) (ix2 r i)
def W2 (r : Fin 4096) (i : Fin 1024) : EReal := (m ((c : Thread nD τ).loc main_arg3) : Vec Ideal S4096x1024 .f32) (ix2 r i)
def G4 (i : Fin 1024) : EReal := (m ((c : Thread nD τ).loc main_arg4) : Vec Ideal S1024 .f32) (ix1 i)

theorem index : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] := by decide +kernel

/-- Row `r` of the `n`-th block of tokens. -/
abbrev row (n : ℕ) (r : Fin 512) : Fin 8192 := ⟨(512 * n + r.val) % 8192, Nat.mod_lt _ (by decide)⟩

theorem iblk0 (t : Fin cfg0.N) (r : Fin 512) (i : Fin 1024) : (iblk m c 0 t : Vec Ideal S512x1024 .f32) (ix2 r i) = X m c (row t.val r) i := by
  blk_ext [iblk, V, index t]

theorem iblk1 (t : Fin cfg0.N) (u : Fin 1) (i : Fin 1024) : (iblk m c 1 t : Vec Ideal S1x1024 .f32) (ix2 u i) = G3 m c i := by
  have e : V m c main_v0 = (broadcastInDim S1x1024 ![1] bcast_S1024_S1x1024_1 (m ((c : Thread nD τ).loc main_arg1) : FVec Ideal S1024 .f32) : FVec Ideal S1x1024 .f32) := by
    unfold V; after_results
  have h : (iblk m c 1 t : Vec Ideal S1x1024 .f32) (ix2 u i) = (V m c main_v0 : Vec Ideal S1x1024 .f32) (ix2 u i) := by
    blk_ext [iblk, index t]
  rw [h, e]
  pointwise
  rfl

theorem iblk2 (t : Fin cfg0.N) (k : Fin 4096) (i : Fin 1024) : (iblk m c 2 t : Vec Ideal S4096x1024 .bf16) (ix2 k i) = W1 m c i k := by
  have e : V m c main_v2 = (truncf .bf16 (transpose S4096x1024 [1, 0] (m ((c : Thread nD τ).loc main_arg2) : FVec Ideal S1024x4096 .f32) transposes_S1024x4096_S4096x1024_1_0 : FVec Ideal S4096x1024 .f32) bitsLt_bf16_f32 : FVec Ideal S4096x1024 .bf16) := by
    unfold V; after_results
  have h : (iblk m c 2 t : Vec Ideal S4096x1024 .bf16) (ix2 k i) = (V m c main_v2 : Vec Ideal S4096x1024 .bf16) (ix2 k i) := by
    blk_ext [iblk, index t]
  rw [h, e]
  pointwise
  rfl

theorem iblk3 (t : Fin cfg0.N) (r : Fin 4096) (i : Fin 1024) : (iblk m c 3 t : Vec Ideal S4096x1024 .bf16) (ix2 r i) = W2 m c r i := by
  blk_ext [iblk, V, index t]

theorem iblk4 (t : Fin cfg0.N) (u : Fin 1) (i : Fin 1024) : (iblk m c 4 t : Vec Ideal S1x1024 .f32) (ix2 u i) = G4 m c i := by
  have e : V m c main_v4 = (broadcastInDim S1x1024 ![1] bcast_S1024_S1x1024_1 (m ((c : Thread nD τ).loc main_arg4) : FVec Ideal S1024 .f32) : FVec Ideal S1x1024 .f32) := by
    unfold V; after_results
  have h : (iblk m c 4 t : Vec Ideal S1x1024 .f32) (ix2 u i) = (V m c main_v4 : Vec Ideal S1x1024 .f32) (ix2 u i) := by
    blk_ext [iblk, index t]
  rw [h, e]
  pointwise
  rfl

theorem ld0_0 (t : Fin cfg0.N) (r : Fin 512) (i : Fin 1024) : (View.ld (iblk m c 0 t) r0_0 : Vec Ideal S512x1024 .f32) (ix2 r i) = X m c (row t.val r) i := by
  refine (View.ld_unit_apply_of _ _ _ _ _ (ix2 r i) fun a => ?_).trans (iblk0 m c t _ _)
  match a with
  | ⟨0, _⟩ => simp [quarter]
  | ⟨1, _⟩ => simp

theorem ld1_1 (t : Fin cfg0.N) (u : Fin 1) (i : Fin 1024) : (View.ld (iblk m c 1 t) r0_1 : Vec Ideal S1x1024 .f32) (ix2 u i) = G3 m c i := by
  refine (View.ld_unit_apply_of _ _ _ _ _ (ix2 u i) fun a => ?_).trans (iblk1 m c t _ _)
  match a with
  | ⟨0, _⟩ => simp [quarter]
  | ⟨1, _⟩ => simp

theorem ld2_2 (t : Fin cfg0.N) (o i : Fin 1024) : (View.ld (iblk m c 2 t) r0_2 : Vec Ideal S1024x1024 .bf16) (ix2 o i) = W1 m c i (quarter 0 o) := by
  refine (View.ld_unit_apply_of _ _ _ _ _ (ix2 (quarter 0 o) i) fun a => ?_).trans (iblk2 m c t _ _)
  match a with
  | ⟨0, _⟩ => simp [quarter]
  | ⟨1, _⟩ => simp

theorem ld3_2 (t : Fin cfg0.N) (o i : Fin 1024) : (View.ld (iblk m c 3 t) r0_2 : Vec Ideal S1024x1024 .bf16) (ix2 o i) = W2 m c (quarter 0 o) i := by
  refine (View.ld_unit_apply_of _ _ _ _ _ (ix2 (quarter 0 o) i) fun a => ?_).trans (iblk3 m c t _ _)
  match a with
  | ⟨0, _⟩ => simp [quarter]
  | ⟨1, _⟩ => simp

theorem ld2_3 (t : Fin cfg0.N) (o i : Fin 1024) : (View.ld (iblk m c 2 t) r0_3 : Vec Ideal S1024x1024 .bf16) (ix2 o i) = W1 m c i (quarter 1 o) := by
  refine (View.ld_unit_apply_of _ _ _ _ _ (ix2 (quarter 1 o) i) fun a => ?_).trans (iblk2 m c t _ _)
  match a with
  | ⟨0, _⟩ => simp [quarter]
  | ⟨1, _⟩ => simp

theorem ld3_3 (t : Fin cfg0.N) (o i : Fin 1024) : (View.ld (iblk m c 3 t) r0_3 : Vec Ideal S1024x1024 .bf16) (ix2 o i) = W2 m c (quarter 1 o) i := by
  refine (View.ld_unit_apply_of _ _ _ _ _ (ix2 (quarter 1 o) i) fun a => ?_).trans (iblk3 m c t _ _)
  match a with
  | ⟨0, _⟩ => simp [quarter]
  | ⟨1, _⟩ => simp

theorem ld2_4 (t : Fin cfg0.N) (o i : Fin 1024) : (View.ld (iblk m c 2 t) r0_4 : Vec Ideal S1024x1024 .bf16) (ix2 o i) = W1 m c i (quarter 2 o) := by
  refine (View.ld_unit_apply_of _ _ _ _ _ (ix2 (quarter 2 o) i) fun a => ?_).trans (iblk2 m c t _ _)
  match a with
  | ⟨0, _⟩ => simp [quarter]
  | ⟨1, _⟩ => simp

theorem ld3_4 (t : Fin cfg0.N) (o i : Fin 1024) : (View.ld (iblk m c 3 t) r0_4 : Vec Ideal S1024x1024 .bf16) (ix2 o i) = W2 m c (quarter 2 o) i := by
  refine (View.ld_unit_apply_of _ _ _ _ _ (ix2 (quarter 2 o) i) fun a => ?_).trans (iblk3 m c t _ _)
  match a with
  | ⟨0, _⟩ => simp [quarter]
  | ⟨1, _⟩ => simp

theorem ld2_5 (t : Fin cfg0.N) (o i : Fin 1024) : (View.ld (iblk m c 2 t) r0_5 : Vec Ideal S1024x1024 .bf16) (ix2 o i) = W1 m c i (quarter 3 o) := by
  refine (View.ld_unit_apply_of _ _ _ _ _ (ix2 (quarter 3 o) i) fun a => ?_).trans (iblk2 m c t _ _)
  match a with
  | ⟨0, _⟩ => simp [quarter]
  | ⟨1, _⟩ => simp

theorem ld3_5 (t : Fin cfg0.N) (o i : Fin 1024) : (View.ld (iblk m c 3 t) r0_5 : Vec Ideal S1024x1024 .bf16) (ix2 o i) = W2 m c (quarter 3 o) i := by
  refine (View.ld_unit_apply_of _ _ _ _ _ (ix2 (quarter 3 o) i) fun a => ?_).trans (iblk3 m c t _ _)
  match a with
  | ⟨0, _⟩ => simp [quarter]
  | ⟨1, _⟩ => simp

theorem emb5 (t : Fin cfg0.N) (r : Fin 512) (i : Fin 1024) : (((cfg0.win 5).blk t).view.emb (ix2 r i) : S8192x1024.Idx) = ix2 (row t.val r) i := by
  blk_ext [index t]

theorem emb6 (t : Fin cfg0.N) (r : Fin 512) (i : Fin 1024) : (((cfg0.win 6).blk t).view.emb (ix2 r i) : S8192x1024.Idx) = ix2 (row t.val r) i := by
  blk_ext [index t]

/-- A block's rows of the feed-forward result. -/
theorem pay6_at (t : Fin cfg0.N) (r : Fin 512) (i : Fin 1024) :
    k0_pay6 (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (k0_pay13 (iblk m c 0 t) (iblk m c 1 t) (iblk m c 2 t) (iblk m c 3 t) (iblk m c 4 t)) (k0_pay9 (iblk m c 0 t) (iblk m c 1 t) (iblk m c 2 t) (iblk m c 3 t) (iblk m c 4 t)) (View.ld (iblk m c 2 t) r0_4) (View.ld (iblk m c 3 t) r0_4) (View.ld (iblk m c 2 t) r0_5) (View.ld (iblk m c 3 t) r0_5) (ix2 r i) = ffn (norm (X m c) (G3 m c)) (W1 m c) (W2 m c) (row t.val r) i := by
  unfold k0_pay6 k0_pay9 k0_pay10 k0_pay11 k0_pay12 k0_pay13 k0_pay3 k0_pay4 k0_pay5 k0_pay2
  have hld0_0 := ld0_0 m c t
  generalize View.ld (iblk m c 0 t) r0_0 = xld0_0 at hld0_0 ⊢
  have hld1_1 := ld1_1 m c t
  generalize View.ld (iblk m c 1 t) r0_1 = xld1_1 at hld1_1 ⊢
  have hld2_2 := ld2_2 m c t
  generalize View.ld (iblk m c 2 t) r0_2 = xld2_2 at hld2_2 ⊢
  have hld2_3 := ld2_3 m c t
  generalize View.ld (iblk m c 2 t) r0_3 = xld2_3 at hld2_3 ⊢
  have hld2_4 := ld2_4 m c t
  generalize View.ld (iblk m c 2 t) r0_4 = xld2_4 at hld2_4 ⊢
  have hld2_5 := ld2_5 m c t
  generalize View.ld (iblk m c 2 t) r0_5 = xld2_5 at hld2_5 ⊢
  have hld3_2 := ld3_2 m c t
  generalize View.ld (iblk m c 3 t) r0_2 = xld3_2 at hld3_2 ⊢
  have hld3_3 := ld3_3 m c t
  generalize View.ld (iblk m c 3 t) r0_3 = xld3_3 at hld3_3 ⊢
  have hld3_4 := ld3_4 m c t
  generalize View.ld (iblk m c 3 t) r0_4 = xld3_4 at hld3_4 ⊢
  have hld3_5 := ld3_5 m c t
  generalize View.ld (iblk m c 3 t) r0_5 = xld3_5 at hld3_5 ⊢
  pointwise [shapeCast_self, dot_S512x1024_S1024x1024_S512x1024_1_1_0_0_n_n, dot_S512x1024_S1024x1024_S512x1024_1_0_0_1_n_n]
  simp only [hld0_0, hld1_1, hld2_2, hld2_3, hld2_4, hld2_5, hld3_2, hld3_3, hld3_4, hld3_5]
  exact sum_quarters (unit (norm (X m c) (G3 m c)) (W1 m c) (W2 m c) (row t.val r) i)

/-- A block's rows of the stream after the feed-forward block. -/
theorem pay1_at (t : Fin cfg0.N) (r : Fin 512) (i : Fin 1024) :
    k0_pay1 (k0_pay6 (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (k0_pay13 (iblk m c 0 t) (iblk m c 1 t) (iblk m c 2 t) (iblk m c 3 t) (iblk m c 4 t)) (k0_pay9 (iblk m c 0 t) (iblk m c 1 t) (iblk m c 2 t) (iblk m c 3 t) (iblk m c 4 t)) (View.ld (iblk m c 2 t) r0_4) (View.ld (iblk m c 3 t) r0_4) (View.ld (iblk m c 2 t) r0_5) (View.ld (iblk m c 3 t) r0_5)) (iblk m c 0 t) (k0_pay7 (iblk m c 4 t)) (k0_pay8 (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (k0_pay13 (iblk m c 0 t) (iblk m c 1 t) (iblk m c 2 t) (iblk m c 3 t) (iblk m c 4 t)) (k0_pay9 (iblk m c 0 t) (iblk m c 1 t) (iblk m c 2 t) (iblk m c 3 t) (iblk m c 4 t)) (View.ld (iblk m c 2 t) r0_4) (View.ld (iblk m c 3 t) r0_4) (View.ld (iblk m c 2 t) r0_5) (View.ld (iblk m c 3 t) r0_5)) (ix2 r i)
      = X m c (row t.val r) i + norm (ffn (norm (X m c) (G3 m c)) (W1 m c) (W2 m c)) (G4 m c) (row t.val r) i := by
  have hf := fun i => pay6_at m c t r i
  unfold k0_pay1 k0_pay8 k0_pay7
  generalize k0_pay6 (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (k0_pay13 (iblk m c 0 t) (iblk m c 1 t) (iblk m c 2 t) (iblk m c 3 t) (iblk m c 4 t)) (k0_pay9 (iblk m c 0 t) (iblk m c 1 t) (iblk m c 2 t) (iblk m c 3 t) (iblk m c 4 t)) (View.ld (iblk m c 2 t) r0_4) (View.ld (iblk m c 3 t) r0_4) (View.ld (iblk m c 2 t) r0_5) (View.ld (iblk m c 3 t) r0_5) = f at hf ⊢
  pointwise [shapeCast_self]
  simp only [hf, iblk0, iblk4]
  rfl

theorem arr5 : ((dats m 0 c).arrAt 5 cfg0.N : Vec Ideal S8192x1024 .f32) = fun j => X m c (j 0) (j 1) + norm (ffn (norm (X m c) (G3 m c)) (W1 m c) (W2 m c)) (G4 m c) (j 0) (j 1) := by
  refine (dats m 0 c).arrAt_eq_of_covers 5 _ (by decide +kernel) fun t hf y => ?_
  obtain ⟨r, i, hy⟩ : ∃ (r : Fin 512) (i : Fin 1024), y = ix2 r i := ⟨_, _, ValueIdx.eq_ix2 y⟩
  subst hy
  have ht : t.val < 16 := lt_of_lt_of_eq t.isLt N_0
  rw [emb5]
  refine Eq.trans ?_ (pay1_at m c t r i)
  rw [after0_5]
  frame_out
  rfl

theorem arr6 : ((dats m 0 c).arrAt 6 cfg0.N : Vec Ideal S8192x1024 .f32) = fun j => (ffn (norm (X m c) (G3 m c)) (W1 m c) (W2 m c)) (j 0) (j 1) := by
  refine (dats m 0 c).arrAt_eq_of_covers 6 _ (by decide +kernel) fun t hf y => ?_
  obtain ⟨r, i, hy⟩ : ∃ (r : Fin 512) (i : Fin 1024), y = ix2 r i := ⟨_, _, ValueIdx.eq_ix2 y⟩
  subst hy
  have ht : t.val < 16 := lt_of_lt_of_eq t.isLt N_0
  rw [emb6]
  refine Eq.trans ?_ (pay6_at m c t r i)
  rw [after0_6]
  frame_out
  rfl

end Cert.FfnForwardIdeal.Out
end
-- ==== Proof.FfnForwardReference.lean ====
/- The feed-forward block, in the reference's own terms. -/
module

public import proofs.«01_k».proof.Proof.FfnForwardMath
public import proofs.«01_k».proof.Proof.Gen.FfnForwardReferenceIdeal.Run
public import Idealize.ShloMosaic.Lib.Pointwise

@[expose] public section

set_option maxRecDepth 16384

noncomputable section

namespace Cert.FfnForwardReferenceIdeal.Out

open Cert.FfnForwardReferenceIdeal Cert.FfnForwardReferenceIdeal.Value Idealize.ShloMosaic Idealize.ShloMosaic.TcCoe Idealize.SL.Sem
open Cert.NormMath Cert.FfnForwardMath

variable (m : (ℓ : Loc nD τ sig) → Buf (Elt Ideal) ℓ) (c : Dev nD)

def X (r : Fin 8192) (i : Fin 1024) : EReal := (m ((c.tc : Thread nD τ).loc main_arg0) : Vec Ideal S8192x1024 .f32) (ix2 r i)
def G3 (i : Fin 1024) : EReal := (m ((c.tc : Thread nD τ).loc main_arg1) : Vec Ideal S1024 .f32) (ix1 i)
def W1 (r : Fin 1024) (i : Fin 4096) : EReal := (m ((c.tc : Thread nD τ).loc main_arg2) : Vec Ideal S1024x4096 .f32) (ix2 r i)
def W2 (r : Fin 4096) (i : Fin 1024) : EReal := (m ((c.tc : Thread nD τ).loc main_arg3) : Vec Ideal S4096x1024 .f32) (ix2 r i)
def G4 (i : Fin 1024) : EReal := (m ((c.tc : Thread nD τ).loc main_arg4) : Vec Ideal S1024 .f32) (ix1 i)

/-- The reference runs, and its results are these. -/
theorem run (ρ : Dev nD → PrngReg) :
    θ_run defs (onTc (τ := τ) (main (F := Ideal))) ⟨m, fun _ => 0, ρ⟩ fun r => ∀ c : Dev nD,
      (r.2.mem ((c.tc : Thread nD τ).loc main_v30) : Vec Ideal S8192x1024 .f32) = (fun j => X m c (j 0) (j 1) + norm (ffn (norm (X m c) (G3 m c)) (W1 m c) (W2 m c)) (G4 m c) (j 0) (j 1))
      ∧ (r.2.mem ((c.tc : Thread nD τ).loc main_v16) : Vec Ideal S8192x1024 .f32) = (fun j => (ffn (norm (X m c) (G3 m c)) (W1 m c) (W2 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.FfnForwardReferenceIdeal.Value.run m ρ)
  obtain ⟨h1, h2, hargs⟩ := h c
  refine ⟨h1.trans ?_, h2.trans ?_, hargs⟩ <;> clear hargs h1 h2 h <;> funext j
  · obtain ⟨r, i, rfl⟩ : ∃ r i, j = ix2 r i := ⟨_, _, ValueIdx.eq_ix2 j⟩
    unfold res_main_v30
    pointwise [dot_S8192x1024_S1024x4096_S8192x4096_1_0_0_1_n_n, dot_S8192x4096_S4096x1024_S8192x1024_1_0_0_1_n_n]
    rfl
  · obtain ⟨r, i, rfl⟩ : ∃ r i, j = ix2 r i := ⟨_, _, ValueIdx.eq_ix2 j⟩
    pointwise [dot_S8192x1024_S1024x4096_S8192x4096_1_0_0_1_n_n, dot_S8192x4096_S4096x1024_S8192x1024_1_0_0_1_n_n]
    rfl

end Cert.FfnForwardReferenceIdeal.Out

end
-- ==== Proof.FfnForwardClaims.lean ====
/- The claims about the feed-forward block: the reference's frame, and the equality of the results. -/
module

public import proofs.«01_k».proof.Defs
public import proofs.«01_k».proof.Proof.FfnForwardOut
public import proofs.«01_k».proof.Proof.FfnForwardReference
public import Idealize.ShloMosaic.Adequacy
public import Idealize.ShloMosaic.Init

@[expose] public section

noncomputable section

namespace Cert.Proof

open Idealize.ShloMosaic Idealize.SL.Sem

theorem ffn_forward_reference_frame : Cert.quiescent_FfnForwardReferenceIdeal := fun m ρ _ =>
  (θ_run Cert.FfnForwardReferenceIdeal.defs _ _).mono (fun r h => ⟨fun c => (h c).2.2, sem_eq_zero_of_no_sems (by decide) r.2⟩)
    (Cert.FfnForwardReferenceIdeal.Out.run m ρ)

theorem ffn_forward_algebraic : Cert.algebraic_FfnForwardIdeal_FfnForwardReferenceIdeal := fun m ρ m' ρ' _ hag => by
  have hX : ∀ c, FfnForwardReferenceIdeal.Out.X m' c = FfnForwardIdeal.Out.X m c := fun c => funext fun _ => funext fun _ => congrFun (hag c).1 _
  have hG3 : ∀ c, FfnForwardReferenceIdeal.Out.G3 m' c = FfnForwardIdeal.Out.G3 m c := fun c => funext fun _ => congrFun (hag c).2.1 _
  have hW1 : ∀ c, FfnForwardReferenceIdeal.Out.W1 m' c = FfnForwardIdeal.Out.W1 m c := fun c => funext fun _ => funext fun _ => congrFun (hag c).2.2.1 _
  have hW2 : ∀ c, FfnForwardReferenceIdeal.Out.W2 m' c = FfnForwardIdeal.Out.W2 m c := fun c => funext fun _ => funext fun _ => congrFun (hag c).2.2.2.1 _
  have hG4 : ∀ c, FfnForwardReferenceIdeal.Out.G4 m' c = FfnForwardIdeal.Out.G4 m c := fun c => funext fun _ => congrFun (hag c).2.2.2.2 _
  refine ⟨_, _, FfnForwardIdeal.Value.run_blocks m ρ, (θ_run _ _ _).mono (fun _ h c => ?_) (FfnForwardReferenceIdeal.Out.run m' ρ')⟩
  obtain ⟨h1, h2, hargs⟩ := h c
  rw [hX, hG3, hW1, hW2, hG4] at h1
  rw [hX, hG3, hW1, hW2] at h2
  exact ⟨h1.trans (FfnForwardIdeal.Out.arr5 m c).symm, h2.trans (FfnForwardIdeal.Out.arr6 m c).symm, hargs⟩

end Cert.Proof
end
-- ==== Proof.MergeForwardMath.lean ====
/- The gated merge of the four branches, as plain sums. -/
module

public import proofs.«01_k».proof.Proof.NormMath

@[expose] public section

noncomputable section

namespace Cert.MergeForwardMath

open Idealize.ShloMosaic Cert.NormMath

/-- Where gate `o` of branch `k` stands among all the gates. -/
def place (k : Fin 4) (o : Fin 1024) : ℕ := match k with
  | 0 => o.val
  | 1 => 1024 + o.val
  | 2 => 2048 + o.val
  | 3 => 3072 + o.val

theorem place_lt (k : Fin 4) (o : Fin 1024) : place k o < 4096 := by
  have := o.isLt
  unfold place; split <;> omega

/-- The column of the projection that holds gate `o` of branch `k`. -/
def column (k : Fin 4) (o : Fin 1024) : Fin 6048 := ⟨1952 + place k o, by have := place_lt k o; omega⟩
/-- Gate `o` of branch `k` among all the gates. -/
def quarter (k : Fin 4) (o : Fin 1024) : Fin 4096 := ⟨place k o, place_lt k o⟩

/-- Branch `k`'s part of the merged stream: its gate times its projection. -/
def part (h : Fin 8192 → Fin 1024 → EReal) (w : Fin 1024 → Fin 6048 → EReal) (b : Fin 4096 → EReal) (k : Fin 4)
    (br : Fin 8192 → Fin 256 → EReal) (p : Fin 256 → Fin 1024 → EReal) (r : Fin 8192) (o : Fin 1024) : EReal :=
  Ideal.div 1 (1 + Ideal.exp (-((∑ i, h r i * w i (column k o)) + b (quarter k o)))) * ∑ a, br r a * p a o
/-- The merged stream. -/
def merged (h : Fin 8192 → Fin 1024 → EReal) (w : Fin 1024 → Fin 6048 → EReal) (b : Fin 4096 → EReal)
    (b0 b1 b2 b3 : Fin 8192 → Fin 256 → EReal) (p0 p1 p2 p3 : Fin 256 → Fin 1024 → EReal) (r : Fin 8192) (o : Fin 1024) : EReal :=
  part h w b 0 b0 p0 r o + part h w b 1 b1 p1 r o + part h w b 2 b2 p2 r o + part h w b 3 b3 p3 r o

end Cert.MergeForwardMath

end
-- ==== Proof.MergeForwardOut.lean ====
/- The merge of the four branches: what the three result arrays of the kernel hold. -/
module

public import proofs.«01_k».proof.Proof.MergeForwardMath
public import proofs.«01_k».proof.Proof.Gen.MergeForwardIdeal.Value
public import Idealize.ShloMosaic.Lib.Pipeline.ValueKit
public import Idealize.ShloMosaic.Lib.Pipeline.ReadBack
public import Idealize.ShloMosaic.Lib.Pointwise
public import Idealize.ShloMosaic.Lib.StableHlo.RunClose

@[expose] public section

set_option maxRecDepth 16384

noncomputable section

namespace Cert.MergeForwardIdeal.Out

open Cert.MergeForwardIdeal Cert.MergeForwardIdeal.Gen Cert.MergeForwardIdeal.Value Idealize.ShloMosaic Idealize.ShloMosaic.TcCoe Idealize.SL.Sem
open Cert.NormMath Cert.MergeForwardMath

variable (m : (ℓ : Loc nD τ sig) → Buf (Elt Ideal) ℓ) (c : Dev nD)

def X (r : Fin 8192) (i : Fin 1024) : EReal := (m ((c : Thread nD τ).loc main_arg0) : Vec Ideal S8192x1024 .f32) (ix2 r i)
def H (r : Fin 8192) (i : Fin 1024) : EReal := (m ((c : Thread nD τ).loc main_arg1) : Vec Ideal S8192x1024 .f32) (ix2 r i)
def B0 (r : Fin 8192) (i : Fin 256) : EReal := (m ((c : Thread nD τ).loc main_arg2) : Vec Ideal S8192x256 .f32) (ix2 r i)
def B1 (r : Fin 8192) (i : Fin 256) : EReal := (m ((c : Thread nD τ).loc main_arg3) : Vec Ideal S8192x256 .f32) (ix2 r i)
def B2 (r : Fin 8192) (i : Fin 256) : EReal := (m ((c : Thread nD τ).loc main_arg4) : Vec Ideal S8192x256 .f32) (ix2 r i)
def B3 (r : Fin 8192) (i : Fin 256) : EReal := (m ((c : Thread nD τ).loc main_arg5) : Vec Ideal S8192x256 .f32) (ix2 r i)
def WI (r : Fin 1024) (i : Fin 6048) : EReal := (m ((c : Thread nD τ).loc main_arg6) : Vec Ideal S1024x6048 .f32) (ix2 r i)
def GB (i : Fin 4096) : EReal := (m ((c : Thread nD τ).loc main_arg7) : Vec Ideal S4096 .f32) (ix1 i)
def P0 (r : Fin 256) (i : Fin 1024) : EReal := (m ((c : Thread nD τ).loc main_arg8) : Vec Ideal S256x1024 .f32) (ix2 r i)
def P1 (r : Fin 256) (i : Fin 1024) : EReal := (m ((c : Thread nD τ).loc main_arg9) : Vec Ideal S256x1024 .f32) (ix2 r i)
def P2 (r : Fin 256) (i : Fin 1024) : EReal := (m ((c : Thread nD τ).loc main_arg10) : Vec Ideal S256x1024 .f32) (ix2 r i)
def P3 (r : Fin 256) (i : Fin 1024) : EReal := (m ((c : Thread nD τ).loc main_arg11) : Vec Ideal S256x1024 .f32) (ix2 r i)
def WO (r : Fin 1024) (i : Fin 1024) : EReal := (m ((c : Thread nD τ).loc main_arg12) : Vec Ideal S1024x1024 .f32) (ix2 r i)
def G (i : Fin 1024) : EReal := (m ((c : Thread nD τ).loc main_arg13) : Vec Ideal S1024 .f32) (ix1 i)

theorem index : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0, 0] ∧ win0_9.index t = ![0, 0] ∧ win0_10.index t = ![0, 0] ∧ win0_11.index t = ![t.val, 0] ∧ win0_12.index t = ![t.val, 0] ∧ win0_13.index t = ![t.val, 0] := by decide +kernel

/-- Row `r` of the `n`-th block of tokens. -/
abbrev row (n : ℕ) (r : Fin 512) : Fin 8192 := ⟨(512 * n + r.val) % 8192, Nat.mod_lt _ (by decide)⟩

theorem iblk0 (t : Fin cfg0.N) (r : Fin 512) (i : Fin 1024) : (iblk m c 0 t : Vec Ideal S512x1024 .f32) (ix2 r i) = X m c (row t.val r) i := by
  blk_ext [iblk, V, index t]

theorem iblk1 (t : Fin cfg0.N) (r : Fin 512) (i : Fin 1024) : (iblk m c 1 t : Vec Ideal S512x1024 .bf16) (ix2 r i) = H m c (row t.val r) i := by
  blk_ext [iblk, V, index t]

theorem iblk2 (t : Fin cfg0.N) (r : Fin 512) (i : Fin 256) : (iblk m c 2 t : Vec Ideal S512x256 .bf16) (ix2 r i) = B0 m c (row t.val r) i := by
  blk_ext [iblk, V, index t]

theorem iblk3 (t : Fin cfg0.N) (r : Fin 512) (i : Fin 256) : (iblk m c 3 t : Vec Ideal S512x256 .bf16) (ix2 r i) = B1 m c (row t.val r) i := by
  blk_ext [iblk, V, index t]

theorem iblk4 (t : Fin cfg0.N) (r : Fin 512) (i : Fin 256) : (iblk m c 4 t : Vec Ideal S512x256 .bf16) (ix2 r i) = B2 m c (row t.val r) i := by
  blk_ext [iblk, V, index t]

theorem iblk5 (t : Fin cfg0.N) (r : Fin 512) (i : Fin 256) : (iblk m c 5 t : Vec Ideal S512x256 .bf16) (ix2 r i) = B3 m c (row t.val r) i := by
  blk_ext [iblk, V, index t]

theorem iblk9 (t : Fin cfg0.N) (r : Fin 1024) (i : Fin 1024) : (iblk m c 9 t : Vec Ideal S1024x1024 .bf16) (ix2 r i) = WO m c r i := by
  blk_ext [iblk, V, index t]

theorem iblk10 (t : Fin cfg0.N) (u : Fin 1) (i : Fin 1024) : (iblk m c 10 t : Vec Ideal S1x1024 .f32) (ix2 u i) = G m c i := by
  have e : V m c main_v23 = (broadcastInDim S1x1024 ![1] bcast_S1024_S1x1024_1 (m ((c : Thread nD τ).loc main_arg13) : FVec Ideal S1024 .f32) : FVec Ideal S1x1024 .f32) := by
    unfold V; after_results
  have h : (iblk m c 10 t : Vec Ideal S1x1024 .f32) (ix2 u i) = (V m c main_v23 : Vec Ideal S1x1024 .f32) (ix2 u i) := by
    blk_ext [iblk, index t]
  rw [h, e]
  pointwise
  rfl

theorem ld1_0 (t : Fin cfg0.N) (r : Fin 512) (i : Fin 1024) : (View.ld (iblk m c 1 t) r0_0 : Vec Ideal S512x1024 .bf16) (ix2 r i) = H m c (row t.val r) i := by
  refine (View.ld_unit_apply_of _ _ _ _ _ (ix2 r i) fun a => ?_).trans (iblk1 m c t _ _)
  match a with
  | ⟨0, _⟩ => simp
  | ⟨1, _⟩ => simp

theorem ld2_3 (t : Fin cfg0.N) (r : Fin 512) (i : Fin 256) : (View.ld (iblk m c 2 t) r0_3 : Vec Ideal S512x256 .bf16) (ix2 r i) = B0 m c (row t.val r) i := by
  refine (View.ld_unit_apply_of _ _ _ _ _ (ix2 r i) fun a => ?_).trans (iblk2 m c t _ _)
  match a with
  | ⟨0, _⟩ => simp
  | ⟨1, _⟩ => simp

theorem ld3_3 (t : Fin cfg0.N) (r : Fin 512) (i : Fin 256) : (View.ld (iblk m c 3 t) r0_3 : Vec Ideal S512x256 .bf16) (ix2 r i) = B1 m c (row t.val r) i := by
  refine (View.ld_unit_apply_of _ _ _ _ _ (ix2 r i) fun a => ?_).trans (iblk3 m c t _ _)
  match a with
  | ⟨0, _⟩ => simp
  | ⟨1, _⟩ => simp

theorem ld4_3 (t : Fin cfg0.N) (r : Fin 512) (i : Fin 256) : (View.ld (iblk m c 4 t) r0_3 : Vec Ideal S512x256 .bf16) (ix2 r i) = B2 m c (row t.val r) i := by
  refine (View.ld_unit_apply_of _ _ _ _ _ (ix2 r i) fun a => ?_).trans (iblk4 m c t _ _)
  match a with
  | ⟨0, _⟩ => simp
  | ⟨1, _⟩ => simp

theorem host2 : V m c main_v2 = (truncf .bf16 (extractStridedSlice S4096x1024 ![1952, 0] (transpose S6048x1024 [1, 0] (m ((c : Thread nD τ).loc main_arg6) : FVec Ideal S1024x6048 .f32) transposes_S1024x6048_S6048x1024_1_0) slices_S6048x1024_S4096x1024_1952_0) bitsLt_bf16_f32 : FVec Ideal S4096x1024 .bf16) := by
  unfold V; after_results

theorem host21 : V m c main_v21 = (broadcastInDim S1x4096 ![1] bcast_S4096_S1x4096_1 (m ((c : Thread nD τ).loc main_arg7) : FVec Ideal S4096 .f32) : FVec Ideal S1x4096 .f32) := by
  unfold V; after_results

/-- A branch's projection as the kernel holds it. -/
abbrev stacked (x : FVec Ideal S256x1024 .f32) : FVec Ideal S1x1024x256 .bf16 :=
  broadcastInDim S1x1024x256 ![1, 2] bcast_S1024x256_S1x1024x256_1_2 (truncf .bf16 (transpose S1024x256 [1, 0] x transposes_S256x1024_S1024x256_1_0 : FVec Ideal S1024x256 .f32) bitsLt_bf16_f32 : FVec Ideal S1024x256 .bf16)

theorem host15 : V m c main_v15 = (concatenate S4x1024x256 0 [⟨S1x1024x256, stacked (m ((c : Thread nD τ).loc main_arg8))⟩, ⟨S1x1024x256, stacked (m ((c : Thread nD τ).loc main_arg9))⟩, ⟨S1x1024x256, stacked (m ((c : Thread nD τ).loc main_arg10))⟩, ⟨S1x1024x256, stacked (m ((c : Thread nD τ).loc main_arg11))⟩] concatenates_S1x1024x256_S1x1024x256_S1x1024x256_S1x1024x256_S4x1024x256_d0 : FVec Ideal S4x1024x256 .bf16) := by
  unfold V
  after_results_entrywise (rounds := 1) []

theorem iblk6 (t : Fin cfg0.N) (k : Fin 4) (o i : Fin 1024) : (iblk m c 6 t : Vec Ideal S4096x1024 .bf16) (ix2 (quarter k o) i) = WI m c i (column k o) := by
  have h : (iblk m c 6 t : Vec Ideal S4096x1024 .bf16) (ix2 (quarter k o) i) = (V m c main_v2 : Vec Ideal S4096x1024 .bf16) (ix2 (quarter k o) i) := by
    blk_ext [iblk, index t]
  rw [h, host2]
  pointwise
  rfl

theorem iblk7 (t : Fin cfg0.N) (u : Fin 1) (o : Fin 4096) : (iblk m c 7 t : Vec Ideal S1x4096 .f32) (ix2 u o) = GB m c o := by
  have h : (iblk m c 7 t : Vec Ideal S1x4096 .f32) (ix2 u o) = (V m c main_v21 : Vec Ideal S1x4096 .f32) (ix2 u o) := by
    blk_ext [iblk, index t]
  rw [h, host21]
  pointwise
  rfl

theorem iblk8 (t : Fin cfg0.N) (k : Fin 4) (o : Fin 1024) (a : Fin 256) : (iblk m c 8 t : Vec Ideal S4x1024x256 .bf16) (ix3 k o a) = (V m c main_v15 : Vec Ideal S4x1024x256 .bf16) (ix3 k o a) := by
  blk_ext [iblk, index t]

theorem ld6_1 (t : Fin cfg0.N) (o i : Fin 1024) : (View.ld (iblk m c 6 t) r0_1 : Vec Ideal S1024x1024 .bf16) (ix2 o i) = WI m c i (column 0 o) := by
  refine (View.ld_unit_apply_of _ _ _ _ _ (ix2 (quarter 0 o) i) fun a => ?_).trans (iblk6 m c t _ _ _)
  match a with
  | ⟨0, _⟩ => simp [quarter, place]
  | ⟨1, _⟩ => simp

theorem ld7_2 (t : Fin cfg0.N) (u : Fin 1) (o : Fin 1024) : (View.ld (iblk m c 7 t) r0_2 : Vec Ideal S1x1024 .f32) (ix2 u o) = GB m c (quarter 0 o) := by
  refine (View.ld_unit_apply_of _ _ _ _ _ (ix2 u (quarter 0 o)) fun a => ?_).trans (iblk7 m c t _ _)
  match a with
  | ⟨0, _⟩ => simp
  | ⟨1, _⟩ => simp [quarter, place]

theorem ld8_4 (t : Fin cfg0.N) (u : Fin 1) (o : Fin 1024) (j : Fin 256) : (View.ld (iblk m c 8 t) r0_4 : Vec Ideal S1x1024x256 .bf16) (ix3 u o j) = P0 m c j o := by
  refine (View.ld_unit_apply_of _ _ _ _ _ (ix3 0 o j) fun a => ?_).trans ((iblk8 m c t _ _ _).trans ?_)
  · match a with
    | ⟨0, _⟩ => simp
    | ⟨1, _⟩ => simp
    | ⟨2, _⟩ => simp
  · rw [host15]
    unfold stacked
    pointwise
    rfl

theorem ld6_5 (t : Fin cfg0.N) (o i : Fin 1024) : (View.ld (iblk m c 6 t) r0_5 : Vec Ideal S1024x1024 .bf16) (ix2 o i) = WI m c i (column 1 o) := by
  refine (View.ld_unit_apply_of _ _ _ _ _ (ix2 (quarter 1 o) i) fun a => ?_).trans (iblk6 m c t _ _ _)
  match a with
  | ⟨0, _⟩ => simp [quarter, place]
  | ⟨1, _⟩ => simp

theorem ld7_6 (t : Fin cfg0.N) (u : Fin 1) (o : Fin 1024) : (View.ld (iblk m c 7 t) r0_6 : Vec Ideal S1x1024 .f32) (ix2 u o) = GB m c (quarter 1 o) := by
  refine (View.ld_unit_apply_of _ _ _ _ _ (ix2 u (quarter 1 o)) fun a => ?_).trans (iblk7 m c t _ _)
  match a with
  | ⟨0, _⟩ => simp
  | ⟨1, _⟩ => simp [quarter, place]

theorem ld8_7 (t : Fin cfg0.N) (u : Fin 1) (o : Fin 1024) (j : Fin 256) : (View.ld (iblk m c 8 t) r0_7 : Vec Ideal S1x1024x256 .bf16) (ix3 u o j) = P1 m c j o := by
  refine (View.ld_unit_apply_of _ _ _ _ _ (ix3 1 o j) fun a => ?_).trans ((iblk8 m c t _ _ _).trans ?_)
  · match a with
    | ⟨0, _⟩ => simp
    | ⟨1, _⟩ => simp
    | ⟨2, _⟩ => simp
  · rw [host15]
    unfold stacked
    pointwise
    rfl

theorem ld6_8 (t : Fin cfg0.N) (o i : Fin 1024) : (View.ld (iblk m c 6 t) r0_8 : Vec Ideal S1024x1024 .bf16) (ix2 o i) = WI m c i (column 2 o) := by
  refine (View.ld_unit_apply_of _ _ _ _ _ (ix2 (quarter 2 o) i) fun a => ?_).trans (iblk6 m c t _ _ _)
  match a with
  | ⟨0, _⟩ => simp [quarter, place]
  | ⟨1, _⟩ => simp

theorem ld7_9 (t : Fin cfg0.N) (u : Fin 1) (o : Fin 1024) : (View.ld (iblk m c 7 t) r0_9 : Vec Ideal S1x1024 .f32) (ix2 u o) = GB m c (quarter 2 o) := by
  refine (View.ld_unit_apply_of _ _ _ _ _ (ix2 u (quarter 2 o)) fun a => ?_).trans (iblk7 m c t _ _)
  match a with
  | ⟨0, _⟩ => simp
  | ⟨1, _⟩ => simp [quarter, place]

theorem ld8_10 (t : Fin cfg0.N) (u : Fin 1) (o : Fin 1024) (j : Fin 256) : (View.ld (iblk m c 8 t) r0_10 : Vec Ideal S1x1024x256 .bf16) (ix3 u o j) = P2 m c j o := by
  refine (View.ld_unit_apply_of _ _ _ _ _ (ix3 2 o j) fun a => ?_).trans ((iblk8 m c t _ _ _).trans ?_)
  · match a with
    | ⟨0, _⟩ => simp
    | ⟨1, _⟩ => simp
    | ⟨2, _⟩ => simp
  · rw [host15]
    unfold stacked
    pointwise
    rfl

theorem ld6_11 (t : Fin cfg0.N) (o i : Fin 1024) : (View.ld (iblk m c 6 t) r0_11 : Vec Ideal S1024x1024 .bf16) (ix2 o i) = WI m c i (column 3 o) := by
  refine (View.ld_unit_apply_of _ _ _ _ _ (ix2 (quarter 3 o) i) fun a => ?_).trans (iblk6 m c t _ _ _)
  match a with
  | ⟨0, _⟩ => simp [quarter, place]
  | ⟨1, _⟩ => simp

theorem ld7_12 (t : Fin cfg0.N) (u : Fin 1) (o : Fin 1024) : (View.ld (iblk m c 7 t) r0_12 : Vec Ideal S1x1024 .f32) (ix2 u o) = GB m c (quarter 3 o) := by
  refine (View.ld_unit_apply_of _ _ _ _ _ (ix2 u (quarter 3 o)) fun a => ?_).trans (iblk7 m c t _ _)
  match a with
  | ⟨0, _⟩ => simp
  | ⟨1, _⟩ => simp [quarter, place]

theorem ld8_13 (t : Fin cfg0.N) (u : Fin 1) (o : Fin 1024) (j : Fin 256) : (View.ld (iblk m c 8 t) r0_13 : Vec Ideal S1x1024x256 .bf16) (ix3 u o j) = P3 m c j o := by
  refine (View.ld_unit_apply_of _ _ _ _ _ (ix3 3 o j) fun a => ?_).trans ((iblk8 m c t _ _ _).trans ?_)
  · match a with
    | ⟨0, _⟩ => simp
    | ⟨1, _⟩ => simp
    | ⟨2, _⟩ => simp
  · rw [host15]
    unfold stacked
    pointwise
    rfl

theorem emb11 (t : Fin cfg0.N) (r : Fin 512) (i : Fin 1024) : (((cfg0.win 11).blk t).view.emb (ix2 r i) : S8192x1024.Idx) = ix2 (row t.val r) i := by
  blk_ext [index t]

theorem emb12 (t : Fin cfg0.N) (r : Fin 512) (i : Fin 1024) : (((cfg0.win 12).blk t).view.emb (ix2 r i) : S8192x1024.Idx) = ix2 (row t.val r) i := by
  blk_ext [index t]

theorem emb13 (t : Fin cfg0.N) (r : Fin 512) (i : Fin 1024) : (((cfg0.win 13).blk t).view.emb (ix2 r i) : S8192x1024.Idx) = ix2 (row t.val r) i := by
  blk_ext [index t]

/-- A block's rows of the merged stream. -/
theorem pay8_at (t : Fin cfg0.N) (r : Fin 512) (i : Fin 1024) :
    k0_pay8 (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_12) (iblk m c 5 t) (View.ld (iblk m c 8 t) r0_13) (ix2 r i) = merged (H m c) (WI m c) (GB m c) (B0 m c) (B1 m c) (B2 m c) (B3 m c) (P0 m c) (P1 m c) (P2 m c) (P3 m c) (row t.val r) i := by
  unfold k0_pay8 k0_pay13 k0_pay14 k0_pay12 k0_pay6 k0_pay7 k0_pay3 k0_pay4 k0_pay5 k0_pay2
  have hld1_0 := ld1_0 m c t
  generalize View.ld (iblk m c 1 t) r0_0 = xld1_0 at hld1_0 ⊢
  have hld6_1 := ld6_1 m c t
  generalize View.ld (iblk m c 6 t) r0_1 = xld6_1 at hld6_1 ⊢
  have hld6_5 := ld6_5 m c t
  generalize View.ld (iblk m c 6 t) r0_5 = xld6_5 at hld6_5 ⊢
  have hld6_8 := ld6_8 m c t
  generalize View.ld (iblk m c 6 t) r0_8 = xld6_8 at hld6_8 ⊢
  have hld6_11 := ld6_11 m c t
  generalize View.ld (iblk m c 6 t) r0_11 = xld6_11 at hld6_11 ⊢
  have hld7_2 := ld7_2 m c t
  generalize View.ld (iblk m c 7 t) r0_2 = xld7_2 at hld7_2 ⊢
  have hld7_6 := ld7_6 m c t
  generalize View.ld (iblk m c 7 t) r0_6 = xld7_6 at hld7_6 ⊢
  have hld7_9 := ld7_9 m c t
  generalize View.ld (iblk m c 7 t) r0_9 = xld7_9 at hld7_9 ⊢
  have hld7_12 := ld7_12 m c t
  generalize View.ld (iblk m c 7 t) r0_12 = xld7_12 at hld7_12 ⊢
  have hld8_4 := ld8_4 m c t
  generalize View.ld (iblk m c 8 t) r0_4 = xld8_4 at hld8_4 ⊢
  have hld8_7 := ld8_7 m c t
  generalize View.ld (iblk m c 8 t) r0_7 = xld8_7 at hld8_7 ⊢
  have hld8_10 := ld8_10 m c t
  generalize View.ld (iblk m c 8 t) r0_10 = xld8_10 at hld8_10 ⊢
  have hld8_13 := ld8_13 m c t
  generalize View.ld (iblk m c 8 t) r0_13 = xld8_13 at hld8_13 ⊢
  have hld2_3 := ld2_3 m c t
  generalize View.ld (iblk m c 2 t) r0_3 = xld2_3 at hld2_3 ⊢
  have hld3_3 := ld3_3 m c t
  generalize View.ld (iblk m c 3 t) r0_3 = xld3_3 at hld3_3 ⊢
  have hld4_3 := ld4_3 m c t
  generalize View.ld (iblk m c 4 t) r0_3 = xld4_3 at hld4_3 ⊢
  pointwise [shapeCast_self, dot_S512x1024_S1024x1024_S512x1024_1_1_0_0_n_n, dot_S512x256_S1024x256_S512x1024_1_1_0_0_n_n]
  simp only [hld1_0, hld6_1, hld6_5, hld6_8, hld6_11, hld7_2, hld7_6, hld7_9, hld7_12, hld8_4, hld8_7, hld8_10, hld8_13, hld2_3, hld3_3, hld4_3, iblk5, Ideal.ofBits_one_f32, zero_sub]
  rfl

/-- A block's rows of the merged stream's projection. -/
theorem pay9_at (t : Fin cfg0.N) (r : Fin 512) (i : Fin 1024) :
    k0_pay9 (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_12) (iblk m c 5 t) (View.ld (iblk m c 8 t) r0_13) (iblk m c 9 t) (ix2 r i) = dot (merged (H m c) (WI m c) (GB m c) (B0 m c) (B1 m c) (B2 m c) (B3 m c) (P0 m c) (P1 m c) (P2 m c) (P3 m c)) (WO m c) (row t.val r) i := by
  have hf := fun i => pay8_at m c t r i
  unfold k0_pay9
  generalize k0_pay8 (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_12) (iblk m c 5 t) (View.ld (iblk m c 8 t) r0_13) = f at hf ⊢
  pointwise [shapeCast_self, dot_S512x1024_S1024x1024_S512x1024_1_0_0_1_n_n]
  simp only [hf, iblk9]
  rfl

/-- A block's rows of the stream after the merge. -/
theorem pay1_at (t : Fin cfg0.N) (r : Fin 512) (i : Fin 1024) :
    k0_pay1 (k0_pay9 (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_12) (iblk m c 5 t) (View.ld (iblk m c 8 t) r0_13) (iblk m c 9 t)) (iblk m c 0 t) (k0_pay10 (iblk m c 10 t)) (k0_pay11 (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_12) (iblk m c 5 t) (View.ld (iblk m c 8 t) r0_13) (iblk m c 9 t)) (ix2 r i)
      = X m c (row t.val r) i + norm (dot (merged (H m c) (WI m c) (GB m c) (B0 m c) (B1 m c) (B2 m c) (B3 m c) (P0 m c) (P1 m c) (P2 m c) (P3 m c)) (WO m c)) (G m c) (row t.val r) i := by
  have hf := fun i => pay9_at m c t r i
  unfold k0_pay1 k0_pay11 k0_pay10
  generalize k0_pay9 (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 7 t) r0_12) (iblk m c 5 t) (View.ld (iblk m c 8 t) r0_13) (iblk m c 9 t) = f at hf ⊢
  pointwise [shapeCast_self]
  simp only [hf, iblk0, iblk10]
  rfl

theorem arr11 : ((dats m 0 c).arrAt 11 cfg0.N : Vec Ideal S8192x1024 .f32) = fun j => X m c (j 0) (j 1) + norm (dot (merged (H m c) (WI m c) (GB m c) (B0 m c) (B1 m c) (B2 m c) (B3 m c) (P0 m c) (P1 m c) (P2 m c) (P3 m c)) (WO m c)) (G m c) (j 0) (j 1) := by
  refine (dats m 0 c).arrAt_eq_of_covers 11 _ (by decide +kernel) fun t hf y => ?_
  obtain ⟨r, i, hy⟩ : ∃ (r : Fin 512) (i : Fin 1024), y = ix2 r i := ⟨_, _, ValueIdx.eq_ix2 y⟩
  subst hy
  have ht : t.val < 16 := lt_of_lt_of_eq t.isLt N_0
  rw [emb11]
  refine Eq.trans ?_ (pay1_at m c t r i)
  rw [after0_11]
  frame_out
  rfl

theorem arr12 : ((dats m 0 c).arrAt 12 cfg0.N : Vec Ideal S8192x1024 .bf16) = fun j => (merged (H m c) (WI m c) (GB m c) (B0 m c) (B1 m c) (B2 m c) (B3 m c) (P0 m c) (P1 m c) (P2 m c) (P3 m c)) (j 0) (j 1) := by
  refine (dats m 0 c).arrAt_eq_of_covers 12 _ (by decide +kernel) fun t hf y => ?_
  obtain ⟨r, i, hy⟩ : ∃ (r : Fin 512) (i : Fin 1024), y = ix2 r i := ⟨_, _, ValueIdx.eq_ix2 y⟩
  subst hy
  have ht : t.val < 16 := lt_of_lt_of_eq t.isLt N_0
  rw [emb12]
  refine Eq.trans ?_ (pay8_at m c t r i)
  rw [after0_12]
  frame_out
  rfl

theorem arr13 : ((dats m 0 c).arrAt 13 cfg0.N : Vec Ideal S8192x1024 .f32) = fun j => (dot (merged (H m c) (WI m c) (GB m c) (B0 m c) (B1 m c) (B2 m c) (B3 m c) (P0 m c) (P1 m c) (P2 m c) (P3 m c)) (WO m c)) (j 0) (j 1) := by
  refine (dats m 0 c).arrAt_eq_of_covers 13 _ (by decide +kernel) fun t hf y => ?_
  obtain ⟨r, i, hy⟩ : ∃ (r : Fin 512) (i : Fin 1024), y = ix2 r i := ⟨_, _, ValueIdx.eq_ix2 y⟩
  subst hy
  have ht : t.val < 16 := lt_of_lt_of_eq t.isLt N_0
  rw [emb13]
  refine Eq.trans ?_ (pay9_at m c t r i)
  rw [after0_13]
  frame_out
  rfl

end Cert.MergeForwardIdeal.Out
end
-- ==== Proof.MergeForwardReference.lean ====
/- The merge of the four branches, in the reference's own terms. -/
module

public import proofs.«01_k».proof.Proof.MergeForwardMath
public import proofs.«01_k».proof.Proof.Gen.MergeForwardReferenceIdeal.Run
public import Idealize.ShloMosaic.Lib.Pointwise

@[expose] public section

set_option maxRecDepth 16384

noncomputable section

namespace Cert.MergeForwardReferenceIdeal.Out

open Cert.MergeForwardReferenceIdeal Cert.MergeForwardReferenceIdeal.Value Idealize.ShloMosaic Idealize.ShloMosaic.TcCoe Idealize.SL.Sem
open Cert.NormMath Cert.MergeForwardMath

variable (m : (ℓ : Loc nD τ sig) → Buf (Elt Ideal) ℓ) (c : Dev nD)

def X (r : Fin 8192) (i : Fin 1024) : EReal := (m ((c.tc : Thread nD τ).loc main_arg0) : Vec Ideal S8192x1024 .f32) (ix2 r i)
def H (r : Fin 8192) (i : Fin 1024) : EReal := (m ((c.tc : Thread nD τ).loc main_arg1) : Vec Ideal S8192x1024 .f32) (ix2 r i)
def B0 (r : Fin 8192) (i : Fin 256) : EReal := (m ((c.tc : Thread nD τ).loc main_arg2) : Vec Ideal S8192x256 .f32) (ix2 r i)
def B1 (r : Fin 8192) (i : Fin 256) : EReal := (m ((c.tc : Thread nD τ).loc main_arg3) : Vec Ideal S8192x256 .f32) (ix2 r i)
def B2 (r : Fin 8192) (i : Fin 256) : EReal := (m ((c.tc : Thread nD τ).loc main_arg4) : Vec Ideal S8192x256 .f32) (ix2 r i)
def B3 (r : Fin 8192) (i : Fin 256) : EReal := (m ((c.tc : Thread nD τ).loc main_arg5) : Vec Ideal S8192x256 .f32) (ix2 r i)
def WI (r : Fin 1024) (i : Fin 6048) : EReal := (m ((c.tc : Thread nD τ).loc main_arg6) : Vec Ideal S1024x6048 .f32) (ix2 r i)
def GB (i : Fin 4096) : EReal := (m ((c.tc : Thread nD τ).loc main_arg7) : Vec Ideal S4096 .f32) (ix1 i)
def P0 (r : Fin 256) (i : Fin 1024) : EReal := (m ((c.tc : Thread nD τ).loc main_arg8) : Vec Ideal S256x1024 .f32) (ix2 r i)
def P1 (r : Fin 256) (i : Fin 1024) : EReal := (m ((c.tc : Thread nD τ).loc main_arg9) : Vec Ideal S256x1024 .f32) (ix2 r i)
def P2 (r : Fin 256) (i : Fin 1024) : EReal := (m ((c.tc : Thread nD τ).loc main_arg10) : Vec Ideal S256x1024 .f32) (ix2 r i)
def P3 (r : Fin 256) (i : Fin 1024) : EReal := (m ((c.tc : Thread nD τ).loc main_arg11) : Vec Ideal S256x1024 .f32) (ix2 r i)
def WO (r : Fin 1024) (i : Fin 1024) : EReal := (m ((c.tc : Thread nD τ).loc main_arg12) : Vec Ideal S1024x1024 .f32) (ix2 r i)
def G (i : Fin 1024) : EReal := (m ((c.tc : Thread nD τ).loc main_arg13) : Vec Ideal S1024 .f32) (ix1 i)

/-- The reference runs, and its results are these. -/
theorem run (ρ : Dev nD → PrngReg) :
    θ_run defs (onTc (τ := τ) (main (F := Ideal))) ⟨m, fun _ => 0, ρ⟩ fun r => ∀ c : Dev nD,
      (r.2.mem ((c.tc : Thread nD τ).loc main_v42) : Vec Ideal S8192x1024 .f32) = (fun j => X m c (j 0) (j 1) + norm (dot (merged (H m c) (WI m c) (GB m c) (B0 m c) (B1 m c) (B2 m c) (B3 m c) (P0 m c) (P1 m c) (P2 m c) (P3 m c)) (WO m c)) (G m c) (j 0) (j 1))
      ∧ (r.2.mem ((c.tc : Thread nD τ).loc main_v43) : Vec Ideal S8192x1024 .bf16) = (fun j => (merged (H m c) (WI m c) (GB m c) (B0 m c) (B1 m c) (B2 m c) (B3 m c) (P0 m c) (P1 m c) (P2 m c) (P3 m c)) (j 0) (j 1))
      ∧ (r.2.mem ((c.tc : Thread nD τ).loc main_v28) : Vec Ideal S8192x1024 .f32) = (fun j => (dot (merged (H m c) (WI m c) (GB m c) (B0 m c) (B1 m c) (B2 m c) (B3 m c) (P0 m c) (P1 m c) (P2 m c) (P3 m c)) (WO m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun _ h c => ?_) (Cert.MergeForwardReferenceIdeal.Value.run m ρ)
  obtain ⟨h1, h2, h3, hargs⟩ := h c
  refine ⟨h1.trans ?_, h2.trans ?_, h3.trans ?_, hargs⟩ <;> clear hargs h1 h2 h3 h <;> funext j
  · obtain ⟨r, i, rfl⟩ : ∃ r i, j = ix2 r i := ⟨_, _, ValueIdx.eq_ix2 j⟩
    unfold res_main_v42
    pointwise [dot_S8192x1024_S1024x6048_S8192x6048_1_0_0_1_n_n, dot_S8192x256_S256x1024_S8192x1024_1_0_0_1_n_n, dot_S8192x1024_S1024x1024_S8192x1024_1_0_0_1_n_n]
    rfl
  · obtain ⟨r, i, rfl⟩ : ∃ r i, j = ix2 r i := ⟨_, _, ValueIdx.eq_ix2 j⟩
    pointwise [dot_S8192x1024_S1024x6048_S8192x6048_1_0_0_1_n_n, dot_S8192x256_S256x1024_S8192x1024_1_0_0_1_n_n, dot_S8192x1024_S1024x1024_S8192x1024_1_0_0_1_n_n]
    rfl
  · obtain ⟨r, i, rfl⟩ : ∃ r i, j = ix2 r i := ⟨_, _, ValueIdx.eq_ix2 j⟩
    pointwise [dot_S8192x1024_S1024x6048_S8192x6048_1_0_0_1_n_n, dot_S8192x256_S256x1024_S8192x1024_1_0_0_1_n_n, dot_S8192x1024_S1024x1024_S8192x1024_1_0_0_1_n_n]
    rfl

end Cert.MergeForwardReferenceIdeal.Out

end
-- ==== Proof.MergeForwardClaims.lean ====
/- The claims about the merge of the four branches: the reference's frame, and the equality of the results. -/
module

public import proofs.«01_k».proof.Defs
public import proofs.«01_k».proof.Proof.MergeForwardOut
public import proofs.«01_k».proof.Proof.MergeForwardReference
public import Idealize.ShloMosaic.Adequacy
public import Idealize.ShloMosaic.Init

@[expose] public section

noncomputable section

namespace Cert.Proof

open Idealize.ShloMosaic Idealize.SL.Sem

theorem merge_forward_reference_frame : Cert.quiescent_MergeForwardReferenceIdeal := fun m ρ _ =>
  (θ_run Cert.MergeForwardReferenceIdeal.defs _ _).mono (fun r h => ⟨fun c => (h c).2.2.2, sem_eq_zero_of_no_sems (by decide) r.2⟩)
    (Cert.MergeForwardReferenceIdeal.Out.run m ρ)

theorem merge_forward_algebraic : Cert.algebraic_MergeForwardIdeal_MergeForwardReferenceIdeal := fun m ρ m' ρ' _ hag => by
  have hX : ∀ c, MergeForwardReferenceIdeal.Out.X m' c = MergeForwardIdeal.Out.X m c := fun c => funext fun _ => funext fun _ => congrFun (hag c).1 _
  have hH : ∀ c, MergeForwardReferenceIdeal.Out.H m' c = MergeForwardIdeal.Out.H m c := fun c => funext fun _ => funext fun _ => congrFun (hag c).2.1 _
  have hB0 : ∀ c, MergeForwardReferenceIdeal.Out.B0 m' c = MergeForwardIdeal.Out.B0 m c := fun c => funext fun _ => funext fun _ => congrFun (hag c).2.2.1 _
  have hB1 : ∀ c, MergeForwardReferenceIdeal.Out.B1 m' c = MergeForwardIdeal.Out.B1 m c := fun c => funext fun _ => funext fun _ => congrFun (hag c).2.2.2.1 _
  have hB2 : ∀ c, MergeForwardReferenceIdeal.Out.B2 m' c = MergeForwardIdeal.Out.B2 m c := fun c => funext fun _ => funext fun _ => congrFun (hag c).2.2.2.2.1 _
  have hB3 : ∀ c, MergeForwardReferenceIdeal.Out.B3 m' c = MergeForwardIdeal.Out.B3 m c := fun c => funext fun _ => funext fun _ => congrFun (hag c).2.2.2.2.2.1 _
  have hWI : ∀ c, MergeForwardReferenceIdeal.Out.WI m' c = MergeForwardIdeal.Out.WI m c := fun c => funext fun _ => funext fun _ => congrFun (hag c).2.2.2.2.2.2.1 _
  have hGB : ∀ c, MergeForwardReferenceIdeal.Out.GB m' c = MergeForwardIdeal.Out.GB m c := fun c => funext fun _ => congrFun (hag c).2.2.2.2.2.2.2.1 _
  have hP0 : ∀ c, MergeForwardReferenceIdeal.Out.P0 m' c = MergeForwardIdeal.Out.P0 m c := fun c => funext fun _ => funext fun _ => congrFun (hag c).2.2.2.2.2.2.2.2.1 _
  have hP1 : ∀ c, MergeForwardReferenceIdeal.Out.P1 m' c = MergeForwardIdeal.Out.P1 m c := fun c => funext fun _ => funext fun _ => congrFun (hag c).2.2.2.2.2.2.2.2.2.1 _
  have hP2 : ∀ c, MergeForwardReferenceIdeal.Out.P2 m' c = MergeForwardIdeal.Out.P2 m c := fun c => funext fun _ => funext fun _ => congrFun (hag c).2.2.2.2.2.2.2.2.2.2.1 _
  have hP3 : ∀ c, MergeForwardReferenceIdeal.Out.P3 m' c = MergeForwardIdeal.Out.P3 m c := fun c => funext fun _ => funext fun _ => congrFun (hag c).2.2.2.2.2.2.2.2.2.2.2.1 _
  have hWO : ∀ c, MergeForwardReferenceIdeal.Out.WO m' c = MergeForwardIdeal.Out.WO m c := fun c => funext fun _ => funext fun _ => congrFun (hag c).2.2.2.2.2.2.2.2.2.2.2.2.1 _
  have hG : ∀ c, MergeForwardReferenceIdeal.Out.G m' c = MergeForwardIdeal.Out.G m c := fun c => funext fun _ => congrFun (hag c).2.2.2.2.2.2.2.2.2.2.2.2.2 _
  refine ⟨_, _, _, MergeForwardIdeal.Value.run_blocks m ρ, (θ_run _ _ _).mono (fun _ h c => ?_) (MergeForwardReferenceIdeal.Out.run m' ρ')⟩
  obtain ⟨h1, h2, h3, hargs⟩ := h c
  rw [hX, hH, hWI, hGB, hB0, hB1, hB2, hB3, hP0, hP1, hP2, hP3, hWO, hG] at h1
  rw [hH, hWI, hGB, hB0, hB1, hB2, hB3, hP0, hP1, hP2, hP3] at h2
  rw [hH, hWI, hGB, hB0, hB1, hB2, hB3, hP0, hP1, hP2, hP3, hWO] at h3
  exact ⟨h1.trans (MergeForwardIdeal.Out.arr11 m c).symm, h2.trans (MergeForwardIdeal.Out.arr12 m c).symm, h3.trans (MergeForwardIdeal.Out.arr13 m c).symm, hargs⟩

end Cert.Proof
end
-- ==== Proof.ProjectionMath.lean ====
/- The columns of the input projection as the attention reads them. -/
module

public import proofs.«01_k».proof.Proof.NormMath

@[expose] public section

noncomputable section

namespace Cert.ProjectionMath

open Idealize.ShloMosaic Cert.NormMath

/-- The attention's columns: the latents, then the rotated part padded to a head's width, then the same with its halves swapped. -/
def attn (w : Fin 1024 → Fin 6048 → EReal) (i : Fin 1024) (o : Fin 640) : EReal :=
  if _ : o.val < 384 then w i ⟨o.val, by omega⟩
  else if _ : o.val < 448 then 0
  else if _ : o.val < 480 then w i ⟨o.val - 64, by omega⟩
  else if _ : o.val < 576 then 0
  else if _ : o.val < 592 then w i ⟨o.val - 176, by omega⟩
  else if _ : o.val < 608 then w i ⟨o.val - 208, by omega⟩
  else 0
/-- The columns of the mixers. -/
def mix (w : Fin 1024 → Fin 6048 → EReal) (i : Fin 1024) (o : Fin 1536) : EReal := w i ⟨416 + o.val, by have := o.isLt; omega⟩

/-- What the padding is filled with. -/
theorem filled : (FloatOps.sitofp .f32 (0#32) : Ideal .f32) = (0 : EReal) := by
  show (((0#32 : BitVec 32).toInt : ℝ) : EReal) = 0
  simp

end Cert.ProjectionMath

end
-- ==== Proof.ProjectionOut.lean ====
/- The input projection: what the three result arrays of the kernel hold. -/
module

public import proofs.«01_k».proof.Proof.ProjectionMath
public import proofs.«01_k».proof.Proof.Gen.ProjectionIdeal.Value
public import Idealize.ShloMosaic.Lib.Pipeline.ValueKit
public import Idealize.ShloMosaic.Lib.Pipeline.ReadBack
public import Idealize.ShloMosaic.Lib.Pointwise
public import Idealize.ShloMosaic.Lib.StableHlo.RunClose

@[expose] public section

set_option maxRecDepth 16384

noncomputable section

namespace Cert.ProjectionIdeal.Out

open Cert.ProjectionIdeal Cert.ProjectionIdeal.Gen Cert.ProjectionIdeal.Value Idealize.ShloMosaic Idealize.ShloMosaic.TcCoe Idealize.SL.Sem
open Cert.NormMath Cert.ProjectionMath

variable (m : (ℓ : Loc nD τ sig) → Buf (Elt Ideal) ℓ) (c : Dev nD)

def X (r : Fin 8192) (i : Fin 1024) : EReal := (m ((c : Thread nD τ).loc main_arg0) : Vec Ideal S8192x1024 .f32) (ix2 r i)
def G (i : Fin 1024) : EReal := (m ((c : Thread nD τ).loc main_arg1) : Vec Ideal S1024 .f32) (ix1 i)
def WI (r : Fin 1024) (i : Fin 6048) : EReal := (m ((c : Thread nD τ).loc main_arg2) : Vec Ideal S1024x6048 .f32) (ix2 r i)

theorem index : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] := by decide +kernel

/-- Row `r` of the `n`-th block of tokens. -/
abbrev row (n : ℕ) (r : Fin 1024) : Fin 8192 := ⟨(1024 * n + r.val) % 8192, Nat.mod_lt _ (by decide)⟩

theorem iblk0 (t : Fin cfg0.N) (r : Fin 1024) (i : Fin 1024) : (iblk m c 0 t : Vec Ideal S1024x1024 .f32) (ix2 r i) = X m c (row t.val r) i := by
  blk_ext [iblk, V, index t]

theorem iblk1 (t : Fin cfg0.N) (u : Fin 1) (i : Fin 1024) : (iblk m c 1 t : Vec Ideal S1x1024 .f32) (ix2 u i) = G m c i := by
  have e : V m c main_v0 = (broadcastInDim S1x1024 ![1] bcast_S1024_S1x1024_1 (m ((c : Thread nD τ).loc main_arg1) : FVec Ideal S1024 .f32) : FVec Ideal S1x1024 .f32) := by
    unfold V; simp only [List.flatten_cons, List.flatten_nil, List.append_nil, List.cons_append, List.nil_append]; after_results
  have h : (iblk m c 1 t : Vec Ideal S1x1024 .f32) (ix2 u i) = (V m c main_v0 : Vec Ideal S1x1024 .f32) (ix2 u i) := by
    blk_ext [iblk, index t]
  rw [h, e]
  pointwise
  rfl

/-- The rotated part's rows. -/
abbrev rotated (w : FVec Ideal S1024x6048 .f32) : FVec Ideal S32x1024 .f32 :=
  extractStridedSlice S32x1024 ![384, 0] (transpose S6048x1024 [1, 0] w transposes_S1024x6048_S6048x1024_1_0 : FVec Ideal S6048x1024 .f32) slices_S6048x1024_S32x1024_384_0
/-- The same with its halves swapped. -/
abbrev swapped (w : FVec Ideal S1024x6048 .f32) : FVec Ideal S32x1024 .f32 :=
  concatenate S32x1024 0 [⟨S16x1024, (extractStridedSlice S16x1024 ![16, 0] (rotated w) slices_S32x1024_S16x1024_16_0 : FVec Ideal S16x1024 .f32)⟩, ⟨S16x1024, (extractStridedSlice S16x1024 ![0, 0] (rotated w) slices_S32x1024_S16x1024_0_0 : FVec Ideal S16x1024 .f32)⟩] concatenates_S16x1024_S16x1024_S32x1024_d0
/-- Thirty-two rows padded to a head's width. -/
abbrev padded (x : FVec Ideal S32x1024 .f32) : FVec Ideal S128x1024 .f32 :=
  pad S128x1024 ![64, 0] ![32, 0] ![0, 0] x (sitofp .f32 (constantI S_ 32 0#32) : FVec Ideal S_ .f32) pads_S32x1024_S128x1024_64320_000 h_S_
/-- The projection's rows as the kernel holds them. -/
abbrev heldRows (w : FVec Ideal S1024x6048 .f32) : FVec Ideal S2176x1024 .bf16 :=
  truncf .bf16 (concatenate S2176x1024 0 [⟨S384x1024, (extractStridedSlice S384x1024 ![0, 0] (transpose S6048x1024 [1, 0] w transposes_S1024x6048_S6048x1024_1_0 : FVec Ideal S6048x1024 .f32) slices_S6048x1024_S384x1024_0_0 : FVec Ideal S384x1024 .f32)⟩, ⟨S128x1024, padded (rotated w)⟩, ⟨S128x1024, padded (swapped w)⟩, ⟨S1536x1024, (extractStridedSlice S1536x1024 ![416, 0] (transpose S6048x1024 [1, 0] w transposes_S1024x6048_S6048x1024_1_0 : FVec Ideal S6048x1024 .f32) slices_S6048x1024_S1536x1024_416_0 : FVec Ideal S1536x1024 .f32)⟩] concatenates_S384x1024_S128x1024_S128x1024_S1536x1024_S2176x1024_d0 : FVec Ideal S2176x1024 .f32) bitsLt_bf16_f32

theorem hostRows : V m c main_v11 = heldRows (m ((c : Thread nD τ).loc main_arg2)) := by
  unfold V
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_entrywise (rounds := 1) []

theorem heldRows_low (w : FVec Ideal S1024x6048 .f32) (o : Fin 640) (i : Fin 1024) :
    heldRows w (ix2 ⟨o.val, by omega⟩ i) = attn (fun i o => w (ix2 i o)) i o := by
  unfold heldRows padded swapped rotated
  pointwise
  unfold attn
  repeat' split
  all_goals first | rfl | (exfalso; omega) | exact filled | (refine congrArg (fun k => w (ix2 i k)) (Fin.ext ?_); dsimp only; omega)

theorem heldRows_high (w : FVec Ideal S1024x6048 .f32) (o : Fin 1536) (i : Fin 1024) :
    heldRows w (ix2 ⟨640 + o.val, by omega⟩ i) = mix (fun i o => w (ix2 i o)) i o := by
  unfold heldRows padded swapped rotated
  pointwise
  unfold mix
  repeat' split
  all_goals first | rfl | (exfalso; omega) | exact filled | (refine congrArg (fun k => w (ix2 i k)) (Fin.ext ?_); dsimp only; omega)

theorem iblk2 (t : Fin cfg0.N) (o : Fin 2176) (i : Fin 1024) : (iblk m c 2 t : Vec Ideal S2176x1024 .bf16) (ix2 o i) = heldRows (m ((c : Thread nD τ).loc main_arg2)) (ix2 o i) := by
  have h : (iblk m c 2 t : Vec Ideal S2176x1024 .bf16) (ix2 o i) = (V m c main_v11 : Vec Ideal S2176x1024 .bf16) (ix2 o i) := by
    blk_ext [iblk, index t]
  rw [h, hostRows]

theorem ld2_2 (t : Fin cfg0.N) (o : Fin 640) (i : Fin 1024) : (View.ld (iblk m c 2 t) r0_2 : Vec Ideal S640x1024 .bf16) (ix2 o i) = attn (WI m c) i o := by
  refine (View.ld_unit_apply_of _ _ _ _ _ (ix2 ⟨o.val, by omega⟩ i) fun a => ?_).trans ((iblk2 m c t _ _).trans (heldRows_low _ o i))
  match a with
  | ⟨0, _⟩ => simp
  | ⟨1, _⟩ => simp

theorem ld2_4 (t : Fin cfg0.N) (o : Fin 1536) (i : Fin 1024) : (View.ld (iblk m c 2 t) r0_4 : Vec Ideal S1536x1024 .bf16) (ix2 o i) = mix (WI m c) i o := by
  refine (View.ld_unit_apply_of _ _ _ _ _ (ix2 ⟨640 + o.val, by omega⟩ i) fun a => ?_).trans ((iblk2 m c t _ _).trans (heldRows_high _ o i))
  match a with
  | ⟨0, _⟩ => simp
  | ⟨1, _⟩ => simp

theorem emb3 (t : Fin cfg0.N) (r : Fin 1024) (i : Fin 1024) : (((cfg0.win 3).blk t).view.emb (ix2 r i) : S8192x1024.Idx) = ix2 (row t.val r) i := by
  blk_ext [index t]

theorem emb4 (t : Fin cfg0.N) (r : Fin 1024) (i : Fin 640) : (((cfg0.win 4).blk t).view.emb (ix2 r i) : S8192x640.Idx) = ix2 (row t.val r) i := by
  blk_ext [index t]

theorem emb5 (t : Fin cfg0.N) (r : Fin 1024) (i : Fin 1536) : (((cfg0.win 5).blk t).view.emb (ix2 r i) : S8192x1536.Idx) = ix2 (row t.val r) i := by
  blk_ext [index t]

/-- A block's rows of the normed stream. -/
theorem pay1_at (t : Fin cfg0.N) (r : Fin 1024) (i : Fin 1024) :
    k0_pay1 (iblk m c 0 t) (iblk m c 1 t) (ix2 r i) = norm (X m c) (G m c) (row t.val r) i := by
  unfold k0_pay1
  pointwise [shapeCast_self]
  simp only [iblk0, iblk1]
  rfl

/-- A block's rows of the attention's columns. -/
theorem pay2_at (t : Fin cfg0.N) (r : Fin 1024) (i : Fin 640) :
    k0_pay2 (iblk m c 0 t) (iblk m c 1 t) (View.ld (iblk m c 2 t) r0_2) (ix2 r i) = dot (norm (X m c) (G m c)) (attn (WI m c)) (row t.val r) i := by
  have hf := fun i => pay1_at m c t r i
  unfold k0_pay2
  have hld2_2 := ld2_2 m c t
  generalize View.ld (iblk m c 2 t) r0_2 = xld2_2 at hld2_2 ⊢
  generalize k0_pay1 (iblk m c 0 t) (iblk m c 1 t) = f at hf ⊢
  pointwise [shapeCast_self, dot_S1024x1024_S640x1024_S1024x640_1_1_0_0_n_n]
  simp only [hf, hld2_2]
  rfl

/-- A block's rows of the mixers' columns. -/
theorem pay3_at (t : Fin cfg0.N) (r : Fin 1024) (i : Fin 1536) :
    k0_pay3 (iblk m c 0 t) (iblk m c 1 t) (View.ld (iblk m c 2 t) r0_4) (ix2 r i) = dot (norm (X m c) (G m c)) (mix (WI m c)) (row t.val r) i := by
  have hf := fun i => pay1_at m c t r i
  unfold k0_pay3
  have hld2_4 := ld2_4 m c t
  generalize View.ld (iblk m c 2 t) r0_4 = xld2_4 at hld2_4 ⊢
  generalize k0_pay1 (iblk m c 0 t) (iblk m c 1 t) = f at hf ⊢
  pointwise [shapeCast_self, dot_S1024x1024_S1536x1024_S1024x1536_1_1_0_0_n_n]
  simp only [hf, hld2_4]
  rfl

theorem arr3 : ((dats m 0 c).arrAt 3 cfg0.N : Vec Ideal S8192x1024 .bf16) = fun j => norm (X m c) (G m c) (j 0) (j 1) := by
  refine (dats m 0 c).arrAt_eq_of_covers 3 _ (by decide +kernel) fun t hf y => ?_
  obtain ⟨r, i, hy⟩ : ∃ (r : Fin 1024) (i : Fin 1024), y = ix2 r i := ⟨_, _, ValueIdx.eq_ix2 y⟩
  subst hy
  have ht : t.val < 8 := lt_of_lt_of_eq t.isLt N_0
  rw [emb3]
  refine Eq.trans ?_ (pay1_at m c t r i)
  rw [after0_3]
  frame_out
  rfl

theorem arr4 : ((dats m 0 c).arrAt 4 cfg0.N : Vec Ideal S8192x640 .f32) = fun j => dot (norm (X m c) (G m c)) (attn (WI m c)) (j 0) (j 1) := by
  refine (dats m 0 c).arrAt_eq_of_covers 4 _ (by decide +kernel) fun t hf y => ?_
  obtain ⟨r, i, hy⟩ : ∃ (r : Fin 1024) (i : Fin 640), y = ix2 r i := ⟨_, _, ValueIdx.eq_ix2 y⟩
  subst hy
  have ht : t.val < 8 := lt_of_lt_of_eq t.isLt N_0
  rw [emb4]
  refine Eq.trans ?_ (pay2_at m c t r i)
  rw [after0_4]
  frame_out
  rfl

theorem arr5 : ((dats m 0 c).arrAt 5 cfg0.N : Vec Ideal S8192x1536 .f32) = fun j => dot (norm (X m c) (G m c)) (mix (WI m c)) (j 0) (j 1) := by
  refine (dats m 0 c).arrAt_eq_of_covers 5 _ (by decide +kernel) fun t hf y => ?_
  obtain ⟨r, i, hy⟩ : ∃ (r : Fin 1024) (i : Fin 1536), y = ix2 r i := ⟨_, _, ValueIdx.eq_ix2 y⟩
  subst hy
  have ht : t.val < 8 := lt_of_lt_of_eq t.isLt N_0
  rw [emb5]
  refine Eq.trans ?_ (pay3_at m c t r i)
  rw [after0_5]
  frame_out
  rfl

end Cert.ProjectionIdeal.Out
end
-- ==== Proof.ProjectionReference.lean ====
/- The input projection, in the reference's own terms. -/
module

public import proofs.«01_k».proof.Proof.ProjectionMath
public import proofs.«01_k».proof.Proof.Gen.ProjectionReferenceIdeal.Run
public import Idealize.ShloMosaic.Lib.Pointwise

@[expose] public section

set_option maxRecDepth 16384

noncomputable section

namespace Cert.ProjectionReferenceIdeal.Out

open Cert.ProjectionReferenceIdeal Cert.ProjectionReferenceIdeal.Value Idealize.ShloMosaic Idealize.ShloMosaic.TcCoe Idealize.SL.Sem
open Cert.ProjectionReferenceIdeal.Gen
open Cert.NormMath Cert.ProjectionMath

variable (m : (ℓ : Loc nD τ sig) → Buf (Elt Ideal) ℓ) (c : Dev nD)

def X (r : Fin 8192) (i : Fin 1024) : EReal := (m ((c.tc : Thread nD τ).loc main_arg0) : Vec Ideal S8192x1024 .f32) (ix2 r i)
def G (i : Fin 1024) : EReal := (m ((c.tc : Thread nD τ).loc main_arg1) : Vec Ideal S1024 .f32) (ix1 i)
def WI (r : Fin 1024) (i : Fin 6048) : EReal := (m ((c.tc : Thread nD τ).loc main_arg2) : Vec Ideal S1024x6048 .f32) (ix2 r i)

/-- The attention's columns of the projection. -/
abbrev columns (w : FVec Ideal S1024x6048 .f32) : FVec Ideal S1024x640 .f32 :=
  (concatenate S1024x640 1 [⟨S1024x384, ((extractStridedSlice S1024x384 ![0, 0] w slices_S1024x6048_S1024x384_0_0) : (⟨S1024x384, .f32⟩ : BufTy).Contents (Elt Ideal))⟩, ⟨S1024x64, ((broadcastInDim S1024x64 ![] bcast_S_S1024x64 (constant S_ .f32 0x00000000#32 : FVec Ideal S_ .f32)) : (⟨S1024x64, .f32⟩ : BufTy).Contents (Elt Ideal))⟩, ⟨S1024x32, ((extractStridedSlice S1024x32 ![0, 384] w slices_S1024x6048_S1024x32_0_384) : (⟨S1024x32, .f32⟩ : BufTy).Contents (Elt Ideal))⟩, ⟨S1024x32, ((broadcastInDim S1024x32 ![] bcast_S_S1024x32 (constant S_ .f32 0x00000000#32 : FVec Ideal S_ .f32)) : (⟨S1024x32, .f32⟩ : BufTy).Contents (Elt Ideal))⟩, ⟨S1024x64, ((broadcastInDim S1024x64 ![] bcast_S_S1024x64 (constant S_ .f32 0x00000000#32 : FVec Ideal S_ .f32)) : (⟨S1024x64, .f32⟩ : BufTy).Contents (Elt Ideal))⟩, ⟨S1024x16, ((extractStridedSlice S1024x16 ![0, 400] w slices_S1024x6048_S1024x16_0_400) : (⟨S1024x16, .f32⟩ : BufTy).Contents (Elt Ideal))⟩, ⟨S1024x16, ((extractStridedSlice S1024x16 ![0, 384] w slices_S1024x6048_S1024x16_0_384) : (⟨S1024x16, .f32⟩ : BufTy).Contents (Elt Ideal))⟩, ⟨S1024x32, ((broadcastInDim S1024x32 ![] bcast_S_S1024x32 (constant S_ .f32 0x00000000#32 : FVec Ideal S_ .f32)) : (⟨S1024x32, .f32⟩ : BufTy).Contents (Elt Ideal))⟩] concatenates_S1024x384_S1024x64_S1024x32_S1024x32_S1024x64_S1024x16_S1024x16_S1024x32_S1024x640_d1 : (⟨S1024x640, .f32⟩ : BufTy).Contents (Elt Ideal))

theorem columns_at (w : FVec Ideal S1024x6048 .f32) (i : Fin 1024) (o : Fin 640) :
    columns w (ix2 i o) = attn (fun i o => w (ix2 i o)) i o := by
  unfold columns
  pointwise
  unfold attn
  repeat' split
  all_goals first | rfl | (exfalso; omega) | (refine congrArg (fun k => w (ix2 i k)) (Fin.ext ?_); dsimp only; omega)

/-- The reference runs, and its results are these. -/
theorem run (ρ : Dev nD → PrngReg) :
    θ_run defs (onTc (τ := τ) (main (F := Ideal))) ⟨m, fun _ => 0, ρ⟩ fun r => ∀ c : Dev nD,
      (r.2.mem ((c.tc : Thread nD τ).loc main_v13) : Vec Ideal S8192x1024 .bf16) = (fun j => norm (X m c) (G m c) (j 0) (j 1))
      ∧ (r.2.mem ((c.tc : Thread nD τ).loc main_v23) : Vec Ideal S8192x640 .f32) = (fun j => dot (norm (X m c) (G m c)) (attn (WI m c)) (j 0) (j 1))
      ∧ (r.2.mem ((c.tc : Thread nD τ).loc main_v25) : Vec Ideal S8192x1536 .f32) = (fun j => dot (norm (X m c) (G m c)) (mix (WI m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Cert.ProjectionReferenceIdeal.Value.run m ρ)
  obtain ⟨h1, h2, h3, hargs⟩ := h c
  refine ⟨h1.trans ?_, h2.trans ?_, h3.trans ?_, hargs⟩ <;> clear hargs h1 h2 h3 h <;> funext j
  · obtain ⟨r, i, rfl⟩ : ∃ r i, j = ix2 r i := ⟨_, _, ValueIdx.eq_ix2 j⟩
    pointwise [dot_S8192x1024_S1024x640_S8192x640_1_0_0_1_n_n, dot_S8192x1024_S1024x1536_S8192x1536_1_0_0_1_n_n]
    rfl
  · obtain ⟨r, i, rfl⟩ : ∃ r i, j = ix2 r i := ⟨_, _, ValueIdx.eq_ix2 j⟩
    have h := columns_at (m ((c.tc : Thread nD τ).loc main_arg2))
    generalize hb : columns (m ((c.tc : Thread nD τ).loc main_arg2)) = wc at h
    unfold columns at hb
    rw [hb]
    clear hb
    pointwise [dot_S8192x1024_S1024x640_S8192x640_1_0_0_1_n_n, dot_S8192x1024_S1024x1536_S8192x1536_1_0_0_1_n_n]
    simp only [h]
    rfl
  · obtain ⟨r, i, rfl⟩ : ∃ r i, j = ix2 r i := ⟨_, _, ValueIdx.eq_ix2 j⟩
    pointwise [dot_S8192x1024_S1024x640_S8192x640_1_0_0_1_n_n, dot_S8192x1024_S1024x1536_S8192x1536_1_0_0_1_n_n]
    rfl

end Cert.ProjectionReferenceIdeal.Out

end
-- ==== Proof.ProjectionClaims.lean ====
/- The claims about the input projection: the reference's frame, and the equality of the results. -/
module

public import proofs.«01_k».proof.Defs
public import proofs.«01_k».proof.Proof.ProjectionOut
public import proofs.«01_k».proof.Proof.ProjectionReference
public import Idealize.ShloMosaic.Adequacy
public import Idealize.ShloMosaic.Init

@[expose] public section

noncomputable section

namespace Cert.Proof

open Idealize.ShloMosaic Idealize.SL.Sem

theorem projection_reference_frame : Cert.quiescent_ProjectionReferenceIdeal := fun m ρ _ =>
  (θ_run Cert.ProjectionReferenceIdeal.defs _ _).mono (fun r h => ⟨fun c => (h c).2.2.2, sem_eq_zero_of_no_sems (by decide) r.2⟩)
    (Cert.ProjectionReferenceIdeal.Out.run m ρ)

theorem projection_algebraic : Cert.algebraic_ProjectionIdeal_ProjectionReferenceIdeal := fun m ρ m' ρ' _ hag => by
  have hX : ∀ c, ProjectionReferenceIdeal.Out.X m' c = ProjectionIdeal.Out.X m c := fun c => funext fun _ => funext fun _ => congrFun (hag c).1 _
  have hG : ∀ c, ProjectionReferenceIdeal.Out.G m' c = ProjectionIdeal.Out.G m c := fun c => funext fun _ => congrFun (hag c).2.1 _
  have hWI : ∀ c, ProjectionReferenceIdeal.Out.WI m' c = ProjectionIdeal.Out.WI m c := fun c => funext fun _ => funext fun _ => congrFun (hag c).2.2 _
  refine ⟨_, _, _, ProjectionIdeal.Value.run_blocks m ρ, (θ_run _ _ _).mono (fun _ h c => ?_) (ProjectionReferenceIdeal.Out.run m' ρ')⟩
  obtain ⟨h1, h2, h3, hargs⟩ := h c
  rw [hX, hG] at h1
  rw [hX, hG, hWI] at h2
  rw [hX, hG, hWI] at h3
  exact ⟨h1.trans (ProjectionIdeal.Out.arr3 m c).symm, h2.trans (ProjectionIdeal.Out.arr4 m c).symm, h3.trans (ProjectionIdeal.Out.arr5 m c).symm, hargs⟩

end Cert.Proof
end
-- ==== Proof.ProjectionGradientMath.lean ====
/- The gradient that comes back through the input projection. -/
module

public import proofs.«01_k».proof.Proof.ProjectionMath
public import proofs.«01_k».proof.Proof.MergeForwardMath

@[expose] public section

noncomputable section

namespace Cert.ProjectionGradientMath

open Idealize.ShloMosaic Cert.NormMath Cert.ProjectionMath Cert.MergeForwardMath

/-- The gradient of the normed stream: the part of the attention, that of the mixers, and one for each branch's gates. -/
def dNormed (w : Fin 1024 → Fin 6048 → EReal) (da : Fin 8192 → Fin 640 → EReal) (dm : Fin 8192 → Fin 1536 → EReal)
    (d0 d1 d2 d3 : Fin 8192 → Fin 1024 → EReal) (r : Fin 8192) (i : Fin 1024) : EReal :=
  (∑ o, da r o * attn w i o) + (∑ o, dm r o * mix w i o) + (∑ o, d0 r o * w i (column 0 o)) + (∑ o, d1 r o * w i (column 1 o))
    + (∑ o, d2 r o * w i (column 2 o)) + (∑ o, d3 r o * w i (column 3 o))

/-- The six parts may be added in the other order. -/
theorem sum_parts (a b c d e f : EReal) : b + a + f + e + d + c = a + b + c + d + e + f := by abel

end Cert.ProjectionGradientMath

end
-- ==== Proof.ProjectionGradientOut.lean ====
/- The gradient of the input projection: what the four result arrays of the kernel hold. -/
module

public import proofs.«01_k».proof.Proof.ProjectionGradientMath
public import proofs.«01_k».proof.Proof.Gen.ProjectionGradientIdeal.Value
public import Idealize.ShloMosaic.Lib.Pipeline.ValueKit
public import Idealize.ShloMosaic.Lib.Pipeline.ReadBack
public import Idealize.ShloMosaic.Lib.Pointwise
public import Idealize.ShloMosaic.Lib.StableHlo.RunClose

@[expose] public section

set_option maxRecDepth 16384

noncomputable section

namespace Cert.ProjectionGradientIdeal.Out

open Cert.ProjectionGradientIdeal Cert.ProjectionGradientIdeal.Gen Cert.ProjectionGradientIdeal.Value Idealize.ShloMosaic Idealize.ShloMosaic.TcCoe Idealize.SL.Sem
open Cert.NormMath Cert.ProjectionMath Cert.MergeForwardMath Cert.ProjectionGradientMath

variable (m : (ℓ : Loc nD τ sig) → Buf (Elt Ideal) ℓ) (c : Dev nD)

def X (r : Fin 8192) (i : Fin 1024) : EReal := (m ((c : Thread nD τ).loc main_arg0) : Vec Ideal S8192x1024 .f32) (ix2 r i)
def G (i : Fin 1024) : EReal := (m ((c : Thread nD τ).loc main_arg1) : Vec Ideal S1024 .f32) (ix1 i)
def DX (r : Fin 8192) (i : Fin 1024) : EReal := (m ((c : Thread nD τ).loc main_arg2) : Vec Ideal S8192x1024 .f32) (ix2 r i)
def DA (r : Fin 8192) (i : Fin 640) : EReal := (m ((c : Thread nD τ).loc main_arg3) : Vec Ideal S8192x640 .f32) (ix2 r i)
def DM (r : Fin 8192) (i : Fin 1536) : EReal := (m ((c : Thread nD τ).loc main_arg4) : Vec Ideal S8192x1536 .f32) (ix2 r i)
def D0 (r : Fin 8192) (i : Fin 1024) : EReal := (m ((c : Thread nD τ).loc main_arg5) : Vec Ideal S8192x1024 .f32) (ix2 r i)
def D1 (r : Fin 8192) (i : Fin 1024) : EReal := (m ((c : Thread nD τ).loc main_arg6) : Vec Ideal S8192x1024 .f32) (ix2 r i)
def D2 (r : Fin 8192) (i : Fin 1024) : EReal := (m ((c : Thread nD τ).loc main_arg7) : Vec Ideal S8192x1024 .f32) (ix2 r i)
def D3 (r : Fin 8192) (i : Fin 1024) : EReal := (m ((c : Thread nD τ).loc main_arg8) : Vec Ideal S8192x1024 .f32) (ix2 r i)
def WI (r : Fin 1024) (i : Fin 6048) : EReal := (m ((c : Thread nD τ).loc main_arg9) : Vec Ideal S1024x6048 .f32) (ix2 r i)

theorem index : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![t.val, 0] ∧ win0_12.index t = ![0, 0] ∧ win0_13.index t = ![0, 0] ∧ win0_14.index t = ![0, 0] := by decide +kernel

/-- Row `r` of the `n`-th block of tokens. -/
abbrev row (n : ℕ) (r : Fin 512) : Fin 8192 := ⟨(512 * n + r.val) % 8192, Nat.mod_lt _ (by decide)⟩

theorem iblk0 (t : Fin cfg0.N) (r : Fin 512) (i : Fin 1024) : (iblk m c 0 t : Vec Ideal S512x1024 .f32) (ix2 r i) = X m c (row t.val r) i := by
  blk_ext [iblk, V, index t]

theorem iblk1 (t : Fin cfg0.N) (u : Fin 1) (i : Fin 1024) : (iblk m c 1 t : Vec Ideal S1x1024 .f32) (ix2 u i) = G m c i := by
  have e : V m c main_v7 = (broadcastInDim S1x1024 ![1] bcast_S1024_S1x1024_1 (m ((c : Thread nD τ).loc main_arg1) : FVec Ideal S1024 .f32) : FVec Ideal S1x1024 .f32) := by
    unfold V; simp only [List.flatten_cons, List.flatten_nil, List.append_nil, List.cons_append, List.nil_append]; after_results
  have h : (iblk m c 1 t : Vec Ideal S1x1024 .f32) (ix2 u i) = (V m c main_v7 : Vec Ideal S1x1024 .f32) (ix2 u i) := by
    blk_ext [iblk, index t]
  rw [h, e]
  pointwise
  rfl

theorem iblk2 (t : Fin cfg0.N) (r : Fin 512) (i : Fin 1024) : (iblk m c 2 t : Vec Ideal S512x1024 .f32) (ix2 r i) = DX m c (row t.val r) i := by
  blk_ext [iblk, V, index t]

theorem iblk3 (t : Fin cfg0.N) (r : Fin 512) (i : Fin 640) : (iblk m c 3 t : Vec Ideal S512x640 .bf16) (ix2 r i) = DA m c (row t.val r) i := by
  have e : V m c main_v8 = (truncf .bf16 (m ((c : Thread nD τ).loc main_arg3) : FVec Ideal S8192x640 .f32) bitsLt_bf16_f32 : FVec Ideal S8192x640 .bf16) := by
    unfold V; simp only [List.flatten_cons, List.flatten_nil, List.append_nil, List.cons_append, List.nil_append]; after_results
  have h : (iblk m c 3 t : Vec Ideal S512x640 .bf16) (ix2 r i) = (V m c main_v8 : Vec Ideal S8192x640 .bf16) (ix2 (row t.val r) i) := by
    blk_ext [iblk, index t]
  rw [h, e]
  pointwise
  rfl

theorem iblk4 (t : Fin cfg0.N) (r : Fin 512) (i : Fin 1536) : (iblk m c 4 t : Vec Ideal S512x1536 .bf16) (ix2 r i) = DM m c (row t.val r) i := by
  have e : V m c main_v9 = (truncf .bf16 (m ((c : Thread nD τ).loc main_arg4) : FVec Ideal S8192x1536 .f32) bitsLt_bf16_f32 : FVec Ideal S8192x1536 .bf16) := by
    unfold V; simp only [List.flatten_cons, List.flatten_nil, List.append_nil, List.cons_append, List.nil_append]; after_results
  have h : (iblk m c 4 t : Vec Ideal S512x1536 .bf16) (ix2 r i) = (V m c main_v9 : Vec Ideal S8192x1536 .bf16) (ix2 (row t.val r) i) := by
    blk_ext [iblk, index t]
  rw [h, e]
  pointwise
  rfl

theorem iblk5 (t : Fin cfg0.N) (r : Fin 512) (i : Fin 1024) : (iblk m c 5 t : Vec Ideal S512x1024 .bf16) (ix2 r i) = D0 m c (row t.val r) i := by
  have e : V m c main_v3 = (truncf .bf16 (m ((c : Thread nD τ).loc main_arg5) : FVec Ideal S8192x1024 .f32) bitsLt_bf16_f32 : FVec Ideal S8192x1024 .bf16) := by
    unfold V; simp only [List.flatten_cons, List.flatten_nil, List.append_nil, List.cons_append, List.nil_append]; after_results
  have h : (iblk m c 5 t : Vec Ideal S512x1024 .bf16) (ix2 r i) = (V m c main_v3 : Vec Ideal S8192x1024 .bf16) (ix2 (row t.val r) i) := by
    blk_ext [iblk, index t]
  rw [h, e]
  pointwise
  rfl

theorem iblk6 (t : Fin cfg0.N) (r : Fin 512) (i : Fin 1024) : (iblk m c 6 t : Vec Ideal S512x1024 .bf16) (ix2 r i) = D1 m c (row t.val r) i := by
  have e : V m c main_v4 = (truncf .bf16 (m ((c : Thread nD τ).loc main_arg6) : FVec Ideal S8192x1024 .f32) bitsLt_bf16_f32 : FVec Ideal S8192x1024 .bf16) := by
    unfold V; simp only [List.flatten_cons, List.flatten_nil, List.append_nil, List.cons_append, List.nil_append]; after_results
  have h : (iblk m c 6 t : Vec Ideal S512x1024 .bf16) (ix2 r i) = (V m c main_v4 : Vec Ideal S8192x1024 .bf16) (ix2 (row t.val r) i) := by
    blk_ext [iblk, index t]
  rw [h, e]
  pointwise
  rfl

theorem iblk7 (t : Fin cfg0.N) (r : Fin 512) (i : Fin 1024) : (iblk m c 7 t : Vec Ideal S512x1024 .bf16) (ix2 r i) = D2 m c (row t.val r) i := by
  have e : V m c main_v5 = (truncf .bf16 (m ((c : Thread nD τ).loc main_arg7) : FVec Ideal S8192x1024 .f32) bitsLt_bf16_f32 : FVec Ideal S8192x1024 .bf16) := by
    unfold V; simp only [List.flatten_cons, List.flatten_nil, List.append_nil, List.cons_append, List.nil_append]; after_results
  have h : (iblk m c 7 t : Vec Ideal S512x1024 .bf16) (ix2 r i) = (V m c main_v5 : Vec Ideal S8192x1024 .bf16) (ix2 (row t.val r) i) := by
    blk_ext [iblk, index t]
  rw [h, e]
  pointwise
  rfl

theorem iblk8 (t : Fin cfg0.N) (r : Fin 512) (i : Fin 1024) : (iblk m c 8 t : Vec Ideal S512x1024 .bf16) (ix2 r i) = D3 m c (row t.val r) i := by
  have e : V m c main_v6 = (truncf .bf16 (m ((c : Thread nD τ).loc main_arg8) : FVec Ideal S8192x1024 .f32) bitsLt_bf16_f32 : FVec Ideal S8192x1024 .bf16) := by
    unfold V; simp only [List.flatten_cons, List.flatten_nil, List.append_nil, List.cons_append, List.nil_append]; after_results
  have h : (iblk m c 8 t : Vec Ideal S512x1024 .bf16) (ix2 r i) = (V m c main_v6 : Vec Ideal S8192x1024 .bf16) (ix2 (row t.val r) i) := by
    blk_ext [iblk, index t]
  rw [h, e]
  pointwise
  rfl

/-- The rotated part's rows. -/
abbrev rotated (w : FVec Ideal S1024x6048 .f32) : FVec Ideal S32x1024 .f32 :=
  extractStridedSlice S32x1024 ![384, 0] (transpose S6048x1024 [1, 0] w transposes_S1024x6048_S6048x1024_1_0 : FVec Ideal S6048x1024 .f32) slices_S6048x1024_S32x1024_384_0
/-- The same with its halves swapped. -/
abbrev swapped (w : FVec Ideal S1024x6048 .f32) : FVec Ideal S32x1024 .f32 :=
  concatenate S32x1024 0 [⟨S16x1024, (extractStridedSlice S16x1024 ![16, 0] (rotated w) slices_S32x1024_S16x1024_16_0 : FVec Ideal S16x1024 .f32)⟩, ⟨S16x1024, (extractStridedSlice S16x1024 ![0, 0] (rotated w) slices_S32x1024_S16x1024_0_0 : FVec Ideal S16x1024 .f32)⟩] concatenates_S16x1024_S16x1024_S32x1024_d0
/-- Thirty-two rows padded to a head's width. -/
abbrev padded (x : FVec Ideal S32x1024 .f32) : FVec Ideal S128x1024 .f32 :=
  pad S128x1024 ![64, 0] ![32, 0] ![0, 0] x (sitofp .f32 (constantI S_ 32 0#32) : FVec Ideal S_ .f32) pads_S32x1024_S128x1024_64320_000 h_S_
/-- The projection's rows as the kernel holds them. -/
abbrev heldRows (w : FVec Ideal S1024x6048 .f32) : FVec Ideal S2176x1024 .bf16 :=
  truncf .bf16 (concatenate S2176x1024 0 [⟨S384x1024, (extractStridedSlice S384x1024 ![0, 0] (transpose S6048x1024 [1, 0] w transposes_S1024x6048_S6048x1024_1_0 : FVec Ideal S6048x1024 .f32) slices_S6048x1024_S384x1024_0_0 : FVec Ideal S384x1024 .f32)⟩, ⟨S128x1024, padded (rotated w)⟩, ⟨S128x1024, padded (swapped w)⟩, ⟨S1536x1024, (extractStridedSlice S1536x1024 ![416, 0] (transpose S6048x1024 [1, 0] w transposes_S1024x6048_S6048x1024_1_0 : FVec Ideal S6048x1024 .f32) slices_S6048x1024_S1536x1024_416_0 : FVec Ideal S1536x1024 .f32)⟩] concatenates_S384x1024_S128x1024_S128x1024_S1536x1024_S2176x1024_d0 : FVec Ideal S2176x1024 .f32) bitsLt_bf16_f32

theorem hostRows : V m c main_v20 = heldRows (m ((c : Thread nD τ).loc main_arg9)) := by
  unfold V
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_entrywise (rounds := 1) []

theorem heldRows_low (w : FVec Ideal S1024x6048 .f32) (o : Fin 640) (i : Fin 1024) :
    heldRows w (ix2 ⟨o.val, by omega⟩ i) = attn (fun i o => w (ix2 i o)) i o := by
  unfold heldRows padded swapped rotated
  pointwise
  unfold attn
  repeat' split
  all_goals first | rfl | (exfalso; omega) | exact filled | (refine congrArg (fun k => w (ix2 i k)) (Fin.ext ?_); dsimp only; omega)

theorem heldRows_high (w : FVec Ideal S1024x6048 .f32) (o : Fin 1536) (i : Fin 1024) :
    heldRows w (ix2 ⟨640 + o.val, by omega⟩ i) = mix (fun i o => w (ix2 i o)) i o := by
  unfold heldRows padded swapped rotated
  pointwise
  unfold mix
  repeat' split
  all_goals first | rfl | (exfalso; omega) | exact filled | (refine congrArg (fun k => w (ix2 i k)) (Fin.ext ?_); dsimp only; omega)

theorem iblk9 (t : Fin cfg0.N) (o : Fin 2176) (i : Fin 1024) : (iblk m c 9 t : Vec Ideal S2176x1024 .bf16) (ix2 o i) = heldRows (m ((c : Thread nD τ).loc main_arg9)) (ix2 o i) := by
  have h : (iblk m c 9 t : Vec Ideal S2176x1024 .bf16) (ix2 o i) = (V m c main_v20 : Vec Ideal S2176x1024 .bf16) (ix2 o i) := by
    blk_ext [iblk, index t]
  rw [h, hostRows]

theorem ldA (t : Fin cfg0.N) (o : Fin 640) (i : Fin 1024) : (View.ld (iblk m c 9 t) (Rect.unit (s := S2176x1024) ![0, 0] S640x1024.size inb_S2176x1024_S640x1024_0_0) : Vec Ideal S640x1024 .bf16) (ix2 o i) = attn (WI m c) i o := by
  refine (View.ld_unit_apply_of _ _ _ _ _ (ix2 ⟨o.val, by omega⟩ i) fun a => ?_).trans ((iblk9 m c t _ _).trans (heldRows_low _ o i))
  match a with
  | ⟨0, _⟩ => simp
  | ⟨1, _⟩ => simp

theorem ldM (t : Fin cfg0.N) (o : Fin 1536) (i : Fin 1024) : (View.ld (iblk m c 9 t) (Rect.unit (s := S2176x1024) ![640, 0] S1536x1024.size inb_S2176x1024_S1536x1024_640_0) : Vec Ideal S1536x1024 .bf16) (ix2 o i) = mix (WI m c) i o := by
  refine (View.ld_unit_apply_of _ _ _ _ _ (ix2 ⟨640 + o.val, by omega⟩ i) fun a => ?_).trans ((iblk9 m c t _ _).trans (heldRows_high _ o i))
  match a with
  | ⟨0, _⟩ => simp
  | ⟨1, _⟩ => simp

theorem hostGates : V m c main_v2 = (truncf .bf16 (extractStridedSlice S4096x1024 ![1952, 0] (transpose S6048x1024 [1, 0] (m ((c : Thread nD τ).loc main_arg9) : FVec Ideal S1024x6048 .f32) transposes_S1024x6048_S6048x1024_1_0) slices_S6048x1024_S4096x1024_1952_0) bitsLt_bf16_f32 : FVec Ideal S4096x1024 .bf16) := by
  unfold V; simp only [List.flatten_cons, List.flatten_nil, List.append_nil, List.cons_append, List.nil_append]; after_results

theorem iblk10 (t : Fin cfg0.N) (k : Fin 4) (o i : Fin 1024) : (iblk m c 10 t : Vec Ideal S4096x1024 .bf16) (ix2 (quarter k o) i) = WI m c i (column k o) := by
  have h : (iblk m c 10 t : Vec Ideal S4096x1024 .bf16) (ix2 (quarter k o) i) = (V m c main_v2 : Vec Ideal S4096x1024 .bf16) (ix2 (quarter k o) i) := by
    blk_ext [iblk, index t]
  rw [h, hostGates]
  pointwise
  rfl

theorem ldG0 (t : Fin cfg0.N) (o i : Fin 1024) : (View.ld (iblk m c 10 t) (Rect.unit (s := S4096x1024) ![0, 0] S1024x1024.size inb_S4096x1024_S1024x1024_0_0) : Vec Ideal S1024x1024 .bf16) (ix2 o i) = WI m c i (column 0 o) := by
  refine (View.ld_unit_apply_of _ _ _ _ _ (ix2 (quarter 0 o) i) fun a => ?_).trans (iblk10 m c t _ _ _)
  match a with
  | ⟨0, _⟩ => simp [quarter, place]
  | ⟨1, _⟩ => simp

theorem ldG1 (t : Fin cfg0.N) (o i : Fin 1024) : (View.ld (iblk m c 10 t) (Rect.unit (s := S4096x1024) ![1024, 0] S1024x1024.size inb_S4096x1024_S1024x1024_1024_0) : Vec Ideal S1024x1024 .bf16) (ix2 o i) = WI m c i (column 1 o) := by
  refine (View.ld_unit_apply_of _ _ _ _ _ (ix2 (quarter 1 o) i) fun a => ?_).trans (iblk10 m c t _ _ _)
  match a with
  | ⟨0, _⟩ => simp [quarter, place]
  | ⟨1, _⟩ => simp

theorem ldG2 (t : Fin cfg0.N) (o i : Fin 1024) : (View.ld (iblk m c 10 t) (Rect.unit (s := S4096x1024) ![2048, 0] S1024x1024.size inb_S4096x1024_S1024x1024_2048_0) : Vec Ideal S1024x1024 .bf16) (ix2 o i) = WI m c i (column 2 o) := by
  refine (View.ld_unit_apply_of _ _ _ _ _ (ix2 (quarter 2 o) i) fun a => ?_).trans (iblk10 m c t _ _ _)
  match a with
  | ⟨0, _⟩ => simp [quarter, place]
  | ⟨1, _⟩ => simp

theorem ldG3 (t : Fin cfg0.N) (o i : Fin 1024) : (View.ld (iblk m c 10 t) (Rect.unit (s := S4096x1024) ![3072, 0] S1024x1024.size inb_S4096x1024_S1024x1024_3072_0) : Vec Ideal S1024x1024 .bf16) (ix2 o i) = WI m c i (column 3 o) := by
  refine (View.ld_unit_apply_of _ _ _ _ _ (ix2 (quarter 3 o) i) fun a => ?_).trans (iblk10 m c t _ _ _)
  match a with
  | ⟨0, _⟩ => simp [quarter, place]
  | ⟨1, _⟩ => simp

theorem emb11 (t : Fin cfg0.N) (r : Fin 512) (i : Fin 1024) : (((cfg0.win 11).blk t).view.emb (ix2 r i) : S8192x1024.Idx) = ix2 (row t.val r) i := by
  blk_ext [index t]

/-- A block's rows of the gradient of the normed stream. -/
theorem dh_at (t : Fin cfg0.N) (r : Fin 512) (i : Fin 1024) :
    k0_pay16 (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) (ix2 r i) = dNormed (WI m c) (DA m c) (DM m c) (D0 m c) (D1 m c) (D2 m c) (D3 m c) (row t.val r) i := by
  unfold k0_pay16 k0_pay15 k0_pay13 k0_pay14
  have hldA := ldA m c t
  generalize View.ld (iblk m c 9 t) (Rect.unit (s := S2176x1024) ![0, 0] S640x1024.size inb_S2176x1024_S640x1024_0_0) = xldA at hldA ⊢
  have hldM := ldM m c t
  generalize View.ld (iblk m c 9 t) (Rect.unit (s := S2176x1024) ![640, 0] S1536x1024.size inb_S2176x1024_S1536x1024_640_0) = xldM at hldM ⊢
  have hldG0 := ldG0 m c t
  generalize View.ld (iblk m c 10 t) (Rect.unit (s := S4096x1024) ![0, 0] S1024x1024.size inb_S4096x1024_S1024x1024_0_0) = xldG0 at hldG0 ⊢
  have hldG1 := ldG1 m c t
  generalize View.ld (iblk m c 10 t) (Rect.unit (s := S4096x1024) ![1024, 0] S1024x1024.size inb_S4096x1024_S1024x1024_1024_0) = xldG1 at hldG1 ⊢
  have hldG2 := ldG2 m c t
  generalize View.ld (iblk m c 10 t) (Rect.unit (s := S4096x1024) ![2048, 0] S1024x1024.size inb_S4096x1024_S1024x1024_2048_0) = xldG2 at hldG2 ⊢
  have hldG3 := ldG3 m c t
  generalize View.ld (iblk m c 10 t) (Rect.unit (s := S4096x1024) ![3072, 0] S1024x1024.size inb_S4096x1024_S1024x1024_3072_0) = xldG3 at hldG3 ⊢
  pointwise [shapeCast_self, dot_S512x640_S640x1024_S512x1024_1_0_0_1_n_n, dot_S512x1536_S1536x1024_S512x1024_1_0_0_1_n_n, dot_S512x1024_S1024x1024_S512x1024_1_0_0_1_n_n]
  simp only [hldA, hldM, hldG0, hldG1, hldG2, hldG3, iblk3, iblk4, iblk5, iblk6, iblk7, iblk8]
  rfl

/-- A block's rows of the normed stream. -/
theorem pay12_at (t : Fin cfg0.N) (r : Fin 512) (i : Fin 1024) :
    k0_pay12 (iblk m c 0 t) (iblk m c 1 t) (ix2 r i) = norm (X m c) (G m c) (row t.val r) i := by
  unfold k0_pay12 k0_pay11
  pointwise [shapeCast_self]
  simp only [iblk0, iblk1]
  rfl

/-- A block's rows of the stream's gradient. -/
theorem pay1_at (t : Fin cfg0.N) (r : Fin 512) (i : Fin 1024) :
    k0_pay1 (k0_pay17 (iblk m c 0 t)) (k0_pay18 (iblk m c 0 t)) (k0_pay20 (k0_pay11 (iblk m c 1 t)) (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0))) (k0_pay21 (iblk m c 0 t) (k0_pay11 (iblk m c 1 t)) (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0))) (iblk m c 2 t) (ix2 r i)
      = DX m c (row t.val r) i + normBack (X m c) (dNormed (WI m c) (DA m c) (DM m c) (D0 m c) (D1 m c) (D2 m c) (D3 m c)) (G m c) (row t.val r) i := by
  have hf := fun r i => dh_at m c t r i
  unfold k0_pay1 k0_pay21 k0_pay20 k0_pay18 k0_pay17 k0_pay11
  generalize k0_pay16 (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) = f at hf ⊢
  pointwise [shapeCast_self]
  simp only [hf, iblk0, iblk1, iblk2]
  rfl

/-- A block's part of the gain's gradient. -/
theorem pay19_at (t : Fin cfg0.N) (u : Fin 1) (i : Fin 1024) :
    k0_pay19 (iblk m c 0 t) (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) (ix2 u i) = ∑ r : Fin 512, dNormed (WI m c) (DA m c) (DM m c) (D0 m c) (D1 m c) (D2 m c) (D3 m c) (row t.val r) i * (X m c (row t.val r) i * scale (X m c (row t.val r))) := by
  have hf := fun r i => dh_at m c t r i
  unfold k0_pay19 k0_pay18 k0_pay17
  generalize k0_pay16 (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) = f at hf ⊢
  pointwise [shapeCast_self]
  simp only [hf, iblk0]
  rfl

/-- A block's part of the gradient of the attention's weights. -/
theorem pay3_at (t : Fin cfg0.N) (o : Fin 640) (i : Fin 1024) :
    k0_pay3 (k0_pay12 (iblk m c 0 t) (iblk m c 1 t)) (k0_pay13 (iblk m c 3 t)) (ix2 o i) = ∑ r : Fin 512, DA m c (row t.val r) o * norm (X m c) (G m c) (row t.val r) i := by
  unfold k0_pay3 k0_pay13
  pointwise [shapeCast_self, dot_S512x640_S512x1024_S640x1024_0_0_1_1_n_n]
  exact Finset.sum_congr (M := EReal) rfl fun r _ => congrArg₂ (· * ·) (iblk3 m c t r o) (pay12_at m c t r i)

/-- A block's part of the gradient of the mixers' weights. -/
theorem pay7_at (t : Fin cfg0.N) (o : Fin 1536) (i : Fin 1024) :
    k0_pay7 (k0_pay12 (iblk m c 0 t) (iblk m c 1 t)) (k0_pay14 (iblk m c 4 t)) (ix2 o i) = ∑ r : Fin 512, DM m c (row t.val r) o * norm (X m c) (G m c) (row t.val r) i := by
  unfold k0_pay7 k0_pay14
  pointwise [shapeCast_self, dot_S512x1536_S512x1024_S1536x1024_0_0_1_1_n_n]
  exact Finset.sum_congr (M := EReal) rfl fun r _ => congrArg₂ (· * ·) (iblk4 m c t r o) (pay12_at m c t r i)

theorem arr11 : ((dats m 0 c).arrAt 11 cfg0.N : Vec Ideal S8192x1024 .f32) = fun j => DX m c (j 0) (j 1) + normBack (X m c) (dNormed (WI m c) (DA m c) (DM m c) (D0 m c) (D1 m c) (D2 m c) (D3 m c)) (G m c) (j 0) (j 1) := by
  refine (dats m 0 c).arrAt_eq_of_covers 11 _ (by decide +kernel) fun t hf y => ?_
  obtain ⟨r, i, hy⟩ : ∃ (r : Fin 512) (i : Fin 1024), y = ix2 r i := ⟨_, _, ValueIdx.eq_ix2 y⟩
  subst hy
  have ht : t.val < 16 := lt_of_lt_of_eq t.isLt N_0
  rw [emb11]
  refine Eq.trans ?_ (pay1_at m c t r i)
  rw [after0_11]
  by_cases h : t.val % 16 = 0
  · rw [outsAt0_A m c t h (by omega) h (by omega) (by omega) h (by omega) (by omega)]
    frame_out
    rfl
  · by_cases h7 : t.val % 16 = 15
    · rw [outsAt0_C m c t h (by omega) h (by omega) h7 h (by omega) h7]
      frame_out
      rfl
    · rw [outsAt0_B m c t h (by omega) h (by omega) h7 h (by omega) h7]
      frame_out
      rfl

/-- The gain's gradient after the last point: every block's part. -/
theorem sumG (y : S1x1024.Idx) : (outsAt0 m c t0_15.val t0_15.isLt).2.1 y
    = 0 + ∑ t : Fin cfg0.N, k0_pay19 (iblk m c 0 t) (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) y := by
  refine Pipeline.eq_sum_fin_of_reset_step_apply_last (fun n h => (outsAt0 m c n h).2.1) 16 (fun _ => (0 : EReal)) _ (fun t h y => ?_) (fun t h y => ?_) (le_of_eq N_0) t0_15 rfl y
  · have ht : t.val < 16 := lt_of_lt_of_eq t.isLt N_0
    rw [outsAt0_A m c t h (by omega) h (by omega) (by omega) h (by omega) (by omega), zero_add]
    frame_out
    all_goals ((try unfold k0_pay2); (try generalize k0_pay19 (iblk m c 0 t) (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) = f); first | rfl | pointwise [shapeCast_self])
  · have ht : t.val < 16 := lt_of_lt_of_eq t.isLt N_0
    by_cases h7 : t.val % 16 = 15
    · rw [outsAt0_C m c t h (by omega) h (by omega) h7 h (by omega) h7]
      frame_out
      all_goals ((try simp only [read_unread_whole]); (try unfold k0_pay2); (try generalize k0_pay19 (iblk m c 0 t) (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) = f); first | rfl | pointwise [shapeCast_self])
    · rw [outsAt0_B m c t h (by omega) h (by omega) h7 h (by omega) h7]
      frame_out
      all_goals ((try simp only [read_unread_whole]); (try unfold k0_pay2); (try generalize k0_pay19 (iblk m c 0 t) (k0_pay15 (iblk m c 3 t) (iblk m c 4 t) (View.ld (iblk m c 9 t) (Rect.unit (s := S2176x1024) ![0, 0] S640x1024.size inb_S2176x1024_S640x1024_0_0)) (View.ld (iblk m c 9 t) (Rect.unit (s := S2176x1024) ![640, 0] S1536x1024.size inb_S2176x1024_S1536x1024_640_0)) (iblk m c 5 t) (View.ld (iblk m c 10 t) (Rect.unit (s := S4096x1024) ![0, 0] S1024x1024.size inb_S4096x1024_S1024x1024_0_0))) (iblk m c 6 t) (View.ld (iblk m c 10 t) (Rect.unit (s := S4096x1024) ![1024, 0] S1024x1024.size inb_S4096x1024_S1024x1024_1024_0)) (iblk m c 7 t) (View.ld (iblk m c 10 t) (Rect.unit (s := S4096x1024) ![2048, 0] S1024x1024.size inb_S4096x1024_S1024x1024_2048_0)) (iblk m c 8 t) (View.ld (iblk m c 10 t) (Rect.unit (s := S4096x1024) ![3072, 0] S1024x1024.size inb_S4096x1024_S1024x1024_3072_0)) = f); first | rfl | pointwise [shapeCast_self])

/-- The gradient of the attention's weights after the last point: every block's part. -/
theorem sumA (y : S640x1024.Idx) : (outsAt0 m c t0_15.val t0_15.isLt).2.2.2.2.1 y
    = 0 + ∑ t : Fin cfg0.N, k0_pay3 (k0_pay12 (iblk m c 0 t) (iblk m c 1 t)) (k0_pay13 (iblk m c 3 t)) y := by
  refine Pipeline.eq_sum_fin_of_reset_step_apply_last (fun n h => (outsAt0 m c n h).2.2.2.2.1) 16 (fun _ => (0 : EReal)) _ (fun t h y => ?_) (fun t h y => ?_) (le_of_eq N_0) t0_15 rfl y
  · have ht : t.val < 16 := lt_of_lt_of_eq t.isLt N_0
    rw [outsAt0_A m c t h (by omega) h (by omega) (by omega) h (by omega) (by omega), zero_add]
    frame_out
    all_goals ((try unfold k0_pay4); (try unfold k0_pay5); generalize k0_pay3 (k0_pay12 (iblk m c 0 t) (iblk m c 1 t)) (k0_pay13 (iblk m c 3 t)) = f; pointwise [shapeCast_self])
  · have ht : t.val < 16 := lt_of_lt_of_eq t.isLt N_0
    by_cases h7 : t.val % 16 = 15
    · rw [outsAt0_C m c t h (by omega) h (by omega) h7 h (by omega) h7]
      frame_out
      all_goals ((try simp only [read_unread_whole]); (try unfold k0_pay4); (try unfold k0_pay5); generalize k0_pay3 (k0_pay12 (iblk m c 0 t) (iblk m c 1 t)) (k0_pay13 (iblk m c 3 t)) = f; pointwise [shapeCast_self])
    · rw [outsAt0_B m c t h (by omega) h (by omega) h7 h (by omega) h7]
      frame_out
      all_goals ((try simp only [read_unread_whole]); (try unfold k0_pay4); (try unfold k0_pay5); generalize k0_pay3 (k0_pay12 (iblk m c 0 t) (iblk m c 1 t)) (k0_pay13 (iblk m c 3 t)) = f; pointwise [shapeCast_self])

/-- The gradient of the mixers' weights after the last point: every block's part. -/
theorem sumM (y : S1536x1024.Idx) : (outsAt0 m c t0_15.val t0_15.isLt).2.2.2.2.2 y
    = 0 + ∑ t : Fin cfg0.N, k0_pay7 (k0_pay12 (iblk m c 0 t) (iblk m c 1 t)) (k0_pay14 (iblk m c 4 t)) y := by
  refine Pipeline.eq_sum_fin_of_reset_step_apply_last (fun n h => (outsAt0 m c n h).2.2.2.2.2) 16 (fun _ => (0 : EReal)) _ (fun t h y => ?_) (fun t h y => ?_) (le_of_eq N_0) t0_15 rfl y
  · have ht : t.val < 16 := lt_of_lt_of_eq t.isLt N_0
    rw [outsAt0_A m c t h (by omega) h (by omega) (by omega) h (by omega) (by omega), zero_add]
    frame_out
    all_goals ((try unfold k0_pay8); (try unfold k0_pay9); generalize k0_pay7 (k0_pay12 (iblk m c 0 t) (iblk m c 1 t)) (k0_pay14 (iblk m c 4 t)) = f; pointwise [shapeCast_self])
  · have ht : t.val < 16 := lt_of_lt_of_eq t.isLt N_0
    by_cases h7 : t.val % 16 = 15
    · rw [outsAt0_C m c t h (by omega) h (by omega) h7 h (by omega) h7]
      frame_out
      all_goals ((try simp only [read_unread_whole]); (try unfold k0_pay8); (try unfold k0_pay9); generalize k0_pay7 (k0_pay12 (iblk m c 0 t) (iblk m c 1 t)) (k0_pay14 (iblk m c 4 t)) = f; pointwise [shapeCast_self])
    · rw [outsAt0_B m c t h (by omega) h (by omega) h7 h (by omega) h7]
      frame_out
      all_goals ((try simp only [read_unread_whole]); (try unfold k0_pay8); (try unfold k0_pay9); generalize k0_pay7 (k0_pay12 (iblk m c 0 t) (iblk m c 1 t)) (k0_pay14 (iblk m c 4 t)) = f; pointwise [shapeCast_self])

/-- The last point writes the sum out. -/
theorem outA (y : S640x1024.Idx) : (outsAt0 m c t0_15.val t0_15.isLt).2.2.1 y = (outsAt0 m c t0_15.val t0_15.isLt).2.2.2.2.1 y := by
  rw [outsAt0_C m c t0_15 (by decide) (by decide) (by decide) (by decide) (by decide) (by decide) (by decide) (by decide)]
  frame_out
  unfold k0_pay6
  pointwise [shapeCast_self]

/-- The last point writes the sum out. -/
theorem outM (y : S1536x1024.Idx) : (outsAt0 m c t0_15.val t0_15.isLt).2.2.2.1 y = (outsAt0 m c t0_15.val t0_15.isLt).2.2.2.2.2 y := by
  rw [outsAt0_C m c t0_15 (by decide) (by decide) (by decide) (by decide) (by decide) (by decide) (by decide) (by decide)]
  frame_out
  unfold k0_pay10
  pointwise [shapeCast_self]

theorem arr12 : ((dats m 0 c).arrAt 12 cfg0.N : Vec Ideal S1x1024 .f32) = fun j => gainBack (X m c) (dNormed (WI m c) (DA m c) (DM m c) (D0 m c) (D1 m c) (D2 m c) (D3 m c)) (j 1) := by
  refine (dats m 0 c).arrAt_eq_of_after_last 12 t0_15 (by decide +kernel) _ fun j => ?_
  obtain ⟨u, i, rfl⟩ : ∃ (u : Fin 1) (i : Fin 1024), j = ix2 u i := ⟨_, _, ValueIdx.eq_ix2 j⟩
  rw [after0_12]
  refine (sumG m c (ix2 u i)).trans ?_
  rw [zero_add]
  refine (Finset.sum_congr (M := EReal) rfl fun t _ => pay19_at m c t u i).trans ?_
  refine Eq.trans ?_ (show ∑ r : Fin 8192, dNormed (WI m c) (DA m c) (DM m c) (D0 m c) (D1 m c) (D2 m c) (D3 m c) r i * (X m c r i * scale (X m c r)) = _ from rfl)
  refine Fin.sum_mul_add_congr (S := 16) fun t r hl => ?_
  rw [show row t.val r = ⟨t.val * 512 + r.val, hl⟩ from Fin.ext (by dsimp only; omega)]

theorem arr13 : ((dats m 0 c).arrAt 13 cfg0.N : Vec Ideal S640x1024 .bf16) = fun j => dot (fun i r => DA m c r i) (norm (X m c) (G m c)) (j 0) (j 1) := by
  refine (dats m 0 c).arrAt_eq_of_after_last 13 t0_15 (by decide +kernel) _ fun j => ?_
  obtain ⟨u, i, rfl⟩ : ∃ (u : Fin 640) (i : Fin 1024), j = ix2 u i := ⟨_, _, ValueIdx.eq_ix2 j⟩
  rw [after0_13]
  refine (outA m c (ix2 u i)).trans <| (sumA m c (ix2 u i)).trans ?_
  rw [zero_add]
  refine (Finset.sum_congr (M := EReal) rfl fun t _ => pay3_at m c t u i).trans ?_
  refine Eq.trans ?_ (show ∑ r : Fin 8192, DA m c r u * norm (X m c) (G m c) r i = _ from rfl)
  refine Fin.sum_mul_add_congr (S := 16) fun t r hl => ?_
  rw [show row t.val r = ⟨t.val * 512 + r.val, hl⟩ from Fin.ext (by dsimp only; omega)]

theorem arr14 : ((dats m 0 c).arrAt 14 cfg0.N : Vec Ideal S1536x1024 .bf16) = fun j => dot (fun i r => DM m c r i) (norm (X m c) (G m c)) (j 0) (j 1) := by
  refine (dats m 0 c).arrAt_eq_of_after_last 14 t0_15 (by decide +kernel) _ fun j => ?_
  obtain ⟨u, i, rfl⟩ : ∃ (u : Fin 1536) (i : Fin 1024), j = ix2 u i := ⟨_, _, ValueIdx.eq_ix2 j⟩
  rw [after0_14]
  refine (outM m c (ix2 u i)).trans <| (sumM m c (ix2 u i)).trans ?_
  rw [zero_add]
  refine (Finset.sum_congr (M := EReal) rfl fun t _ => pay7_at m c t u i).trans ?_
  refine Eq.trans ?_ (show ∑ r : Fin 8192, DM m c r u * norm (X m c) (G m c) r i = _ from rfl)
  refine Fin.sum_mul_add_congr (S := 16) fun t r hl => ?_
  rw [show row t.val r = ⟨t.val * 512 + r.val, hl⟩ from Fin.ext (by dsimp only; omega)]

end Cert.ProjectionGradientIdeal.Out
end
-- ==== Proof.ProjectionGradientReference.lean ====
/- The gradient of the input projection, in the reference's own terms. -/
module

public import proofs.«01_k».proof.Proof.ProjectionGradientMath
public import proofs.«01_k».proof.Proof.Gen.ProjectionGradientReferenceIdeal.Run
public import Idealize.ShloMosaic.Lib.Pointwise

@[expose] public section

set_option maxRecDepth 16384

noncomputable section

namespace Cert.ProjectionGradientReferenceIdeal.Out

open Cert.ProjectionGradientReferenceIdeal Cert.ProjectionGradientReferenceIdeal.Value Idealize.ShloMosaic Idealize.ShloMosaic.TcCoe Idealize.SL.Sem
open Cert.ProjectionGradientReferenceIdeal.Gen
open Cert.NormMath Cert.ProjectionMath Cert.MergeForwardMath Cert.ProjectionGradientMath

variable (m : (ℓ : Loc nD τ sig) → Buf (Elt Ideal) ℓ) (c : Dev nD)

def X (r : Fin 8192) (i : Fin 1024) : EReal := (m ((c.tc : Thread nD τ).loc main_arg0) : Vec Ideal S8192x1024 .f32) (ix2 r i)
def G (i : Fin 1024) : EReal := (m ((c.tc : Thread nD τ).loc main_arg1) : Vec Ideal S1024 .f32) (ix1 i)
def DX (r : Fin 8192) (i : Fin 1024) : EReal := (m ((c.tc : Thread nD τ).loc main_arg2) : Vec Ideal S8192x1024 .f32) (ix2 r i)
def DA (r : Fin 8192) (i : Fin 640) : EReal := (m ((c.tc : Thread nD τ).loc main_arg3) : Vec Ideal S8192x640 .f32) (ix2 r i)
def DM (r : Fin 8192) (i : Fin 1536) : EReal := (m ((c.tc : Thread nD τ).loc main_arg4) : Vec Ideal S8192x1536 .f32) (ix2 r i)
def D0 (r : Fin 8192) (i : Fin 1024) : EReal := (m ((c.tc : Thread nD τ).loc main_arg5) : Vec Ideal S8192x1024 .f32) (ix2 r i)
def D1 (r : Fin 8192) (i : Fin 1024) : EReal := (m ((c.tc : Thread nD τ).loc main_arg6) : Vec Ideal S8192x1024 .f32) (ix2 r i)
def D2 (r : Fin 8192) (i : Fin 1024) : EReal := (m ((c.tc : Thread nD τ).loc main_arg7) : Vec Ideal S8192x1024 .f32) (ix2 r i)
def D3 (r : Fin 8192) (i : Fin 1024) : EReal := (m ((c.tc : Thread nD τ).loc main_arg8) : Vec Ideal S8192x1024 .f32) (ix2 r i)
def WI (r : Fin 1024) (i : Fin 6048) : EReal := (m ((c.tc : Thread nD τ).loc main_arg9) : Vec Ideal S1024x6048 .f32) (ix2 r i)

/-- The attention's columns of the projection. -/
abbrev columns (w : FVec Ideal S1024x6048 .f32) : FVec Ideal S1024x640 .f32 :=
  (concatenate S1024x640 1 [⟨S1024x384, ((extractStridedSlice S1024x384 ![0, 0] w slices_S1024x6048_S1024x384_0_0) : (⟨S1024x384, .f32⟩ : BufTy).Contents (Elt Ideal))⟩, ⟨S1024x64, ((broadcastInDim S1024x64 ![] bcast_S_S1024x64 (constant S_ .f32 0x00000000#32 : FVec Ideal S_ .f32)) : (⟨S1024x64, .f32⟩ : BufTy).Contents (Elt Ideal))⟩, ⟨S1024x32, ((extractStridedSlice S1024x32 ![0, 384] w slices_S1024x6048_S1024x32_0_384) : (⟨S1024x32, .f32⟩ : BufTy).Contents (Elt Ideal))⟩, ⟨S1024x32, ((broadcastInDim S1024x32 ![] bcast_S_S1024x32 (constant S_ .f32 0x00000000#32 : FVec Ideal S_ .f32)) : (⟨S1024x32, .f32⟩ : BufTy).Contents (Elt Ideal))⟩, ⟨S1024x64, ((broadcastInDim S1024x64 ![] bcast_S_S1024x64 (constant S_ .f32 0x00000000#32 : FVec Ideal S_ .f32)) : (⟨S1024x64, .f32⟩ : BufTy).Contents (Elt Ideal))⟩, ⟨S1024x16, ((extractStridedSlice S1024x16 ![0, 400] w slices_S1024x6048_S1024x16_0_400) : (⟨S1024x16, .f32⟩ : BufTy).Contents (Elt Ideal))⟩, ⟨S1024x16, ((extractStridedSlice S1024x16 ![0, 384] w slices_S1024x6048_S1024x16_0_384) : (⟨S1024x16, .f32⟩ : BufTy).Contents (Elt Ideal))⟩, ⟨S1024x32, ((broadcastInDim S1024x32 ![] bcast_S_S1024x32 (constant S_ .f32 0x00000000#32 : FVec Ideal S_ .f32)) : (⟨S1024x32, .f32⟩ : BufTy).Contents (Elt Ideal))⟩] concatenates_S1024x384_S1024x64_S1024x32_S1024x32_S1024x64_S1024x16_S1024x16_S1024x32_S1024x640_d1 : (⟨S1024x640, .f32⟩ : BufTy).Contents (Elt Ideal))

theorem columns_at (w : FVec Ideal S1024x6048 .f32) (i : Fin 1024) (o : Fin 640) :
    columns w (ix2 i o) = attn (fun i o => w (ix2 i o)) i o := by
  unfold columns
  pointwise
  unfold attn
  repeat' split
  all_goals first | rfl | (exfalso; omega) | (refine congrArg (fun k => w (ix2 i k)) (Fin.ext ?_); dsimp only; omega)

/-- The gradient of the normed stream. -/
abbrev back : FVec Ideal S8192x1024 .f32 :=
  (addf (addf (addf (addf (addf (Host.dotGeneral (φ₁ := .f32) (φ₂ := .f32) dot_S8192x1536_S1024x1536_S8192x1024_1_1_0_0_n_n none (m ((c.tc : Thread nD τ).loc main_arg4)) (extractStridedSlice S1024x1536 ![0, 416] (m ((c.tc : Thread nD τ).loc main_arg9)) slices_S1024x6048_S1024x1536_0_416)) (Host.dotGeneral (φ₁ := .f32) (φ₂ := .f32) dot_S8192x640_S1024x640_S8192x1024_1_1_0_0_n_n none (m ((c.tc : Thread nD τ).loc main_arg3)) ((columns (m ((c.tc : Thread nD τ).loc main_arg9)))))) (Host.dotGeneral (φ₁ := .f32) (φ₂ := .f32) dot_S8192x1024_S1024x1024_S8192x1024_1_1_0_0_n_n none (m ((c.tc : Thread nD τ).loc main_arg8)) (extractStridedSlice S1024x1024 ![0, 5024] (m ((c.tc : Thread nD τ).loc main_arg9)) slices_S1024x6048_S1024x1024_0_5024))) (Host.dotGeneral (φ₁ := .f32) (φ₂ := .f32) dot_S8192x1024_S1024x1024_S8192x1024_1_1_0_0_n_n none (m ((c.tc : Thread nD τ).loc main_arg7)) (extractStridedSlice S1024x1024 ![0, 4000] (m ((c.tc : Thread nD τ).loc main_arg9)) slices_S1024x6048_S1024x1024_0_4000))) (Host.dotGeneral (φ₁ := .f32) (φ₂ := .f32) dot_S8192x1024_S1024x1024_S8192x1024_1_1_0_0_n_n none (m ((c.tc : Thread nD τ).loc main_arg6)) (extractStridedSlice S1024x1024 ![0, 2976] (m ((c.tc : Thread nD τ).loc main_arg9)) slices_S1024x6048_S1024x1024_0_2976))) (Host.dotGeneral (φ₁ := .f32) (φ₂ := .f32) dot_S8192x1024_S1024x1024_S8192x1024_1_1_0_0_n_n none (m ((c.tc : Thread nD τ).loc main_arg5)) (extractStridedSlice S1024x1024 ![0, 1952] (m ((c.tc : Thread nD τ).loc main_arg9)) slices_S1024x6048_S1024x1024_0_1952)))

theorem back_at (r : Fin 8192) (i : Fin 1024) : back m c (ix2 r i) = dNormed (WI m c) (DA m c) (DM m c) (D0 m c) (D1 m c) (D2 m c) (D3 m c) r i := by
  have h := columns_at (m ((c.tc : Thread nD τ).loc main_arg9))
  unfold back
  generalize columns (m ((c.tc : Thread nD τ).loc main_arg9)) = wc at h ⊢
  pointwise [dot_S8192x640_S1024x640_S8192x1024_1_1_0_0_n_n, dot_S8192x1536_S1024x1536_S8192x1024_1_1_0_0_n_n, dot_S8192x1024_S1024x1024_S8192x1024_1_1_0_0_n_n, dot_S8192x640_S8192x1024_S640x1024_0_0_1_1_n_n, dot_S8192x1536_S8192x1024_S1536x1024_0_0_1_1_n_n]
  simp only [h]
  exact sum_parts _ _ _ _ _ _

/-- The reference runs, and its results are these. -/
theorem run (ρ : Dev nD → PrngReg) :
    θ_run defs (onTc (τ := τ) (main (F := Ideal))) ⟨m, fun _ => 0, ρ⟩ fun r => ∀ c : Dev nD,
      (r.2.mem ((c.tc : Thread nD τ).loc main_v71) : Vec Ideal S8192x1024 .f32) = (fun j => DX m c (j 0) (j 1) + normBack (X m c) (dNormed (WI m c) (DA m c) (DM m c) (D0 m c) (D1 m c) (D2 m c) (D3 m c)) (G m c) (j 0) (j 1))
      ∧ (r.2.mem ((c.tc : Thread nD τ).loc main_v72) : Vec Ideal S1x1024 .f32) = (fun j => gainBack (X m c) (dNormed (WI m c) (DA m c) (DM m c) (D0 m c) (D1 m c) (D2 m c) (D3 m c)) (j 1))
      ∧ (r.2.mem ((c.tc : Thread nD τ).loc main_v74) : Vec Ideal S640x1024 .bf16) = (fun j => dot (fun i r => DA m c r i) (norm (X m c) (G m c)) (j 0) (j 1))
      ∧ (r.2.mem ((c.tc : Thread nD τ).loc main_v76) : Vec Ideal S1536x1024 .bf16) = (fun j => dot (fun i r => DM m c r i) (norm (X m c) (G m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_) (Cert.ProjectionGradientReferenceIdeal.Value.run m ρ)
  obtain ⟨h1, h2, h3, h4, hargs⟩ := h c
  refine ⟨h1.trans ?_, h2.trans ?_, h3.trans ?_, h4.trans ?_, hargs⟩ <;> clear hargs h1 h2 h3 h4 h <;> funext j
  · obtain ⟨r, i, rfl⟩ : ∃ r i, j = ix2 r i := ⟨_, _, ValueIdx.eq_ix2 j⟩
    unfold res_main_v71
    have h := back_at m c
    generalize hb : back m c = d at h
    unfold back columns at hb
    rw [hb]
    clear hb
    pointwise
    simp only [h]
    exact dRow_sum_add (X m c r) (fun i => (dNormed (WI m c) (DA m c) (DM m c) (D0 m c) (D1 m c) (D2 m c) (D3 m c)) r i * G m c i) i (DX m c r i)
  · obtain ⟨u, i, rfl⟩ : ∃ u i, j = ix2 u i := ⟨_, _, ValueIdx.eq_ix2 j⟩
    have h := back_at m c
    generalize hb : back m c = d at h
    unfold back columns at hb
    rw [hb]
    clear hb
    pointwise
    simp only [h]
    exact gain_sum (X m c) (dNormed (WI m c) (DA m c) (DM m c) (D0 m c) (D1 m c) (D2 m c) (D3 m c)) i
  · obtain ⟨o, i, rfl⟩ : ∃ o i, j = ix2 o i := ⟨_, _, ValueIdx.eq_ix2 j⟩
    pointwise [dot_S8192x640_S1024x640_S8192x1024_1_1_0_0_n_n, dot_S8192x1536_S1024x1536_S8192x1024_1_1_0_0_n_n, dot_S8192x1024_S1024x1024_S8192x1024_1_1_0_0_n_n, dot_S8192x640_S8192x1024_S640x1024_0_0_1_1_n_n, dot_S8192x1536_S8192x1024_S1536x1024_0_0_1_1_n_n]
    rfl
  · obtain ⟨o, i, rfl⟩ : ∃ o i, j = ix2 o i := ⟨_, _, ValueIdx.eq_ix2 j⟩
    pointwise [dot_S8192x640_S1024x640_S8192x1024_1_1_0_0_n_n, dot_S8192x1536_S1024x1536_S8192x1024_1_1_0_0_n_n, dot_S8192x1024_S1024x1024_S8192x1024_1_1_0_0_n_n, dot_S8192x640_S8192x1024_S640x1024_0_0_1_1_n_n, dot_S8192x1536_S8192x1024_S1536x1024_0_0_1_1_n_n]
    rfl

end Cert.ProjectionGradientReferenceIdeal.Out

end
-- ==== Proof.ProjectionGradientClaims.lean ====
/- The claims about the gradient of the input projection: the reference's frame, and the equality of the results. -/
module

public import proofs.«01_k».proof.Defs
public import proofs.«01_k».proof.Proof.ProjectionGradientOut
public import proofs.«01_k».proof.Proof.ProjectionGradientReference
public import Idealize.ShloMosaic.Adequacy
public import Idealize.ShloMosaic.Init

@[expose] public section

noncomputable section

namespace Cert.Proof

open Idealize.ShloMosaic Idealize.SL.Sem

theorem projection_gradient_reference_frame : Cert.quiescent_ProjectionGradientReferenceIdeal := fun m ρ _ =>
  (θ_run Cert.ProjectionGradientReferenceIdeal.defs _ _).mono (fun r h => ⟨fun c => (h c).2.2.2.2, sem_eq_zero_of_no_sems (by decide) r.2⟩)
    (Cert.ProjectionGradientReferenceIdeal.Out.run m ρ)

theorem projection_gradient_algebraic : Cert.algebraic_ProjectionGradientIdeal_ProjectionGradientReferenceIdeal := fun m ρ m' ρ' _ hag => by
  have hX : ∀ c, ProjectionGradientReferenceIdeal.Out.X m' c = ProjectionGradientIdeal.Out.X m c := fun c => funext fun _ => funext fun _ => congrFun (hag c).1 _
  have hG : ∀ c, ProjectionGradientReferenceIdeal.Out.G m' c = ProjectionGradientIdeal.Out.G m c := fun c => funext fun _ => congrFun (hag c).2.1 _
  have hDX : ∀ c, ProjectionGradientReferenceIdeal.Out.DX m' c = ProjectionGradientIdeal.Out.DX m c := fun c => funext fun _ => funext fun _ => congrFun (hag c).2.2.1 _
  have hDA : ∀ c, ProjectionGradientReferenceIdeal.Out.DA m' c = ProjectionGradientIdeal.Out.DA m c := fun c => funext fun _ => funext fun _ => congrFun (hag c).2.2.2.1 _
  have hDM : ∀ c, ProjectionGradientReferenceIdeal.Out.DM m' c = ProjectionGradientIdeal.Out.DM m c := fun c => funext fun _ => funext fun _ => congrFun (hag c).2.2.2.2.1 _
  have hD0 : ∀ c, ProjectionGradientReferenceIdeal.Out.D0 m' c = ProjectionGradientIdeal.Out.D0 m c := fun c => funext fun _ => funext fun _ => congrFun (hag c).2.2.2.2.2.1 _
  have hD1 : ∀ c, ProjectionGradientReferenceIdeal.Out.D1 m' c = ProjectionGradientIdeal.Out.D1 m c := fun c => funext fun _ => funext fun _ => congrFun (hag c).2.2.2.2.2.2.1 _
  have hD2 : ∀ c, ProjectionGradientReferenceIdeal.Out.D2 m' c = ProjectionGradientIdeal.Out.D2 m c := fun c => funext fun _ => funext fun _ => congrFun (hag c).2.2.2.2.2.2.2.1 _
  have hD3 : ∀ c, ProjectionGradientReferenceIdeal.Out.D3 m' c = ProjectionGradientIdeal.Out.D3 m c := fun c => funext fun _ => funext fun _ => congrFun (hag c).2.2.2.2.2.2.2.2.1 _
  have hWI : ∀ c, ProjectionGradientReferenceIdeal.Out.WI m' c = ProjectionGradientIdeal.Out.WI m c := fun c => funext fun _ => funext fun _ => congrFun (hag c).2.2.2.2.2.2.2.2.2 _
  refine ⟨_, _, _, _, ProjectionGradientIdeal.Value.run_blocks m ρ, (θ_run _ _ _).mono (fun _ h c => ?_) (ProjectionGradientReferenceIdeal.Out.run m' ρ')⟩
  obtain ⟨h1, h2, h3, h4, hargs⟩ := h c
  rw [hDX, hX, hWI, hDA, hDM, hD0, hD1, hD2, hD3, hG] at h1
  rw [hX, hWI, hDA, hDM, hD0, hD1, hD2, hD3] at h2
  rw [hDA, hX, hG] at h3
  rw [hDM, hX, hG] at h4
  exact ⟨h1.trans (ProjectionGradientIdeal.Out.arr11 m c).symm, h2.trans (ProjectionGradientIdeal.Out.arr12 m c).symm, h3.trans (ProjectionGradientIdeal.Out.arr13 m c).symm, h4.trans (ProjectionGradientIdeal.Out.arr14 m c).symm, hargs⟩

end Cert.Proof
end
-- ==== Proof.MergeSecondOut.lean ====
/- The gradient of the second gated branch: what the five result arrays of the kernel hold. A block's arithmetic is the first
   branch's (`MergeBlocks`); the blocks of the weights differ. -/
module

public import proofs.«01_k».proof.Proof.MergeBlocks
public import proofs.«01_k».proof.Proof.Gen.MergeSecondIdeal.Value
public import Idealize.ShloMosaic.Lib.Pipeline.ValueKit
public import Idealize.ShloMosaic.Lib.Pipeline.ReadBack
public import Idealize.ShloMosaic.Lib.StableHlo.RunClose

@[expose] public section

set_option maxRecDepth 16384

noncomputable section

namespace Cert.MergeSecondIdeal.Out

open Cert.MergeSecondIdeal Cert.MergeSecondIdeal.Gen Cert.MergeSecondIdeal.Value Idealize.ShloMosaic Idealize.ShloMosaic.TcCoe Idealize.SL.Sem
open Cert.MergeMath
open Cert.KernelIdeal.Steps (slab)

variable (m : (ℓ : Loc nD τ sig) → Buf (Elt Ideal) ℓ) (c : Dev nD)

def H (r : Fin 8192) (i : Fin 1024) : EReal := (m ((c : Thread nD τ).loc main_arg0) : Vec Ideal S8192x1024 .f32) (ix2 r i)
def BR (r : Fin 8192) (a : Fin 256) : EReal := (m ((c : Thread nD τ).loc main_arg1) : Vec Ideal S8192x256 .f32) (ix2 r a)
def DM (r : Fin 8192) (o : Fin 1024) : EReal := (m ((c : Thread nD τ).loc main_arg2) : Vec Ideal S8192x1024 .f32) (ix2 r o)
def W (i o : Fin 1024) : EReal := (m ((c : Thread nD τ).loc main_arg3) : Vec Ideal S1024x6048 .f32) (ix2 i ⟨2976 + o.val, by omega⟩)
def B (o : Fin 1024) : EReal := (m ((c : Thread nD τ).loc main_arg4) : Vec Ideal S4096 .f32) (ix1 ⟨1024 + o.val, by omega⟩)
def WB (a : Fin 256) (o : Fin 1024) : EReal := (m ((c : Thread nD τ).loc main_arg6) : Vec Ideal S256x1024 .f32) (ix2 a o)

theorem index : ∀ t : Fin cfg0.N, win0_0.index t = ![t.val, 0] ∧ win0_1.index t = ![t.val, 0] ∧ win0_2.index t = ![t.val, 0] ∧ win0_3.index t = ![1, 0] ∧ win0_4.index t = ![0, 1] ∧ win0_5.index t = ![1, 0, 0] ∧ win0_6.index t = ![t.val, 0] ∧ win0_7.index t = ![t.val, 0] := by decide +kernel

theorem iblk0 (t : Fin cfg0.N) (r i : Fin 1024) : (iblk m c 0 t : Vec Ideal S1024x1024 .bf16) (ix2 r i) = H m c (tok t.val r) i := by
  blk_ext [iblk, V, index t]
  rw [tok_val _ (by omega)]; omega
theorem iblk1 (t : Fin cfg0.N) (r : Fin 1024) (a : Fin 256) : (iblk m c 1 t : Vec Ideal S1024x256 .bf16) (ix2 r a) = BR m c (tok t.val r) a := by
  blk_ext [iblk, V, index t]
  rw [tok_val _ (by omega)]; omega
theorem iblk2 (t : Fin cfg0.N) (r o : Fin 1024) : (iblk m c 2 t : Vec Ideal S1024x1024 .f32) (ix2 r o) = DM m c (tok t.val r) o := by
  blk_ext [iblk, V, index t]
  rw [tok_val _ (by omega)]; omega

theorem iblk3 (t : Fin cfg0.N) (o i : Fin 1024) : (iblk m c 3 t : Vec Ideal S1024x1024 .bf16) (ix2 o i) = W m c i o := by
  have e : V m c main_v2 = (truncf .bf16 (extractStridedSlice S4096x1024 ![1952, 0] (transpose S6048x1024 [1, 0] (m ((c : Thread nD τ).loc main_arg3) : FVec Ideal S1024x6048 .f32) transposes_S1024x6048_S6048x1024_1_0) slices_S6048x1024_S4096x1024_1952_0 : FVec Ideal S4096x1024 .f32) bitsLt_bf16_f32 : FVec Ideal S4096x1024 .bf16) := by
    unfold V; after_results
  have h : (iblk m c 3 t : Vec Ideal S1024x1024 .bf16) (ix2 o i) = (V m c main_v2 : Vec Ideal S4096x1024 .bf16) (ix2 ⟨1024 + o.val, by omega⟩ i) := by
    blk_ext [iblk, index t]
  rw [h, e]
  pointwise
  refine congrArg (fun y => (m ((c : Thread nD τ).loc main_arg3) : Vec Ideal S1024x6048 .f32) (ix2 i y)) (Fin.ext ?_)
  dsimp only; omega

theorem iblk4 (t : Fin cfg0.N) (o : Fin 1024) : (iblk m c 4 t : Vec Ideal S1x1024 .f32) (ix2 0 o) = B m c o := by
  have e : V m c main_v18 = (broadcastInDim S1x4096 ![1] bcast_S4096_S1x4096_1 (m ((c : Thread nD τ).loc main_arg4) : FVec Ideal S4096 .f32) : FVec Ideal S1x4096 .f32) := by
    unfold V; after_results
  have h : (iblk m c 4 t : Vec Ideal S1x1024 .f32) (ix2 0 o) = (V m c main_v18 : Vec Ideal S1x4096 .f32) (ix2 0 ⟨1024 + o.val, by omega⟩) := by
    blk_ext [iblk, index t]
  rw [h, e]
  pointwise
  rfl

/-- The four branches' projections, stacked. -/
theorem stack_eq : V m c main_v15 = (concatenate S4x1024x256 0
    [⟨S1x1024x256, slab (m ((c : Thread nD τ).loc main_arg5))⟩, ⟨S1x1024x256, slab (m ((c : Thread nD τ).loc main_arg6))⟩,
     ⟨S1x1024x256, slab (m ((c : Thread nD τ).loc main_arg7))⟩, ⟨S1x1024x256, slab (m ((c : Thread nD τ).loc main_arg8))⟩]
    concatenates_S1x1024x256_S1x1024x256_S1x1024x256_S1x1024x256_S4x1024x256_d0 : FVec Ideal S4x1024x256 .bf16) := by
  unfold V
  after_results_entrywise (rounds := 1) []

theorem iblk5 (t : Fin cfg0.N) (o : Fin 1024) (a : Fin 256) : (iblk m c 5 t : Vec Ideal S1x1024x256 .bf16) (ix3 0 o a) = WB m c a o := by
  have h : (iblk m c 5 t : Vec Ideal S1x1024x256 .bf16) (ix3 0 o a) = (V m c main_v15 : Vec Ideal S4x1024x256 .bf16) (ix3 1 o a) := by
    blk_ext [iblk, index t]
  rw [h, stack_eq]
  pointwise
  rfl

/-- A block's gate, its gated gradient and its logits' gradient. -/
abbrev gt (t : Fin cfg0.N) : FVec Ideal S1024x1024 .f32 := k0_pay14 (iblk m c 0 t) (iblk m c 3 t) (iblk m c 4 t)
abbrev dy (t : Fin cfg0.N) : FVec Ideal S1024x1024 .bf16 := k0_pay15 (iblk m c 0 t) (iblk m c 2 t) (iblk m c 3 t) (iblk m c 4 t)
abbrev dpre (t : Fin cfg0.N) : FVec Ideal S1024x1024 .f32 := k0_pay16 (iblk m c 0 t) (iblk m c 1 t) (iblk m c 2 t) (iblk m c 5 t) (iblk m c 3 t) (iblk m c 4 t)
abbrev drow (t : Fin cfg0.N) : FVec Ideal S1024x256 .f32 := k0_pay18 (iblk m c 0 t) (iblk m c 2 t) (iblk m c 5 t) (iblk m c 3 t) (iblk m c 4 t)
/-- A block's parts of the three weight gradients. -/
abbrev partW (t : Fin cfg0.N) : FVec Ideal S1024x1024 .f32 := k0_pay5 (iblk m c 0 t) (truncf .bf16 (dpre m c t) bitsLt_bf16_f32)
abbrev partB (t : Fin cfg0.N) : FVec Ideal S1x1024 .f32 := k0_pay9 (dpre m c t)
abbrev partP (t : Fin cfg0.N) : FVec Ideal S1024x256 .f32 := k0_pay1 (iblk m c 1 t) (dy m c t)

theorem gate_at (t : Fin cfg0.N) (r o : Fin 1024) : gt m c t (ix2 r o) = gate (H m c) (W m c) (B m c) (tok t.val r) o := by
  refine (Cert.KernelIdeal.Steps.pay14_at _ _ _ r o).trans ?_
  rw [iblk4]
  simp only [iblk0, iblk3]
  rfl

theorem dy_at (t : Fin cfg0.N) (r o : Fin 1024) : dy m c t (ix2 r o) = gated (H m c) (DM m c) (W m c) (B m c) (tok t.val r) o := by
  refine (Cert.KernelIdeal.Steps.pay15_at _ _ _ _ r o).trans ?_
  rw [iblk2]
  exact congrArg (DM m c (tok t.val r) o * ·) (gate_at m c t r o)

theorem dpre_at (t : Fin cfg0.N) (r o : Fin 1024) :
    dpre m c t (ix2 r o) = logit (H m c) (BR m c) (DM m c) (W m c) (B m c) (WB m c) (tok t.val r) o := by
  refine (Cert.KernelIdeal.Steps.pay16_at _ _ _ _ _ _ r o).trans ?_
  rw [iblk2]
  simp only [iblk1, iblk5]
  exact congrArg (fun g => _ * g * (1 - g)) (gate_at m c t r o)

theorem drow_at (t : Fin cfg0.N) (r : Fin 1024) (a : Fin 256) :
    drow m c t (ix2 r a) = dBranch (H m c) (DM m c) (W m c) (B m c) (WB m c) (tok t.val r) a :=
  (Cert.KernelIdeal.Steps.pay18_at _ _ _ _ _ r a).trans
    (Finset.sum_congr rfl fun o _ => congrArg₂ (· * ·) (dy_at m c t r o) (iblk5 m c t o a))

theorem partW_at (t : Fin cfg0.N) (o i : Fin 1024) :
    partW m c t (ix2 o i) = ∑ r : Fin 1024, logit (H m c) (BR m c) (DM m c) (W m c) (B m c) (WB m c) (tok t.val r) o * H m c (tok t.val r) i :=
  (Cert.KernelIdeal.Steps.pay5_at _ _ o i).trans (Finset.sum_congr rfl fun r _ => congrArg₂ (· * ·) (dpre_at m c t r o) (iblk0 m c t r i))

theorem partB_at (t : Fin cfg0.N) (o : Fin 1024) :
    partB m c t (ix2 0 o) = ∑ r : Fin 1024, logit (H m c) (BR m c) (DM m c) (W m c) (B m c) (WB m c) (tok t.val r) o :=
  (Cert.KernelIdeal.Steps.pay9_at _ o).trans (Finset.sum_congr rfl fun r _ => dpre_at m c t r o)

theorem partP_at (t : Fin cfg0.N) (o : Fin 1024) (a : Fin 256) :
    partP m c t (ix2 o a) = ∑ r : Fin 1024, gated (H m c) (DM m c) (W m c) (B m c) (tok t.val r) o * BR m c (tok t.val r) a :=
  (Cert.KernelIdeal.Steps.pay1_at _ _ o a).trans (Finset.sum_congr rfl fun r _ => congrArg₂ (· * ·) (dy_at m c t r o) (iblk1 m c t r a))

theorem emb6 (t : Fin cfg0.N) (r : Fin 1024) (a : Fin 256) : (((cfg0.win 6).blk t).view.emb (ix2 r a) : S8192x256.Idx) = ix2 (tok t.val r) a := by
  blk_ext [index t]
  rw [tok_val _ (by omega)]; omega
theorem emb7 (t : Fin cfg0.N) (r o : Fin 1024) : (((cfg0.win 7).blk t).view.emb (ix2 r o) : S8192x1024.Idx) = ix2 (tok t.val r) o := by
  blk_ext [index t]
  rw [tok_val _ (by omega)]; omega

/-- Every point's per-token results are the block's own. -/
theorem rows (t : Fin cfg0.N) : (outsAt0 m c t.val t.isLt).1 = drow m c t ∧ (outsAt0 m c t.val t.isLt).2.1 = truncf .bf16 (dpre m c t) bitsLt_bf16_f32 := by
  have ht : t.val < 8 := lt_of_lt_of_eq t.isLt N_0
  by_cases h : t.val % 8 = 0
  · rw [outsAt0_A m c t h (by omega) (by omega) h (by omega) (by omega) h (by omega)]
    constructor <;> (frame_out; all_goals rfl)
  · by_cases h7 : t.val % 8 = 7
    · rw [outsAt0_C m c t h (by omega) h7 h (by omega) h7 h (by omega)]
      constructor <;> (frame_out; all_goals rfl)
    · rw [outsAt0_B m c t h (by omega) h7 h (by omega) h7 h (by omega)]
      constructor <;> (frame_out; all_goals rfl)

theorem arr6 : ((dats m 0 c).arrAt 6 cfg0.N : Vec Ideal S8192x256 .f32) = fun j => dBranch (H m c) (DM m c) (W m c) (B m c) (WB m c) (j 0) (j 1) := by
  refine (dats m 0 c).arrAt_eq_of_covers 6 _ (by decide +kernel) fun t hf y => ?_
  obtain ⟨r, i, hy⟩ : ∃ (r : Fin 1024) (i : Fin 256), y = ix2 r i := ⟨_, _, ValueIdx.eq_ix2 y⟩
  subst hy
  rw [emb6, after0_6, (rows m c t).1]
  exact drow_at m c t r i

theorem arr7 : ((dats m 0 c).arrAt 7 cfg0.N : Vec Ideal S8192x1024 .bf16) = fun j => logit (H m c) (BR m c) (DM m c) (W m c) (B m c) (WB m c) (j 0) (j 1) := by
  refine (dats m 0 c).arrAt_eq_of_covers 7 _ (by decide +kernel) fun t hf y => ?_
  obtain ⟨r, i, hy⟩ : ∃ (r : Fin 1024) (i : Fin 1024), y = ix2 r i := ⟨_, _, ValueIdx.eq_ix2 y⟩
  subst hy
  rw [emb7, after0_7, (rows m c t).2]
  exact dpre_at m c t r i

/-- The gate weight's gradient after the last point: every block's part. -/
theorem sumW (y : S1024x1024.Idx) : (outsAt0 m c t0_7.val t0_7.isLt).2.2.2.2.2.1 y = 0 + ∑ t : Fin cfg0.N, partW m c t y := by
  refine Pipeline.eq_sum_fin_of_reset_step_apply_last (fun n h => (outsAt0 m c n h).2.2.2.2.2.1) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partW]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partW]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partW]; pointwise)

/-- The projection's gradient after the last point: every block's part. -/
theorem sumP (y : S1024x256.Idx) : (outsAt0 m c t0_7.val t0_7.isLt).2.2.2.2.2.2 y = 0 + ∑ t : Fin cfg0.N, partP m c t y := by
  refine Pipeline.eq_sum_fin_of_reset_step_apply_last (fun n h => (outsAt0 m c n h).2.2.2.2.2.2) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partP]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partP]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partP]; pointwise)

/-- The gate bias's gradient after the last point: every block's part. -/
theorem sumB (y : S1x1024.Idx) : (outsAt0 m c t0_7.val t0_7.isLt).2.2.2.1 y = 0 + ∑ t : Fin cfg0.N, partB m c t y := by
  refine Pipeline.eq_sum_fin_of_reset_step_apply_last (fun n h => (outsAt0 m c n h).2.2.2.1) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partB]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partB]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partB]; pointwise)

/-- The last point writes the two sums out. -/
theorem outs (y : S1024x1024.Idx) (z : S1024x256.Idx) :
    (outsAt0 m c t0_7.val t0_7.isLt).2.2.1 y = (outsAt0 m c t0_7.val t0_7.isLt).2.2.2.2.2.1 y
    ∧ (outsAt0 m c t0_7.val t0_7.isLt).2.2.2.2.1 z = (outsAt0 m c t0_7.val t0_7.isLt).2.2.2.2.2.2 z := by
  rw [outsAt0_C m c t0_7 (by decide) (by decide) (by decide) (by decide) (by decide) (by decide) (by decide) (by decide)]
  constructor
  · frame_out
    unfold k0_pay8
    pointwise [shapeCast_self]
  · frame_out
    unfold k0_pay4
    pointwise [shapeCast_self]

theorem arr8 : ((dats m 0 c).arrAt 8 cfg0.N : Vec Ideal S1024x1024 .bf16) = fun j => dGateW (H m c) (BR m c) (DM m c) (W m c) (B m c) (WB m c) (j 0) (j 1) := by
  refine (dats m 0 c).arrAt_eq_of_after_last 8 t0_7 (by decide +kernel) _ fun j => ?_
  obtain ⟨u, i, rfl⟩ : ∃ (u : Fin 1024) (i : Fin 1024), j = ix2 u i := ⟨_, _, ValueIdx.eq_ix2 j⟩
  rw [after0_8]
  refine ((outs m c (ix2 u i) (ix2 u 0)).1.trans (sumW m c (ix2 u i))).trans ?_
  rw [zero_add]
  refine (Finset.sum_congr rfl fun t _ => partW_at m c t u i).trans ?_
  refine Eq.trans ?_ (sum_tok fun r => logit (H m c) (BR m c) (DM m c) (W m c) (B m c) (WB m c) r u * H m c r i)
  exact (Fin.sum_univ_eq_sum_range (fun n => ∑ r : Fin 1024, (fun r => logit (H m c) (BR m c) (DM m c) (W m c) (B m c) (WB m c) r u * H m c r i) (tok n r)) 8)

theorem arr9 : ((dats m 0 c).arrAt 9 cfg0.N : Vec Ideal S1x1024 .f32) = fun j => dGateB (H m c) (BR m c) (DM m c) (W m c) (B m c) (WB m c) (j 1) := by
  refine (dats m 0 c).arrAt_eq_of_after_last 9 t0_7 (by decide +kernel) _ fun j => ?_
  obtain ⟨u, i, rfl⟩ : ∃ (u : Fin 1) (i : Fin 1024), j = ix2 u i := ⟨_, _, ValueIdx.eq_ix2 j⟩
  rw [after0_9]
  refine (sumB m c (ix2 u i)).trans ?_
  rw [zero_add]
  refine (Finset.sum_congr rfl fun t _ => (congrArg (fun z => partB m c t (ix2 z i)) (Subsingleton.elim u 0)).trans (partB_at m c t i)).trans ?_
  refine Eq.trans ?_ (sum_tok fun r => logit (H m c) (BR m c) (DM m c) (W m c) (B m c) (WB m c) r i)
  exact (Fin.sum_univ_eq_sum_range (fun n => ∑ r : Fin 1024, (fun r => logit (H m c) (BR m c) (DM m c) (W m c) (B m c) (WB m c) r i) (tok n r)) 8)

theorem arr10 : ((dats m 0 c).arrAt 10 cfg0.N : Vec Ideal S1024x256 .bf16) = fun j => dProj (H m c) (BR m c) (DM m c) (W m c) (B m c) (j 0) (j 1) := by
  refine (dats m 0 c).arrAt_eq_of_after_last 10 t0_7 (by decide +kernel) _ fun j => ?_
  obtain ⟨u, i, rfl⟩ : ∃ (u : Fin 1024) (i : Fin 256), j = ix2 u i := ⟨_, _, ValueIdx.eq_ix2 j⟩
  rw [after0_10]
  refine ((outs m c (ix2 u 0) (ix2 u i)).2.trans (sumP m c (ix2 u i))).trans ?_
  rw [zero_add]
  refine (Finset.sum_congr rfl fun t _ => partP_at m c t u i).trans ?_
  refine Eq.trans ?_ (sum_tok fun r => gated (H m c) (DM m c) (W m c) (B m c) r u * BR m c r i)
  exact (Fin.sum_univ_eq_sum_range (fun n => ∑ r : Fin 1024, (fun r => gated (H m c) (DM m c) (W m c) (B m c) r u * BR m c r i) (tok n r)) 8)

end Cert.MergeSecondIdeal.Out
end
-- ==== Proof.MergeSecondReference.lean ====
/- The second branch's gradient in the reference's own terms: the same sums of `MergeMath`. -/
module

public import proofs.«01_k».proof.Proof.MergeMath
public import proofs.«01_k».proof.Proof.Gen.MergeSecondReferenceIdeal.Run

@[expose] public section

set_option maxRecDepth 16384
noncomputable section

namespace Cert.MergeSecondReferenceIdeal.Out

open Cert.MergeSecondReferenceIdeal Cert.MergeSecondReferenceIdeal.Value Idealize.ShloMosaic Idealize.ShloMosaic.TcCoe Idealize.SL.Sem
open Cert.MergeMath

variable (m : (ℓ : Loc nD τ sig) → Buf (Elt Ideal) ℓ) (c : Dev nD)

def H (r : Fin 8192) (i : Fin 1024) : EReal := (m ((c.tc : Thread nD τ).loc main_arg0) : Vec Ideal S8192x1024 .f32) (ix2 r i)
def BR (r : Fin 8192) (a : Fin 256) : EReal := (m ((c.tc : Thread nD τ).loc main_arg1) : Vec Ideal S8192x256 .f32) (ix2 r a)
def DM (r : Fin 8192) (o : Fin 1024) : EReal := (m ((c.tc : Thread nD τ).loc main_arg2) : Vec Ideal S8192x1024 .f32) (ix2 r o)
def W (i o : Fin 1024) : EReal := (m ((c.tc : Thread nD τ).loc main_arg3) : Vec Ideal S1024x6048 .f32) (ix2 i ⟨2976 + o.val, by omega⟩)
def B (o : Fin 1024) : EReal := (m ((c.tc : Thread nD τ).loc main_arg4) : Vec Ideal S4096 .f32) (ix1 ⟨1024 + o.val, by omega⟩)
def WB (a : Fin 256) (o : Fin 1024) : EReal := (m ((c.tc : Thread nD τ).loc main_arg6) : Vec Ideal S256x1024 .f32) (ix2 a o)

/-- The reference's gradient of a logit, with its own grouping of the factors. -/
theorem logit_eq (r : Fin 8192) (o : Fin 1024) :
    DM m c r o * (∑ a, BR m c r a * WB m c a o) * (gate (H m c) (W m c) (B m c) r o * (1 - gate (H m c) (W m c) (B m c) r o))
      = logit (H m c) (BR m c) (DM m c) (W m c) (B m c) (WB m c) r o := (mul_assoc _ _ _).symm

/-- The reference runs, and its results are the sums of `MergeMath`. -/
theorem run (ρ : Dev nD → PrngReg) :
    θ_run defs (onTc (τ := τ) (main (F := Ideal))) ⟨m, fun _ => 0, ρ⟩ fun r => ∀ c : Dev nD,
      (r.2.mem ((c.tc : Thread nD τ).loc main_v21) : Vec Ideal S8192x256 .f32) = (fun j => dBranch (H m c) (DM m c) (W m c) (B m c) (WB m c) (j 0) (j 1))
      ∧ (r.2.mem ((c.tc : Thread nD τ).loc main_v28) : Vec Ideal S8192x1024 .bf16) = (fun j => logit (H m c) (BR m c) (DM m c) (W m c) (B m c) (WB m c) (j 0) (j 1))
      ∧ (r.2.mem ((c.tc : Thread nD τ).loc main_v30) : Vec Ideal S1024x1024 .bf16) = (fun j => dGateW (H m c) (BR m c) (DM m c) (W m c) (B m c) (WB m c) (j 0) (j 1))
      ∧ (r.2.mem ((c.tc : Thread nD τ).loc main_v31) : Vec Ideal S1x1024 .f32) = (fun j => dGateB (H m c) (BR m c) (DM m c) (W m c) (B m c) (WB m c) (j 1))
      ∧ (r.2.mem ((c.tc : Thread nD τ).loc main_v33) : Vec Ideal S1024x256 .bf16) = (fun j => dProj (H m c) (BR m c) (DM m c) (W m c) (B m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Cert.MergeSecondReferenceIdeal.Value.run m ρ)
  obtain ⟨h1, h2, h3, h4, h5, hargs⟩ := h c
  refine ⟨h1.trans ?_, h2.trans ?_, h3.trans ?_, h4.trans ?_, h5.trans ?_, hargs⟩ <;> clear hargs h1 h2 h3 h4 h5 h <;> funext j
  · obtain ⟨r, a, rfl⟩ : ∃ r a, j = ix2 r a := ⟨_, _, ValueIdx.eq_ix2 j⟩
    pointwise [dot_S8192x1024_S256x1024_S8192x256_1_1_0_0_n_n, dot_S8192x1024_S1024x1024_S8192x1024_1_0_0_1_n_n]
    exact Finset.sum_congr rfl fun o _ => congrArg (· * WB m c a o) (mul_comm (gate (H m c) (W m c) (B m c) r o) (DM m c r o))
  · obtain ⟨r, a, rfl⟩ : ∃ r a, j = ix2 r a := ⟨_, _, ValueIdx.eq_ix2 j⟩
    pointwise [dot_S8192x256_S256x1024_S8192x1024_1_0_0_1_n_n, dot_S8192x1024_S1024x1024_S8192x1024_1_0_0_1_n_n]
    exact logit_eq m c r a
  · obtain ⟨r, a, rfl⟩ : ∃ r a, j = ix2 r a := ⟨_, _, ValueIdx.eq_ix2 j⟩
    pointwise [dot_S8192x1024_S8192x1024_S1024x1024_0_0_1_1_n_n, dot_S8192x256_S256x1024_S8192x1024_1_0_0_1_n_n, dot_S8192x1024_S1024x1024_S8192x1024_1_0_0_1_n_n]
    exact Finset.sum_congr rfl fun t _ => congrArg (· * H m c t a) (logit_eq m c t r)
  · obtain ⟨z, a, rfl⟩ : ∃ z a, j = ix2 z a := ⟨_, _, ValueIdx.eq_ix2 j⟩
    pointwise [shapeCast_self, dot_S8192x256_S256x1024_S8192x1024_1_0_0_1_n_n, dot_S8192x1024_S1024x1024_S8192x1024_1_0_0_1_n_n]
    exact (Fintype.sum_unique _).trans (Finset.sum_congr rfl fun t _ => logit_eq m c t a)
  · obtain ⟨r, a, rfl⟩ : ∃ r a, j = ix2 r a := ⟨_, _, ValueIdx.eq_ix2 j⟩
    pointwise [dot_S8192x1024_S8192x256_S1024x256_0_0_1_1_n_n, dot_S8192x1024_S1024x1024_S8192x1024_1_0_0_1_n_n]
    exact Finset.sum_congr rfl fun t _ => congrArg (· * BR m c t a) (mul_comm (gate (H m c) (W m c) (B m c) t r) (DM m c t r))

end Cert.MergeSecondReferenceIdeal.Out
end
-- ==== Proof.MergeSecondClaims.lean ====
/- The claims about the second gated branch: the reference's frame, and the equality of the five gradients. -/
module

public import proofs.«01_k».proof.Defs
public import proofs.«01_k».proof.Proof.MergeSecondOut
public import proofs.«01_k».proof.Proof.MergeSecondReference
public import Idealize.ShloMosaic.Adequacy
public import Idealize.ShloMosaic.Init

@[expose] public section

noncomputable section

namespace Cert.Proof

open Idealize.ShloMosaic Idealize.SL.Sem

theorem merge_second_reference_frame : Cert.quiescent_MergeSecondReferenceIdeal := fun m ρ _ =>
  (θ_run Cert.MergeSecondReferenceIdeal.defs _ _).mono (fun r h => ⟨fun c => (h c).2.2.2.2.2, sem_eq_zero_of_no_sems (by decide) r.2⟩)
    (Cert.MergeSecondReferenceIdeal.Out.run m ρ)

/-- The second gated branch's gradients are the reference's. -/
theorem merge_second_algebraic : Cert.algebraic_MergeSecondIdeal_MergeSecondReferenceIdeal := fun m ρ m' ρ' _ hag => by
  have hH : ∀ c, MergeSecondReferenceIdeal.Out.H m' c = MergeSecondIdeal.Out.H m c := fun c => funext fun _ => funext fun _ => congrFun (hag c).1 _
  have hBR : ∀ c, MergeSecondReferenceIdeal.Out.BR m' c = MergeSecondIdeal.Out.BR m c := fun c => funext fun _ => funext fun _ => congrFun (hag c).2.1 _
  have hDM : ∀ c, MergeSecondReferenceIdeal.Out.DM m' c = MergeSecondIdeal.Out.DM m c := fun c => funext fun _ => funext fun _ => congrFun (hag c).2.2.1 _
  have hW : ∀ c, MergeSecondReferenceIdeal.Out.W m' c = MergeSecondIdeal.Out.W m c := fun c => funext fun _ => funext fun _ => congrFun (hag c).2.2.2.1 _
  have hB : ∀ c, MergeSecondReferenceIdeal.Out.B m' c = MergeSecondIdeal.Out.B m c := fun c => funext fun _ => congrFun (hag c).2.2.2.2.1 _
  have hWB : ∀ c, MergeSecondReferenceIdeal.Out.WB m' c = MergeSecondIdeal.Out.WB m c := fun c => funext fun _ => funext fun _ => congrFun (hag c).2.2.2.2.2.2.1 _
  refine ⟨_, _, _, _, _, MergeSecondIdeal.Value.run_blocks m ρ, (θ_run _ _ _).mono (fun _ h c => ?_) (MergeSecondReferenceIdeal.Out.run m' ρ')⟩
  obtain ⟨h1, h2, h3, h4, h5, hargs⟩ := h c
  rw [hH, hDM, hW, hB, hWB] at h1
  rw [hH, hBR, hDM, hW, hB, hWB] at h2 h3 h4
  rw [hH, hBR, hDM, hW, hB] at h5
  exact ⟨h1.trans (MergeSecondIdeal.Out.arr6 m c).symm, h2.trans (MergeSecondIdeal.Out.arr7 m c).symm,
    h3.trans (MergeSecondIdeal.Out.arr8 m c).symm, h4.trans (MergeSecondIdeal.Out.arr9 m c).symm,
    h5.trans (MergeSecondIdeal.Out.arr10 m c).symm, hargs⟩

end Cert.Proof
end
-- ==== Proof.MergeThirdOut.lean ====
/- The gradient of the third gated branch: what the five result arrays of the kernel hold. A block's arithmetic is the first
   branch's (`MergeBlocks`); the blocks of the weights differ. -/
module

public import proofs.«01_k».proof.Proof.MergeBlocks
public import proofs.«01_k».proof.Proof.Gen.MergeThirdIdeal.Value
public import Idealize.ShloMosaic.Lib.Pipeline.ValueKit
public import Idealize.ShloMosaic.Lib.Pipeline.ReadBack
public import Idealize.ShloMosaic.Lib.StableHlo.RunClose

@[expose] public section

set_option maxRecDepth 16384

noncomputable section

namespace Cert.MergeThirdIdeal.Out

open Cert.MergeThirdIdeal Cert.MergeThirdIdeal.Gen Cert.MergeThirdIdeal.Value Idealize.ShloMosaic Idealize.ShloMosaic.TcCoe Idealize.SL.Sem
open Cert.MergeMath
open Cert.KernelIdeal.Steps (slab)

variable (m : (ℓ : Loc nD τ sig) → Buf (Elt Ideal) ℓ) (c : Dev nD)

def H (r : Fin 8192) (i : Fin 1024) : EReal := (m ((c : Thread nD τ).loc main_arg0) : Vec Ideal S8192x1024 .f32) (ix2 r i)
def BR (r : Fin 8192) (a : Fin 256) : EReal := (m ((c : Thread nD τ).loc main_arg1) : Vec Ideal S8192x256 .f32) (ix2 r a)
def DM (r : Fin 8192) (o : Fin 1024) : EReal := (m ((c : Thread nD τ).loc main_arg2) : Vec Ideal S8192x1024 .f32) (ix2 r o)
def W (i o : Fin 1024) : EReal := (m ((c : Thread nD τ).loc main_arg3) : Vec Ideal S1024x6048 .f32) (ix2 i ⟨4000 + o.val, by omega⟩)
def B (o : Fin 1024) : EReal := (m ((c : Thread nD τ).loc main_arg4) : Vec Ideal S4096 .f32) (ix1 ⟨2048 + o.val, by omega⟩)
def WB (a : Fin 256) (o : Fin 1024) : EReal := (m ((c : Thread nD τ).loc main_arg7) : Vec Ideal S256x1024 .f32) (ix2 a o)

theorem index : ∀ t : Fin cfg0.N, win0_0.index t = ![t.val, 0] ∧ win0_1.index t = ![t.val, 0] ∧ win0_2.index t = ![t.val, 0] ∧ win0_3.index t = ![2, 0] ∧ win0_4.index t = ![0, 2] ∧ win0_5.index t = ![2, 0, 0] ∧ win0_6.index t = ![t.val, 0] ∧ win0_7.index t = ![t.val, 0] := by decide +kernel

theorem iblk0 (t : Fin cfg0.N) (r i : Fin 1024) : (iblk m c 0 t : Vec Ideal S1024x1024 .bf16) (ix2 r i) = H m c (tok t.val r) i := by
  blk_ext [iblk, V, index t]
  rw [tok_val _ (by omega)]; omega
theorem iblk1 (t : Fin cfg0.N) (r : Fin 1024) (a : Fin 256) : (iblk m c 1 t : Vec Ideal S1024x256 .bf16) (ix2 r a) = BR m c (tok t.val r) a := by
  blk_ext [iblk, V, index t]
  rw [tok_val _ (by omega)]; omega
theorem iblk2 (t : Fin cfg0.N) (r o : Fin 1024) : (iblk m c 2 t : Vec Ideal S1024x1024 .f32) (ix2 r o) = DM m c (tok t.val r) o := by
  blk_ext [iblk, V, index t]
  rw [tok_val _ (by omega)]; omega

theorem iblk3 (t : Fin cfg0.N) (o i : Fin 1024) : (iblk m c 3 t : Vec Ideal S1024x1024 .bf16) (ix2 o i) = W m c i o := by
  have e : V m c main_v2 = (truncf .bf16 (extractStridedSlice S4096x1024 ![1952, 0] (transpose S6048x1024 [1, 0] (m ((c : Thread nD τ).loc main_arg3) : FVec Ideal S1024x6048 .f32) transposes_S1024x6048_S6048x1024_1_0) slices_S6048x1024_S4096x1024_1952_0 : FVec Ideal S4096x1024 .f32) bitsLt_bf16_f32 : FVec Ideal S4096x1024 .bf16) := by
    unfold V; after_results
  have h : (iblk m c 3 t : Vec Ideal S1024x1024 .bf16) (ix2 o i) = (V m c main_v2 : Vec Ideal S4096x1024 .bf16) (ix2 ⟨2048 + o.val, by omega⟩ i) := by
    blk_ext [iblk, index t]
  rw [h, e]
  pointwise
  refine congrArg (fun y => (m ((c : Thread nD τ).loc main_arg3) : Vec Ideal S1024x6048 .f32) (ix2 i y)) (Fin.ext ?_)
  dsimp only; omega

theorem iblk4 (t : Fin cfg0.N) (o : Fin 1024) : (iblk m c 4 t : Vec Ideal S1x1024 .f32) (ix2 0 o) = B m c o := by
  have e : V m c main_v18 = (broadcastInDim S1x4096 ![1] bcast_S4096_S1x4096_1 (m ((c : Thread nD τ).loc main_arg4) : FVec Ideal S4096 .f32) : FVec Ideal S1x4096 .f32) := by
    unfold V; after_results
  have h : (iblk m c 4 t : Vec Ideal S1x1024 .f32) (ix2 0 o) = (V m c main_v18 : Vec Ideal S1x4096 .f32) (ix2 0 ⟨2048 + o.val, by omega⟩) := by
    blk_ext [iblk, index t]
  rw [h, e]
  pointwise
  rfl

/-- The four branches' projections, stacked. -/
theorem stack_eq : V m c main_v15 = (concatenate S4x1024x256 0
    [⟨S1x1024x256, slab (m ((c : Thread nD τ).loc main_arg5))⟩, ⟨S1x1024x256, slab (m ((c : Thread nD τ).loc main_arg6))⟩,
     ⟨S1x1024x256, slab (m ((c : Thread nD τ).loc main_arg7))⟩, ⟨S1x1024x256, slab (m ((c : Thread nD τ).loc main_arg8))⟩]
    concatenates_S1x1024x256_S1x1024x256_S1x1024x256_S1x1024x256_S4x1024x256_d0 : FVec Ideal S4x1024x256 .bf16) := by
  unfold V
  after_results_entrywise (rounds := 1) []

theorem iblk5 (t : Fin cfg0.N) (o : Fin 1024) (a : Fin 256) : (iblk m c 5 t : Vec Ideal S1x1024x256 .bf16) (ix3 0 o a) = WB m c a o := by
  have h : (iblk m c 5 t : Vec Ideal S1x1024x256 .bf16) (ix3 0 o a) = (V m c main_v15 : Vec Ideal S4x1024x256 .bf16) (ix3 2 o a) := by
    blk_ext [iblk, index t]
  rw [h, stack_eq]
  pointwise
  rfl

/-- A block's gate, its gated gradient and its logits' gradient. -/
abbrev gt (t : Fin cfg0.N) : FVec Ideal S1024x1024 .f32 := k0_pay14 (iblk m c 0 t) (iblk m c 3 t) (iblk m c 4 t)
abbrev dy (t : Fin cfg0.N) : FVec Ideal S1024x1024 .bf16 := k0_pay15 (iblk m c 0 t) (iblk m c 2 t) (iblk m c 3 t) (iblk m c 4 t)
abbrev dpre (t : Fin cfg0.N) : FVec Ideal S1024x1024 .f32 := k0_pay16 (iblk m c 0 t) (iblk m c 1 t) (iblk m c 2 t) (iblk m c 5 t) (iblk m c 3 t) (iblk m c 4 t)
abbrev drow (t : Fin cfg0.N) : FVec Ideal S1024x256 .f32 := k0_pay18 (iblk m c 0 t) (iblk m c 2 t) (iblk m c 5 t) (iblk m c 3 t) (iblk m c 4 t)
/-- A block's parts of the three weight gradients. -/
abbrev partW (t : Fin cfg0.N) : FVec Ideal S1024x1024 .f32 := k0_pay5 (iblk m c 0 t) (truncf .bf16 (dpre m c t) bitsLt_bf16_f32)
abbrev partB (t : Fin cfg0.N) : FVec Ideal S1x1024 .f32 := k0_pay9 (dpre m c t)
abbrev partP (t : Fin cfg0.N) : FVec Ideal S1024x256 .f32 := k0_pay1 (iblk m c 1 t) (dy m c t)

theorem gate_at (t : Fin cfg0.N) (r o : Fin 1024) : gt m c t (ix2 r o) = gate (H m c) (W m c) (B m c) (tok t.val r) o := by
  refine (Cert.KernelIdeal.Steps.pay14_at _ _ _ r o).trans ?_
  rw [iblk4]
  simp only [iblk0, iblk3]
  rfl

theorem dy_at (t : Fin cfg0.N) (r o : Fin 1024) : dy m c t (ix2 r o) = gated (H m c) (DM m c) (W m c) (B m c) (tok t.val r) o := by
  refine (Cert.KernelIdeal.Steps.pay15_at _ _ _ _ r o).trans ?_
  rw [iblk2]
  exact congrArg (DM m c (tok t.val r) o * ·) (gate_at m c t r o)

theorem dpre_at (t : Fin cfg0.N) (r o : Fin 1024) :
    dpre m c t (ix2 r o) = logit (H m c) (BR m c) (DM m c) (W m c) (B m c) (WB m c) (tok t.val r) o := by
  refine (Cert.KernelIdeal.Steps.pay16_at _ _ _ _ _ _ r o).trans ?_
  rw [iblk2]
  simp only [iblk1, iblk5]
  exact congrArg (fun g => _ * g * (1 - g)) (gate_at m c t r o)

theorem drow_at (t : Fin cfg0.N) (r : Fin 1024) (a : Fin 256) :
    drow m c t (ix2 r a) = dBranch (H m c) (DM m c) (W m c) (B m c) (WB m c) (tok t.val r) a :=
  (Cert.KernelIdeal.Steps.pay18_at _ _ _ _ _ r a).trans
    (Finset.sum_congr rfl fun o _ => congrArg₂ (· * ·) (dy_at m c t r o) (iblk5 m c t o a))

theorem partW_at (t : Fin cfg0.N) (o i : Fin 1024) :
    partW m c t (ix2 o i) = ∑ r : Fin 1024, logit (H m c) (BR m c) (DM m c) (W m c) (B m c) (WB m c) (tok t.val r) o * H m c (tok t.val r) i :=
  (Cert.KernelIdeal.Steps.pay5_at _ _ o i).trans (Finset.sum_congr rfl fun r _ => congrArg₂ (· * ·) (dpre_at m c t r o) (iblk0 m c t r i))

theorem partB_at (t : Fin cfg0.N) (o : Fin 1024) :
    partB m c t (ix2 0 o) = ∑ r : Fin 1024, logit (H m c) (BR m c) (DM m c) (W m c) (B m c) (WB m c) (tok t.val r) o :=
  (Cert.KernelIdeal.Steps.pay9_at _ o).trans (Finset.sum_congr rfl fun r _ => dpre_at m c t r o)

theorem partP_at (t : Fin cfg0.N) (o : Fin 1024) (a : Fin 256) :
    partP m c t (ix2 o a) = ∑ r : Fin 1024, gated (H m c) (DM m c) (W m c) (B m c) (tok t.val r) o * BR m c (tok t.val r) a :=
  (Cert.KernelIdeal.Steps.pay1_at _ _ o a).trans (Finset.sum_congr rfl fun r _ => congrArg₂ (· * ·) (dy_at m c t r o) (iblk1 m c t r a))

theorem emb6 (t : Fin cfg0.N) (r : Fin 1024) (a : Fin 256) : (((cfg0.win 6).blk t).view.emb (ix2 r a) : S8192x256.Idx) = ix2 (tok t.val r) a := by
  blk_ext [index t]
  rw [tok_val _ (by omega)]; omega
theorem emb7 (t : Fin cfg0.N) (r o : Fin 1024) : (((cfg0.win 7).blk t).view.emb (ix2 r o) : S8192x1024.Idx) = ix2 (tok t.val r) o := by
  blk_ext [index t]
  rw [tok_val _ (by omega)]; omega

/-- Every point's per-token results are the block's own. -/
theorem rows (t : Fin cfg0.N) : (outsAt0 m c t.val t.isLt).1 = drow m c t ∧ (outsAt0 m c t.val t.isLt).2.1 = truncf .bf16 (dpre m c t) bitsLt_bf16_f32 := by
  have ht : t.val < 8 := lt_of_lt_of_eq t.isLt N_0
  by_cases h : t.val % 8 = 0
  · rw [outsAt0_A m c t h (by omega) (by omega) h (by omega) (by omega) h (by omega)]
    constructor <;> (frame_out; all_goals rfl)
  · by_cases h7 : t.val % 8 = 7
    · rw [outsAt0_C m c t h (by omega) h7 h (by omega) h7 h (by omega)]
      constructor <;> (frame_out; all_goals rfl)
    · rw [outsAt0_B m c t h (by omega) h7 h (by omega) h7 h (by omega)]
      constructor <;> (frame_out; all_goals rfl)

theorem arr6 : ((dats m 0 c).arrAt 6 cfg0.N : Vec Ideal S8192x256 .f32) = fun j => dBranch (H m c) (DM m c) (W m c) (B m c) (WB m c) (j 0) (j 1) := by
  refine (dats m 0 c).arrAt_eq_of_covers 6 _ (by decide +kernel) fun t hf y => ?_
  obtain ⟨r, i, hy⟩ : ∃ (r : Fin 1024) (i : Fin 256), y = ix2 r i := ⟨_, _, ValueIdx.eq_ix2 y⟩
  subst hy
  rw [emb6, after0_6, (rows m c t).1]
  exact drow_at m c t r i

theorem arr7 : ((dats m 0 c).arrAt 7 cfg0.N : Vec Ideal S8192x1024 .bf16) = fun j => logit (H m c) (BR m c) (DM m c) (W m c) (B m c) (WB m c) (j 0) (j 1) := by
  refine (dats m 0 c).arrAt_eq_of_covers 7 _ (by decide +kernel) fun t hf y => ?_
  obtain ⟨r, i, hy⟩ : ∃ (r : Fin 1024) (i : Fin 1024), y = ix2 r i := ⟨_, _, ValueIdx.eq_ix2 y⟩
  subst hy
  rw [emb7, after0_7, (rows m c t).2]
  exact dpre_at m c t r i

/-- The gate weight's gradient after the last point: every block's part. -/
theorem sumW (y : S1024x1024.Idx) : (outsAt0 m c t0_7.val t0_7.isLt).2.2.2.2.2.1 y = 0 + ∑ t : Fin cfg0.N, partW m c t y := by
  refine Pipeline.eq_sum_fin_of_reset_step_apply_last (fun n h => (outsAt0 m c n h).2.2.2.2.2.1) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partW]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partW]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partW]; pointwise)

/-- The projection's gradient after the last point: every block's part. -/
theorem sumP (y : S1024x256.Idx) : (outsAt0 m c t0_7.val t0_7.isLt).2.2.2.2.2.2 y = 0 + ∑ t : Fin cfg0.N, partP m c t y := by
  refine Pipeline.eq_sum_fin_of_reset_step_apply_last (fun n h => (outsAt0 m c n h).2.2.2.2.2.2) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partP]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partP]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partP]; pointwise)

/-- The gate bias's gradient after the last point: every block's part. -/
theorem sumB (y : S1x1024.Idx) : (outsAt0 m c t0_7.val t0_7.isLt).2.2.2.1 y = 0 + ∑ t : Fin cfg0.N, partB m c t y := by
  refine Pipeline.eq_sum_fin_of_reset_step_apply_last (fun n h => (outsAt0 m c n h).2.2.2.1) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partB]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partB]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partB]; pointwise)

/-- The last point writes the two sums out. -/
theorem outs (y : S1024x1024.Idx) (z : S1024x256.Idx) :
    (outsAt0 m c t0_7.val t0_7.isLt).2.2.1 y = (outsAt0 m c t0_7.val t0_7.isLt).2.2.2.2.2.1 y
    ∧ (outsAt0 m c t0_7.val t0_7.isLt).2.2.2.2.1 z = (outsAt0 m c t0_7.val t0_7.isLt).2.2.2.2.2.2 z := by
  rw [outsAt0_C m c t0_7 (by decide) (by decide) (by decide) (by decide) (by decide) (by decide) (by decide) (by decide)]
  constructor
  · frame_out
    unfold k0_pay8
    pointwise [shapeCast_self]
  · frame_out
    unfold k0_pay4
    pointwise [shapeCast_self]

theorem arr8 : ((dats m 0 c).arrAt 8 cfg0.N : Vec Ideal S1024x1024 .bf16) = fun j => dGateW (H m c) (BR m c) (DM m c) (W m c) (B m c) (WB m c) (j 0) (j 1) := by
  refine (dats m 0 c).arrAt_eq_of_after_last 8 t0_7 (by decide +kernel) _ fun j => ?_
  obtain ⟨u, i, rfl⟩ : ∃ (u : Fin 1024) (i : Fin 1024), j = ix2 u i := ⟨_, _, ValueIdx.eq_ix2 j⟩
  rw [after0_8]
  refine ((outs m c (ix2 u i) (ix2 u 0)).1.trans (sumW m c (ix2 u i))).trans ?_
  rw [zero_add]
  refine (Finset.sum_congr rfl fun t _ => partW_at m c t u i).trans ?_
  refine Eq.trans ?_ (sum_tok fun r => logit (H m c) (BR m c) (DM m c) (W m c) (B m c) (WB m c) r u * H m c r i)
  exact (Fin.sum_univ_eq_sum_range (fun n => ∑ r : Fin 1024, (fun r => logit (H m c) (BR m c) (DM m c) (W m c) (B m c) (WB m c) r u * H m c r i) (tok n r)) 8)

theorem arr9 : ((dats m 0 c).arrAt 9 cfg0.N : Vec Ideal S1x1024 .f32) = fun j => dGateB (H m c) (BR m c) (DM m c) (W m c) (B m c) (WB m c) (j 1) := by
  refine (dats m 0 c).arrAt_eq_of_after_last 9 t0_7 (by decide +kernel) _ fun j => ?_
  obtain ⟨u, i, rfl⟩ : ∃ (u : Fin 1) (i : Fin 1024), j = ix2 u i := ⟨_, _, ValueIdx.eq_ix2 j⟩
  rw [after0_9]
  refine (sumB m c (ix2 u i)).trans ?_
  rw [zero_add]
  refine (Finset.sum_congr rfl fun t _ => (congrArg (fun z => partB m c t (ix2 z i)) (Subsingleton.elim u 0)).trans (partB_at m c t i)).trans ?_
  refine Eq.trans ?_ (sum_tok fun r => logit (H m c) (BR m c) (DM m c) (W m c) (B m c) (WB m c) r i)
  exact (Fin.sum_univ_eq_sum_range (fun n => ∑ r : Fin 1024, (fun r => logit (H m c) (BR m c) (DM m c) (W m c) (B m c) (WB m c) r i) (tok n r)) 8)

theorem arr10 : ((dats m 0 c).arrAt 10 cfg0.N : Vec Ideal S1024x256 .bf16) = fun j => dProj (H m c) (BR m c) (DM m c) (W m c) (B m c) (j 0) (j 1) := by
  refine (dats m 0 c).arrAt_eq_of_after_last 10 t0_7 (by decide +kernel) _ fun j => ?_
  obtain ⟨u, i, rfl⟩ : ∃ (u : Fin 1024) (i : Fin 256), j = ix2 u i := ⟨_, _, ValueIdx.eq_ix2 j⟩
  rw [after0_10]
  refine ((outs m c (ix2 u 0) (ix2 u i)).2.trans (sumP m c (ix2 u i))).trans ?_
  rw [zero_add]
  refine (Finset.sum_congr rfl fun t _ => partP_at m c t u i).trans ?_
  refine Eq.trans ?_ (sum_tok fun r => gated (H m c) (DM m c) (W m c) (B m c) r u * BR m c r i)
  exact (Fin.sum_univ_eq_sum_range (fun n => ∑ r : Fin 1024, (fun r => gated (H m c) (DM m c) (W m c) (B m c) r u * BR m c r i) (tok n r)) 8)

end Cert.MergeThirdIdeal.Out
end
-- ==== Proof.MergeThirdReference.lean ====
/- The third branch's gradient in the reference's own terms: the same sums of `MergeMath`. -/
module

public import proofs.«01_k».proof.Proof.MergeMath
public import proofs.«01_k».proof.Proof.Gen.MergeThirdReferenceIdeal.Run

@[expose] public section

set_option maxRecDepth 16384
noncomputable section

namespace Cert.MergeThirdReferenceIdeal.Out

open Cert.MergeThirdReferenceIdeal Cert.MergeThirdReferenceIdeal.Value Idealize.ShloMosaic Idealize.ShloMosaic.TcCoe Idealize.SL.Sem
open Cert.MergeMath

variable (m : (ℓ : Loc nD τ sig) → Buf (Elt Ideal) ℓ) (c : Dev nD)

def H (r : Fin 8192) (i : Fin 1024) : EReal := (m ((c.tc : Thread nD τ).loc main_arg0) : Vec Ideal S8192x1024 .f32) (ix2 r i)
def BR (r : Fin 8192) (a : Fin 256) : EReal := (m ((c.tc : Thread nD τ).loc main_arg1) : Vec Ideal S8192x256 .f32) (ix2 r a)
def DM (r : Fin 8192) (o : Fin 1024) : EReal := (m ((c.tc : Thread nD τ).loc main_arg2) : Vec Ideal S8192x1024 .f32) (ix2 r o)
def W (i o : Fin 1024) : EReal := (m ((c.tc : Thread nD τ).loc main_arg3) : Vec Ideal S1024x6048 .f32) (ix2 i ⟨4000 + o.val, by omega⟩)
def B (o : Fin 1024) : EReal := (m ((c.tc : Thread nD τ).loc main_arg4) : Vec Ideal S4096 .f32) (ix1 ⟨2048 + o.val, by omega⟩)
def WB (a : Fin 256) (o : Fin 1024) : EReal := (m ((c.tc : Thread nD τ).loc main_arg7) : Vec Ideal S256x1024 .f32) (ix2 a o)

/-- The reference's gradient of a logit, with its own grouping of the factors. -/
theorem logit_eq (r : Fin 8192) (o : Fin 1024) :
    DM m c r o * (∑ a, BR m c r a * WB m c a o) * (gate (H m c) (W m c) (B m c) r o * (1 - gate (H m c) (W m c) (B m c) r o))
      = logit (H m c) (BR m c) (DM m c) (W m c) (B m c) (WB m c) r o := (mul_assoc _ _ _).symm

/-- The reference runs, and its results are the sums of `MergeMath`. -/
theorem run (ρ : Dev nD → PrngReg) :
    θ_run defs (onTc (τ := τ) (main (F := Ideal))) ⟨m, fun _ => 0, ρ⟩ fun r => ∀ c : Dev nD,
      (r.2.mem ((c.tc : Thread nD τ).loc main_v21) : Vec Ideal S8192x256 .f32) = (fun j => dBranch (H m c) (DM m c) (W m c) (B m c) (WB m c) (j 0) (j 1))
      ∧ (r.2.mem ((c.tc : Thread nD τ).loc main_v28) : Vec Ideal S8192x1024 .bf16) = (fun j => logit (H m c) (BR m c) (DM m c) (W m c) (B m c) (WB m c) (j 0) (j 1))
      ∧ (r.2.mem ((c.tc : Thread nD τ).loc main_v30) : Vec Ideal S1024x1024 .bf16) = (fun j => dGateW (H m c) (BR m c) (DM m c) (W m c) (B m c) (WB m c) (j 0) (j 1))
      ∧ (r.2.mem ((c.tc : Thread nD τ).loc main_v31) : Vec Ideal S1x1024 .f32) = (fun j => dGateB (H m c) (BR m c) (DM m c) (W m c) (B m c) (WB m c) (j 1))
      ∧ (r.2.mem ((c.tc : Thread nD τ).loc main_v33) : Vec Ideal S1024x256 .bf16) = (fun j => dProj (H m c) (BR m c) (DM m c) (W m c) (B m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Cert.MergeThirdReferenceIdeal.Value.run m ρ)
  obtain ⟨h1, h2, h3, h4, h5, hargs⟩ := h c
  refine ⟨h1.trans ?_, h2.trans ?_, h3.trans ?_, h4.trans ?_, h5.trans ?_, hargs⟩ <;> clear hargs h1 h2 h3 h4 h5 h <;> funext j
  · obtain ⟨r, a, rfl⟩ : ∃ r a, j = ix2 r a := ⟨_, _, ValueIdx.eq_ix2 j⟩
    pointwise [dot_S8192x1024_S256x1024_S8192x256_1_1_0_0_n_n, dot_S8192x1024_S1024x1024_S8192x1024_1_0_0_1_n_n]
    exact Finset.sum_congr rfl fun o _ => congrArg (· * WB m c a o) (mul_comm (gate (H m c) (W m c) (B m c) r o) (DM m c r o))
  · obtain ⟨r, a, rfl⟩ : ∃ r a, j = ix2 r a := ⟨_, _, ValueIdx.eq_ix2 j⟩
    pointwise [dot_S8192x256_S256x1024_S8192x1024_1_0_0_1_n_n, dot_S8192x1024_S1024x1024_S8192x1024_1_0_0_1_n_n]
    exact logit_eq m c r a
  · obtain ⟨r, a, rfl⟩ : ∃ r a, j = ix2 r a := ⟨_, _, ValueIdx.eq_ix2 j⟩
    pointwise [dot_S8192x1024_S8192x1024_S1024x1024_0_0_1_1_n_n, dot_S8192x256_S256x1024_S8192x1024_1_0_0_1_n_n, dot_S8192x1024_S1024x1024_S8192x1024_1_0_0_1_n_n]
    exact Finset.sum_congr rfl fun t _ => congrArg (· * H m c t a) (logit_eq m c t r)
  · obtain ⟨z, a, rfl⟩ : ∃ z a, j = ix2 z a := ⟨_, _, ValueIdx.eq_ix2 j⟩
    pointwise [shapeCast_self, dot_S8192x256_S256x1024_S8192x1024_1_0_0_1_n_n, dot_S8192x1024_S1024x1024_S8192x1024_1_0_0_1_n_n]
    exact (Fintype.sum_unique _).trans (Finset.sum_congr rfl fun t _ => logit_eq m c t a)
  · obtain ⟨r, a, rfl⟩ : ∃ r a, j = ix2 r a := ⟨_, _, ValueIdx.eq_ix2 j⟩
    pointwise [dot_S8192x1024_S8192x256_S1024x256_0_0_1_1_n_n, dot_S8192x1024_S1024x1024_S8192x1024_1_0_0_1_n_n]
    exact Finset.sum_congr rfl fun t _ => congrArg (· * BR m c t a) (mul_comm (gate (H m c) (W m c) (B m c) t r) (DM m c t r))

end Cert.MergeThirdReferenceIdeal.Out
end
-- ==== Proof.MergeThirdClaims.lean ====
/- The claims about the third gated branch: the reference's frame, and the equality of the five gradients. -/
module

public import proofs.«01_k».proof.Defs
public import proofs.«01_k».proof.Proof.MergeThirdOut
public import proofs.«01_k».proof.Proof.MergeThirdReference
public import Idealize.ShloMosaic.Adequacy
public import Idealize.ShloMosaic.Init

@[expose] public section

noncomputable section

namespace Cert.Proof

open Idealize.ShloMosaic Idealize.SL.Sem

theorem merge_third_reference_frame : Cert.quiescent_MergeThirdReferenceIdeal := fun m ρ _ =>
  (θ_run Cert.MergeThirdReferenceIdeal.defs _ _).mono (fun r h => ⟨fun c => (h c).2.2.2.2.2, sem_eq_zero_of_no_sems (by decide) r.2⟩)
    (Cert.MergeThirdReferenceIdeal.Out.run m ρ)

/-- The third gated branch's gradients are the reference's. -/
theorem merge_third_algebraic : Cert.algebraic_MergeThirdIdeal_MergeThirdReferenceIdeal := fun m ρ m' ρ' _ hag => by
  have hH : ∀ c, MergeThirdReferenceIdeal.Out.H m' c = MergeThirdIdeal.Out.H m c := fun c => funext fun _ => funext fun _ => congrFun (hag c).1 _
  have hBR : ∀ c, MergeThirdReferenceIdeal.Out.BR m' c = MergeThirdIdeal.Out.BR m c := fun c => funext fun _ => funext fun _ => congrFun (hag c).2.1 _
  have hDM : ∀ c, MergeThirdReferenceIdeal.Out.DM m' c = MergeThirdIdeal.Out.DM m c := fun c => funext fun _ => funext fun _ => congrFun (hag c).2.2.1 _
  have hW : ∀ c, MergeThirdReferenceIdeal.Out.W m' c = MergeThirdIdeal.Out.W m c := fun c => funext fun _ => funext fun _ => congrFun (hag c).2.2.2.1 _
  have hB : ∀ c, MergeThirdReferenceIdeal.Out.B m' c = MergeThirdIdeal.Out.B m c := fun c => funext fun _ => congrFun (hag c).2.2.2.2.1 _
  have hWB : ∀ c, MergeThirdReferenceIdeal.Out.WB m' c = MergeThirdIdeal.Out.WB m c := fun c => funext fun _ => funext fun _ => congrFun (hag c).2.2.2.2.2.2.2.1 _
  refine ⟨_, _, _, _, _, MergeThirdIdeal.Value.run_blocks m ρ, (θ_run _ _ _).mono (fun _ h c => ?_) (MergeThirdReferenceIdeal.Out.run m' ρ')⟩
  obtain ⟨h1, h2, h3, h4, h5, hargs⟩ := h c
  rw [hH, hDM, hW, hB, hWB] at h1
  rw [hH, hBR, hDM, hW, hB, hWB] at h2 h3 h4
  rw [hH, hBR, hDM, hW, hB] at h5
  exact ⟨h1.trans (MergeThirdIdeal.Out.arr6 m c).symm, h2.trans (MergeThirdIdeal.Out.arr7 m c).symm,
    h3.trans (MergeThirdIdeal.Out.arr8 m c).symm, h4.trans (MergeThirdIdeal.Out.arr9 m c).symm,
    h5.trans (MergeThirdIdeal.Out.arr10 m c).symm, hargs⟩

end Cert.Proof
end
-- ==== Proof.MergeFourthOut.lean ====
/- The gradient of the fourth gated branch: what the five result arrays of the kernel hold. A block's arithmetic is the first
   branch's (`MergeBlocks`); the blocks of the weights differ. -/
module

public import proofs.«01_k».proof.Proof.MergeBlocks
public import proofs.«01_k».proof.Proof.Gen.MergeFourthIdeal.Value
public import Idealize.ShloMosaic.Lib.Pipeline.ValueKit
public import Idealize.ShloMosaic.Lib.Pipeline.ReadBack
public import Idealize.ShloMosaic.Lib.StableHlo.RunClose

@[expose] public section

set_option maxRecDepth 16384

noncomputable section

namespace Cert.MergeFourthIdeal.Out

open Cert.MergeFourthIdeal Cert.MergeFourthIdeal.Gen Cert.MergeFourthIdeal.Value Idealize.ShloMosaic Idealize.ShloMosaic.TcCoe Idealize.SL.Sem
open Cert.MergeMath
open Cert.KernelIdeal.Steps (slab)

variable (m : (ℓ : Loc nD τ sig) → Buf (Elt Ideal) ℓ) (c : Dev nD)

def H (r : Fin 8192) (i : Fin 1024) : EReal := (m ((c : Thread nD τ).loc main_arg0) : Vec Ideal S8192x1024 .f32) (ix2 r i)
def BR (r : Fin 8192) (a : Fin 256) : EReal := (m ((c : Thread nD τ).loc main_arg1) : Vec Ideal S8192x256 .f32) (ix2 r a)
def DM (r : Fin 8192) (o : Fin 1024) : EReal := (m ((c : Thread nD τ).loc main_arg2) : Vec Ideal S8192x1024 .f32) (ix2 r o)
def W (i o : Fin 1024) : EReal := (m ((c : Thread nD τ).loc main_arg3) : Vec Ideal S1024x6048 .f32) (ix2 i ⟨5024 + o.val, by omega⟩)
def B (o : Fin 1024) : EReal := (m ((c : Thread nD τ).loc main_arg4) : Vec Ideal S4096 .f32) (ix1 ⟨3072 + o.val, by omega⟩)
def WB (a : Fin 256) (o : Fin 1024) : EReal := (m ((c : Thread nD τ).loc main_arg8) : Vec Ideal S256x1024 .f32) (ix2 a o)

theorem index : ∀ t : Fin cfg0.N, win0_0.index t = ![t.val, 0] ∧ win0_1.index t = ![t.val, 0] ∧ win0_2.index t = ![t.val, 0] ∧ win0_3.index t = ![3, 0] ∧ win0_4.index t = ![0, 3] ∧ win0_5.index t = ![3, 0, 0] ∧ win0_6.index t = ![t.val, 0] ∧ win0_7.index t = ![t.val, 0] := by decide +kernel

theorem iblk0 (t : Fin cfg0.N) (r i : Fin 1024) : (iblk m c 0 t : Vec Ideal S1024x1024 .bf16) (ix2 r i) = H m c (tok t.val r) i := by
  blk_ext [iblk, V, index t]
  rw [tok_val _ (by omega)]; omega
theorem iblk1 (t : Fin cfg0.N) (r : Fin 1024) (a : Fin 256) : (iblk m c 1 t : Vec Ideal S1024x256 .bf16) (ix2 r a) = BR m c (tok t.val r) a := by
  blk_ext [iblk, V, index t]
  rw [tok_val _ (by omega)]; omega
theorem iblk2 (t : Fin cfg0.N) (r o : Fin 1024) : (iblk m c 2 t : Vec Ideal S1024x1024 .f32) (ix2 r o) = DM m c (tok t.val r) o := by
  blk_ext [iblk, V, index t]
  rw [tok_val _ (by omega)]; omega

theorem iblk3 (t : Fin cfg0.N) (o i : Fin 1024) : (iblk m c 3 t : Vec Ideal S1024x1024 .bf16) (ix2 o i) = W m c i o := by
  have e : V m c main_v2 = (truncf .bf16 (extractStridedSlice S4096x1024 ![1952, 0] (transpose S6048x1024 [1, 0] (m ((c : Thread nD τ).loc main_arg3) : FVec Ideal S1024x6048 .f32) transposes_S1024x6048_S6048x1024_1_0) slices_S6048x1024_S4096x1024_1952_0 : FVec Ideal S4096x1024 .f32) bitsLt_bf16_f32 : FVec Ideal S4096x1024 .bf16) := by
    unfold V; after_results
  have h : (iblk m c 3 t : Vec Ideal S1024x1024 .bf16) (ix2 o i) = (V m c main_v2 : Vec Ideal S4096x1024 .bf16) (ix2 ⟨3072 + o.val, by omega⟩ i) := by
    blk_ext [iblk, index t]
  rw [h, e]
  pointwise
  refine congrArg (fun y => (m ((c : Thread nD τ).loc main_arg3) : Vec Ideal S1024x6048 .f32) (ix2 i y)) (Fin.ext ?_)
  dsimp only; omega

theorem iblk4 (t : Fin cfg0.N) (o : Fin 1024) : (iblk m c 4 t : Vec Ideal S1x1024 .f32) (ix2 0 o) = B m c o := by
  have e : V m c main_v18 = (broadcastInDim S1x4096 ![1] bcast_S4096_S1x4096_1 (m ((c : Thread nD τ).loc main_arg4) : FVec Ideal S4096 .f32) : FVec Ideal S1x4096 .f32) := by
    unfold V; after_results
  have h : (iblk m c 4 t : Vec Ideal S1x1024 .f32) (ix2 0 o) = (V m c main_v18 : Vec Ideal S1x4096 .f32) (ix2 0 ⟨3072 + o.val, by omega⟩) := by
    blk_ext [iblk, index t]
  rw [h, e]
  pointwise
  rfl

/-- The four branches' projections, stacked. -/
theorem stack_eq : V m c main_v15 = (concatenate S4x1024x256 0
    [⟨S1x1024x256, slab (m ((c : Thread nD τ).loc main_arg5))⟩, ⟨S1x1024x256, slab (m ((c : Thread nD τ).loc main_arg6))⟩,
     ⟨S1x1024x256, slab (m ((c : Thread nD τ).loc main_arg7))⟩, ⟨S1x1024x256, slab (m ((c : Thread nD τ).loc main_arg8))⟩]
    concatenates_S1x1024x256_S1x1024x256_S1x1024x256_S1x1024x256_S4x1024x256_d0 : FVec Ideal S4x1024x256 .bf16) := by
  unfold V
  after_results_entrywise (rounds := 1) []

theorem iblk5 (t : Fin cfg0.N) (o : Fin 1024) (a : Fin 256) : (iblk m c 5 t : Vec Ideal S1x1024x256 .bf16) (ix3 0 o a) = WB m c a o := by
  have h : (iblk m c 5 t : Vec Ideal S1x1024x256 .bf16) (ix3 0 o a) = (V m c main_v15 : Vec Ideal S4x1024x256 .bf16) (ix3 3 o a) := by
    blk_ext [iblk, index t]
  rw [h, stack_eq]
  pointwise
  rfl

/-- A block's gate, its gated gradient and its logits' gradient. -/
abbrev gt (t : Fin cfg0.N) : FVec Ideal S1024x1024 .f32 := k0_pay14 (iblk m c 0 t) (iblk m c 3 t) (iblk m c 4 t)
abbrev dy (t : Fin cfg0.N) : FVec Ideal S1024x1024 .bf16 := k0_pay15 (iblk m c 0 t) (iblk m c 2 t) (iblk m c 3 t) (iblk m c 4 t)
abbrev dpre (t : Fin cfg0.N) : FVec Ideal S1024x1024 .f32 := k0_pay16 (iblk m c 0 t) (iblk m c 1 t) (iblk m c 2 t) (iblk m c 5 t) (iblk m c 3 t) (iblk m c 4 t)
abbrev drow (t : Fin cfg0.N) : FVec Ideal S1024x256 .f32 := k0_pay18 (iblk m c 0 t) (iblk m c 2 t) (iblk m c 5 t) (iblk m c 3 t) (iblk m c 4 t)
/-- A block's parts of the three weight gradients. -/
abbrev partW (t : Fin cfg0.N) : FVec Ideal S1024x1024 .f32 := k0_pay5 (iblk m c 0 t) (truncf .bf16 (dpre m c t) bitsLt_bf16_f32)
abbrev partB (t : Fin cfg0.N) : FVec Ideal S1x1024 .f32 := k0_pay9 (dpre m c t)
abbrev partP (t : Fin cfg0.N) : FVec Ideal S1024x256 .f32 := k0_pay1 (iblk m c 1 t) (dy m c t)

theorem gate_at (t : Fin cfg0.N) (r o : Fin 1024) : gt m c t (ix2 r o) = gate (H m c) (W m c) (B m c) (tok t.val r) o := by
  refine (Cert.KernelIdeal.Steps.pay14_at _ _ _ r o).trans ?_
  rw [iblk4]
  simp only [iblk0, iblk3]
  rfl

theorem dy_at (t : Fin cfg0.N) (r o : Fin 1024) : dy m c t (ix2 r o) = gated (H m c) (DM m c) (W m c) (B m c) (tok t.val r) o := by
  refine (Cert.KernelIdeal.Steps.pay15_at _ _ _ _ r o).trans ?_
  rw [iblk2]
  exact congrArg (DM m c (tok t.val r) o * ·) (gate_at m c t r o)

theorem dpre_at (t : Fin cfg0.N) (r o : Fin 1024) :
    dpre m c t (ix2 r o) = logit (H m c) (BR m c) (DM m c) (W m c) (B m c) (WB m c) (tok t.val r) o := by
  refine (Cert.KernelIdeal.Steps.pay16_at _ _ _ _ _ _ r o).trans ?_
  rw [iblk2]
  simp only [iblk1, iblk5]
  exact congrArg (fun g => _ * g * (1 - g)) (gate_at m c t r o)

theorem drow_at (t : Fin cfg0.N) (r : Fin 1024) (a : Fin 256) :
    drow m c t (ix2 r a) = dBranch (H m c) (DM m c) (W m c) (B m c) (WB m c) (tok t.val r) a :=
  (Cert.KernelIdeal.Steps.pay18_at _ _ _ _ _ r a).trans
    (Finset.sum_congr rfl fun o _ => congrArg₂ (· * ·) (dy_at m c t r o) (iblk5 m c t o a))

theorem partW_at (t : Fin cfg0.N) (o i : Fin 1024) :
    partW m c t (ix2 o i) = ∑ r : Fin 1024, logit (H m c) (BR m c) (DM m c) (W m c) (B m c) (WB m c) (tok t.val r) o * H m c (tok t.val r) i :=
  (Cert.KernelIdeal.Steps.pay5_at _ _ o i).trans (Finset.sum_congr rfl fun r _ => congrArg₂ (· * ·) (dpre_at m c t r o) (iblk0 m c t r i))

theorem partB_at (t : Fin cfg0.N) (o : Fin 1024) :
    partB m c t (ix2 0 o) = ∑ r : Fin 1024, logit (H m c) (BR m c) (DM m c) (W m c) (B m c) (WB m c) (tok t.val r) o :=
  (Cert.KernelIdeal.Steps.pay9_at _ o).trans (Finset.sum_congr rfl fun r _ => dpre_at m c t r o)

theorem partP_at (t : Fin cfg0.N) (o : Fin 1024) (a : Fin 256) :
    partP m c t (ix2 o a) = ∑ r : Fin 1024, gated (H m c) (DM m c) (W m c) (B m c) (tok t.val r) o * BR m c (tok t.val r) a :=
  (Cert.KernelIdeal.Steps.pay1_at _ _ o a).trans (Finset.sum_congr rfl fun r _ => congrArg₂ (· * ·) (dy_at m c t r o) (iblk1 m c t r a))

theorem emb6 (t : Fin cfg0.N) (r : Fin 1024) (a : Fin 256) : (((cfg0.win 6).blk t).view.emb (ix2 r a) : S8192x256.Idx) = ix2 (tok t.val r) a := by
  blk_ext [index t]
  rw [tok_val _ (by omega)]; omega
theorem emb7 (t : Fin cfg0.N) (r o : Fin 1024) : (((cfg0.win 7).blk t).view.emb (ix2 r o) : S8192x1024.Idx) = ix2 (tok t.val r) o := by
  blk_ext [index t]
  rw [tok_val _ (by omega)]; omega

/-- Every point's per-token results are the block's own. -/
theorem rows (t : Fin cfg0.N) : (outsAt0 m c t.val t.isLt).1 = drow m c t ∧ (outsAt0 m c t.val t.isLt).2.1 = truncf .bf16 (dpre m c t) bitsLt_bf16_f32 := by
  have ht : t.val < 8 := lt_of_lt_of_eq t.isLt N_0
  by_cases h : t.val % 8 = 0
  · rw [outsAt0_A m c t h (by omega) (by omega) h (by omega) (by omega) h (by omega)]
    constructor <;> (frame_out; all_goals rfl)
  · by_cases h7 : t.val % 8 = 7
    · rw [outsAt0_C m c t h (by omega) h7 h (by omega) h7 h (by omega)]
      constructor <;> (frame_out; all_goals rfl)
    · rw [outsAt0_B m c t h (by omega) h7 h (by omega) h7 h (by omega)]
      constructor <;> (frame_out; all_goals rfl)

theorem arr6 : ((dats m 0 c).arrAt 6 cfg0.N : Vec Ideal S8192x256 .f32) = fun j => dBranch (H m c) (DM m c) (W m c) (B m c) (WB m c) (j 0) (j 1) := by
  refine (dats m 0 c).arrAt_eq_of_covers 6 _ (by decide +kernel) fun t hf y => ?_
  obtain ⟨r, i, hy⟩ : ∃ (r : Fin 1024) (i : Fin 256), y = ix2 r i := ⟨_, _, ValueIdx.eq_ix2 y⟩
  subst hy
  rw [emb6, after0_6, (rows m c t).1]
  exact drow_at m c t r i

theorem arr7 : ((dats m 0 c).arrAt 7 cfg0.N : Vec Ideal S8192x1024 .bf16) = fun j => logit (H m c) (BR m c) (DM m c) (W m c) (B m c) (WB m c) (j 0) (j 1) := by
  refine (dats m 0 c).arrAt_eq_of_covers 7 _ (by decide +kernel) fun t hf y => ?_
  obtain ⟨r, i, hy⟩ : ∃ (r : Fin 1024) (i : Fin 1024), y = ix2 r i := ⟨_, _, ValueIdx.eq_ix2 y⟩
  subst hy
  rw [emb7, after0_7, (rows m c t).2]
  exact dpre_at m c t r i

/-- The gate weight's gradient after the last point: every block's part. -/
theorem sumW (y : S1024x1024.Idx) : (outsAt0 m c t0_7.val t0_7.isLt).2.2.2.2.2.1 y = 0 + ∑ t : Fin cfg0.N, partW m c t y := by
  refine Pipeline.eq_sum_fin_of_reset_step_apply_last (fun n h => (outsAt0 m c n h).2.2.2.2.2.1) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partW]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partW]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partW]; pointwise)

/-- The projection's gradient after the last point: every block's part. -/
theorem sumP (y : S1024x256.Idx) : (outsAt0 m c t0_7.val t0_7.isLt).2.2.2.2.2.2 y = 0 + ∑ t : Fin cfg0.N, partP m c t y := by
  refine Pipeline.eq_sum_fin_of_reset_step_apply_last (fun n h => (outsAt0 m c n h).2.2.2.2.2.2) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partP]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partP]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partP]; pointwise)

/-- The gate bias's gradient after the last point: every block's part. -/
theorem sumB (y : S1x1024.Idx) : (outsAt0 m c t0_7.val t0_7.isLt).2.2.2.1 y = 0 + ∑ t : Fin cfg0.N, partB m c t y := by
  refine Pipeline.eq_sum_fin_of_reset_step_apply_last (fun n h => (outsAt0 m c n h).2.2.2.1) 8 (fun _ => (0 : EReal)) _ (fun t h y => ?_) (fun t h y => ?_) (le_of_eq N_0) t0_7 rfl y
  · have ht : t.val < 8 := lt_of_lt_of_eq t.isLt N_0
    rw [outsAt0_A m c t h (by omega) (by omega) h (by omega) (by omega) h (by omega), zero_add]
    frame_out
    all_goals simp only [shapeCast_self, k0_pay2, k0_pay6, k0_pay17, k0_pay10, k0_pay11, k0_pay12, partB]
  · have ht : t.val < 8 := lt_of_lt_of_eq t.isLt N_0
    by_cases h7 : t.val % 8 = 7
    · rw [outsAt0_C m c t h (by omega) h7 h (by omega) h7 h (by omega)]
      frame_out
      all_goals ((try simp only [read_unread_whole]); simp only [shapeCast_self, k0_pay3, k0_pay7, k0_pay17, k0_pay10, k0_pay11, k0_pay12, partB]; pointwise)
    · rw [outsAt0_B m c t h (by omega) h7 h (by omega) h7 h (by omega)]
      frame_out
      all_goals ((try simp only [read_unread_whole]); simp only [shapeCast_self, k0_pay3, k0_pay7, k0_pay17, k0_pay10, k0_pay11, k0_pay12, partB]; pointwise)

/-- The last point writes the two sums out. -/
theorem outs (y : S1024x1024.Idx) (z : S1024x256.Idx) :
    (outsAt0 m c t0_7.val t0_7.isLt).2.2.1 y = (outsAt0 m c t0_7.val t0_7.isLt).2.2.2.2.2.1 y
    ∧ (outsAt0 m c t0_7.val t0_7.isLt).2.2.2.2.1 z = (outsAt0 m c t0_7.val t0_7.isLt).2.2.2.2.2.2 z := by
  rw [outsAt0_C m c t0_7 (by decide) (by decide) (by decide) (by decide) (by decide) (by decide) (by decide) (by decide)]
  constructor
  · frame_out
    unfold k0_pay8
    pointwise [shapeCast_self]
  · frame_out
    unfold k0_pay4
    pointwise [shapeCast_self]

theorem arr8 : ((dats m 0 c).arrAt 8 cfg0.N : Vec Ideal S1024x1024 .bf16) = fun j => dGateW (H m c) (BR m c) (DM m c) (W m c) (B m c) (WB m c) (j 0) (j 1) := by
  refine (dats m 0 c).arrAt_eq_of_after_last 8 t0_7 (by decide +kernel) _ fun j => ?_
  obtain ⟨u, i, rfl⟩ : ∃ (u : Fin 1024) (i : Fin 1024), j = ix2 u i := ⟨_, _, ValueIdx.eq_ix2 j⟩
  rw [after0_8]
  refine ((outs m c (ix2 u i) (ix2 u 0)).1.trans (sumW m c (ix2 u i))).trans ?_
  rw [zero_add]
  refine (Finset.sum_congr rfl fun t _ => partW_at m c t u i).trans ?_
  refine Eq.trans ?_ (sum_tok fun r => logit (H m c) (BR m c) (DM m c) (W m c) (B m c) (WB m c) r u * H m c r i)
  exact (Fin.sum_univ_eq_sum_range (fun n => ∑ r : Fin 1024, (fun r => logit (H m c) (BR m c) (DM m c) (W m c) (B m c) (WB m c) r u * H m c r i) (tok n r)) 8)

theorem arr9 : ((dats m 0 c).arrAt 9 cfg0.N : Vec Ideal S1x1024 .f32) = fun j => dGateB (H m c) (BR m c) (DM m c) (W m c) (B m c) (WB m c) (j 1) := by
  refine (dats m 0 c).arrAt_eq_of_after_last 9 t0_7 (by decide +kernel) _ fun j => ?_
  obtain ⟨u, i, rfl⟩ : ∃ (u : Fin 1) (i : Fin 1024), j = ix2 u i := ⟨_, _, ValueIdx.eq_ix2 j⟩
  rw [after0_9]
  refine (sumB m c (ix2 u i)).trans ?_
  rw [zero_add]
  refine (Finset.sum_congr rfl fun t _ => (congrArg (fun z => partB m c t (ix2 z i)) (Subsingleton.elim u 0)).trans (partB_at m c t i)).trans ?_
  refine Eq.trans ?_ (sum_tok fun r => logit (H m c) (BR m c) (DM m c) (W m c) (B m c) (WB m c) r i)
  exact (Fin.sum_univ_eq_sum_range (fun n => ∑ r : Fin 1024, (fun r => logit (H m c) (BR m c) (DM m c) (W m c) (B m c) (WB m c) r i) (tok n r)) 8)

theorem arr10 : ((dats m 0 c).arrAt 10 cfg0.N : Vec Ideal S1024x256 .bf16) = fun j => dProj (H m c) (BR m c) (DM m c) (W m c) (B m c) (j 0) (j 1) := by
  refine (dats m 0 c).arrAt_eq_of_after_last 10 t0_7 (by decide +kernel) _ fun j => ?_
  obtain ⟨u, i, rfl⟩ : ∃ (u : Fin 1024) (i : Fin 256), j = ix2 u i := ⟨_, _, ValueIdx.eq_ix2 j⟩
  rw [after0_10]
  refine ((outs m c (ix2 u 0) (ix2 u i)).2.trans (sumP m c (ix2 u i))).trans ?_
  rw [zero_add]
  refine (Finset.sum_congr rfl fun t _ => partP_at m c t u i).trans ?_
  refine Eq.trans ?_ (sum_tok fun r => gated (H m c) (DM m c) (W m c) (B m c) r u * BR m c r i)
  exact (Fin.sum_univ_eq_sum_range (fun n => ∑ r : Fin 1024, (fun r => gated (H m c) (DM m c) (W m c) (B m c) r u * BR m c r i) (tok n r)) 8)

end Cert.MergeFourthIdeal.Out
end
-- ==== Proof.MergeFourthReference.lean ====
/- The fourth branch's gradient in the reference's own terms: the same sums of `MergeMath`. -/
module

public import proofs.«01_k».proof.Proof.MergeMath
public import proofs.«01_k».proof.Proof.Gen.MergeFourthReferenceIdeal.Run

@[expose] public section

set_option maxRecDepth 16384
noncomputable section

namespace Cert.MergeFourthReferenceIdeal.Out

open Cert.MergeFourthReferenceIdeal Cert.MergeFourthReferenceIdeal.Value Idealize.ShloMosaic Idealize.ShloMosaic.TcCoe Idealize.SL.Sem
open Cert.MergeMath

variable (m : (ℓ : Loc nD τ sig) → Buf (Elt Ideal) ℓ) (c : Dev nD)

def H (r : Fin 8192) (i : Fin 1024) : EReal := (m ((c.tc : Thread nD τ).loc main_arg0) : Vec Ideal S8192x1024 .f32) (ix2 r i)
def BR (r : Fin 8192) (a : Fin 256) : EReal := (m ((c.tc : Thread nD τ).loc main_arg1) : Vec Ideal S8192x256 .f32) (ix2 r a)
def DM (r : Fin 8192) (o : Fin 1024) : EReal := (m ((c.tc : Thread nD τ).loc main_arg2) : Vec Ideal S8192x1024 .f32) (ix2 r o)
def W (i o : Fin 1024) : EReal := (m ((c.tc : Thread nD τ).loc main_arg3) : Vec Ideal S1024x6048 .f32) (ix2 i ⟨5024 + o.val, by omega⟩)
def B (o : Fin 1024) : EReal := (m ((c.tc : Thread nD τ).loc main_arg4) : Vec Ideal S4096 .f32) (ix1 ⟨3072 + o.val, by omega⟩)
def WB (a : Fin 256) (o : Fin 1024) : EReal := (m ((c.tc : Thread nD τ).loc main_arg8) : Vec Ideal S256x1024 .f32) (ix2 a o)

/-- The reference's gradient of a logit, with its own grouping of the factors. -/
theorem logit_eq (r : Fin 8192) (o : Fin 1024) :
    DM m c r o * (∑ a, BR m c r a * WB m c a o) * (gate (H m c) (W m c) (B m c) r o * (1 - gate (H m c) (W m c) (B m c) r o))
      = logit (H m c) (BR m c) (DM m c) (W m c) (B m c) (WB m c) r o := (mul_assoc _ _ _).symm

/-- The reference runs, and its results are the sums of `MergeMath`. -/
theorem run (ρ : Dev nD → PrngReg) :
    θ_run defs (onTc (τ := τ) (main (F := Ideal))) ⟨m, fun _ => 0, ρ⟩ fun r => ∀ c : Dev nD,
      (r.2.mem ((c.tc : Thread nD τ).loc main_v21) : Vec Ideal S8192x256 .f32) = (fun j => dBranch (H m c) (DM m c) (W m c) (B m c) (WB m c) (j 0) (j 1))
      ∧ (r.2.mem ((c.tc : Thread nD τ).loc main_v28) : Vec Ideal S8192x1024 .bf16) = (fun j => logit (H m c) (BR m c) (DM m c) (W m c) (B m c) (WB m c) (j 0) (j 1))
      ∧ (r.2.mem ((c.tc : Thread nD τ).loc main_v30) : Vec Ideal S1024x1024 .bf16) = (fun j => dGateW (H m c) (BR m c) (DM m c) (W m c) (B m c) (WB m c) (j 0) (j 1))
      ∧ (r.2.mem ((c.tc : Thread nD τ).loc main_v31) : Vec Ideal S1x1024 .f32) = (fun j => dGateB (H m c) (BR m c) (DM m c) (W m c) (B m c) (WB m c) (j 1))
      ∧ (r.2.mem ((c.tc : Thread nD τ).loc main_v33) : Vec Ideal S1024x256 .bf16) = (fun j => dProj (H m c) (BR m c) (DM m c) (W m c) (B m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Cert.MergeFourthReferenceIdeal.Value.run m ρ)
  obtain ⟨h1, h2, h3, h4, h5, hargs⟩ := h c
  refine ⟨h1.trans ?_, h2.trans ?_, h3.trans ?_, h4.trans ?_, h5.trans ?_, hargs⟩ <;> clear hargs h1 h2 h3 h4 h5 h <;> funext j
  · obtain ⟨r, a, rfl⟩ : ∃ r a, j = ix2 r a := ⟨_, _, ValueIdx.eq_ix2 j⟩
    pointwise [dot_S8192x1024_S256x1024_S8192x256_1_1_0_0_n_n, dot_S8192x1024_S1024x1024_S8192x1024_1_0_0_1_n_n]
    exact Finset.sum_congr rfl fun o _ => congrArg (· * WB m c a o) (mul_comm (gate (H m c) (W m c) (B m c) r o) (DM m c r o))
  · obtain ⟨r, a, rfl⟩ : ∃ r a, j = ix2 r a := ⟨_, _, ValueIdx.eq_ix2 j⟩
    pointwise [dot_S8192x256_S256x1024_S8192x1024_1_0_0_1_n_n, dot_S8192x1024_S1024x1024_S8192x1024_1_0_0_1_n_n]
    exact logit_eq m c r a
  · obtain ⟨r, a, rfl⟩ : ∃ r a, j = ix2 r a := ⟨_, _, ValueIdx.eq_ix2 j⟩
    pointwise [dot_S8192x1024_S8192x1024_S1024x1024_0_0_1_1_n_n, dot_S8192x256_S256x1024_S8192x1024_1_0_0_1_n_n, dot_S8192x1024_S1024x1024_S8192x1024_1_0_0_1_n_n]
    exact Finset.sum_congr rfl fun t _ => congrArg (· * H m c t a) (logit_eq m c t r)
  · obtain ⟨z, a, rfl⟩ : ∃ z a, j = ix2 z a := ⟨_, _, ValueIdx.eq_ix2 j⟩
    pointwise [shapeCast_self, dot_S8192x256_S256x1024_S8192x1024_1_0_0_1_n_n, dot_S8192x1024_S1024x1024_S8192x1024_1_0_0_1_n_n]
    exact (Fintype.sum_unique _).trans (Finset.sum_congr rfl fun t _ => logit_eq m c t a)
  · obtain ⟨r, a, rfl⟩ : ∃ r a, j = ix2 r a := ⟨_, _, ValueIdx.eq_ix2 j⟩
    pointwise [dot_S8192x1024_S8192x256_S1024x256_0_0_1_1_n_n, dot_S8192x1024_S1024x1024_S8192x1024_1_0_0_1_n_n]
    exact Finset.sum_congr rfl fun t _ => congrArg (· * BR m c t a) (mul_comm (gate (H m c) (W m c) (B m c) t r) (DM m c t r))

end Cert.MergeFourthReferenceIdeal.Out
end
-- ==== Proof.MergeFourthClaims.lean ====
/- The claims about the fourth gated branch: the reference's frame, and the equality of the five gradients. -/
module

public import proofs.«01_k».proof.Defs
public import proofs.«01_k».proof.Proof.MergeFourthOut
public import proofs.«01_k».proof.Proof.MergeFourthReference
public import Idealize.ShloMosaic.Adequacy
public import Idealize.ShloMosaic.Init

@[expose] public section

noncomputable section

namespace Cert.Proof

open Idealize.ShloMosaic Idealize.SL.Sem

theorem merge_fourth_reference_frame : Cert.quiescent_MergeFourthReferenceIdeal := fun m ρ _ =>
  (θ_run Cert.MergeFourthReferenceIdeal.defs _ _).mono (fun r h => ⟨fun c => (h c).2.2.2.2.2, sem_eq_zero_of_no_sems (by decide) r.2⟩)
    (Cert.MergeFourthReferenceIdeal.Out.run m ρ)

/-- The fourth gated branch's gradients are the reference's. -/
theorem merge_fourth_algebraic : Cert.algebraic_MergeFourthIdeal_MergeFourthReferenceIdeal := fun m ρ m' ρ' _ hag => by
  have hH : ∀ c, MergeFourthReferenceIdeal.Out.H m' c = MergeFourthIdeal.Out.H m c := fun c => funext fun _ => funext fun _ => congrFun (hag c).1 _
  have hBR : ∀ c, MergeFourthReferenceIdeal.Out.BR m' c = MergeFourthIdeal.Out.BR m c := fun c => funext fun _ => funext fun _ => congrFun (hag c).2.1 _
  have hDM : ∀ c, MergeFourthReferenceIdeal.Out.DM m' c = MergeFourthIdeal.Out.DM m c := fun c => funext fun _ => funext fun _ => congrFun (hag c).2.2.1 _
  have hW : ∀ c, MergeFourthReferenceIdeal.Out.W m' c = MergeFourthIdeal.Out.W m c := fun c => funext fun _ => funext fun _ => congrFun (hag c).2.2.2.1 _
  have hB : ∀ c, MergeFourthReferenceIdeal.Out.B m' c = MergeFourthIdeal.Out.B m c := fun c => funext fun _ => congrFun (hag c).2.2.2.2.1 _
  have hWB : ∀ c, MergeFourthReferenceIdeal.Out.WB m' c = MergeFourthIdeal.Out.WB m c := fun c => funext fun _ => funext fun _ => congrFun (hag c).2.2.2.2.2.2.2.2 _
  refine ⟨_, _, _, _, _, MergeFourthIdeal.Value.run_blocks m ρ, (θ_run _ _ _).mono (fun _ h c => ?_) (MergeFourthReferenceIdeal.Out.run m' ρ')⟩
  obtain ⟨h1, h2, h3, h4, h5, hargs⟩ := h c
  rw [hH, hDM, hW, hB, hWB] at h1
  rw [hH, hBR, hDM, hW, hB, hWB] at h2 h3 h4
  rw [hH, hBR, hDM, hW, hB] at h5
  exact ⟨h1.trans (MergeFourthIdeal.Out.arr6 m c).symm, h2.trans (MergeFourthIdeal.Out.arr7 m c).symm,
    h3.trans (MergeFourthIdeal.Out.arr8 m c).symm, h4.trans (MergeFourthIdeal.Out.arr9 m c).symm,
    h5.trans (MergeFourthIdeal.Out.arr10 m c).symm, hargs⟩

end Cert.Proof
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnInput
public import proofs.«01_k».proof.Proof.Gen.FfnInput.Frame
public import proofs.«01_k».proof.Proof.Gen.FfnInputIdeal
public import proofs.«01_k».proof.Proof.Gen.FfnInputIdeal.Frame
public import proofs.«01_k».proof.Proof.Gen.FfnInputIdeal.Value
public import proofs.«01_k».proof.Proof.Gen.FfnInputReferenceIdeal
public import proofs.«01_k».proof.Proof.Gen.FfnInputReferenceIdeal.Run
public import proofs.«01_k».proof.Proof.Gen.MergeOut
public import proofs.«01_k».proof.Proof.Gen.MergeOut.Frame
public import proofs.«01_k».proof.Proof.Gen.MergeOutIdeal
public import proofs.«01_k».proof.Proof.Gen.MergeOutIdeal.Frame
public import proofs.«01_k».proof.Proof.Gen.MergeOutIdeal.Value
public import proofs.«01_k».proof.Proof.Gen.MergeOutReferenceIdeal
public import proofs.«01_k».proof.Proof.Gen.MergeOutReferenceIdeal.Run
public import proofs.«01_k».proof.Proof.Gen.FfnForward
public import proofs.«01_k».proof.Proof.Gen.FfnForward.Frame
public import proofs.«01_k».proof.Proof.Gen.FfnForwardIdeal
public import proofs.«01_k».proof.Proof.Gen.FfnForwardIdeal.Frame
public import proofs.«01_k».proof.Proof.Gen.FfnForwardIdeal.Value
public import proofs.«01_k».proof.Proof.Gen.FfnForwardReferenceIdeal
public import proofs.«01_k».proof.Proof.Gen.FfnForwardReferenceIdeal.Run
public import proofs.«01_k».proof.Proof.Gen.MergeForward
public import proofs.«01_k».proof.Proof.Gen.MergeForward.Frame
public import proofs.«01_k».proof.Proof.Gen.MergeForwardIdeal
public import proofs.«01_k».proof.Proof.Gen.MergeForwardIdeal.Frame
public import proofs.«01_k».proof.Proof.Gen.MergeForwardIdeal.Value
public import proofs.«01_k».proof.Proof.Gen.MergeForwardReferenceIdeal
public import proofs.«01_k».proof.Proof.Gen.MergeForwardReferenceIdeal.Run
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionGradient
public import proofs.«01_k».proof.Proof.Gen.ProjectionGradient.Frame
public import proofs.«01_k».proof.Proof.Gen.ProjectionGradientIdeal
public import proofs.«01_k».proof.Proof.Gen.ProjectionGradientIdeal.Frame
public import proofs.«01_k».proof.Proof.Gen.ProjectionGradientIdeal.Value
public import proofs.«01_k».proof.Proof.Gen.ProjectionGradientReferenceIdeal
public import proofs.«01_k».proof.Proof.Gen.ProjectionGradientReferenceIdeal.Run
public import proofs.«01_k».proof.Proof.Gen.MergeSecond
public import proofs.«01_k».proof.Proof.Gen.MergeSecond.Frame
public import proofs.«01_k».proof.Proof.Gen.MergeSecondIdeal
public import proofs.«01_k».proof.Proof.Gen.MergeSecondIdeal.Frame
public import proofs.«01_k».proof.Proof.Gen.MergeSecondIdeal.Value
public import proofs.«01_k».proof.Proof.Gen.MergeSecondReferenceIdeal
public import proofs.«01_k».proof.Proof.Gen.MergeSecondReferenceIdeal.Run
public import proofs.«01_k».proof.Proof.Gen.MergeThird
public import proofs.«01_k».proof.Proof.Gen.MergeThird.Frame
public import proofs.«01_k».proof.Proof.Gen.MergeThirdIdeal
public import proofs.«01_k».proof.Proof.Gen.MergeThirdIdeal.Frame
public import proofs.«01_k».proof.Proof.Gen.MergeThirdIdeal.Value
public import proofs.«01_k».proof.Proof.Gen.MergeThirdReferenceIdeal
public import proofs.«01_k».proof.Proof.Gen.MergeThirdReferenceIdeal.Run
public import proofs.«01_k».proof.Proof.Gen.MergeFourth
public import proofs.«01_k».proof.Proof.Gen.MergeFourth.Frame
public import proofs.«01_k».proof.Proof.Gen.MergeFourthIdeal
public import proofs.«01_k».proof.Proof.Gen.MergeFourthIdeal.Frame
public import proofs.«01_k».proof.Proof.Gen.MergeFourthIdeal.Value
public import proofs.«01_k».proof.Proof.Gen.MergeFourthReferenceIdeal
public import proofs.«01_k».proof.Proof.Gen.MergeFourthReferenceIdeal.Run
public import proofs.«01_k».proof.Proof.MergeClaims
public import proofs.«01_k».proof.Proof.FfnClaims
public import proofs.«01_k».proof.Proof.FfnInputClaims
public import proofs.«01_k».proof.Proof.MergeOutClaims
public import proofs.«01_k».proof.Proof.FfnForwardClaims
public import proofs.«01_k».proof.Proof.MergeForwardClaims
public import proofs.«01_k».proof.Proof.ProjectionClaims
public import proofs.«01_k».proof.Proof.ProjectionGradientClaims
public import proofs.«01_k».proof.Proof.MergeSecondClaims
public import proofs.«01_k».proof.Proof.MergeThirdClaims
public import proofs.«01_k».proof.Proof.MergeFourthClaims
public import Idealize.ShloMosaic.Adequacy
public import Idealize.ShloMosaic.Init

@[expose] public section

noncomputable section

namespace Cert.Proof

open Idealize.ShloMosaic Idealize.SL.Sem

/-- Every claim of the statement: the frames, and for each call the equality of its results with the reference's. -/
theorem claim : Cert.Claim :=
  ⟨Cert.Kernel.Gen.facts, Cert.KernelIdeal.Gen.facts, Cert.ReferenceIdeal.Gen.facts,
   Cert.Ffn.Gen.facts, Cert.FfnIdeal.Gen.facts, Cert.FfnReferenceIdeal.Gen.facts,
   Cert.FfnInput.Gen.facts, Cert.FfnInputIdeal.Gen.facts, Cert.FfnInputReferenceIdeal.Gen.facts,
   Cert.MergeOut.Gen.facts, Cert.MergeOutIdeal.Gen.facts, Cert.MergeOutReferenceIdeal.Gen.facts,
   Cert.FfnForward.Gen.facts, Cert.FfnForwardIdeal.Gen.facts, Cert.FfnForwardReferenceIdeal.Gen.facts,
   Cert.MergeForward.Gen.facts, Cert.MergeForwardIdeal.Gen.facts, Cert.MergeForwardReferenceIdeal.Gen.facts,
   Cert.Projection.Gen.facts, Cert.ProjectionIdeal.Gen.facts, Cert.ProjectionReferenceIdeal.Gen.facts,
   Cert.ProjectionGradient.Gen.facts, Cert.ProjectionGradientIdeal.Gen.facts, Cert.ProjectionGradientReferenceIdeal.Gen.facts,
   Cert.MergeSecond.Gen.facts, Cert.MergeSecondIdeal.Gen.facts, Cert.MergeSecondReferenceIdeal.Gen.facts,
   Cert.MergeThird.Gen.facts, Cert.MergeThirdIdeal.Gen.facts, Cert.MergeThirdReferenceIdeal.Gen.facts,
   Cert.MergeFourth.Gen.facts, Cert.MergeFourthIdeal.Gen.facts, Cert.MergeFourthReferenceIdeal.Gen.facts,
   fun m ρ _ => Cert.Kernel.Gen.frame m ρ, fun m ρ _ => Cert.KernelIdeal.Gen.frame m ρ, merge_reference_frame,
   fun m ρ _ => Cert.Ffn.Gen.frame m ρ, fun m ρ _ => Cert.FfnIdeal.Gen.frame m ρ, ffn_reference_frame,
   fun m ρ _ => Cert.FfnInput.Gen.frame m ρ, fun m ρ _ => Cert.FfnInputIdeal.Gen.frame m ρ, ffn_input_reference_frame,
   fun m ρ _ => Cert.MergeOut.Gen.frame m ρ, fun m ρ _ => Cert.MergeOutIdeal.Gen.frame m ρ, merge_out_reference_frame,
   fun m ρ _ => Cert.FfnForward.Gen.frame m ρ, fun m ρ _ => Cert.FfnForwardIdeal.Gen.frame m ρ, ffn_forward_reference_frame,
   fun m ρ _ => Cert.MergeForward.Gen.frame m ρ, fun m ρ _ => Cert.MergeForwardIdeal.Gen.frame m ρ, merge_forward_reference_frame,
   fun m ρ _ => Cert.Projection.Gen.frame m ρ, fun m ρ _ => Cert.ProjectionIdeal.Gen.frame m ρ, projection_reference_frame,
   fun m ρ _ => Cert.ProjectionGradient.Gen.frame m ρ, fun m ρ _ => Cert.ProjectionGradientIdeal.Gen.frame m ρ, projection_gradient_reference_frame,
   fun m ρ _ => Cert.MergeSecond.Gen.frame m ρ, fun m ρ _ => Cert.MergeSecondIdeal.Gen.frame m ρ, merge_second_reference_frame,
   fun m ρ _ => Cert.MergeThird.Gen.frame m ρ, fun m ρ _ => Cert.MergeThirdIdeal.Gen.frame m ρ, merge_third_reference_frame,
   fun m ρ _ => Cert.MergeFourth.Gen.frame m ρ, fun m ρ _ => Cert.MergeFourthIdeal.Gen.frame m ρ, merge_fourth_reference_frame,
   trivial, merge_algebraic, trivial, ffn_algebraic, trivial, ffn_input_algebraic, trivial, merge_out_algebraic, trivial, ffn_forward_algebraic, trivial, merge_forward_algebraic, trivial, projection_algebraic, trivial, projection_gradient_algebraic, trivial, merge_second_algebraic, trivial, merge_third_algebraic, trivial, merge_fourth_algebraic⟩

end Cert.Proof

end
